-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_LayerIdeal_finite_rows [hPre_finite_rows : Cert.Pre_finite_rows.Facts] (m : (ℓ : Loc Cert.LayerIdeal.nD Cert.LayerIdeal.τ Cert.LayerIdeal.sig) → Buf (Elt Ideal) ℓ) : Prop :=
  ∀ c : Dev Cert.LayerIdeal.nD,
    (Cert.Pre_finite_rows.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11))) = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_finite_rows [hPre_finite_rows : Cert.Pre_finite_rows.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_finite_rows.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6)) (m ((c.tc : Thread Cert.LayerReferenceIdeal.nD Cert.LayerReferenceIdeal.τ).loc Cert.LayerReferenceIdeal.main_arg7)) (m ((c.tc : Thread Cert.LayerReferenceIdeal.nD Cert.LayerReferenceIdeal.τ).loc Cert.LayerReferenceIdeal.main_arg8)) (m ((c.tc : Thread Cert.LayerReferenceIdeal.nD Cert.LayerReferenceIdeal.τ).loc Cert.LayerReferenceIdeal.main_arg9)) (m ((c.tc : Thread Cert.LayerReferenceIdeal.nD Cert.LayerReferenceIdeal.τ).loc Cert.LayerReferenceIdeal.main_arg10)) (m ((c.tc : Thread Cert.LayerReferenceIdeal.nD Cert.LayerReferenceIdeal.τ).loc Cert.LayerReferenceIdeal.main_arg11))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Past (m : (ℓ : Loc Cert.Past.nD Cert.Past.τ Cert.Past.sig) → Buf (Elt Bits) ℓ) : Prop :=
  True

def Pre_PastIdeal (m : (ℓ : Loc Cert.PastIdeal.nD Cert.PastIdeal.τ Cert.PastIdeal.sig) → Buf (Elt Ideal) ℓ) : Prop :=
  True

def Pre_PastIdeal_finite_past [hPre_finite_past : Cert.Pre_finite_past.Facts] (m : (ℓ : Loc Cert.PastIdeal.nD Cert.PastIdeal.τ Cert.PastIdeal.sig) → Buf (Elt Ideal) ℓ) : Prop :=
  ∀ c : Dev Cert.PastIdeal.nD,
    (Cert.Pre_finite_past.fn (F := Ideal) (m ((c.tc : Thread Cert.PastIdeal.nD Cert.PastIdeal.τ).loc Cert.PastIdeal.main_arg0)) (m ((c.tc : Thread Cert.PastIdeal.nD Cert.PastIdeal.τ).loc Cert.PastIdeal.main_arg1)) (m ((c.tc : Thread Cert.PastIdeal.nD Cert.PastIdeal.τ).loc Cert.PastIdeal.main_arg2)) (m ((c.tc : Thread Cert.PastIdeal.nD Cert.PastIdeal.τ).loc Cert.PastIdeal.main_arg3)) (m ((c.tc : Thread Cert.PastIdeal.nD Cert.PastIdeal.τ).loc Cert.PastIdeal.main_arg4)) (m ((c.tc : Thread Cert.PastIdeal.nD Cert.PastIdeal.τ).loc Cert.PastIdeal.main_arg5)) (m ((c.tc : Thread Cert.PastIdeal.nD Cert.PastIdeal.τ).loc Cert.PastIdeal.main_arg6))) = (fun _ => 1#1)

def Pre_PastReferenceIdeal (m : (ℓ : Loc Cert.PastReferenceIdeal.nD Cert.PastReferenceIdeal.τ Cert.PastReferenceIdeal.sig) → Buf (Elt Ideal) ℓ) : Prop :=
  True

def Pre_PastReferenceIdeal_finite_past [hPre_finite_past : Cert.Pre_finite_past.Facts] (m : (ℓ : Loc Cert.PastReferenceIdeal.nD Cert.PastReferenceIdeal.τ Cert.PastReferenceIdeal.sig) → Buf (Elt Ideal) ℓ) : Prop :=
  ∀ c : Dev Cert.PastReferenceIdeal.nD,
    (Cert.Pre_finite_past.fn (F := Ideal) (m ((c.tc : Thread Cert.PastReferenceIdeal.nD Cert.PastReferenceIdeal.τ).loc Cert.PastReferenceIdeal.main_arg0)) (m ((c.tc : Thread Cert.PastReferenceIdeal.nD Cert.PastReferenceIdeal.τ).loc Cert.PastReferenceIdeal.main_arg1)) (m ((c.tc : Thread Cert.PastReferenceIdeal.nD Cert.PastReferenceIdeal.τ).loc Cert.PastReferenceIdeal.main_arg2)) (m ((c.tc : Thread Cert.PastReferenceIdeal.nD Cert.PastReferenceIdeal.τ).loc Cert.PastReferenceIdeal.main_arg3)) (m ((c.tc : Thread Cert.PastReferenceIdeal.nD Cert.PastReferenceIdeal.τ).loc Cert.PastReferenceIdeal.main_arg4)) (m ((c.tc : Thread Cert.PastReferenceIdeal.nD Cert.PastReferenceIdeal.τ).loc Cert.PastReferenceIdeal.main_arg5)) (m ((c.tc : Thread Cert.PastReferenceIdeal.nD Cert.PastReferenceIdeal.τ).loc Cert.PastReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2)
      ∧ r.2.mem ((c.tc : Thread Cert.Layer.nD Cert.Layer.τ).loc Cert.Layer.main_arg3) = m ((c.tc : Thread Cert.Layer.nD Cert.Layer.τ).loc Cert.Layer.main_arg3)
      ∧ r.2.mem ((c.tc : Thread Cert.Layer.nD Cert.Layer.τ).loc Cert.Layer.main_arg4) = m ((c.tc : Thread Cert.Layer.nD Cert.Layer.τ).loc Cert.Layer.main_arg4)
      ∧ r.2.mem ((c.tc : Thread Cert.Layer.nD Cert.Layer.τ).loc Cert.Layer.main_arg5) = m ((c.tc : Thread Cert.Layer.nD Cert.Layer.τ).loc Cert.Layer.main_arg5)
      ∧ r.2.mem ((c.tc : Thread Cert.Layer.nD Cert.Layer.τ).loc Cert.Layer.main_arg6) = m ((c.tc : Thread Cert.Layer.nD Cert.Layer.τ).loc Cert.Layer.main_arg6)
      ∧ r.2.mem ((c.tc : Thread Cert.Layer.nD Cert.Layer.τ).loc Cert.Layer.main_arg7) = m ((c.tc : Thread Cert.Layer.nD Cert.Layer.τ).loc Cert.Layer.main_arg7)
      ∧ r.2.mem ((c.tc : Thread Cert.Layer.nD Cert.Layer.τ).loc Cert.Layer.main_arg8) = m ((c.tc : Thread Cert.Layer.nD Cert.Layer.τ).loc Cert.Layer.main_arg8)
      ∧ r.2.mem ((c.tc : Thread Cert.Layer.nD Cert.Layer.τ).loc Cert.Layer.main_arg9) = m ((c.tc : Thread Cert.Layer.nD Cert.Layer.τ).loc Cert.Layer.main_arg9)
      ∧ r.2.mem ((c.tc : Thread Cert.Layer.nD Cert.Layer.τ).loc Cert.Layer.main_arg10) = m ((c.tc : Thread Cert.Layer.nD Cert.Layer.τ).loc Cert.Layer.main_arg10)
      ∧ r.2.mem ((c.tc : Thread Cert.Layer.nD Cert.Layer.τ).loc Cert.Layer.main_arg11) = m ((c.tc : Thread Cert.Layer.nD Cert.Layer.τ).loc Cert.Layer.main_arg11))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ r.2.sem = fun _ => 0)

def quiescent_LayerIdeal_pre_finite_rows [hLayerIdeal : Cert.LayerIdeal.Facts] [hPre_finite_rows : Cert.Pre_finite_rows.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal_finite_rows m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11))
      ∧ r.2.sem = fun _ => 0)

def quiescent_LayerReferenceIdeal_pre_finite_rows [hLayerReferenceIdeal : Cert.LayerReferenceIdeal.Facts] [hPre_finite_rows : Cert.Pre_finite_rows.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_finite_rows m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8))
      ∧ r.2.sem = fun _ => 0)

def quiescent_Past [hPast : Cert.Past.Facts] : Prop :=
  ∀ (m : (ℓ : Loc Cert.Past.nD Cert.Past.τ Cert.Past.sig) → Buf (Elt Bits) ℓ) (g : Dev Cert.Past.nD → PrngReg), Pre_Past m →
    θ_run (Cert.Past.defs (F := Bits)) (onTc (τ := Cert.Past.τ) (Cert.Past.main (F := Bits))) ⟨m, fun _ => 0, g⟩ (fun r => (∀ c : Dev Cert.Past.nD,
      r.2.mem ((c.tc : Thread Cert.Past.nD Cert.Past.τ).loc Cert.Past.main_arg0) = m ((c.tc : Thread Cert.Past.nD Cert.Past.τ).loc Cert.Past.main_arg0)
      ∧ r.2.mem ((c.tc : Thread Cert.Past.nD Cert.Past.τ).loc Cert.Past.main_arg1) = m ((c.tc : Thread Cert.Past.nD Cert.Past.τ).loc Cert.Past.main_arg1)
      ∧ r.2.mem ((c.tc : Thread Cert.Past.nD Cert.Past.τ).loc Cert.Past.main_arg2) = m ((c.tc : Thread Cert.Past.nD Cert.Past.τ).loc Cert.Past.main_arg2)
      ∧ r.2.mem ((c.tc : Thread Cert.Past.nD Cert.Past.τ).loc Cert.Past.main_arg3) = m ((c.tc : Thread Cert.Past.nD Cert.Past.τ).loc Cert.Past.main_arg3)
      ∧ r.2.mem ((c.tc : Thread Cert.Past.nD Cert.Past.τ).loc Cert.Past.main_arg4) = m ((c.tc : Thread Cert.Past.nD Cert.Past.τ).loc Cert.Past.main_arg4)
      ∧ r.2.mem ((c.tc : Thread Cert.Past.nD Cert.Past.τ).loc Cert.Past.main_arg5) = m ((c.tc : Thread Cert.Past.nD Cert.Past.τ).loc Cert.Past.main_arg5)
      ∧ r.2.mem ((c.tc : Thread Cert.Past.nD Cert.Past.τ).loc Cert.Past.main_arg6) = m ((c.tc : Thread Cert.Past.nD Cert.Past.τ).loc Cert.Past.main_arg6))
      ∧ r.2.sem = fun _ => 0)

def quiescent_PastIdeal [hPastIdeal : Cert.PastIdeal.Facts] : Prop :=
  ∀ (m : (ℓ : Loc Cert.PastIdeal.nD Cert.PastIdeal.τ Cert.PastIdeal.sig) → Buf (Elt Ideal) ℓ) (g : Dev Cert.PastIdeal.nD → PrngReg), Pre_PastIdeal m →
    θ_run (Cert.PastIdeal.defs (F := Ideal)) (onTc (τ := Cert.PastIdeal.τ) (Cert.PastIdeal.main (F := Ideal))) ⟨m, fun _ => 0, g⟩ (fun r => (∀ c : Dev Cert.PastIdeal.nD,
      r.2.mem ((c.tc : Thread Cert.PastIdeal.nD Cert.PastIdeal.τ).loc Cert.PastIdeal.main_arg0) = m ((c.tc : Thread Cert.PastIdeal.nD Cert.PastIdeal.τ).loc Cert.PastIdeal.main_arg0)
      ∧ r.2.mem ((c.tc : Thread Cert.PastIdeal.nD Cert.PastIdeal.τ).loc Cert.PastIdeal.main_arg1) = m ((c.tc : Thread Cert.PastIdeal.nD Cert.PastIdeal.τ).loc Cert.PastIdeal.main_arg1)
      ∧ r.2.mem ((c.tc : Thread Cert.PastIdeal.nD Cert.PastIdeal.τ).loc Cert.PastIdeal.main_arg2) = m ((c.tc : Thread Cert.PastIdeal.nD Cert.PastIdeal.τ).loc Cert.PastIdeal.main_arg2)
      ∧ r.2.mem ((c.tc : Thread Cert.PastIdeal.nD Cert.PastIdeal.τ).loc Cert.PastIdeal.main_arg3) = m ((c.tc : Thread Cert.PastIdeal.nD Cert.PastIdeal.τ).loc Cert.PastIdeal.main_arg3)
      ∧ r.2.mem ((c.tc : Thread Cert.PastIdeal.nD Cert.PastIdeal.τ).loc Cert.PastIdeal.main_arg4) = m ((c.tc : Thread Cert.PastIdeal.nD Cert.PastIdeal.τ).loc Cert.PastIdeal.main_arg4)
      ∧ r.2.mem ((c.tc : Thread Cert.PastIdeal.nD Cert.PastIdeal.τ).loc Cert.PastIdeal.main_arg5) = m ((c.tc : Thread Cert.PastIdeal.nD Cert.PastIdeal.τ).loc Cert.PastIdeal.main_arg5)
      ∧ r.2.mem ((c.tc : Thread Cert.PastIdeal.nD Cert.PastIdeal.τ).loc Cert.PastIdeal.main_arg6) = m ((c.tc : Thread Cert.PastIdeal.nD Cert.PastIdeal.τ).loc Cert.PastIdeal.main_arg6))
      ∧ r.2.sem = fun _ => 0)

def quiescent_PastIdeal_pre_finite_past [hPastIdeal : Cert.PastIdeal.Facts] [hPre_finite_past : Cert.Pre_finite_past.Facts] : Prop :=
  ∀ (m : (ℓ : Loc Cert.PastIdeal.nD Cert.PastIdeal.τ Cert.PastIdeal.sig) → Buf (Elt Ideal) ℓ) (g : Dev Cert.PastIdeal.nD → PrngReg), Pre_PastIdeal_finite_past m →
    θ_run (Cert.PastIdeal.defs (F := Ideal)) (onTc (τ := Cert.PastIdeal.τ) (Cert.PastIdeal.main (F := Ideal))) ⟨m, fun _ => 0, g⟩ (fun r => (∀ c : Dev Cert.PastIdeal.nD,
      r.2.mem ((c.tc : Thread Cert.PastIdeal.nD Cert.PastIdeal.τ).loc Cert.PastIdeal.main_arg0) = m ((c.tc : Thread Cert.PastIdeal.nD Cert.PastIdeal.τ).loc Cert.PastIdeal.main_arg0)
      ∧ r.2.mem ((c.tc : Thread Cert.PastIdeal.nD Cert.PastIdeal.τ).loc Cert.PastIdeal.main_arg1) = m ((c.tc : Thread Cert.PastIdeal.nD Cert.PastIdeal.τ).loc Cert.PastIdeal.main_arg1)
      ∧ r.2.mem ((c.tc : Thread Cert.PastIdeal.nD Cert.PastIdeal.τ).loc Cert.PastIdeal.main_arg2) = m ((c.tc : Thread Cert.PastIdeal.nD Cert.PastIdeal.τ).loc Cert.PastIdeal.main_arg2)
      ∧ r.2.mem ((c.tc : Thread Cert.PastIdeal.nD Cert.PastIdeal.τ).loc Cert.PastIdeal.main_arg3) = m ((c.tc : Thread Cert.PastIdeal.nD Cert.PastIdeal.τ).loc Cert.PastIdeal.main_arg3)
      ∧ r.2.mem ((c.tc : Thread Cert.PastIdeal.nD Cert.PastIdeal.τ).loc Cert.PastIdeal.main_arg4) = m ((c.tc : Thread Cert.PastIdeal.nD Cert.PastIdeal.τ).loc Cert.PastIdeal.main_arg4)
      ∧ r.2.mem ((c.tc : Thread Cert.PastIdeal.nD Cert.PastIdeal.τ).loc Cert.PastIdeal.main_arg5) = m ((c.tc : Thread Cert.PastIdeal.nD Cert.PastIdeal.τ).loc Cert.PastIdeal.main_arg5)
      ∧ r.2.mem ((c.tc : Thread Cert.PastIdeal.nD Cert.PastIdeal.τ).loc Cert.PastIdeal.main_arg6) = m ((c.tc : Thread Cert.PastIdeal.nD Cert.PastIdeal.τ).loc Cert.PastIdeal.main_arg6))
      ∧ r.2.sem = fun _ => 0)

def quiescent_PastReferenceIdeal [hPastReferenceIdeal : Cert.PastReferenceIdeal.Facts] : Prop :=
  ∀ (m : (ℓ : Loc Cert.PastReferenceIdeal.nD Cert.PastReferenceIdeal.τ Cert.PastReferenceIdeal.sig) → Buf (Elt Ideal) ℓ) (g : Dev Cert.PastReferenceIdeal.nD → PrngReg), Pre_PastReferenceIdeal m →
    θ_run (Cert.PastReferenceIdeal.defs (F := Ideal)) (onTc (τ := Cert.PastReferenceIdeal.τ) (Cert.PastReferenceIdeal.main (F := Ideal))) ⟨m, fun _ => 0, g⟩ (fun r => (∀ c : Dev Cert.PastReferenceIdeal.nD,
      r.2.mem ((c.tc : Thread Cert.PastReferenceIdeal.nD Cert.PastReferenceIdeal.τ).loc Cert.PastReferenceIdeal.main_arg0) = m ((c.tc : Thread Cert.PastReferenceIdeal.nD Cert.PastReferenceIdeal.τ).loc Cert.PastReferenceIdeal.main_arg0)
      ∧ r.2.mem ((c.tc : Thread Cert.PastReferenceIdeal.nD Cert.PastReferenceIdeal.τ).loc Cert.PastReferenceIdeal.main_arg1) = m ((c.tc : Thread Cert.PastReferenceIdeal.nD Cert.PastReferenceIdeal.τ).loc Cert.PastReferenceIdeal.main_arg1)
      ∧ r.2.mem ((c.tc : Thread Cert.PastReferenceIdeal.nD Cert.PastReferenceIdeal.τ).loc Cert.PastReferenceIdeal.main_arg2) = m ((c.tc : Thread Cert.PastReferenceIdeal.nD Cert.PastReferenceIdeal.τ).loc Cert.PastReferenceIdeal.main_arg2)
      ∧ r.2.mem ((c.tc : Thread Cert.PastReferenceIdeal.nD Cert.PastReferenceIdeal.τ).loc Cert.PastReferenceIdeal.main_arg3) = m ((c.tc : Thread Cert.PastReferenceIdeal.nD Cert.PastReferenceIdeal.τ).loc Cert.PastReferenceIdeal.main_arg3)
      ∧ r.2.mem ((c.tc : Thread Cert.PastReferenceIdeal.nD Cert.PastReferenceIdeal.τ).loc Cert.PastReferenceIdeal.main_arg4) = m ((c.tc : Thread Cert.PastReferenceIdeal.nD Cert.PastReferenceIdeal.τ).loc Cert.PastReferenceIdeal.main_arg4)
      ∧ r.2.mem ((c.tc : Thread Cert.PastReferenceIdeal.nD Cert.PastReferenceIdeal.τ).loc Cert.PastReferenceIdeal.main_arg5) = m ((c.tc : Thread Cert.PastReferenceIdeal.nD Cert.PastReferenceIdeal.τ).loc Cert.PastReferenceIdeal.main_arg5)
      ∧ r.2.mem ((c.tc : Thread Cert.PastReferenceIdeal.nD Cert.PastReferenceIdeal.τ).loc Cert.PastReferenceIdeal.main_arg6) = m ((c.tc : Thread Cert.PastReferenceIdeal.nD Cert.PastReferenceIdeal.τ).loc Cert.PastReferenceIdeal.main_arg6))
      ∧ r.2.sem = fun _ => 0)

def quiescent_PastReferenceIdeal_pre_finite_past [hPastReferenceIdeal : Cert.PastReferenceIdeal.Facts] [hPre_finite_past : Cert.Pre_finite_past.Facts] : Prop :=
  ∀ (m : (ℓ : Loc Cert.PastReferenceIdeal.nD Cert.PastReferenceIdeal.τ Cert.PastReferenceIdeal.sig) → Buf (Elt Ideal) ℓ) (g : Dev Cert.PastReferenceIdeal.nD → PrngReg), Pre_PastReferenceIdeal_finite_past m →
    θ_run (Cert.PastReferenceIdeal.defs (F := Ideal)) (onTc (τ := Cert.PastReferenceIdeal.τ) (Cert.PastReferenceIdeal.main (F := Ideal))) ⟨m, fun _ => 0, g⟩ (fun r => (∀ c : Dev Cert.PastReferenceIdeal.nD,
      r.2.mem ((c.tc : Thread Cert.PastReferenceIdeal.nD Cert.PastReferenceIdeal.τ).loc Cert.PastReferenceIdeal.main_arg0) = m ((c.tc : Thread Cert.PastReferenceIdeal.nD Cert.PastReferenceIdeal.τ).loc Cert.PastReferenceIdeal.main_arg0)
      ∧ r.2.mem ((c.tc : Thread Cert.PastReferenceIdeal.nD Cert.PastReferenceIdeal.τ).loc Cert.PastReferenceIdeal.main_arg1) = m ((c.tc : Thread Cert.PastReferenceIdeal.nD Cert.PastReferenceIdeal.τ).loc Cert.PastReferenceIdeal.main_arg1)
      ∧ r.2.mem ((c.tc : Thread Cert.PastReferenceIdeal.nD Cert.PastReferenceIdeal.τ).loc Cert.PastReferenceIdeal.main_arg2) = m ((c.tc : Thread Cert.PastReferenceIdeal.nD Cert.PastReferenceIdeal.τ).loc Cert.PastReferenceIdeal.main_arg2)
      ∧ r.2.mem ((c.tc : Thread Cert.PastReferenceIdeal.nD Cert.PastReferenceIdeal.τ).loc Cert.PastReferenceIdeal.main_arg3) = m ((c.tc : Thread Cert.PastReferenceIdeal.nD Cert.PastReferenceIdeal.τ).loc Cert.PastReferenceIdeal.main_arg3)
      ∧ r.2.mem ((c.tc : Thread Cert.PastReferenceIdeal.nD Cert.PastReferenceIdeal.τ).loc Cert.PastReferenceIdeal.main_arg4) = m ((c.tc : Thread Cert.PastReferenceIdeal.nD Cert.PastReferenceIdeal.τ).loc Cert.PastReferenceIdeal.main_arg4)
      ∧ r.2.mem ((c.tc : Thread Cert.PastReferenceIdeal.nD Cert.PastReferenceIdeal.τ).loc Cert.PastReferenceIdeal.main_arg5) = m ((c.tc : Thread Cert.PastReferenceIdeal.nD Cert.PastReferenceIdeal.τ).loc Cert.PastReferenceIdeal.main_arg5)
      ∧ r.2.mem ((c.tc : Thread Cert.PastReferenceIdeal.nD Cert.PastReferenceIdeal.τ).loc Cert.PastReferenceIdeal.main_arg6) = m ((c.tc : Thread Cert.PastReferenceIdeal.nD Cert.PastReferenceIdeal.τ).loc Cert.PastReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Layer_LayerIdeal : Prop :=
  True

def algebraic_LayerIdeal_LayerReferenceIdeal_pre_finite_rows [hLayerIdeal : Cert.LayerIdeal.Facts] [hLayerReferenceIdeal : Cert.LayerReferenceIdeal.Facts] [hPre_finite_rows : Cert.Pre_finite_rows.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal_finite_rows m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)
      ∧ m' ((c.tc : Thread Cert.LayerReferenceIdeal.nD Cert.LayerReferenceIdeal.τ).loc Cert.LayerReferenceIdeal.main_arg7) = m ((c.tc : Thread Cert.LayerIdeal.nD Cert.LayerIdeal.τ).loc Cert.LayerIdeal.main_arg7)
      ∧ m' ((c.tc : Thread Cert.LayerReferenceIdeal.nD Cert.LayerReferenceIdeal.τ).loc Cert.LayerReferenceIdeal.main_arg8) = m ((c.tc : Thread Cert.LayerIdeal.nD Cert.LayerIdeal.τ).loc Cert.LayerIdeal.main_arg8)
      ∧ m' ((c.tc : Thread Cert.LayerReferenceIdeal.nD Cert.LayerReferenceIdeal.τ).loc Cert.LayerReferenceIdeal.main_arg9) = m ((c.tc : Thread Cert.LayerIdeal.nD Cert.LayerIdeal.τ).loc Cert.LayerIdeal.main_arg9)
      ∧ m' ((c.tc : Thread Cert.LayerReferenceIdeal.nD Cert.LayerReferenceIdeal.τ).loc Cert.LayerReferenceIdeal.main_arg10) = m ((c.tc : Thread Cert.LayerIdeal.nD Cert.LayerIdeal.τ).loc Cert.LayerIdeal.main_arg10)
      ∧ m' ((c.tc : Thread Cert.LayerReferenceIdeal.nD Cert.LayerReferenceIdeal.τ).loc Cert.LayerReferenceIdeal.main_arg11) = m ((c.tc : Thread Cert.LayerIdeal.nD Cert.LayerIdeal.τ).loc Cert.LayerIdeal.main_arg11)) →
    ∃ (v0 : (c : Dev Cert.LayerIdeal.nD) → Buf (Elt Ideal) ((c.tc : Thread Cert.LayerIdeal.nD Cert.LayerIdeal.τ).loc Cert.LayerIdeal.main_v140)) (v1 : (c : Dev Cert.LayerIdeal.nD) → Buf (Elt Ideal) ((c.tc : Thread Cert.LayerIdeal.nD Cert.LayerIdeal.τ).loc Cert.LayerIdeal.main_v142)) (v2 : (c : Dev Cert.LayerIdeal.nD) → Buf (Elt Ideal) ((c.tc : Thread Cert.LayerIdeal.nD Cert.LayerIdeal.τ).loc Cert.LayerIdeal.main_v146)) (v3 : (c : Dev Cert.LayerIdeal.nD) → Buf (Elt Ideal) ((c.tc : Thread Cert.LayerIdeal.nD Cert.LayerIdeal.τ).loc Cert.LayerIdeal.main_v150)) (v4 : (c : Dev Cert.LayerIdeal.nD) → Buf (Elt Ideal) ((c.tc : Thread Cert.LayerIdeal.nD Cert.LayerIdeal.τ).loc Cert.LayerIdeal.main_v152)) (v5 : (c : Dev Cert.LayerIdeal.nD) → Buf (Elt Ideal) ((c.tc : Thread Cert.LayerIdeal.nD Cert.LayerIdeal.τ).loc Cert.LayerIdeal.main_v154)) (v6 : (c : Dev Cert.LayerIdeal.nD) → Buf (Elt Ideal) ((c.tc : Thread Cert.LayerIdeal.nD Cert.LayerIdeal.τ).loc Cert.LayerIdeal.main_v155)) (v7 : (c : Dev Cert.LayerIdeal.nD) → Buf (Elt Ideal) ((c.tc : Thread Cert.LayerIdeal.nD Cert.LayerIdeal.τ).loc Cert.LayerIdeal.main_v156)) (v8 : (c : Dev Cert.LayerIdeal.nD) → Buf (Elt Ideal) ((c.tc : Thread Cert.LayerIdeal.nD Cert.LayerIdeal.τ).loc Cert.LayerIdeal.main_v58_2)) (v9 : (c : Dev Cert.LayerIdeal.nD) → Buf (Elt Ideal) ((c.tc : Thread Cert.LayerIdeal.nD Cert.LayerIdeal.τ).loc Cert.LayerIdeal.main_v58_3)) (v10 : (c : Dev Cert.LayerIdeal.nD) → Buf (Elt Ideal) ((c.tc : Thread Cert.LayerIdeal.nD Cert.LayerIdeal.τ).loc Cert.LayerIdeal.main_v58_4)) (v11 : (c : Dev Cert.LayerIdeal.nD) → Buf (Elt Ideal) ((c.tc : Thread Cert.LayerIdeal.nD Cert.LayerIdeal.τ).loc Cert.LayerIdeal.main_v58_5)) (v12 : (c : Dev Cert.LayerIdeal.nD) → Buf (Elt Ideal) ((c.tc : Thread Cert.LayerIdeal.nD Cert.LayerIdeal.τ).loc Cert.LayerIdeal.main_v58_6)) (v13 : (c : Dev Cert.LayerIdeal.nD) → Buf (Elt Ideal) ((c.tc : Thread Cert.LayerIdeal.nD Cert.LayerIdeal.τ).loc Cert.LayerIdeal.main_v58_7)) (v14 : (c : Dev Cert.LayerIdeal.nD) → Buf (Elt Ideal) ((c.tc : Thread Cert.LayerIdeal.nD Cert.LayerIdeal.τ).loc Cert.LayerIdeal.main_v58_10)) (v15 : (c : Dev Cert.LayerIdeal.nD) → Buf (Elt Ideal) ((c.tc : Thread Cert.LayerIdeal.nD Cert.LayerIdeal.τ).loc Cert.LayerIdeal.main_v58_11)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v140) = v0 c
          ∧ r.2.mem ((c.tc : Thread Cert.LayerIdeal.nD Cert.LayerIdeal.τ).loc Cert.LayerIdeal.main_v142) = v1 c
          ∧ r.2.mem ((c.tc : Thread Cert.LayerIdeal.nD Cert.LayerIdeal.τ).loc Cert.LayerIdeal.main_v146) = v2 c
          ∧ r.2.mem ((c.tc : Thread Cert.LayerIdeal.nD Cert.LayerIdeal.τ).loc Cert.LayerIdeal.main_v150) = v3 c
          ∧ r.2.mem ((c.tc : Thread Cert.LayerIdeal.nD Cert.LayerIdeal.τ).loc Cert.LayerIdeal.main_v152) = v4 c
          ∧ r.2.mem ((c.tc : Thread Cert.LayerIdeal.nD Cert.LayerIdeal.τ).loc Cert.LayerIdeal.main_v154) = v5 c
          ∧ r.2.mem ((c.tc : Thread Cert.LayerIdeal.nD Cert.LayerIdeal.τ).loc Cert.LayerIdeal.main_v155) = v6 c
          ∧ r.2.mem ((c.tc : Thread Cert.LayerIdeal.nD Cert.LayerIdeal.τ).loc Cert.LayerIdeal.main_v156) = v7 c
          ∧ r.2.mem ((c.tc : Thread Cert.LayerIdeal.nD Cert.LayerIdeal.τ).loc Cert.LayerIdeal.main_v58_2) = v8 c
          ∧ r.2.mem ((c.tc : Thread Cert.LayerIdeal.nD Cert.LayerIdeal.τ).loc Cert.LayerIdeal.main_v58_3) = v9 c
          ∧ r.2.mem ((c.tc : Thread Cert.LayerIdeal.nD Cert.LayerIdeal.τ).loc Cert.LayerIdeal.main_v58_4) = v10 c
          ∧ r.2.mem ((c.tc : Thread Cert.LayerIdeal.nD Cert.LayerIdeal.τ).loc Cert.LayerIdeal.main_v58_5) = v11 c
          ∧ r.2.mem ((c.tc : Thread Cert.LayerIdeal.nD Cert.LayerIdeal.τ).loc Cert.LayerIdeal.main_v58_6) = v12 c
          ∧ r.2.mem ((c.tc : Thread Cert.LayerIdeal.nD Cert.LayerIdeal.τ).loc Cert.LayerIdeal.main_v58_7) = v13 c
          ∧ r.2.mem ((c.tc : Thread Cert.LayerIdeal.nD Cert.LayerIdeal.τ).loc Cert.LayerIdeal.main_v58_10) = v14 c
          ∧ r.2.mem ((c.tc : Thread Cert.LayerIdeal.nD Cert.LayerIdeal.τ).loc Cert.LayerIdeal.main_v58_11) = v15 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v133) = v0 c
          ∧ r.2.mem ((c.tc : Thread Cert.LayerReferenceIdeal.nD Cert.LayerReferenceIdeal.τ).loc Cert.LayerReferenceIdeal.main_v135) = v1 c
          ∧ r.2.mem ((c.tc : Thread Cert.LayerReferenceIdeal.nD Cert.LayerReferenceIdeal.τ).loc Cert.LayerReferenceIdeal.main_v138) = v2 c
          ∧ r.2.mem ((c.tc : Thread Cert.LayerReferenceIdeal.nD Cert.LayerReferenceIdeal.τ).loc Cert.LayerReferenceIdeal.main_v141) = v3 c
          ∧ r.2.mem ((c.tc : Thread Cert.LayerReferenceIdeal.nD Cert.LayerReferenceIdeal.τ).loc Cert.LayerReferenceIdeal.main_v143) = v4 c
          ∧ r.2.mem ((c.tc : Thread Cert.LayerReferenceIdeal.nD Cert.LayerReferenceIdeal.τ).loc Cert.LayerReferenceIdeal.main_v145) = v5 c
          ∧ r.2.mem ((c.tc : Thread Cert.LayerReferenceIdeal.nD Cert.LayerReferenceIdeal.τ).loc Cert.LayerReferenceIdeal.main_v149) = v6 c
          ∧ r.2.mem ((c.tc : Thread Cert.LayerReferenceIdeal.nD Cert.LayerReferenceIdeal.τ).loc Cert.LayerReferenceIdeal.main_v153) = v7 c
          ∧ r.2.mem ((c.tc : Thread Cert.LayerReferenceIdeal.nD Cert.LayerReferenceIdeal.τ).loc Cert.LayerReferenceIdeal.main_v154) = v8 c
          ∧ r.2.mem ((c.tc : Thread Cert.LayerReferenceIdeal.nD Cert.LayerReferenceIdeal.τ).loc Cert.LayerReferenceIdeal.main_v155) = v9 c
          ∧ r.2.mem ((c.tc : Thread Cert.LayerReferenceIdeal.nD Cert.LayerReferenceIdeal.τ).loc Cert.LayerReferenceIdeal.main_v156) = v10 c
          ∧ r.2.mem ((c.tc : Thread Cert.LayerReferenceIdeal.nD Cert.LayerReferenceIdeal.τ).loc Cert.LayerReferenceIdeal.main_v157) = v11 c
          ∧ r.2.mem ((c.tc : Thread Cert.LayerReferenceIdeal.nD Cert.LayerReferenceIdeal.τ).loc Cert.LayerReferenceIdeal.main_v158) = v12 c
          ∧ r.2.mem ((c.tc : Thread Cert.LayerReferenceIdeal.nD Cert.LayerReferenceIdeal.τ).loc Cert.LayerReferenceIdeal.main_v159) = v13 c
          ∧ r.2.mem ((c.tc : Thread Cert.LayerReferenceIdeal.nD Cert.LayerReferenceIdeal.τ).loc Cert.LayerReferenceIdeal.main_v165) = v14 c
          ∧ r.2.mem ((c.tc : Thread Cert.LayerReferenceIdeal.nD Cert.LayerReferenceIdeal.τ).loc Cert.LayerReferenceIdeal.main_v171) = v15 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8)
          ∧ r.2.mem ((c.tc : Thread Cert.LayerReferenceIdeal.nD Cert.LayerReferenceIdeal.τ).loc Cert.LayerReferenceIdeal.main_arg9) = m' ((c.tc : Thread Cert.LayerReferenceIdeal.nD Cert.LayerReferenceIdeal.τ).loc Cert.LayerReferenceIdeal.main_arg9)
          ∧ r.2.mem ((c.tc : Thread Cert.LayerReferenceIdeal.nD Cert.LayerReferenceIdeal.τ).loc Cert.LayerReferenceIdeal.main_arg10) = m' ((c.tc : Thread Cert.LayerReferenceIdeal.nD Cert.LayerReferenceIdeal.τ).loc Cert.LayerReferenceIdeal.main_arg10)
          ∧ r.2.mem ((c.tc : Thread Cert.LayerReferenceIdeal.nD Cert.LayerReferenceIdeal.τ).loc Cert.LayerReferenceIdeal.main_arg11) = m' ((c.tc : Thread Cert.LayerReferenceIdeal.nD Cert.LayerReferenceIdeal.τ).loc Cert.LayerReferenceIdeal.main_arg11))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v10_0)) (v1 : (c : Dev Cert.MixIdeal.nD) → Buf (Elt Ideal) ((c.tc : Thread Cert.MixIdeal.nD Cert.MixIdeal.τ).loc Cert.MixIdeal.main_v10_1)) (v2 : (c : Dev Cert.MixIdeal.nD) → Buf (Elt Ideal) ((c.tc : Thread Cert.MixIdeal.nD Cert.MixIdeal.τ).loc Cert.MixIdeal.main_v10_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10_0) = v0 c
          ∧ r.2.mem ((c.tc : Thread Cert.MixIdeal.nD Cert.MixIdeal.τ).loc Cert.MixIdeal.main_v10_1) = v1 c
          ∧ r.2.mem ((c.tc : Thread Cert.MixIdeal.nD Cert.MixIdeal.τ).loc Cert.MixIdeal.main_v10_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v14) = v0 c
          ∧ r.2.mem ((c.tc : Thread Cert.MixReferenceIdeal.nD Cert.MixReferenceIdeal.τ).loc Cert.MixReferenceIdeal.main_v28) = v1 c
          ∧ r.2.mem ((c.tc : Thread Cert.MixReferenceIdeal.nD Cert.MixReferenceIdeal.τ).loc Cert.MixReferenceIdeal.main_v29) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)
      ∧ m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v9_0)) (v1 : (c : Dev Cert.LastIdeal.nD) → Buf (Elt Ideal) ((c.tc : Thread Cert.LastIdeal.nD Cert.LastIdeal.τ).loc Cert.LastIdeal.main_v9_1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v9_0) = v0 c
          ∧ r.2.mem ((c.tc : Thread Cert.LastIdeal.nD Cert.LastIdeal.τ).loc Cert.LastIdeal.main_v9_1) = v1 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v44) = v0 c
          ∧ r.2.mem ((c.tc : Thread Cert.LastReferenceIdeal.nD Cert.LastReferenceIdeal.τ).loc Cert.LastReferenceIdeal.main_v45) = v1 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8))

def preserves_Past_PastIdeal : Prop :=
  True

def algebraic_PastIdeal_PastReferenceIdeal_pre_finite_past [hPastIdeal : Cert.PastIdeal.Facts] [hPastReferenceIdeal : Cert.PastReferenceIdeal.Facts] [hPre_finite_past : Cert.Pre_finite_past.Facts] : Prop :=
  ∀ (m : (ℓ : Loc Cert.PastIdeal.nD Cert.PastIdeal.τ Cert.PastIdeal.sig) → Buf (Elt Ideal) ℓ) (g : Dev Cert.PastIdeal.nD → PrngReg)
    (m' : (ℓ : Loc Cert.PastReferenceIdeal.nD Cert.PastReferenceIdeal.τ Cert.PastReferenceIdeal.sig) → Buf (Elt Ideal) ℓ) (g' : Dev Cert.PastReferenceIdeal.nD → PrngReg), Pre_PastIdeal_finite_past m →
    (∀ c : Dev Cert.PastIdeal.nD,
      m' ((c.tc : Thread Cert.PastReferenceIdeal.nD Cert.PastReferenceIdeal.τ).loc Cert.PastReferenceIdeal.main_arg0) = m ((c.tc : Thread Cert.PastIdeal.nD Cert.PastIdeal.τ).loc Cert.PastIdeal.main_arg0)
      ∧ m' ((c.tc : Thread Cert.PastReferenceIdeal.nD Cert.PastReferenceIdeal.τ).loc Cert.PastReferenceIdeal.main_arg1) = m ((c.tc : Thread Cert.PastIdeal.nD Cert.PastIdeal.τ).loc Cert.PastIdeal.main_arg1)
      ∧ m' ((c.tc : Thread Cert.PastReferenceIdeal.nD Cert.PastReferenceIdeal.τ).loc Cert.PastReferenceIdeal.main_arg2) = m ((c.tc : Thread Cert.PastIdeal.nD Cert.PastIdeal.τ).loc Cert.PastIdeal.main_arg2)
      ∧ m' ((c.tc : Thread Cert.PastReferenceIdeal.nD Cert.PastReferenceIdeal.τ).loc Cert.PastReferenceIdeal.main_arg3) = m ((c.tc : Thread Cert.PastIdeal.nD Cert.PastIdeal.τ).loc Cert.PastIdeal.main_arg3)
      ∧ m' ((c.tc : Thread Cert.PastReferenceIdeal.nD Cert.PastReferenceIdeal.τ).loc Cert.PastReferenceIdeal.main_arg4) = m ((c.tc : Thread Cert.PastIdeal.nD Cert.PastIdeal.τ).loc Cert.PastIdeal.main_arg4)
      ∧ m' ((c.tc : Thread Cert.PastReferenceIdeal.nD Cert.PastReferenceIdeal.τ).loc Cert.PastReferenceIdeal.main_arg5) = m ((c.tc : Thread Cert.PastIdeal.nD Cert.PastIdeal.τ).loc Cert.PastIdeal.main_arg5)
      ∧ m' ((c.tc : Thread Cert.PastReferenceIdeal.nD Cert.PastReferenceIdeal.τ).loc Cert.PastReferenceIdeal.main_arg6) = m ((c.tc : Thread Cert.PastIdeal.nD Cert.PastIdeal.τ).loc Cert.PastIdeal.main_arg6)) →
    ∃ (v0 : (c : Dev Cert.PastIdeal.nD) → Buf (Elt Ideal) ((c.tc : Thread Cert.PastIdeal.nD Cert.PastIdeal.τ).loc Cert.PastIdeal.main_v8)),
      θ_run (Cert.PastIdeal.defs (F := Ideal)) (onTc (τ := Cert.PastIdeal.τ) (Cert.PastIdeal.main (F := Ideal))) ⟨m, fun _ => 0, g⟩ (fun r => ∀ c : Dev Cert.PastIdeal.nD,
          r.2.mem ((c.tc : Thread Cert.PastIdeal.nD Cert.PastIdeal.τ).loc Cert.PastIdeal.main_v8) = v0 c
          ∧ r.2.mem ((c.tc : Thread Cert.PastIdeal.nD Cert.PastIdeal.τ).loc Cert.PastIdeal.main_arg0) = m ((c.tc : Thread Cert.PastIdeal.nD Cert.PastIdeal.τ).loc Cert.PastIdeal.main_arg0)
          ∧ r.2.mem ((c.tc : Thread Cert.PastIdeal.nD Cert.PastIdeal.τ).loc Cert.PastIdeal.main_arg1) = m ((c.tc : Thread Cert.PastIdeal.nD Cert.PastIdeal.τ).loc Cert.PastIdeal.main_arg1)
          ∧ r.2.mem ((c.tc : Thread Cert.PastIdeal.nD Cert.PastIdeal.τ).loc Cert.PastIdeal.main_arg2) = m ((c.tc : Thread Cert.PastIdeal.nD Cert.PastIdeal.τ).loc Cert.PastIdeal.main_arg2)
          ∧ r.2.mem ((c.tc : Thread Cert.PastIdeal.nD Cert.PastIdeal.τ).loc Cert.PastIdeal.main_arg3) = m ((c.tc : Thread Cert.PastIdeal.nD Cert.PastIdeal.τ).loc Cert.PastIdeal.main_arg3)
          ∧ r.2.mem ((c.tc : Thread Cert.PastIdeal.nD Cert.PastIdeal.τ).loc Cert.PastIdeal.main_arg4) = m ((c.tc : Thread Cert.PastIdeal.nD Cert.PastIdeal.τ).loc Cert.PastIdeal.main_arg4)
          ∧ r.2.mem ((c.tc : Thread Cert.PastIdeal.nD Cert.PastIdeal.τ).loc Cert.PastIdeal.main_arg5) = m ((c.tc : Thread Cert.PastIdeal.nD Cert.PastIdeal.τ).loc Cert.PastIdeal.main_arg5)
          ∧ r.2.mem ((c.tc : Thread Cert.PastIdeal.nD Cert.PastIdeal.τ).loc Cert.PastIdeal.main_arg6) = m ((c.tc : Thread Cert.PastIdeal.nD Cert.PastIdeal.τ).loc Cert.PastIdeal.main_arg6))
      ∧ θ_run (Cert.PastReferenceIdeal.defs (F := Ideal)) (onTc (τ := Cert.PastReferenceIdeal.τ) (Cert.PastReferenceIdeal.main (F := Ideal))) ⟨m', fun _ => 0, g'⟩ (fun r => ∀ c : Dev Cert.PastReferenceIdeal.nD,
          r.2.mem ((c.tc : Thread Cert.PastReferenceIdeal.nD Cert.PastReferenceIdeal.τ).loc Cert.PastReferenceIdeal.main_v40) = v0 c
          ∧ r.2.mem ((c.tc : Thread Cert.PastReferenceIdeal.nD Cert.PastReferenceIdeal.τ).loc Cert.PastReferenceIdeal.main_arg0) = m' ((c.tc : Thread Cert.PastReferenceIdeal.nD Cert.PastReferenceIdeal.τ).loc Cert.PastReferenceIdeal.main_arg0)
          ∧ r.2.mem ((c.tc : Thread Cert.PastReferenceIdeal.nD Cert.PastReferenceIdeal.τ).loc Cert.PastReferenceIdeal.main_arg1) = m' ((c.tc : Thread Cert.PastReferenceIdeal.nD Cert.PastReferenceIdeal.τ).loc Cert.PastReferenceIdeal.main_arg1)
          ∧ r.2.mem ((c.tc : Thread Cert.PastReferenceIdeal.nD Cert.PastReferenceIdeal.τ).loc Cert.PastReferenceIdeal.main_arg2) = m' ((c.tc : Thread Cert.PastReferenceIdeal.nD Cert.PastReferenceIdeal.τ).loc Cert.PastReferenceIdeal.main_arg2)
          ∧ r.2.mem ((c.tc : Thread Cert.PastReferenceIdeal.nD Cert.PastReferenceIdeal.τ).loc Cert.PastReferenceIdeal.main_arg3) = m' ((c.tc : Thread Cert.PastReferenceIdeal.nD Cert.PastReferenceIdeal.τ).loc Cert.PastReferenceIdeal.main_arg3)
          ∧ r.2.mem ((c.tc : Thread Cert.PastReferenceIdeal.nD Cert.PastReferenceIdeal.τ).loc Cert.PastReferenceIdeal.main_arg4) = m' ((c.tc : Thread Cert.PastReferenceIdeal.nD Cert.PastReferenceIdeal.τ).loc Cert.PastReferenceIdeal.main_arg4)
          ∧ r.2.mem ((c.tc : Thread Cert.PastReferenceIdeal.nD Cert.PastReferenceIdeal.τ).loc Cert.PastReferenceIdeal.main_arg5) = m' ((c.tc : Thread Cert.PastReferenceIdeal.nD Cert.PastReferenceIdeal.τ).loc Cert.PastReferenceIdeal.main_arg5)
          ∧ r.2.mem ((c.tc : Thread Cert.PastReferenceIdeal.nD Cert.PastReferenceIdeal.τ).loc Cert.PastReferenceIdeal.main_arg6) = m' ((c.tc : Thread Cert.PastReferenceIdeal.nD Cert.PastReferenceIdeal.τ).loc Cert.PastReferenceIdeal.main_arg6))

def Claim : Prop :=
  ∃ (hKernel : Cert.Kernel.Facts) (hKernelIdeal : Cert.KernelIdeal.Facts) (hReferenceIdeal : Cert.ReferenceIdeal.Facts) (hLayer : Cert.Layer.Facts) (hLayerIdeal : Cert.LayerIdeal.Facts) (hLayerReferenceIdeal : Cert.LayerReferenceIdeal.Facts) (hMix : Cert.Mix.Facts) (hMixIdeal : Cert.MixIdeal.Facts) (hMixReferenceIdeal : Cert.MixReferenceIdeal.Facts) (hLast : Cert.Last.Facts) (hLastIdeal : Cert.LastIdeal.Facts) (hLastReferenceIdeal : Cert.LastReferenceIdeal.Facts) (hPast : Cert.Past.Facts) (hPastIdeal : Cert.PastIdeal.Facts) (hPastReferenceIdeal : Cert.PastReferenceIdeal.Facts) (hPre_finite_qk : Cert.Pre_finite_qk.Facts) (hPre_finite_rows : Cert.Pre_finite_rows.Facts) (hPre_finite_past : Cert.Pre_finite_past.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Layer (hLayer := hLayer)
    ∧ quiescent_LayerIdeal (hLayerIdeal := hLayerIdeal)
    ∧ quiescent_LayerIdeal_pre_finite_rows (hLayerIdeal := hLayerIdeal) (hPre_finite_rows := hPre_finite_rows)
    ∧ quiescent_LayerReferenceIdeal (hLayerReferenceIdeal := hLayerReferenceIdeal)
    ∧ quiescent_LayerReferenceIdeal_pre_finite_rows (hLayerReferenceIdeal := hLayerReferenceIdeal) (hPre_finite_rows := hPre_finite_rows)
    ∧ quiescent_Mix (hMix := hMix)
    ∧ quiescent_MixIdeal (hMixIdeal := hMixIdeal)
    ∧ quiescent_MixReferenceIdeal (hMixReferenceIdeal := hMixReferenceIdeal)
    ∧ quiescent_Last (hLast := hLast)
    ∧ quiescent_LastIdeal (hLastIdeal := hLastIdeal)
    ∧ quiescent_LastReferenceIdeal (hLastReferenceIdeal := hLastReferenceIdeal)
    ∧ quiescent_Past (hPast := hPast)
    ∧ quiescent_PastIdeal (hPastIdeal := hPastIdeal)
    ∧ quiescent_PastIdeal_pre_finite_past (hPastIdeal := hPastIdeal) (hPre_finite_past := hPre_finite_past)
    ∧ quiescent_PastReferenceIdeal (hPastReferenceIdeal := hPastReferenceIdeal)
    ∧ quiescent_PastReferenceIdeal_pre_finite_past (hPastReferenceIdeal := hPastReferenceIdeal) (hPre_finite_past := hPre_finite_past)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Layer_LayerIdeal
    ∧ algebraic_LayerIdeal_LayerReferenceIdeal_pre_finite_rows (hLayerIdeal := hLayerIdeal) (hLayerReferenceIdeal := hLayerReferenceIdeal) (hPre_finite_rows := hPre_finite_rows)
    ∧ preserves_Mix_MixIdeal
    ∧ algebraic_MixIdeal_MixReferenceIdeal (hMixIdeal := hMixIdeal) (hMixReferenceIdeal := hMixReferenceIdeal)
    ∧ preserves_Last_LastIdeal
    ∧ algebraic_LastIdeal_LastReferenceIdeal (hLastIdeal := hLastIdeal) (hLastReferenceIdeal := hLastReferenceIdeal)
    ∧ preserves_Past_PastIdeal
    ∧ algebraic_PastIdeal_PastReferenceIdeal_pre_finite_past (hPastIdeal := hPastIdeal) (hPastReferenceIdeal := hPastReferenceIdeal) (hPre_finite_past := hPre_finite_past)
-- ==== Pre_finite_past.lean ====
abbrev S33792x1024 : Shape := ⟨2, ![33792, 1024]⟩
abbrev S1x32x4096x256 : Shape := ⟨4, ![1, 32, 4096, 256]⟩
abbrev S1x32x4096x32 : Shape := ⟨4, ![1, 32, 4096, 32]⟩
abbrev S33792x256 : Shape := ⟨2, ![33792, 256]⟩
abbrev S33792x32 : Shape := ⟨2, ![33792, 32]⟩
abbrev S1x256x8x64 : Shape := ⟨4, ![1, 256, 8, 64]⟩
abbrev S_ : Shape := ⟨0, ![]⟩

class Facts : Prop where
  bitsLt_bf16_f32 : FTy.bits .bf16 < FTy.bits .f32
  bcast_S_S33792x1024 : S_.BroadcastsInDim S33792x1024 (![] : Fin 0 → Fin S33792x1024.rank)
  reducesTo_S33792x1024_S_d0_1 : S33792x1024.ReducesTo [0, 1] S_
  h_S_ : 0 < S_.numel
  bcast_S_S1x32x4096x256 : S_.BroadcastsInDim S1x32x4096x256 (![] : Fin 0 → Fin S1x32x4096x256.rank)
  reducesTo_S1x32x4096x256_S_d0_1_2_3 : S1x32x4096x256.ReducesTo [0, 1, 2, 3] S_
  bcast_S_S1x32x4096x32 : S_.BroadcastsInDim S1x32x4096x32 (![] : Fin 0 → Fin S1x32x4096x32.rank)
  reducesTo_S1x32x4096x32_S_d0_1_2_3 : S1x32x4096x32.ReducesTo [0, 1, 2, 3] S_
  bcast_S_S33792x256 : S_.BroadcastsInDim S33792x256 (![] : Fin 0 → Fin S33792x256.rank)
  reducesTo_S33792x256_S_d0_1 : S33792x256.ReducesTo [0, 1] S_
  bcast_S_S33792x32 : S_.BroadcastsInDim S33792x32 (![] : Fin 0 → Fin S33792x32.rank)
  reducesTo_S33792x32_S_d0_1 : S33792x32.ReducesTo [0, 1] S_
  bcast_S_S1x256x8x64 : S_.BroadcastsInDim S1x256x8x64 (![] : Fin 0 → Fin S1x256x8x64.rank)
  reducesTo_S1x256x8x64_S_d0_1_2_3 : S1x256x8x64.ReducesTo [0, 1, 2, 3] S_

variable [Facts]

def fn_part1 {F : FTy → Type} [FloatOps F] (main_arg4 : FVec F S33792x32 .f32) (main_arg5 : FVec F S1x256x8x64 .f32) (main_v14 : IVec S_ 1) (main_v15 : FVec F S33792x256 .f32) (main_v16 : FVec F S33792x256 .f32) : IVec S_ 1 :=
  let main_v17 : IVec S33792x256 1 := cmpf .olt main_v15 main_v16
  let main_c_5 : IVec S_ 1 := constantI S_ 1 1#1
  let main_v18 : IVec S_ 1 := (fun x v => Host.reduce IntOp.andi x v reducesTo_S33792x256_S_d0_1 h_S_) main_v17 main_c_5
  let main_v19 : IVec S_ 1 := andi main_v14 main_v18
  let main_v20 : FVec F S33792x32 .f32 := Host.absf main_arg4
  let main_cst_6 : FVec F S_ .f32 := constant S_ .f32 0x7F800000#32
  let main_v21 : FVec F S33792x32 .f32 := broadcastInDim S33792x32 ![] bcast_S_S33792x32 main_cst_6
  let main_v22 : IVec S33792x32 1 := cmpf .olt main_v20 main_v21
  let main_c_7 : IVec S_ 1 := constantI S_ 1 1#1
  let main_v23 : IVec S_ 1 := (fun x v => Host.reduce IntOp.andi x v reducesTo_S33792x32_S_d0_1 h_S_) main_v22 main_c_7
  let main_v24 : IVec S_ 1 := andi main_v19 main_v23
  let main_v25 : FVec F S1x256x8x64 .f32 := Host.absf main_arg5
  let main_cst_8 : FVec F S_ .f32 := constant S_ .f32 0x7F800000#32
  let main_v26 : FVec F S1x256x8x64 .f32 := broadcastInDim S1x256x8x64 ![] bcast_S_S1x256x8x64 main_cst_8
  let main_v27 : IVec S1x256x8x64 1 := cmpf .olt main_v25 main_v26
  let main_c_9 : IVec S_ 1 := constantI S_ 1 1#1
  let main_v28 : IVec S_ 1 := (fun x v => Host.reduce IntOp.andi x v reducesTo_S1x256x8x64_S_d0_1_2_3 h_S_) main_v27 main_c_9
  let main_v29 : IVec S_ 1 := andi main_v24 main_v28
  main_v29

def fn {F : FTy → Type} [FloatOps F] (main_arg0 : FVec F S33792x1024 .bf16) (main_arg1 : FVec F S1x32x4096x256 .f32) (main_arg2 : FVec F S1x32x4096x32 .f32) (main_arg3 : FVec F S33792x256 .f32) (main_arg4 : FVec F S33792x32 .f32) (main_arg5 : FVec F S1x256x8x64 .f32) (main_arg6 : FVec F S1x256x8x64 .f32) : IVec S_ 1 :=
  let main_v0 : FVec F S33792x1024 .f32 := (extf .f32 · bitsLt_bf16_f32) main_arg0
  let main_v1 : FVec F S33792x1024 .f32 := Host.absf main_v0
  let main_cst : FVec F S_ .f32 := constant S_ .f32 0x7F800000#32
  let main_v2 : FVec F S33792x1024 .f32 := broadcastInDim S33792x1024 ![] bcast_S_S33792x1024 main_cst
  let main_v3 : IVec S33792x1024 1 := cmpf .olt main_v1 main_v2
  let main_c : IVec S_ 1 := constantI S_ 1 1#1
  let main_v4 : IVec S_ 1 := (fun x v => Host.reduce IntOp.andi x v reducesTo_S33792x1024_S_d0_1 h_S_) main_v3 main_c
  let main_v5 : FVec F S1x32x4096x256 .f32 := Host.absf main_arg1
  let main_cst_0 : FVec F S_ .f32 := constant S_ .f32 0x7F800000#32
  let main_v6 : FVec F S1x32x4096x256 .f32 := broadcastInDim S1x32x4096x256 ![] bcast_S_S1x32x4096x256 main_cst_0
  let main_v7 : IVec S1x32x4096x256 1 := cmpf .olt main_v5 main_v6
  let main_c_1 : IVec S_ 1 := constantI S_ 1 1#1
  let main_v8 : IVec S_ 1 := (fun x v => Host.reduce IntOp.andi x v reducesTo_S1x32x4096x256_S_d0_1_2_3 h_S_) main_v7 main_c_1
  let main_v9 : IVec S_ 1 := andi main_v4 main_v8
  let main_v10 : FVec F S1x32x4096x32 .f32 := Host.absf main_arg2
  let main_cst_2 : FVec F S_ .f32 := constant S_ .f32 0x7F800000#32
  let main_v11 : FVec F S1x32x4096x32 .f32 := broadcastInDim S1x32x4096x32 ![] bcast_S_S1x32x4096x32 main_cst_2
  let main_v12 : IVec S1x32x4096x32 1 := cmpf .olt main_v10 main_v11
  let main_c_3 : IVec S_ 1 := constantI S_ 1 1#1
  let main_v13 : IVec S_ 1 := (fun x v => Host.reduce IntOp.andi x v reducesTo_S1x32x4096x32_S_d0_1_2_3 h_S_) main_v12 main_c_3
  let main_v14 : IVec S_ 1 := andi main_v9 main_v13
  let main_v15 : FVec F S33792x256 .f32 := Host.absf main_arg3
  let main_cst_4 : FVec F S_ .f32 := constant S_ .f32 0x7F800000#32
  let main_v16 : FVec F S33792x256 .f32 := broadcastInDim S33792x256 ![] bcast_S_S33792x256 main_cst_4
  fn_part1 (F := F) main_arg4 main_arg5 main_v14 main_v15 main_v16
-- ==== Pre_finite_qk.lean ====
abbrev S33792x1024 : Shape := ⟨2, ![33792, 1024]⟩
abbrev S33792x512 : Shape := ⟨2, ![33792, 512]⟩
abbrev S_ : Shape := ⟨0, ![]⟩

class Facts : Prop where
  bitsLt_bf16_f32 : FTy.bits .bf16 < FTy.bits .f32
  bcast_S_S33792x1024 : S_.BroadcastsInDim S33792x1024 (![] : Fin 0 → Fin S33792x1024.rank)
  reducesTo_S33792x1024_S_d0_1 : S33792x1024.ReducesTo [0, 1] S_
  h_S_ : 0 < S_.numel

variable [Facts]

def fn {F : FTy → Type} [FloatOps F] (main_arg0 : FVec F S33792x1024 .bf16) (main_arg1 : FVec F S33792x1024 .bf16) (main_arg2 : FVec F S33792x512 .bf16) : IVec S_ 1 :=
  let main_v0 : FVec F S33792x1024 .f32 := (extf .f32 · bitsLt_bf16_f32) main_arg0
  let main_v1 : FVec F S33792x1024 .f32 := Host.absf main_v0
  let main_cst : FVec F S_ .f32 := constant S_ .f32 0x7F800000#32
  let main_v2 : FVec F S33792x1024 .f32 := broadcastInDim S33792x1024 ![] bcast_S_S33792x1024 main_cst
  let main_v3 : IVec S33792x1024 1 := cmpf .olt main_v1 main_v2
  let main_c : IVec S_ 1 := constantI S_ 1 1#1
  let main_v4 : IVec S_ 1 := (fun x v => Host.reduce IntOp.andi x v reducesTo_S33792x1024_S_d0_1 h_S_) main_v3 main_c
  let main_v5 : FVec F S33792x1024 .f32 := (extf .f32 · bitsLt_bf16_f32) main_arg1
  let main_v6 : FVec F S33792x1024 .f32 := Host.absf main_v5
  let main_cst_0 : FVec F S_ .f32 := constant S_ .f32 0x7F800000#32
  let main_v7 : FVec F S33792x1024 .f32 := broadcastInDim S33792x1024 ![] bcast_S_S33792x1024 main_cst_0
  let main_v8 : IVec S33792x1024 1 := cmpf .olt main_v6 main_v7
  let main_c_1 : IVec S_ 1 := constantI S_ 1 1#1
  let main_v9 : IVec S_ 1 := (fun x v => Host.reduce IntOp.andi x v reducesTo_S33792x1024_S_d0_1 h_S_) main_v8 main_c_1
  let main_v10 : IVec S_ 1 := andi main_v4 main_v9
  main_v10
-- ==== Pre_finite_rows.lean ====
abbrev S16x2048x1024 : Shape := ⟨3, ![16, 2048, 1024]⟩
abbrev S32x32x1024 : Shape := ⟨3, ![32, 32, 1024]⟩
abbrev S1x32x512x8x64 : Shape := ⟨5, ![1, 32, 512, 8, 64]⟩
abbrev S1x1024 : Shape := ⟨2, ![1, 1024]⟩
abbrev S1x1024x4256 : Shape := ⟨3, ![1, 1024, 4256]⟩
abbrev S1x384 : Shape := ⟨2, ![1, 384]⟩
abbrev S1x256 : Shape := ⟨2, ![1, 256]⟩
abbrev S1x384x768 : Shape := ⟨3, ![1, 384, 768]⟩
abbrev S1x256x8x64 : Shape := ⟨4, ![1, 256, 8, 64]⟩
abbrev S1x8x513 : Shape := ⟨3, ![1, 8, 513]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S32x32x1024 : S_.BroadcastsInDim S32x32x1024 (![] : Fin 0 → Fin S32x32x1024.rank)
  reducesTo_S32x32x1024_S_d0_1_2 : S32x32x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x4256 : S_.BroadcastsInDim S1x1024x4256 (![] : Fin 0 → Fin S1x1024x4256.rank)
  reducesTo_S1x1024x4256_S_d0_1_2 : S1x1024x4256.ReducesTo [0, 1, 2] S_
  bcast_S_S1x384 : S_.BroadcastsInDim S1x384 (![] : Fin 0 → Fin S1x384.rank)
  reducesTo_S1x384_S_d0_1 : S1x384.ReducesTo [0, 1] S_
  bcast_S_S1x384x768 : S_.BroadcastsInDim S1x384x768 (![] : Fin 0 → Fin S1x384x768.rank)
  reducesTo_S1x384x768_S_d0_1_2 : S1x384x768.ReducesTo [0, 1, 2] S_

variable [Facts]

def fn_part1 {F : FTy → Type} [FloatOps F] (main_arg6 : FVec F S1x384 .f32) (main_arg8 : FVec F S1x384x768 .f32) (main_v13 : IVec S_ 1) (main_v16 : IVec S1x1024x4256 1) : IVec S_ 1 :=
  let main_c_5 : IVec S_ 1 := constantI S_ 1 1#1
  let main_v17 : IVec S_ 1 := (fun x v => Host.reduce IntOp.andi x v reducesTo_S1x1024x4256_S_d0_1_2 h_S_) main_v16 main_c_5
  let main_v18 : IVec S_ 1 := andi main_v13 main_v17
  let main_v19 : FVec F S1x384 .f32 := Host.absf main_arg6
  let main_cst_6 : FVec F S_ .f32 := constant S_ .f32 0x7F800000#32
  let main_v20 : FVec F S1x384 .f32 := broadcastInDim S1x384 ![] bcast_S_S1x384 main_cst_6
  let main_v21 : IVec S1x384 1 := cmpf .olt main_v19 main_v20
  let main_c_7 : IVec S_ 1 := constantI S_ 1 1#1
  let main_v22 : IVec S_ 1 := (fun x v => Host.reduce IntOp.andi x v reducesTo_S1x384_S_d0_1 h_S_) main_v21 main_c_7
  let main_v23 : IVec S_ 1 := andi main_v18 main_v22
  let main_v24 : FVec F S1x384x768 .f32 := Host.absf main_arg8
  let main_cst_8 : FVec F S_ .f32 := constant S_ .f32 0x7F800000#32
  let main_v25 : FVec F S1x384x768 .f32 := broadcastInDim S1x384x768 ![] bcast_S_S1x384x768 main_cst_8
  let main_v26 : IVec S1x384x768 1 := cmpf .olt main_v24 main_v25
  let main_c_9 : IVec S_ 1 := constantI S_ 1 1#1
  let main_v27 : IVec S_ 1 := (fun x v => Host.reduce IntOp.andi x v reducesTo_S1x384x768_S_d0_1_2 h_S_) main_v26 main_c_9
  let main_v28 : IVec S_ 1 := andi main_v23 main_v27
  main_v28

def fn {F : FTy → Type} [FloatOps F] (main_arg0 : FVec F S16x2048x1024 .f32) (main_arg1 : FVec F S32x32x1024 .f32) (main_arg2 : FVec F S1x32x512x8x64 .f32) (main_arg3 : FVec F S1x32x512x8x64 .f32) (main_arg4 : FVec F S1x1024 .f32) (main_arg5 : FVec F S1x1024x4256 .f32) (main_arg6 : FVec F S1x384 .f32) (main_arg7 : FVec F S1x256 .f32) (main_arg8 : FVec F S1x384x768 .f32) (main_arg9 : FVec F S1x256x8x64 .f32) (main_arg10 : FVec F S1x256x8x64 .f32) (main_arg11 : FVec F S1x8x513 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S32x32x1024 .f32 := Host.absf main_arg1
  let main_cst_0 : FVec F S_ .f32 := constant S_ .f32 0x7F800000#32
  let main_v5 : FVec F S32x32x1024 .f32 := broadcastInDim S32x32x1024 ![] bcast_S_S32x32x1024 main_cst_0
  let main_v6 : IVec S32x32x1024 1 := cmpf .olt main_v4 main_v5
  let main_c_1 : IVec S_ 1 := constantI S_ 1 1#1
  let main_v7 : IVec S_ 1 := (fun x v => Host.reduce IntOp.andi x v reducesTo_S32x32x1024_S_d0_1_2 h_S_) main_v6 main_c_1
  let main_v8 : IVec S_ 1 := andi main_v3 main_v7
  let main_v9 : FVec F S1x1024 .f32 := Host.absf main_arg4
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x4256 .f32 := Host.absf main_arg5
  let main_cst_4 : FVec F S_ .f32 := constant S_ .f32 0x7F800000#32
  let main_v15 : FVec F S1x1024x4256 .f32 := broadcastInDim S1x1024x4256 ![] bcast_S_S1x1024x4256 main_cst_4
  let main_v16 : IVec S1x1024x4256 1 := cmpf .olt main_v14 main_v15
  fn_part1 (F := F) main_arg6 main_arg8 main_v13 main_v16
-- ==== Kernel.lean ====
abbrev S33792x1024 : Shape := ⟨2, ![33792, 1024]⟩
abbrev S33792x512 : Shape := ⟨2, ![33792, 512]⟩
abbrev S32768x512 : Shape := ⟨2, ![32768, 512]⟩
abbrev S128x1024 : Shape := ⟨2, ![128, 1024]⟩
abbrev S2048x1024 : Shape := ⟨2, ![2048, 1024]⟩
abbrev S2048x512 : Shape := ⟨2, ![2048, 512]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S512x128 : Shape := ⟨2, ![512, 128]⟩
abbrev S128x768 : Shape := ⟨2, ![128, 768]⟩
abbrev S768x128 : Shape := ⟨2, ![768, 128]⟩
abbrev S1024x128 : Shape := ⟨2, ![1024, 128]⟩
abbrev S128x1280 : Shape := ⟨2, ![128, 1280]⟩
abbrev S1280x128 : Shape := ⟨2, ![1280, 128]⟩
abbrev S128x1536 : Shape := ⟨2, ![128, 1536]⟩
abbrev S1536x128 : Shape := ⟨2, ![1536, 128]⟩
abbrev S128x1792 : Shape := ⟨2, ![128, 1792]⟩
abbrev S1792x128 : Shape := ⟨2, ![1792, 128]⟩
abbrev S128x2048 : Shape := ⟨2, ![128, 2048]⟩
abbrev S2048x128 : Shape := ⟨2, ![2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S33792x512, .bf16⟩
  | .hbm, ⟨3, _⟩ => ⟨S32768x512, .bf16⟩
  | .local _ .vmem, ⟨0, _⟩ => ⟨S128x1024, .bf16⟩
  | .local _ .vmem, ⟨1, _⟩ => ⟨S128x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S128x512, .bf16⟩
  | .local _ .vmem, ⟨7, _⟩ => ⟨S128x512, .bf16⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg1 : BitVec 32 := BitVec.ofNat 32 (i 1).val
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg1 c2_i32_6
  let c0_i32_11 : BitVec 32 := 0#32
  let v33 : BitVec 1 := Scalar.cmpi .ne v32 c0_i32_11
  let v34 : BitVec 1 := Scalar.andi v31 v33
  let v20 : BitVec 32 := Scalar.divsi arg1 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg1 : BitVec 32 := BitVec.ofNat 32 (i 1).val
  let c0_i32_16 : BitVec 32 := 0#32
  let v41 : BitVec 1 := Scalar.cmpi .sgt arg1 c0_i32_16
  let v42 : BitVec 32 := Scalar.extui v41
  let c0_i32_17 : BitVec 32 := 0#32
  let v43 : BitVec 1 := Scalar.cmpi .slt arg1 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg1 c2_i32_15
  let c0_i32_20 : BitVec 32 := 0#32
  let v53 : BitVec 1 := Scalar.cmpi .ne v52 c0_i32_20
  let v54 : BitVec 1 := Scalar.andi v51 v53
  let v40 : BitVec 32 := Scalar.divsi arg1 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg1 c2_i32_24
  let c0_i32_29 : BitVec 32 := 0#32
  let v73 : BitVec 1 := Scalar.cmpi .ne v72 c0_i32_29
  let v74 : BitVec 1 := Scalar.andi v71 v73
  let v60 : BitVec 32 := Scalar.divsi arg1 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond5 (i : grid0.Coords) : BitVec 1 :=
  let arg1 : BitVec 32 := BitVec.ofNat 32 (i 1).val
  let c0_i32_33 : BitVec 32 := 0#32
  let v81 : BitVec 1 := Scalar.cmpi .sgt arg1 c0_i32_33
  let v82 : BitVec 32 := Scalar.extui v81
  let c0_i32_34 : BitVec 32 := 0#32
  let v83 : BitVec 1 := Scalar.cmpi .slt arg1 c0_i32_34
  let v84 : BitVec 32 := Scalar.extui v83
  let v85 : BitVec 32 := Scalar.subi v82 v84
  let c2_i32_32 : BitVec 32 := 2#32
  let c0_i32_35 : BitVec 32 := 0#32
  let v86 : BitVec 1 := Scalar.cmpi .sgt c2_i32_32 c0_i32_35
  let v87 : BitVec 32 := Scalar.extui v86
  let c0_i32_36 : BitVec 32 := 0#32
  let v88 : BitVec 1 := Scalar.cmpi .slt c2_i32_32 c0_i32_36
  let v89 : BitVec 32 := Scalar.extui v88
  let v90 : BitVec 32 := Scalar.subi v87 v89
  let v91 : BitVec 1 := Scalar.cmpi .ne v85 v90
  let v92 : BitVec 32 := Scalar.remsi arg1 c2_i32_32
  let c0_i32_37 : BitVec 32 := 0#32
  let v93 : BitVec 1 := Scalar.cmpi .ne v92 c0_i32_37
  let v94 : BitVec 1 := Scalar.andi v91 v93
  let v80 : BitVec 32 := Scalar.divsi arg1 c2_i32_32
  let c1_i32_38 : BitVec 32 := 1#32
  let v95 : BitVec 32 := Scalar.subi v80 c1_i32_38
  let v96 : BitVec 32 := Scalar.select v94 v95 v80
  let c4_i32 : BitVec 32 := 4#32
  let v97 : BitVec 1 := Scalar.cmpi .eq v96 c4_i32
  let v98 : BitVec 32 := Scalar.extui v97
  let c0_i32_39 : BitVec 32 := 0#32
  let v99 : BitVec 1 := Scalar.cmpi .ne v98 c0_i32_39
  v99

def k0_cond6 (i : grid0.Coords) : BitVec 1 :=
  let arg1 : BitVec 32 := BitVec.ofNat 32 (i 1).val
  let c0_i32_41 : BitVec 32 := 0#32
  let v101 : BitVec 1 := Scalar.cmpi .sgt arg1 c0_i32_41
  let v102 : BitVec 32 := Scalar.extui v101
  let c0_i32_42 : BitVec 32 := 0#32
  let v103 : BitVec 1 := Scalar.cmpi .slt arg1 c0_i32_42
  let v104 : BitVec 32 := Scalar.extui v103
  let v105 : BitVec 32 := Scalar.subi v102 v104
  let c2_i32_40 : BitVec 32 := 2#32
  let c0_i32_43 : BitVec 32 := 0#32
  let v106 : BitVec 1 := Scalar.cmpi .sgt c2_i32_40 c0_i32_43
  let v107 : BitVec 32 := Scalar.extui v106
  let c0_i32_44 : BitVec 32 := 0#32
  let v108 : BitVec 1 := Scalar.cmpi .slt c2_i32_40 c0_i32_44
  let v109 : BitVec 32 := Scalar.extui v108
  let v110 : BitVec 32 := Scalar.subi v107 v109
  let v111 : BitVec 1 := Scalar.cmpi .ne v105 v110
  let v112 : BitVec 32 := Scalar.remsi arg1 c2_i32_40
  let c0_i32_45 : BitVec 32 := 0#32
  let v113 : BitVec 1 := Scalar.cmpi .ne v112 c0_i32_45
  let v114 : BitVec 1 := Scalar.andi v111 v113
  let v100 : BitVec 32 := Scalar.divsi arg1 c2_i32_40
  let c1_i32_46 : BitVec 32 := 1#32
  let v115 : BitVec 32 := Scalar.subi v100 c1_i32_46
  let v116 : BitVec 32 := Scalar.select v114 v115 v100
  let c5_i32 : BitVec 32 := 5#32
  let v117 : BitVec 1 := Scalar.cmpi .eq v116 c5_i32
  let v118 : BitVec 32 := Scalar.extui v117
  let c0_i32_47 : BitVec 32 := 0#32
  let v119 : BitVec 1 := Scalar.cmpi .ne v118 c0_i32_47
  v119

def k0_cond7 (i : grid0.Coords) : BitVec 1 :=
  let arg1 : BitVec 32 := BitVec.ofNat 32 (i 1).val
  let c0_i32_49 : BitVec 32 := 0#32
  let v121 : BitVec 1 := Scalar.cmpi .sgt arg1 c0_i32_49
  let v122 : BitVec 32 := Scalar.extui v121
  let c0_i32_50 : BitVec 32 := 0#32
  let v123 : BitVec 1 := Scalar.cmpi .slt arg1 c0_i32_50
  let v124 : BitVec 32 := Scalar.extui v123
  let v125 : BitVec 32 := Scalar.subi v122 v124
  let c2_i32_48 : BitVec 32 := 2#32
  let c0_i32_51 : BitVec 32 := 0#32
  let v126 : BitVec 1 := Scalar.cmpi .sgt c2_i32_48 c0_i32_51
  let v127 : BitVec 32 := Scalar.extui v126
  let c0_i32_52 : BitVec 32 := 0#32
  let v128 : BitVec 1 := Scalar.cmpi .slt c2_i32_48 c0_i32_52
  let v129 : BitVec 32 := Scalar.extui v128
  let v130 : BitVec 32 := Scalar.subi v127 v129
  let v131 : BitVec 1 := Scalar.cmpi .ne v125 v130
  let v132 : BitVec 32 := Scalar.remsi arg1 c2_i32_48
  let c0_i32_53 : BitVec 32 := 0#32
  let v133 : BitVec 1 := Scalar.cmpi .ne v132 c0_i32_53
  let v134 : BitVec 1 := Scalar.andi v131 v133
  let v120 : BitVec 32 := Scalar.divsi arg1 c2_i32_48
  let c1_i32_54 : BitVec 32 := 1#32
  let v135 : BitVec 32 := Scalar.subi v120 c1_i32_54
  let v136 : BitVec 32 := Scalar.select v134 v135 v120
  let c6_i32 : BitVec 32 := 6#32
  let v137 : BitVec 1 := Scalar.cmpi .eq v136 c6_i32
  let v138 : BitVec 32 := Scalar.extui v137
  let c0_i32_55 : BitVec 32 := 0#32
  let v139 : BitVec 1 := Scalar.cmpi .ne v138 c0_i32_55
  v139

def k0_cond8 (i : grid0.Coords) : BitVec 1 :=
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c2_i32_56 : BitVec 32 := 2#32
  let c0_i32_59 : BitVec 32 := 0#32
  let v146 : BitVec 1 := Scalar.cmpi .sgt c2_i32_56 c0_i32_59
  let v147 : BitVec 32 := Scalar.extui v146
  let c0_i32_60 : BitVec 32 := 0#32
  let v148 : BitVec 1 := Scalar.cmpi .slt c2_i32_56 c0_i32_60
  let v149 : BitVec 32 := Scalar.extui v148
  let v150 : BitVec 32 := Scalar.subi v147 v149
  let v151 : BitVec 1 := Scalar.cmpi .ne v145 v150
  let v152 : BitVec 32 := Scalar.remsi arg1 c2_i32_56
  let c0_i32_61 : BitVec 32 := 0#32
  let v153 : BitVec 1 := Scalar.cmpi .ne v152 c0_i32_61
  let v154 : BitVec 1 := Scalar.andi v151 v153
  let v140 : BitVec 32 := Scalar.divsi arg1 c2_i32_56
  let c1_i32_62 : BitVec 32 := 1#32
  let v155 : BitVec 32 := Scalar.subi v140 c1_i32_62
  let v156 : BitVec 32 := Scalar.select v154 v155 v140
  let c7_i32 : BitVec 32 := 7#32
  let v157 : BitVec 1 := Scalar.cmpi .eq v156 c7_i32
  let v158 : BitVec 32 := Scalar.extui v157
  let c0_i32_63 : BitVec 32 := 0#32
  let v159 : BitVec 1 := Scalar.cmpi .ne v158 c0_i32_63
  v159

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S33792x1024 : Shape := ⟨2, ![33792, 1024]⟩
abbrev S33792x512 : Shape := ⟨2, ![33792, 512]⟩
abbrev S32768x1024 : Shape := ⟨2, ![32768, 1024]⟩
abbrev S16x2048x8x128 : Shape := ⟨4, ![16, 2048, 8, 128]⟩
abbrev S32768x512 : Shape := ⟨2, ![32768, 512]⟩
abbrev S16x2048x8x64 : Shape := ⟨4, ![16, 2048, 8, 64]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 63
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S33792x1024, .bf16⟩
  | .hbm, ⟨2, _⟩ => ⟨S33792x512, .bf16⟩
  | .hbm, ⟨3, _⟩ => ⟨S32768x1024, .bf16⟩
  | .hbm, ⟨4, _⟩ => ⟨S32768x1024, .f32⟩
  | .hbm, ⟨5, _⟩ => ⟨S16x2048x8x128, .f32⟩
  | .hbm, ⟨6, _⟩ => ⟨S32768x1024, .bf16⟩
  | .hbm, ⟨7, _⟩ => ⟨S32768x1024, .f32⟩
  | .hbm, ⟨8, _⟩ => ⟨S16x2048x8x128, .f32⟩
  | .hbm, ⟨9, _⟩ => ⟨S32768x512, .bf16⟩
  | .hbm, ⟨10, _⟩ => ⟨S32768x512, .f32⟩
  | .hbm, ⟨11, _⟩ => ⟨S16x2048x8x64, .f32⟩
  | .hbm, ⟨12, _⟩ => ⟨S16x8x2048x2048, .f32⟩
  | .hbm, ⟨13, _⟩ => ⟨S_, .f32⟩
  | .hbm, ⟨14, _⟩ => ⟨S16x8x2048x2048, .f32⟩
  | .hbm, ⟨15, _⟩ => ⟨S16x8x2048x2048, .f32⟩
  | .hbm, ⟨16, _⟩ => ⟨S2048, .i32⟩
  | .hbm, ⟨17, _⟩ => ⟨S_, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2048, .i32⟩
  | .hbm, ⟨35, _⟩ => ⟨S1x2048, .i32⟩
  | .hbm, ⟨36, _⟩ => ⟨S2048x1, .i32⟩
  | .hbm, ⟨37, _⟩ => ⟨S2048x2048, .i32⟩
  | .hbm, ⟨38, _⟩ => ⟨S2048x2048, .i32⟩
  | .hbm, ⟨39, _⟩ => ⟨S2048x2048, .i1⟩
  | .hbm, ⟨40, _⟩ => ⟨S_, .f32⟩
  | .hbm, ⟨41, _⟩ => ⟨S_, .f32⟩
  | .hbm, ⟨42, _⟩ => ⟨S16x8x2048x2048, .i1⟩
  | .hbm, ⟨43, _⟩ => ⟨S16x8x2048x2048, .f32⟩
  | .hbm, ⟨44, _⟩ => ⟨S16x8x2048x2048, .f32⟩
  | .hbm, ⟨45, _⟩ => ⟨S_, .f32⟩
  | .hbm, ⟨46, _⟩ => ⟨S16x8x2048, .f32⟩
  | .hbm, ⟨47, _⟩ => ⟨S_, .f32⟩
  | .hbm, ⟨48, _⟩ => ⟨S16x8x2048, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S_, .f32⟩
  | .hbm, ⟨55, _⟩ => ⟨S16x8x2048, .f32⟩
  | .hbm, ⟨56, _⟩ => ⟨S16x8x2048x1, .f32⟩
  | .hbm, ⟨57, _⟩ => ⟨S16x8x2048x2048, .f32⟩
  | .hbm, ⟨58, _⟩ => ⟨S16x8x2048x2048, .f32⟩
  | .hbm, ⟨59, _⟩ => ⟨S16x8x64x2048, .f32⟩
  | .hbm, ⟨60, _⟩ => ⟨S16x2048x8x64, .f32⟩
  | .hbm, ⟨61, _⟩ => ⟨S32768x512, .f32⟩
  | .hbm, ⟨62, _⟩ => ⟨S32768x512, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩

abbrev nD : Nat := 1
abbrev τ : Topo := Topo.v7x

variable {F : FTy → Type} [FloatOps F]
-- ==== Layer.lean ====
abbrev S16x2048x1024 : Shape := ⟨3, ![16, 2048, 1024]⟩
abbrev S32x32x1024 : Shape := ⟨3, ![32, 32, 1024]⟩
abbrev S1x32x512x8x64 : Shape := ⟨5, ![1, 32, 512, 8, 64]⟩
abbrev S1x1024 : Shape := ⟨2, ![1, 1024]⟩
abbrev S1x1024x4256 : Shape := ⟨3, ![1, 1024, 4256]⟩
abbrev S1x384 : Shape := ⟨2, ![1, 384]⟩
abbrev S1x256 : Shape := ⟨2, ![1, 256]⟩
abbrev S1x384x768 : Shape := ⟨3, ![1, 384, 768]⟩
abbrev S1x256x8x64 : Shape := ⟨4, ![1, 256, 8, 64]⟩
abbrev S1x8x513 : Shape := ⟨3, ![1, 8, 513]⟩
abbrev S2304 : Shape := ⟨1, ![2304]⟩
abbrev S16 : Shape := ⟨1, ![16]⟩
abbrev S575 : Shape := ⟨1, ![575]⟩
abbrev S1024x4256 : Shape := ⟨2, ![1024, 4256]⟩
abbrev S1024x32 : Shape := ⟨2, ![1024, 32]⟩
abbrev S_ : Shape := ⟨0, ![]⟩
abbrev S1024x64 : Shape := ⟨2, ![1024, 64]⟩
abbrev S1024x640 : Shape := ⟨2, ![1024, 640]⟩
abbrev S1024x16 : Shape := ⟨2, ![1024, 16]⟩
abbrev S1024x896 : Shape := ⟨2, ![1024, 896]⟩
abbrev S1024x1536 : Shape := ⟨2, ![1024, 1536]⟩
abbrev S1024x2048 : Shape := ⟨2, ![1024, 2048]⟩
abbrev S384x768 : Shape := ⟨2, ![384, 768]⟩
abbrev S384x8x96 : Shape := ⟨3, ![384, 8, 96]⟩
abbrev S384x8x64 : Shape := ⟨3, ![384, 8, 64]⟩
abbrev S384x8x32 : Shape := ⟨3, ![384, 8, 32]⟩
abbrev S384x8x128 : Shape := ⟨3, ![384, 8, 128]⟩
abbrev S384x1024 : Shape := ⟨2, ![384, 1024]⟩
abbrev S384x8x16 : Shape := ⟨3, ![384, 8, 16]⟩
abbrev S256x8x64 : Shape := ⟨3, ![256, 8, 64]⟩
abbrev S256x8x128 : Shape := ⟨3, ![256, 8, 128]⟩
abbrev S256x1024 : Shape := ⟨2, ![256, 1024]⟩
abbrev S256x512 : Shape := ⟨2, ![256, 512]⟩
abbrev S2304x1 : Shape := ⟨2, ![2304, 1]⟩
abbrev S1x16 : Shape := ⟨2, ![1, 16]⟩
abbrev S2304x16 : Shape := ⟨2, ![2304, 16]⟩
abbrev S2304x32 : Shape := ⟨2, ![2304, 32]⟩
abbrev S2304x64 : Shape := ⟨2, ![2304, 64]⟩
abbrev S2304x128 : Shape := ⟨2, ![2304, 128]⟩
abbrev S32768x1024 : Shape := ⟨2, ![32768, 1024]⟩
abbrev S1024x1024 : Shape := ⟨2, ![1024, 1024]⟩
abbrev S1024 : Shape := ⟨1, ![1024]⟩
abbrev S384 : Shape := ⟨1, ![384]⟩
abbrev S256 : Shape := ⟨1, ![256]⟩
abbrev S33792x256 : Shape := ⟨2, ![33792, 256]⟩
abbrev S33792x32 : Shape := ⟨2, ![33792, 32]⟩
abbrev S33792x1024 : Shape := ⟨2, ![33792, 1024]⟩
abbrev S33792x512 : Shape := ⟨2, ![33792, 512]⟩
abbrev S256x128 : Shape := ⟨2, ![256, 128]⟩
abbrev S256x256 : Shape := ⟨2, ![256, 256]⟩
abbrev S256x32 : Shape := ⟨2, ![256, 32]⟩
abbrev S256x1 : Shape := ⟨2, ![256, 1]⟩
abbrev S256x896 : Shape := ⟨2, ![256, 896]⟩
abbrev S256x384 : Shape := ⟨2, ![256, 384]⟩
abbrev S256x1536 : Shape := ⟨2, ![256, 1536]⟩
abbrev S256x2048 : Shape := ⟨2, ![256, 2048]⟩
abbrev S8x513 : Shape := ⟨2, ![8, 513]⟩
abbrev S575x1 : Shape := ⟨2, ![575, 1]⟩
abbrev S8x575 : Shape := ⟨2, ![8, 575]⟩
abbrev S8x544 : Shape := ⟨2, ![8, 544]⟩
abbrev S8x1x544 : Shape := ⟨3, ![8, 1, 544]⟩
abbrev S8x16x544 : Shape := ⟨3, ![8, 16, 544]⟩
abbrev S8x32x544 : Shape := ⟨3, ![8, 32, 544]⟩
abbrev S32x512x8x64 : Shape := ⟨4, ![32, 512, 8, 64]⟩
abbrev S32x512x512 : Shape := ⟨3, ![32, 512, 512]⟩
abbrev S8x32x512 : Shape := ⟨3, ![8, 32, 512]⟩
abbrev S8x32x32 : Shape := ⟨3, ![8, 32, 32]⟩
abbrev S1024x512 : Shape := ⟨2, ![1024, 512]⟩
abbrev S32x512 : Shape := ⟨2, ![32, 512]⟩
abbrev S1x512x512 : Shape := ⟨3, ![1, 512, 512]⟩
abbrev S512x512 : Shape := ⟨2, ![512, 512]⟩
abbrev S32x128 : Shape := ⟨2, ![32, 128]⟩
abbrev S512x128 : Shape := ⟨2, ![512, 128]⟩
abbrev S1x32x512 : Shape := ⟨3, ![1, 32, 512]⟩
abbrev S32x32 : Shape := ⟨2, ![32, 32]⟩
abbrev S1x32x32 : Shape := ⟨3, ![1, 32, 32]⟩
abbrev S32 : Shape := ⟨1, ![32]⟩
abbrev S32x1 : Shape := ⟨2, ![32, 1]⟩
abbrev S480x512 : Shape := ⟨2, ![480, 512]⟩
abbrev S1x480x512 : Shape := ⟨3, ![1, 480, 512]⟩
abbrev S32768x256 : Shape := ⟨2, ![32768, 256]⟩
abbrev S1x16x2048x256 : Shape := ⟨4, ![1, 16, 2048, 256]⟩
abbrev S32768x32 : Shape := ⟨2, ![32768, 32]⟩
abbrev S1x16x2048x32 : Shape := ⟨4, ![1, 16, 2048, 32]⟩
abbrev S32768x512 : Shape := ⟨2, ![32768, 512]⟩
abbrev S16x2048x8x64 : Shape := ⟨4, ![16, 2048, 8, 64]⟩
abbrev S16x512x8x64 : Shape := ⟨4, ![16, 512, 8, 64]⟩
abbrev S1x16x512x8x64 : Shape := ⟨5, ![1, 16, 512, 8, 64]⟩
abbrev S1024x256 : Shape := ⟨2, ![1024, 256]⟩
abbrev S1x32x32x256 : Shape := ⟨4, ![1, 32, 32, 256]⟩
abbrev S1x32x32x32 : Shape := ⟨4, ![1, 32, 32, 32]⟩

abbrev nBuf : Space → Nat
  | .hbm => 195
  | .vmem => 64
  | .smem => 0
  | _ => 0

abbrev hbmTy0_0 (i : Nat) : BufTy := match i % 128 with
  | 0 => ⟨S16x2048x1024, .f32⟩
  | 1 => ⟨S32x32x1024, .f32⟩
  | 2 => ⟨S1x32x512x8x64, .f32⟩
  | 3 => ⟨S1x32x512x8x64, .f32⟩
  | 4 => ⟨S1x1024, .f32⟩
  | 5 => ⟨S1x1024x4256, .f32⟩
  | 6 => ⟨S1x384, .f32⟩
  | 7 => ⟨S1x256, .f32⟩
  | 8 => ⟨S1x384x768, .f32⟩
  | 9 => ⟨S1x256x8x64, .f32⟩
  | 10 => ⟨S1x256x8x64, .f32⟩
  | 11 => ⟨S1x8x513, .f32⟩
  | 12 => ⟨S2304, .f32⟩
  | 13 => ⟨S16, .f32⟩
  | 14 => ⟨S575, .i32⟩
  | 15 => ⟨S575, .i1⟩
  | 16 => ⟨S1024x4256, .f32⟩
  | 17 => ⟨S1024x32, .f32⟩
  | 18 => ⟨S_, .f32⟩
  | 19 => ⟨S1024x64, .f32⟩
  | 20 => ⟨S_, .f32⟩
  | 21 => ⟨S1024x32, .f32⟩
  | 22 => ⟨S1024x640, .f32⟩
  | 23 => ⟨S1024x16, .f32⟩
  | 24 => ⟨S1024x16, .f32⟩
  | 25 => ⟨S1024x16, .f32⟩
  | 26 => ⟨S1024x32, .f32⟩
  | 27 => ⟨S1024x896, .f32⟩
  | 28 => ⟨S1024x896, .bf16⟩
  | 29 => ⟨S1024x1536, .f32⟩
  | 30 => ⟨S1024x1536, .bf16⟩
  | 31 => ⟨S1024x2048, .f32⟩
  | 32 => ⟨S1024x2048, .bf16⟩
  | 33 => ⟨S384x768, .f32⟩
  | 34 => ⟨S384x8x96, .f32⟩
  | 35 => ⟨S_, .f32⟩
  | 36 => ⟨S384x8x64, .f32⟩
  | 37 => ⟨S_, .f32⟩
  | 38 => ⟨S384x8x32, .f32⟩
  | 39 => ⟨S384x8x128, .f32⟩
  | 40 => ⟨S384x1024, .f32⟩
  | 41 => ⟨S384x1024, .bf16⟩
  | 42 => ⟨S384x8x32, .f32⟩
  | 43 => ⟨S384x8x16, .f32⟩
  | 44 => ⟨S384x8x16, .f32⟩
  | 45 => ⟨S384x8x16, .f32⟩
  | 46 => ⟨S384x8x32, .f32⟩
  | 47 => ⟨S384x8x128, .f32⟩
  | 48 => ⟨S384x1024, .f32⟩
  | 49 => ⟨S384x1024, .bf16⟩
  | 50 => ⟨S256x8x64, .f32⟩
  | 51 => ⟨S_, .f32⟩
  | 52 => ⟨S256x8x64, .f32⟩
  | 53 => ⟨S256x8x128, .f32⟩
  | 54 => ⟨S256x1024, .f32⟩
  | 55 => ⟨S256x1024, .bf16⟩
  | 56 => ⟨S256x8x64, .f32⟩
  | 57 => ⟨S256x512, .f32⟩
  | 58 => ⟨S256x512, .bf16⟩
  | 59 => ⟨S2304x1, .f32⟩
  | 60 => ⟨S1x16, .f32⟩
  | 61 => ⟨S2304x16, .f32⟩
  | 62 => ⟨S2304x16, .f32⟩
  | 63 => ⟨S2304x16, .f32⟩
  | 64 => ⟨S2304x16, .f32⟩
  | 65 => ⟨S2304x16, .f32⟩
  | 66 => ⟨S_, .f32⟩
  | 67 => ⟨S2304x32, .f32⟩
  | 68 => ⟨S_, .f32⟩
  | 69 => ⟨S2304x64, .f32⟩
  | 70 => ⟨S2304x128, .f32⟩
  | 71 => ⟨S_, .f32⟩
  | 72 => ⟨S2304x64, .f32⟩
  | 73 => ⟨S2304x128, .f32⟩
  | 74 => ⟨S32768x1024, .f32⟩
  | 75 => ⟨S1024x1024, .f32⟩
  | 76 => ⟨S1024, .f32⟩
  | 77 => ⟨S1x1024, .f32⟩
  | 78 => ⟨S384, .f32⟩
  | 79 => ⟨S1x384, .f32⟩
  | 80 => ⟨S256, .f32⟩
  | 81 => ⟨S1x256, .f32⟩
  | 82 => ⟨S33792x256, .f32⟩
  | 83 => ⟨S33792x32, .f32⟩
  | 84 => ⟨S33792x1024, .bf16⟩
  | 85 => ⟨S33792x1024, .bf16⟩
  | 86 => ⟨S33792x512, .bf16⟩
  | 87 => ⟨S33792x512, .bf16⟩
  | 88 => ⟨S33792x512, .bf16⟩
  | 89 => ⟨S33792x512, .bf16⟩
  | 90 => ⟨S33792x512, .f32⟩
  | 91 => ⟨S33792x512, .f32⟩
  | 92 => ⟨S33792x1024, .f32⟩
  | 93 => ⟨S33792x1024, .f32⟩
  | 94 => ⟨S8x513, .f32⟩
  | 95 => ⟨S_, .i32⟩
  | 96 => ⟨S575, .i32⟩
  | 97 => ⟨S575, .i32⟩
  | 98 => ⟨S575, .i32⟩
  | 99 => ⟨S575x1, .i32⟩
  | 100 => ⟨S8x575, .f32⟩
  | 101 => ⟨S8x544, .f32⟩
  | 102 => ⟨S8x544, .f32⟩
  | 103 => ⟨S8x544, .f32⟩
  | 104 => ⟨S8x544, .f32⟩
  | 105 => ⟨S8x544, .f32⟩
  | 106 => ⟨S8x544, .f32⟩
  | 107 => ⟨S8x544, .f32⟩
  | 108 => ⟨S8x544, .f32⟩
  | 109 => ⟨S8x544, .f32⟩
  | 110 => ⟨S8x544, .f32⟩
  | 111 => ⟨S8x544, .f32⟩
  | 112 => ⟨S8x544, .f32⟩
  | 113 => ⟨S8x544, .f32⟩
  | 114 => ⟨S8x544, .f32⟩
  | 115 => ⟨S8x544, .f32⟩
  | 116 => ⟨S8x544, .f32⟩
  | 117 => ⟨S8x544, .f32⟩
  | 118 => ⟨S8x544, .f32⟩
  | 119 => ⟨S8x544, .f32⟩
  | 120 => ⟨S8x544, .f32⟩
  | 121 => ⟨S8x544, .f32⟩
  | 122 => ⟨S8x544, .f32⟩
  | 123 => ⟨S8x544, .f32⟩
  | 124 => ⟨S8x544, .f32⟩
  | 125 => ⟨S8x544, .f32⟩
  | 126 => ⟨S8x544, .f32⟩
  | 127 => ⟨S8x544, .f32⟩
  | _ => ⟨S16x2048x1024, .f32⟩

abbrev hbmTy0_1 (i : Nat) : BufTy := match i % 128 with
  | 0 => ⟨S8x544, .f32⟩
  | 1 => ⟨S8x544, .f32⟩
  | 2 => ⟨S8x544, .f32⟩
  | 3 => ⟨S8x544, .f32⟩
  | 4 => ⟨S8x544, .f32⟩
  | 5 => ⟨S8x1x544, .f32⟩
  | 6 => ⟨S8x1x544, .f32⟩
  | 7 => ⟨S8x1x544, .f32⟩
  | 8 => ⟨S8x1x544, .f32⟩
  | 9 => ⟨S8x1x544, .f32⟩
  | 10 => ⟨S8x1x544, .f32⟩
  | 11 => ⟨S8x1x544, .f32⟩
  | 12 => ⟨S8x1x544, .f32⟩
  | 13 => ⟨S8x1x544, .f32⟩
  | 14 => ⟨S8x1x544, .f32⟩
  | 15 => ⟨S8x1x544, .f32⟩
  | 16 => ⟨S8x1x544, .f32⟩
  | 17 => ⟨S8x1x544, .f32⟩
  | 18 => ⟨S8x1x544, .f32⟩
  | 19 => ⟨S8x1x544, .f32⟩
  | 20 => ⟨S8x1x544, .f32⟩
  | 21 => ⟨S8x1x544, .f32⟩
  | 22 => ⟨S8x1x544, .f32⟩
  | 23 => ⟨S8x1x544, .f32⟩
  | 24 => ⟨S8x1x544, .f32⟩
  | 25 => ⟨S8x1x544, .f32⟩
  | 26 => ⟨S8x1x544, .f32⟩
  | 27 => ⟨S8x1x544, .f32⟩
  | 28 => ⟨S8x1x544, .f32⟩
  | 29 => ⟨S8x1x544, .f32⟩
  | 30 => ⟨S8x1x544, .f32⟩
  | 31 => ⟨S8x1x544, .f32⟩
  | 32 => ⟨S8x1x544, .f32⟩
  | 33 => ⟨S8x1x544, .f32⟩
  | 34 => ⟨S8x1x544, .f32⟩
  | 35 => ⟨S8x1x544, .f32⟩
  | 36 => ⟨S8x1x544, .f32⟩
  | 37 => ⟨S8x16x544, .f32⟩
  | 38 => ⟨S8x16x544, .f32⟩
  | 39 => ⟨S8x32x544, .f32⟩
  | 40 => ⟨S32x512x8x64, .f32⟩
  | 41 => ⟨S32x512x512, .f32⟩
  | 42 => ⟨S32x512x8x64, .f32⟩
  | 43 => ⟨S32x512x512, .f32⟩
  | 44 => ⟨S8x32x512, .f32⟩
  | 45 => ⟨S8x32x32, .f32⟩
  | 46 => ⟨S1024x512, .bf16⟩
  | 47 => ⟨S32x512x512, .f32⟩
  | 48 => ⟨S32x512x512, .f32⟩
  | 49 => ⟨S32768x256, .f32⟩
  | 50 => ⟨S1x16x2048x256, .f32⟩
  | 51 => ⟨S32768x32, .f32⟩
  | 52 => ⟨S1x16x2048x32, .f32⟩
  | 53 => ⟨S32768x512, .f32⟩
  | 54 => ⟨S16x2048x8x64, .f32⟩
  | 55 => ⟨S16x512x8x64, .f32⟩
  | 56 => ⟨S1x16x512x8x64, .f32⟩
  | 57 => ⟨S32768x512, .f32⟩
  | 58 => ⟨S16x2048x8x64, .f32⟩
  | 59 => ⟨S16x512x8x64, .f32⟩
  | 60 => ⟨S1x16x512x8x64, .f32⟩
  | 61 => ⟨S1024x256, .f32⟩
  | 62 => ⟨S1x32x32x256, .f32⟩
  | 63 => ⟨S1024x32, .f32⟩
  | 64 => ⟨S1x32x32x32, .f32⟩
  | 65 => ⟨S1x32x512x8x64, .f32⟩
  | 66 => ⟨S1x32x512x8x64, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x896, .bf16⟩
  | .local _ .vmem, ⟨6, _⟩ => ⟨S1024x1536, .bf16⟩
  | .local _ .vmem, ⟨7, _⟩ => ⟨S1024x2048, .bf16⟩
  | .local _ .vmem, ⟨8, _⟩ => ⟨S1x384, .f32⟩
  | .local _ .vmem, ⟨9, _⟩ => ⟨S1x256, .f32⟩
  | .local _ .vmem, ⟨10, _⟩ => ⟨S384x1024, .bf16⟩
  | .local _ .vmem, ⟨11, _⟩ => ⟨S384x1024, .bf16⟩
  | .local _ .vmem, ⟨12, _⟩ => ⟨S256x1024, .bf16⟩
  | .local _ .vmem, ⟨13, _⟩ => ⟨S256x512, .bf16⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x256, .f32⟩
  | .local _ .vmem, ⟨19, _⟩ => ⟨S256x256, .f32⟩
  | .local _ .vmem, ⟨20, _⟩ => ⟨S256x32, .f32⟩
  | .local _ .vmem, ⟨21, _⟩ => ⟨S256x32, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S32x512, .bf16⟩
  | .local _ .vmem, ⟨43, _⟩ => ⟨S32x512, .bf16⟩
  | .local _ .vmem, ⟨44, _⟩ => ⟨S1x512x512, .f32⟩
  | .local _ .vmem, ⟨45, _⟩ => ⟨S1x512x512, .f32⟩
  | .local _ .vmem, ⟨46, _⟩ => ⟨S1x512x512, .f32⟩
  | .local _ .vmem, ⟨47, _⟩ => ⟨S1x512x512, .f32⟩
  | .local _ .vmem, ⟨48, _⟩ => ⟨S32x512, .bf16⟩
  | .local _ .vmem, ⟨49, _⟩ => ⟨S32x512, .bf16⟩
  | .local _ .vmem, ⟨50, _⟩ => ⟨S32x512, .bf16⟩
  | .local _ .vmem, ⟨51, _⟩ => ⟨S32x512, .bf16⟩
  | .local _ .vmem, ⟨52, _⟩ => ⟨S32x512, .f32⟩
  | .local _ .vmem, ⟨53, _⟩ => ⟨S32x512, .f32⟩
  | .local _ .vmem, ⟨54, _⟩ => ⟨S32x512, .f32⟩
  | .local _ .vmem, ⟨55, _⟩ => ⟨S32x512, .f32⟩
  | .local _ .vmem, ⟨56, _⟩ => ⟨S8x32x512, .f32⟩
  | .local _ .vmem, ⟨57, _⟩ => ⟨S8x32x32, .f32⟩
  | .local _ .vmem, ⟨58, _⟩ => ⟨S32x512, .bf16⟩
  | .local _ .vmem, ⟨59, _⟩ => ⟨S32x512, .bf16⟩
  | .local _ .vmem, ⟨60, _⟩ => ⟨S1x512x512, .f32⟩
  | .local _ .vmem, ⟨61, _⟩ => ⟨S1x512x512, .f32⟩
  | .local _ .vmem, ⟨62, _⟩ => ⟨S1x512x512, .f32⟩
  | .local _ .vmem, ⟨63, _⟩ => ⟨S1x512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_c : Ref sig .tc := ⟨.hbm, 14, rfl⟩
abbrev main_c_1 : Ref sig .tc := ⟨.hbm, 15, rfl⟩
abbrev main_v0 : Ref sig .tc := ⟨.hbm, 16, rfl⟩
abbrev main_v1 : Ref sig .tc := ⟨.hbm, 17, rfl⟩
abbrev main_cst_2 : Ref sig .tc := ⟨.hbm, 18, rfl⟩
abbrev main_v2 : Ref sig .tc := ⟨.hbm, 19, rfl⟩
abbrev main_cst_3 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_v58_2 : Ref sig .tc := ⟨.hbm, 84, rfl⟩
abbrev main_v58_3 : Ref sig .tc := ⟨.hbm, 85, rfl⟩
abbrev main_v58_4 : Ref sig .tc := ⟨.hbm, 86, rfl⟩
abbrev main_v58_5 : Ref sig .tc := ⟨.hbm, 87, rfl⟩
abbrev main_v58_6 : Ref sig .tc := ⟨.hbm, 88, rfl⟩
abbrev main_v58_7 : Ref sig .tc := ⟨.hbm, 89, rfl⟩
abbrev main_v58_8 : Ref sig .tc := ⟨.hbm, 90, rfl⟩
abbrev main_v58_9 : Ref sig .tc := ⟨.hbm, 91, rfl⟩
abbrev main_v58_10 : Ref sig .tc := ⟨.hbm, 92, rfl⟩
abbrev main_v58_11 : Ref sig .tc := ⟨.hbm, 93, rfl⟩
abbrev main_v59 : Ref sig .tc := ⟨.hbm, 94, rfl⟩
abbrev main_c_10 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138_0 : Ref sig .tc := ⟨.hbm, 174, rfl⟩
abbrev main_v138_1 : Ref sig .tc := ⟨.hbm, 175, rfl⟩
abbrev main_v138_2 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc1_stg0_0 : Ref sig .tc := ⟨.vmem, 42, rfl⟩
abbrev cc1_stg0_1 : Ref sig .tc := ⟨.vmem, 43, rfl⟩
abbrev cc1_stg1_0 : Ref sig .tc := ⟨.vmem, 44, rfl⟩
abbrev cc1_stg1_1 : Ref sig .tc := ⟨.vmem, 45, rfl⟩
abbrev cc1_stg2_0 : Ref sig .tc := ⟨.vmem, 46, rfl⟩
abbrev cc1_stg2_1 : Ref sig .tc := ⟨.vmem, 47, rfl⟩
abbrev cc1_stg3_0 : Ref sig .tc := ⟨.vmem, 48, rfl⟩
abbrev cc1_stg3_1 : Ref sig .tc := ⟨.vmem, 49, rfl⟩
abbrev cc1_stg4_0 : Ref sig .tc := ⟨.vmem, 50, rfl⟩
abbrev cc1_stg4_1 : Ref sig .tc := ⟨.vmem, 51, rfl⟩
abbrev cc1_stg5_0 : Ref sig .tc := ⟨.vmem, 52, rfl⟩
abbrev cc1_stg5_1 : Ref sig .tc := ⟨.vmem, 53, rfl⟩
abbrev cc1_stg6_0 : Ref sig .tc := ⟨.vmem, 54, rfl⟩
abbrev cc1_stg6_1 : Ref sig .tc := ⟨.vmem, 55, rfl⟩
abbrev cc1_stg7_0 : Ref sig .tc := ⟨.vmem, 56, rfl⟩
abbrev cc1_stg8_0 : Ref sig .tc := ⟨.vmem, 57, rfl⟩
abbrev cc1_stg9_0 : Ref sig .tc := ⟨.vmem, 58, rfl⟩
abbrev cc1_stg9_1 : Ref sig .tc := ⟨.vmem, 59, rfl⟩
abbrev cc1_stg10_0 : Ref sig .tc := ⟨.vmem, 60, rfl⟩
abbrev cc1_stg10_1 : Ref sig .tc := ⟨.vmem, 61, rfl⟩
abbrev cc1_stg11_0 : Ref sig .tc := ⟨.vmem, 62, rfl⟩
abbrev cc1_stg11_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41
abbrev cc1_sem0_0 : DmaSem sig := 42
abbrev cc1_sem0_1 : DmaSem sig := 43
abbrev cc1_sem1_0 : DmaSem sig := 44
abbrev cc1_sem1_1 : DmaSem sig := 45
abbrev cc1_sem2_0 : DmaSem sig := 46
abbrev cc1_sem2_1 : DmaSem sig := 47
abbrev cc1_sem3_0 : DmaSem sig := 48
abbrev cc1_sem3_1 : DmaSem sig := 49
abbrev cc1_sem4_0 : DmaSem sig := 50
abbrev cc1_sem4_1 : DmaSem sig := 51
abbrev cc1_sem5_0 : DmaSem sig := 52
abbrev cc1_sem5_1 : DmaSem sig := 53
abbrev cc1_sem6_0 : DmaSem sig := 54
abbrev cc1_sem6_1 : DmaSem sig := 55
abbrev cc1_sem7_0 : DmaSem sig := 56
abbrev cc1_sem8_0 : DmaSem sig := 57
abbrev cc1_sem9_0 : DmaSem sig := 58
abbrev cc1_sem9_1 : DmaSem sig := 59
abbrev cc1_sem10_0 : DmaSem sig := 60
abbrev cc1_sem10_1 : DmaSem sig := 61
abbrev cc1_sem11_0 : DmaSem sig := 62
abbrev cc1_sem11_1 : DmaSem sig := 63

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c128_i32 : BitVec 32 := 128#32
  let v0 : BitVec 1 := Scalar.cmpi .slt arg0 c128_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_13 (i : grid0.Coords) : Fin 2 → Nat :=
  let arg0 : BitVec 32 := BitVec.ofNat 32 (i 0).val
  let c128_i32 : BitVec 32 := 128#32
  let v0 : BitVec 1 := Scalar.cmpi .slt arg0 c128_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.select v0 v10 c8_i32_3
  let c0_i32_4 : BitVec 32 := 0#32
  let c0_i32_5 : BitVec 32 := 0#32
  ![v11.toNat, c0_i32_4.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x32x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x32x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S32x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x512x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== LayerReferenceIdeal.lean ====
abbrev S16x2048x1024 : Shape := ⟨3, ![16, 2048, 1024]⟩
abbrev S32x32x1024 : Shape := ⟨3, ![32, 32, 1024]⟩
abbrev S1x32x512x8x64 : Shape := ⟨5, ![1, 32, 512, 8, 64]⟩
abbrev S1x1024 : Shape := ⟨2, ![1, 1024]⟩
abbrev S1x1024x4256 : Shape := ⟨3, ![1, 1024, 4256]⟩
abbrev S1x384 : Shape := ⟨2, ![1, 384]⟩
abbrev S1x256 : Shape := ⟨2, ![1, 256]⟩
abbrev S1x384x768 : Shape := ⟨3, ![1, 384, 768]⟩
abbrev S1x256x8x64 : Shape := ⟨4, ![1, 256, 8, 64]⟩
abbrev S1x8x513 : Shape := ⟨3, ![1, 8, 513]⟩
abbrev S32768x1024 : Shape := ⟨2, ![32768, 1024]⟩
abbrev S1024x1024 : Shape := ⟨2, ![1024, 1024]⟩
abbrev S33792x1024 : Shape := ⟨2, ![33792, 1024]⟩
abbrev S2048 : Shape := ⟨1, ![2048]⟩
abbrev S1x2048 : Shape := ⟨2, ![1, 2048]⟩
abbrev S16x2048 : Shape := ⟨2, ![16, 2048]⟩
abbrev S32768 : Shape := ⟨1, ![32768]⟩
abbrev S32 : Shape := ⟨1, ![32]⟩
abbrev S_ : Shape := ⟨0, ![]⟩
abbrev S1x32 : Shape := ⟨2, ![1, 32]⟩
abbrev S32x32 : Shape := ⟨2, ![32, 32]⟩
abbrev S1024 : Shape := ⟨1, ![1024]⟩
abbrev S33792 : Shape := ⟨1, ![33792]⟩
abbrev S1 : Shape := ⟨1, ![1]⟩
abbrev S16 : Shape := ⟨1, ![16]⟩
abbrev S33792x1 : Shape := ⟨2, ![33792, 1]⟩
abbrev S1x16 : Shape := ⟨2, ![1, 16]⟩
abbrev S33792x16 : Shape := ⟨2, ![33792, 16]⟩
abbrev S1024x4256 : Shape := ⟨2, ![1024, 4256]⟩
abbrev S33792x4256 : Shape := ⟨2, ![33792, 4256]⟩
abbrev S33792x384 : Shape := ⟨2, ![33792, 384]⟩
abbrev S33792x256 : Shape := ⟨2, ![33792, 256]⟩
abbrev S33792x32 : Shape := ⟨2, ![33792, 32]⟩
abbrev S33792x512 : Shape := ⟨2, ![33792, 512]⟩
abbrev S384 : Shape := ⟨1, ![384]⟩
abbrev S384x768 : Shape := ⟨2, ![384, 768]⟩
abbrev S33792x768 : Shape := ⟨2, ![33792, 768]⟩
abbrev S33792x8x96 : Shape := ⟨3, ![33792, 8, 96]⟩
abbrev S33792x8x32 : Shape := ⟨3, ![33792, 8, 32]⟩
abbrev S33792x1x16 : Shape := ⟨3, ![33792, 1, 16]⟩
abbrev S33792x8x16 : Shape := ⟨3, ![33792, 8, 16]⟩
abbrev S256 : Shape := ⟨1, ![256]⟩
abbrev S33792x8x64 : Shape := ⟨3, ![33792, 8, 64]⟩
abbrev S33792x8x128 : Shape := ⟨3, ![33792, 8, 128]⟩
abbrev S256x8x64 : Shape := ⟨3, ![256, 8, 64]⟩
abbrev S33792x1x32 : Shape := ⟨3, ![33792, 1, 32]⟩
abbrev S32768x256 : Shape := ⟨2, ![32768, 256]⟩
abbrev S1x16x2048x256 : Shape := ⟨4, ![1, 16, 2048, 256]⟩
abbrev S32768x32 : Shape := ⟨2, ![32768, 32]⟩
abbrev S1x16x2048x32 : Shape := ⟨4, ![1, 16, 2048, 32]⟩
abbrev S32768x512 : Shape := ⟨2, ![32768, 512]⟩
abbrev S1x16x2048x8x64 : Shape := ⟨5, ![1, 16, 2048, 8, 64]⟩
abbrev S1x16x512x8x64 : Shape := ⟨5, ![1, 16, 512, 8, 64]⟩
abbrev S1024x256 : Shape := ⟨2, ![1024, 256]⟩
abbrev S1x32x32x256 : Shape := ⟨4, ![1, 32, 32, 256]⟩
abbrev S1024x32 : Shape := ⟨2, ![1024, 32]⟩
abbrev S1x32x32x32 : Shape := ⟨4, ![1, 32, 32, 32]⟩
abbrev S1024x512 : Shape := ⟨2, ![1024, 512]⟩
abbrev S1x32x32x8x64 : Shape := ⟨5, ![1, 32, 32, 8, 64]⟩
abbrev S1x32x544x8x64 : Shape := ⟨5, ![1, 32, 544, 8, 64]⟩

abbrev nBuf : Space → Nat
  | .hbm => 215
  | .vmem => 0
  | .smem => 0
  | _ => 0

abbrev hbmTy0_0 (i : Nat) : BufTy := match i % 128 with
  | 0 => ⟨S16x2048x1024, .f32⟩
  | 1 => ⟨S32x32x1024, .f32⟩
  | 2 => ⟨S1x32x512x8x64, .f32⟩
  | 3 => ⟨S1x32x512x8x64, .f32⟩
  | 4 => ⟨S1x1024, .f32⟩
  | 5 => ⟨S1x1024x4256, .f32⟩
  | 6 => ⟨S1x384, .f32⟩
  | 7 => ⟨S1x256, .f32⟩
  | 8 => ⟨S1x384x768, .f32⟩
  | 9 => ⟨S1x256x8x64, .f32⟩
  | 10 => ⟨S1x256x8x64, .f32⟩
  | 11 => ⟨S1x8x513, .f32⟩
  | 12 => ⟨S32768x1024, .f32⟩
  | 13 => ⟨S1024x1024, .f32⟩
  | 14 => ⟨S33792x1024, .f32⟩
  | 15 => ⟨S2048, .i32⟩
  | 16 => ⟨S1x2048, .i32⟩
  | 17 => ⟨S16x2048, .i32⟩
  | 18 => ⟨S32768, .i32⟩
  | 19 => ⟨S32, .i32⟩
  | 20 => ⟨S_, .i32⟩
  | 21 => ⟨S32, .i32⟩
  | 22 => ⟨S32, .i32⟩
  | 23 => ⟨S1x32, .i32⟩
  | 24 => ⟨S32x32, .i32⟩
  | 25 => ⟨S1024, .i32⟩
  | 26 => ⟨S33792, .i32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S1, .f32⟩
  | 41 => ⟨S_, .f32⟩
  | 42 => ⟨S1, .f32⟩
  | 43 => ⟨S_, .f32⟩
  | 44 => ⟨S1, .f32⟩
  | 45 => ⟨S_, .f32⟩
  | 46 => ⟨S1, .f32⟩
  | 47 => ⟨S_, .f32⟩
  | 48 => ⟨S1, .f32⟩
  | 49 => ⟨S_, .f32⟩
  | 50 => ⟨S1, .f32⟩
  | 51 => ⟨S_, .f32⟩
  | 52 => ⟨S1, .f32⟩
  | 53 => ⟨S_, .f32⟩
  | 54 => ⟨S1, .f32⟩
  | 55 => ⟨S_, .f32⟩
  | 56 => ⟨S1, .f32⟩
  | 57 => ⟨S_, .f32⟩
  | 58 => ⟨S1, .f32⟩
  | 59 => ⟨S16, .f32⟩
  | 60 => ⟨S33792, .f32⟩
  | 61 => ⟨S33792x1, .f32⟩
  | 62 => ⟨S1x16, .f32⟩
  | 63 => ⟨S33792x16, .f32⟩
  | 64 => ⟨S33792x16, .f32⟩
  | 65 => ⟨S33792x16, .f32⟩
  | 66 => ⟨S33792x16, .f32⟩
  | 67 => ⟨S33792x16, .f32⟩
  | 68 => ⟨S1024, .f32⟩
  | 69 => ⟨S33792x1024, .f32⟩
  | 70 => ⟨S_, .f32⟩
  | 71 => ⟨S33792, .f32⟩
  | 72 => ⟨S33792x1, .f32⟩
  | 73 => ⟨S_, .f32⟩
  | 74 => ⟨S33792x1, .f32⟩
  | 75 => ⟨S33792x1, .f32⟩
  | 76 => ⟨S_, .f32⟩
  | 77 => ⟨S33792x1, .f32⟩
  | 78 => ⟨S33792x1, .f32⟩
  | 79 => ⟨S33792x1, .f32⟩
  | 80 => ⟨S33792x1024, .f32⟩
  | 81 => ⟨S33792x1024, .f32⟩
  | 82 => ⟨S1x1024, .f32⟩
  | 83 => ⟨S33792x1024, .f32⟩
  | 84 => ⟨S33792x1024, .f32⟩
  | 85 => ⟨S1024x4256, .f32⟩
  | 86 => ⟨S33792x4256, .f32⟩
  | 87 => ⟨S33792x384, .f32⟩
  | 88 => ⟨S33792x256, .f32⟩
  | 89 => ⟨S33792x32, .f32⟩
  | 90 => ⟨S33792x512, .f32⟩
  | 91 => ⟨S33792x512, .f32⟩
  | 92 => ⟨S33792x512, .f32⟩
  | 93 => ⟨S33792x1024, .f32⟩
  | 94 => ⟨S33792x1024, .f32⟩
  | 95 => ⟨S384, .f32⟩
  | 96 => ⟨S33792x384, .f32⟩
  | 97 => ⟨S_, .f32⟩
  | 98 => ⟨S33792, .f32⟩
  | 99 => ⟨S33792x1, .f32⟩
  | 100 => ⟨S_, .f32⟩
  | 101 => ⟨S33792x1, .f32⟩
  | 102 => ⟨S33792x1, .f32⟩
  | 103 => ⟨S_, .f32⟩
  | 104 => ⟨S33792x1, .f32⟩
  | 105 => ⟨S33792x1, .f32⟩
  | 106 => ⟨S33792x1, .f32⟩
  | 107 => ⟨S33792x384, .f32⟩
  | 108 => ⟨S33792x384, .f32⟩
  | 109 => ⟨S1x384, .f32⟩
  | 110 => ⟨S33792x384, .f32⟩
  | 111 => ⟨S33792x384, .f32⟩
  | 112 => ⟨S384x768, .f32⟩
  | 113 => ⟨S33792x768, .f32⟩
  | 114 => ⟨S33792x8x96, .f32⟩
  | 115 => ⟨S33792x8x32, .f32⟩
  | 116 => ⟨S33792x1x16, .f32⟩
  | 117 => ⟨S33792x1x16, .f32⟩
  | 118 => ⟨S33792x8x16, .f32⟩
  | 119 => ⟨S33792x8x16, .f32⟩
  | 120 => ⟨S33792x8x16, .f32⟩
  | 121 => ⟨S33792x8x16, .f32⟩
  | 122 => ⟨S33792x8x16, .f32⟩
  | 123 => ⟨S33792x8x16, .f32⟩
  | 124 => ⟨S33792x8x16, .f32⟩
  | 125 => ⟨S33792x8x16, .f32⟩
  | 126 => ⟨S33792x8x16, .f32⟩
  | 127 => ⟨S33792x8x16, .f32⟩
  | _ => ⟨S16x2048x1024, .f32⟩

abbrev hbmTy0_1 (i : Nat) : BufTy := match i % 128 with
  | 0 => ⟨S33792x8x16, .f32⟩
  | 1 => ⟨S33792x8x16, .f32⟩
  | 2 => ⟨S33792x8x32, .f32⟩
  | 3 => ⟨S256, .f32⟩
  | 4 => ⟨S33792x256, .f32⟩
  | 5 => ⟨S_, .f32⟩
  | 6 => ⟨S33792, .f32⟩
  | 7 => ⟨S33792x1, .f32⟩
  | 8 => ⟨S_, .f32⟩
  | 9 => ⟨S33792x1, .f32⟩
  | 10 => ⟨S33792x1, .f32⟩
  | 11 => ⟨S_, .f32⟩
  | 12 => ⟨S33792x1, .f32⟩
  | 13 => ⟨S33792x1, .f32⟩
  | 14 => ⟨S33792x1, .f32⟩
  | 15 => ⟨S33792x256, .f32⟩
  | 16 => ⟨S33792x256, .f32⟩
  | 17 => ⟨S1x256, .f32⟩
  | 18 => ⟨S33792x256, .f32⟩
  | 19 => ⟨S33792x256, .f32⟩
  | 20 => ⟨S33792x16, .f32⟩
  | 21 => ⟨S33792x16, .f32⟩
  | 22 => ⟨S33792x16, .f32⟩
  | 23 => ⟨S33792x16, .f32⟩
  | 24 => ⟨S33792x16, .f32⟩
  | 25 => ⟨S33792x16, .f32⟩
  | 26 => ⟨S33792x16, .f32⟩
  | 27 => ⟨S33792x16, .f32⟩
  | 28 => ⟨S33792x32, .f32⟩
  | 29 => ⟨S_, .f32⟩
  | 30 => ⟨S33792x8x32, .f32⟩
  | 31 => ⟨S33792x8x64, .f32⟩
  | 32 => ⟨S33792x8x128, .f32⟩
  | 33 => ⟨S33792x1024, .f32⟩
  | 34 => ⟨S256x8x64, .f32⟩
  | 35 => ⟨S33792x8x64, .f32⟩
  | 36 => ⟨S33792x1x32, .f32⟩
  | 37 => ⟨S33792x8x32, .f32⟩
  | 38 => ⟨S33792x8x128, .f32⟩
  | 39 => ⟨S33792x1024, .f32⟩
  | 40 => ⟨S256x8x64, .f32⟩
  | 41 => ⟨S33792x8x64, .f32⟩
  | 42 => ⟨S33792x512, .f32⟩
  | 43 => ⟨S32768x256, .f32⟩
  | 44 => ⟨S1x16x2048x256, .f32⟩
  | 45 => ⟨S32768x32, .f32⟩
  | 46 => ⟨S1x16x2048x32, .f32⟩
  | 47 => ⟨S32768x512, .f32⟩
  | 48 => ⟨S1x16x2048x8x64, .f32⟩
  | 49 => ⟨S1x16x512x8x64, .f32⟩
  | 50 => ⟨S32768x512, .f32⟩
  | 51 => ⟨S1x16x2048x8x64, .f32⟩
  | 52 => ⟨S1x16x512x8x64, .f32⟩
  | 53 => ⟨S1024x256, .f32⟩
  | 54 => ⟨S1x32x32x256, .f32⟩
  | 55 => ⟨S1024x32, .f32⟩
  | 56 => ⟨S1x32x32x32, .f32⟩
  | 57 => ⟨S1024x512, .f32⟩
  | 58 => ⟨S1x32x32x8x64, .f32⟩
  | 59 => ⟨S1x32x544x8x64, .f32⟩
  | 60 => ⟨S1x32x512x8x64, .f32⟩
  | 61 => ⟨S1024x512, .f32⟩
  | 62 => ⟨S1x32x32x8x64, .f32⟩
  | 63 => ⟨S1x32x544x8x64, .f32⟩
  | 64 => ⟨S1x32x512x8x64, .f32⟩
  | 65 => ⟨S33792x1024, .bf16⟩
  | 66 => ⟨S33792x1024, .bf16⟩
  | 67 => ⟨S33792x512, .bf16⟩
  | 68 => ⟨S33792x512, .bf16⟩
  | 69 => ⟨S33792x512, .bf16⟩
  | 70 => ⟨S33792x512, .bf16⟩
  | 71 => ⟨S33792x1024, .f32⟩
  | 72 => ⟨S33792x1024, .f32⟩
  | 73 => ⟨S_, .f32⟩
  | 74 => ⟨S33792x1024, .f32⟩
  | 75 => ⟨S33792x1024, .f32⟩
  | 76 => ⟨S_, .f32⟩
  | 77 => ⟨S33792x1024, .f32⟩
  | 78 => ⟨S33792x1024, .f32⟩
  | 79 => ⟨S33792x1024, .f32⟩
  | 80 => ⟨S33792x1024, .f32⟩
  | 81 => ⟨S_, .f32⟩
  | 82 => ⟨S33792x1024, .f32⟩
  | 83 => ⟨S33792x1024, .f32⟩
  | 84 => ⟨S_, .f32⟩
  | 85 => ⟨S33792x1024, .f32⟩
  | 86 => ⟨S33792x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_cst_6 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_cst_8 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_cst_10 : Ref sig .tc := ⟨.hbm, 49, rfl⟩
abbrev main_v25 : Ref sig .tc := ⟨.hbm, 50, rfl⟩
abbrev main_cst_11 : Ref sig .tc := ⟨.hbm, 51, rfl⟩
abbrev main_v26 : Ref sig .tc := ⟨.hbm, 52, rfl⟩
abbrev main_cst_12 : Ref sig .tc := ⟨.hbm, 53, rfl⟩
abbrev main_v27 : Ref sig .tc := ⟨.hbm, 54, rfl⟩
abbrev main_cst_13 : Ref sig .tc := ⟨.hbm, 55, rfl⟩
abbrev main_v28 : Ref sig .tc := ⟨.hbm, 56, rfl⟩
abbrev main_cst_14 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_15 : Ref sig .tc := ⟨.hbm, 70, rfl⟩
abbrev main_v41 : Ref sig .tc := ⟨.hbm, 71, rfl⟩
abbrev main_v42 : Ref sig .tc := ⟨.hbm, 72, rfl⟩
abbrev main_cst_16 : Ref sig .tc := ⟨.hbm, 73, rfl⟩
abbrev main_v43 : Ref sig .tc := ⟨.hbm, 74, rfl⟩
abbrev main_v44 : Ref sig .tc := ⟨.hbm, 75, rfl⟩
abbrev main_cst_17 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_18 : Ref sig .tc := ⟨.hbm, 97, rfl⟩
abbrev main_v65 : Ref sig .tc := ⟨.hbm, 98, rfl⟩
abbrev main_v66 : Ref sig .tc := ⟨.hbm, 99, rfl⟩
abbrev main_cst_19 : Ref sig .tc := ⟨.hbm, 100, rfl⟩
abbrev main_v67 : Ref sig .tc := ⟨.hbm, 101, rfl⟩
abbrev main_v68 : Ref sig .tc := ⟨.hbm, 102, rfl⟩
abbrev main_cst_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_cst_22 : Ref sig .tc := ⟨.hbm, 136, rfl⟩
abbrev main_v100 : Ref sig .tc := ⟨.hbm, 137, rfl⟩
abbrev main_v101 : Ref sig .tc := ⟨.hbm, 138, rfl⟩
abbrev main_cst_23 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_24 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_25 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_27 : Ref sig .tc := ⟨.hbm, 209, rfl⟩
abbrev main_v168 : Ref sig .tc := ⟨.hbm, 210, rfl⟩
abbrev main_v169 : Ref sig .tc := ⟨.hbm, 211, rfl⟩
abbrev main_cst_28 : Ref sig .tc := ⟨.hbm, 212, rfl⟩
abbrev main_v170 : Ref sig .tc := ⟨.hbm, 213, rfl⟩
abbrev main_v171 : Ref sig .tc := ⟨.hbm, 214, rfl⟩

abbrev nD : Nat := 1
abbrev τ : Topo := Topo.v7x

variable {F : FTy → Type} [FloatOps F]
-- ==== Mix.lean ====
abbrev S33792x512 : Shape := ⟨2, ![33792, 512]⟩
abbrev S33792x1024 : Shape := ⟨2, ![33792, 1024]⟩
abbrev S16x2048x1024 : Shape := ⟨3, ![16, 2048, 1024]⟩
abbrev S32x32x1024 : Shape := ⟨3, ![32, 32, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S32768x1024 : Shape := ⟨2, ![32768, 1024]⟩
abbrev S1024x1024 : Shape := ⟨2, ![1024, 1024]⟩
abbrev S512x1024 : Shape := ⟨2, ![512, 1024]⟩
abbrev S1024 : Shape := ⟨1, ![1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 23
  | .vmem => 22
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x1024, .f32⟩
  | .hbm, ⟨3, _⟩ => ⟨S33792x1024, .f32⟩
  | .hbm, ⟨4, _⟩ => ⟨S16x2048x1024, .f32⟩
  | .hbm, ⟨5, _⟩ => ⟨S32x32x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S32768x1024, .f32⟩
  | .hbm, ⟨11, _⟩ => ⟨S1024x1024, .f32⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S33792x1024, .f32⟩
  | .hbm, ⟨21, _⟩ => ⟨S33792x1024, .f32⟩
  | .hbm, ⟨22, _⟩ => ⟨S33792x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S33792x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![132], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S33792x512 : Shape := ⟨2, ![33792, 512]⟩
abbrev S33792x1024 : Shape := ⟨2, ![33792, 1024]⟩
abbrev S16x2048x1024 : Shape := ⟨3, ![16, 2048, 1024]⟩
abbrev S32x32x1024 : Shape := ⟨3, ![32, 32, 1024]⟩
abbrev S1x512x1024 : Shape := ⟨3, ![1, 512, 1024]⟩
abbrev S1x1024x1024 : Shape := ⟨3, ![1, 1024, 1024]⟩
abbrev S1x1024 : Shape := ⟨2, ![1, 1024]⟩
abbrev S32768x1024 : Shape := ⟨2, ![32768, 1024]⟩
abbrev S1024x1024 : Shape := ⟨2, ![1024, 1024]⟩
abbrev S512x1024 : Shape := ⟨2, ![512, 1024]⟩
abbrev S1024 : Shape := ⟨1, ![1024]⟩
abbrev S_ : Shape := ⟨0, ![]⟩
abbrev S33792 : Shape := ⟨1, ![33792]⟩
abbrev S33792x1 : Shape := ⟨2, ![33792, 1]⟩

abbrev nBuf : Space → Nat
  | .hbm => 43
  | .vmem => 0
  | .smem => 0
  | _ => 0

abbrev bufTy : (tb : Table) → Fin (tcTables nBuf tb) → BufTy
  | .hbm, ⟨0, _⟩ => ⟨S33792x512, .bf16⟩
  | .hbm, ⟨1, _⟩ => ⟨S33792x512, .bf16⟩
  | .hbm, ⟨2, _⟩ => ⟨S33792x1024, .f32⟩
  | .hbm, ⟨3, _⟩ => ⟨S33792x1024, .f32⟩
  | .hbm, ⟨4, _⟩ => ⟨S16x2048x1024, .f32⟩
  | .hbm, ⟨5, _⟩ => ⟨S32x32x1024, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S32768x1024, .f32⟩
  | .hbm, ⟨11, _⟩ => ⟨S1024x1024, .f32⟩
  | .hbm, ⟨12, _⟩ => ⟨S33792x1024, .f32⟩
  | .hbm, ⟨13, _⟩ => ⟨S33792x512, .f32⟩
  | .hbm, ⟨14, _⟩ => ⟨S512x1024, .f32⟩
  | .hbm, ⟨15, _⟩ => ⟨S33792x1024, .f32⟩
  | .hbm, ⟨16, _⟩ => ⟨S33792x1024, .f32⟩
  | .hbm, ⟨17, _⟩ => ⟨S33792x512, .f32⟩
  | .hbm, ⟨18, _⟩ => ⟨S512x1024, .f32⟩
  | .hbm, ⟨19, _⟩ => ⟨S33792x1024, .f32⟩
  | .hbm, ⟨20, _⟩ => ⟨S33792x1024, .f32⟩
  | .hbm, ⟨21, _⟩ => ⟨S33792x1024, .f32⟩
  | .hbm, ⟨22, _⟩ => ⟨S1024x1024, .f32⟩
  | .hbm, ⟨23, _⟩ => ⟨S33792x1024, .f32⟩
  | .hbm, ⟨24, _⟩ => ⟨S33792x1024, .f32⟩
  | .hbm, ⟨25, _⟩ => ⟨S1024, .f32⟩
  | .hbm, ⟨26, _⟩ => ⟨S33792x1024, .f32⟩
  | .hbm, ⟨27, _⟩ => ⟨S_, .f32⟩
  | .hbm, ⟨28, _⟩ => ⟨S33792, .f32⟩
  | .hbm, ⟨29, _⟩ => ⟨S33792x1, .f32⟩
  | .hbm, ⟨30, _⟩ => ⟨S_, .f32⟩
  | .hbm, ⟨31, _⟩ => ⟨S33792x1, .f32⟩
  | .hbm, ⟨32, _⟩ => ⟨S33792x1, .f32⟩
  | .hbm, ⟨33, _⟩ => ⟨S_, .f32⟩
  | .hbm, ⟨34, _⟩ => ⟨S33792x1, .f32⟩
  | .hbm, ⟨35, _⟩ => ⟨S33792x1, .f32⟩
  | .hbm, ⟨36, _⟩ => ⟨S33792x1, .f32⟩
  | .hbm, ⟨37, _⟩ => ⟨S33792x1024, .f32⟩
  | .hbm, ⟨38, _⟩ => ⟨S33792x1024, .f32⟩
  | .hbm, ⟨39, _⟩ => ⟨S1x1024, .f32⟩
  | .hbm, ⟨40, _⟩ => ⟨S33792x1024, .f32⟩
  | .hbm, ⟨41, _⟩ => ⟨S33792x1024, .f32⟩
  | .hbm, ⟨42, _⟩ => ⟨S33792x1024, .bf16⟩
  | _, _ => ⟨S33792x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Last.lean ====
abbrev S33792x1024 : Shape := ⟨2, ![33792, 1024]⟩
abbrev S18432x1024 : Shape := ⟨2, ![18432, 1024]⟩
abbrev S15360x1024 : Shape := ⟨2, ![15360, 1024]⟩
abbrev S1x16x2048x256 : Shape := ⟨4, ![1, 16, 2048, 256]⟩
abbrev S1x32x32x256 : Shape := ⟨4, ![1, 32, 32, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S32768x256 : Shape := ⟨2, ![32768, 256]⟩
abbrev S1024x256 : Shape := ⟨2, ![1024, 256]⟩
abbrev S1024x1024 : Shape := ⟨2, ![1024, 1024]⟩
abbrev S256x1024 : Shape := ⟨2, ![256, 1024]⟩
abbrev S32768x1024 : Shape := ⟨2, ![32768, 1024]⟩
abbrev S256x256 : Shape := ⟨2, ![256, 256]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S33792x1024, .f32⟩
  | .hbm, ⟨1, _⟩ => ⟨S18432x1024, .f32⟩
  | .hbm, ⟨2, _⟩ => ⟨S15360x1024, .f32⟩
  | .hbm, ⟨3, _⟩ => ⟨S1x16x2048x256, .f32⟩
  | .hbm, ⟨4, _⟩ => ⟨S1x32x32x256, .f32⟩
  | .hbm, ⟨5, _⟩ => ⟨S1x1024, .f32⟩
  | .hbm, ⟨6, _⟩ => ⟨S1x1024x1024, .f32⟩
  | .hbm, ⟨7, _⟩ => ⟨S1x256x1024, .f32⟩
  | .hbm, ⟨8, _⟩ => ⟨S1024, .f32⟩
  | .hbm, ⟨9, _⟩ => ⟨S32768x256, .f32⟩
  | .hbm, ⟨10, _⟩ => ⟨S1024x256, .f32⟩
  | .hbm, ⟨11, _⟩ => ⟨S1024, .f32⟩
  | .hbm, ⟨12, _⟩ => ⟨S1x1024, .f32⟩
  | .hbm, ⟨13, _⟩ => ⟨S1024x1024, .f32⟩
  | .hbm, ⟨14, _⟩ => ⟨S1024x1024, .bf16⟩
  | .hbm, ⟨15, _⟩ => ⟨S256x1024, .f32⟩
  | .hbm, ⟨16, _⟩ => ⟨S256x1024, .bf16⟩
  | .hbm, ⟨17, _⟩ => ⟨S1x1024, .f32⟩
  | .hbm, ⟨18, _⟩ => ⟨S32768x1024, .f32⟩
  | .hbm, ⟨19, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S1x1024, .f32⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![132], ![false]⟩

def k0_cond1 (i : grid0.Coords) : BitVec 1 :=
  let arg0 : BitVec 32 := BitVec.ofNat 32 (i 0).val
  let c128_i32_24 : BitVec 32 := 128#32
  let v51 : BitVec 1 := Scalar.cmpi .slt arg0 c128_i32_24
  let v52 : BitVec 32 := Scalar.extui v51
  let c0_i32 : BitVec 32 := 0#32
  let v53 : BitVec 1 := Scalar.cmpi .ne v52 c0_i32
  v53

def k0_cond2 (i : grid0.Coords) : BitVec 1 :=
  let arg0 : BitVec 32 := BitVec.ofNat 32 (i 0).val
  let c128_i32_24 : BitVec 32 := 128#32
  let v51 : BitVec 1 := Scalar.cmpi .slt arg0 c128_i32_24
  let v_true : BitVec 1 := 1#1
  let v54 : BitVec 1 := Scalar.xori v51 v_true
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c71_i32 : BitVec 32 := 71#32
  let v0 : BitVec 32 := Scalar.minsi arg0 c71_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c72_i32 : BitVec 32 := 72#32
  let v0 : BitVec 32 := Scalar.subi arg0 c72_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LastReferenceIdeal.lean ====
abbrev S33792x1024 : Shape := ⟨2, ![33792, 1024]⟩
abbrev S18432x1024 : Shape := ⟨2, ![18432, 1024]⟩
abbrev S15360x1024 : Shape := ⟨2, ![15360, 1024]⟩
abbrev S1x16x2048x256 : Shape := ⟨4, ![1, 16, 2048, 256]⟩
abbrev S1x32x32x256 : Shape := ⟨4, ![1, 32, 32, 256]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S32768x256 : Shape := ⟨2, ![32768, 256]⟩
abbrev S1024x256 : Shape := ⟨2, ![1024, 256]⟩
abbrev S33792x256 : Shape := ⟨2, ![33792, 256]⟩
abbrev S_ : Shape := ⟨0, ![]⟩
abbrev S33792 : Shape := ⟨1, ![33792]⟩
abbrev S33792x1 : Shape := ⟨2, ![33792, 1]⟩
abbrev S1024x1024 : Shape := ⟨2, ![1024, 1024]⟩
abbrev S256x1024 : Shape := ⟨2, ![256, 1024]⟩
abbrev S32768x1024 : Shape := ⟨2, ![32768, 1024]⟩

abbrev nBuf : Space → Nat
  | .hbm => 63
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S18432x1024, .f32⟩
  | .hbm, ⟨2, _⟩ => ⟨S15360x1024, .f32⟩
  | .hbm, ⟨3, _⟩ => ⟨S1x16x2048x256, .f32⟩
  | .hbm, ⟨4, _⟩ => ⟨S1x32x32x256, .f32⟩
  | .hbm, ⟨5, _⟩ => ⟨S1x1024, .f32⟩
  | .hbm, ⟨6, _⟩ => ⟨S1x1024x1024, .f32⟩
  | .hbm, ⟨7, _⟩ => ⟨S1x256x1024, .f32⟩
  | .hbm, ⟨8, _⟩ => ⟨S1024, .f32⟩
  | .hbm, ⟨9, _⟩ => ⟨S33792x1024, .f32⟩
  | .hbm, ⟨10, _⟩ => ⟨S33792x1024, .f32⟩
  | .hbm, ⟨11, _⟩ => ⟨S32768x256, .f32⟩
  | .hbm, ⟨12, _⟩ => ⟨S1024x256, .f32⟩
  | .hbm, ⟨13, _⟩ => ⟨S33792x256, .f32⟩
  | .hbm, ⟨14, _⟩ => ⟨S1024, .f32⟩
  | .hbm, ⟨15, _⟩ => ⟨S33792x1024, .f32⟩
  | .hbm, ⟨16, _⟩ => ⟨S_, .f32⟩
  | .hbm, ⟨17, _⟩ => ⟨S33792, .f32⟩
  | .hbm, ⟨18, _⟩ => ⟨S33792x1, .f32⟩
  | .hbm, ⟨19, _⟩ => ⟨S_, .f32⟩
  | .hbm, ⟨20, _⟩ => ⟨S33792x1, .f32⟩
  | .hbm, ⟨21, _⟩ => ⟨S33792x1, .f32⟩
  | .hbm, ⟨22, _⟩ => ⟨S_, .f32⟩
  | .hbm, ⟨23, _⟩ => ⟨S33792x1, .f32⟩
  | .hbm, ⟨24, _⟩ => ⟨S33792x1, .f32⟩
  | .hbm, ⟨25, _⟩ => ⟨S33792x1, .f32⟩
  | .hbm, ⟨26, _⟩ => ⟨S33792x1024, .f32⟩
  | .hbm, ⟨27, _⟩ => ⟨S33792x1024, .f32⟩
  | .hbm, ⟨28, _⟩ => ⟨S1x1024, .f32⟩
  | .hbm, ⟨29, _⟩ => ⟨S33792x1024, .f32⟩
  | .hbm, ⟨30, _⟩ => ⟨S33792x1024, .f32⟩
  | .hbm, ⟨31, _⟩ => ⟨S1024x1024, .f32⟩
  | .hbm, ⟨32, _⟩ => ⟨S33792x1024, .f32⟩
  | .hbm, ⟨33, _⟩ => ⟨S33792x1024, .f32⟩
  | .hbm, ⟨34, _⟩ => ⟨S33792x1024, .f32⟩
  | .hbm, ⟨35, _⟩ => ⟨S_, .f32⟩
  | .hbm, ⟨36, _⟩ => ⟨S33792x1024, .f32⟩
  | .hbm, ⟨37, _⟩ => ⟨S33792x1024, .f32⟩
  | .hbm, ⟨38, _⟩ => ⟨S_, .f32⟩
  | .hbm, ⟨39, _⟩ => ⟨S33792x1024, .f32⟩
  | .hbm, ⟨40, _⟩ => ⟨S33792x1024, .f32⟩
  | .hbm, ⟨41, _⟩ => ⟨S256x1024, .f32⟩
  | .hbm, ⟨42, _⟩ => ⟨S33792x1024, .f32⟩
  | .hbm, ⟨43, _⟩ => ⟨S33792x1024, .f32⟩
  | .hbm, ⟨44, _⟩ => ⟨S33792x1024, .f32⟩
  | .hbm, ⟨45, _⟩ => ⟨S33792x1024, .f32⟩
  | .hbm, ⟨46, _⟩ => ⟨S_, .f32⟩
  | .hbm, ⟨47, _⟩ => ⟨S33792, .f32⟩
  | .hbm, ⟨48, _⟩ => ⟨S33792x1, .f32⟩
  | .hbm, ⟨49, _⟩ => ⟨S_, .f32⟩
  | .hbm, ⟨50, _⟩ => ⟨S33792x1, .f32⟩
  | .hbm, ⟨51, _⟩ => ⟨S33792x1, .f32⟩
  | .hbm, ⟨52, _⟩ => ⟨S_, .f32⟩
  | .hbm, ⟨53, _⟩ => ⟨S33792x1, .f32⟩
  | .hbm, ⟨54, _⟩ => ⟨S33792x1, .f32⟩
  | .hbm, ⟨55, _⟩ => ⟨S33792x1, .f32⟩
  | .hbm, ⟨56, _⟩ => ⟨S33792x1024, .f32⟩
  | .hbm, ⟨57, _⟩ => ⟨S33792x1024, .f32⟩
  | .hbm, ⟨58, _⟩ => ⟨S1x1024, .f32⟩
  | .hbm, ⟨59, _⟩ => ⟨S33792x1024, .f32⟩
  | .hbm, ⟨60, _⟩ => ⟨S33792x1024, .f32⟩
  | .hbm, ⟨61, _⟩ => ⟨S32768x1024, .f32⟩
  | .hbm, ⟨62, _⟩ => ⟨S1024x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Past.lean ====
abbrev S33792x1024 : Shape := ⟨2, ![33792, 1024]⟩
abbrev S1x32x4096x256 : Shape := ⟨4, ![1, 32, 4096, 256]⟩
abbrev S1x32x4096x32 : Shape := ⟨4, ![1, 32, 4096, 32]⟩
abbrev S33792x256 : Shape := ⟨2, ![33792, 256]⟩
abbrev S33792x32 : Shape := ⟨2, ![33792, 32]⟩
abbrev S1x256x8x64 : Shape := ⟨4, ![1, 256, 8, 64]⟩
abbrev S256x8x64 : Shape := ⟨3, ![256, 8, 64]⟩
abbrev S8x64x256 : Shape := ⟨3, ![8, 64, 256]⟩
abbrev S8x256x64 : Shape := ⟨3, ![8, 256, 64]⟩
abbrev S32x4096x256 : Shape := ⟨3, ![32, 4096, 256]⟩
abbrev S32x4096x32 : Shape := ⟨3, ![32, 4096, 32]⟩
abbrev S1024x512 : Shape := ⟨2, ![1024, 512]⟩
abbrev S32x1024 : Shape := ⟨2, ![32, 1024]⟩
abbrev S1x4096x256 : Shape := ⟨3, ![1, 4096, 256]⟩
abbrev S1x4096x32 : Shape := ⟨3, ![1, 4096, 32]⟩
abbrev S32x256 : Shape := ⟨2, ![32, 256]⟩
abbrev S32x32 : Shape := ⟨2, ![32, 32]⟩
abbrev S32x512 : Shape := ⟨2, ![32, 512]⟩
abbrev S32x64 : Shape := ⟨2, ![32, 64]⟩
abbrev S1x64x256 : Shape := ⟨3, ![1, 64, 256]⟩
abbrev S64x256 : Shape := ⟨2, ![64, 256]⟩
abbrev S256x256 : Shape := ⟨2, ![256, 256]⟩
abbrev S256x32 : Shape := ⟨2, ![256, 32]⟩
abbrev S4096x256 : Shape := ⟨2, ![4096, 256]⟩
abbrev S4096x32 : Shape := ⟨2, ![4096, 32]⟩
abbrev S256x4096 : Shape := ⟨2, ![256, 4096]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩

abbrev nBuf : Space → Nat
  | .hbm => 16
  | .vmem => 14
  | .smem => 0
  | _ => 0

abbrev bufTy : (tb : Table) → Fin (tcTables nBuf tb) → BufTy
  | .hbm, ⟨0, _⟩ => ⟨S33792x1024, .bf16⟩
  | .hbm, ⟨1, _⟩ => ⟨S1x32x4096x256, .f32⟩
  | .hbm, ⟨2, _⟩ => ⟨S1x32x4096x32, .f32⟩
  | .hbm, ⟨3, _⟩ => ⟨S33792x256, .f32⟩
  | .hbm, ⟨4, _⟩ => ⟨S33792x32, .f32⟩
  | .hbm, ⟨5, _⟩ => ⟨S1x256x8x64, .f32⟩
  | .hbm, ⟨6, _⟩ => ⟨S1x256x8x64, .f32⟩
  | .hbm, ⟨7, _⟩ => ⟨S256x8x64, .f32⟩
  | .hbm, ⟨8, _⟩ => ⟨S8x64x256, .f32⟩
  | .hbm, ⟨9, _⟩ => ⟨S8x64x256, .bf16⟩
  | .hbm, ⟨10, _⟩ => ⟨S256x8x64, .f32⟩
  | .hbm, ⟨11, _⟩ => ⟨S8x256x64, .f32⟩
  | .hbm, ⟨12, _⟩ => ⟨S8x256x64, .bf16⟩
  | .hbm, ⟨13, _⟩ => ⟨S32x4096x256, .f32⟩
  | .hbm, ⟨14, _⟩ => ⟨S32x4096x32, .f32⟩
  | .hbm, ⟨15, _⟩ => ⟨S1024x512, .bf16⟩
  | .local _ .vmem, ⟨0, _⟩ => ⟨S32x1024, .bf16⟩
  | .local _ .vmem, ⟨1, _⟩ => ⟨S32x1024, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x32, .f32⟩
  | .local _ .vmem, ⟨5, _⟩ => ⟨S1x4096x32, .f32⟩
  | .local _ .vmem, ⟨6, _⟩ => ⟨S32x256, .f32⟩
  | .local _ .vmem, ⟨7, _⟩ => ⟨S32x256, .f32⟩
  | .local _ .vmem, ⟨8, _⟩ => ⟨S32x32, .f32⟩
  | .local _ .vmem, ⟨9, _⟩ => ⟨S32x32, .f32⟩
  | .local _ .vmem, ⟨10, _⟩ => ⟨S8x64x256, .bf16⟩
  | .local _ .vmem, ⟨11, _⟩ => ⟨S8x256x64, .bf16⟩
  | .local _ .vmem, ⟨12, _⟩ => ⟨S32x512, .bf16⟩
  | .local _ .vmem, ⟨13, _⟩ => ⟨S32x512, .bf16⟩
  | _, _ => ⟨S33792x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PastReferenceIdeal.lean ====
abbrev S33792x1024 : Shape := ⟨2, ![33792, 1024]⟩
abbrev S1x32x4096x256 : Shape := ⟨4, ![1, 32, 4096, 256]⟩
abbrev S1x32x4096x32 : Shape := ⟨4, ![1, 32, 4096, 32]⟩
abbrev S33792x256 : Shape := ⟨2, ![33792, 256]⟩
abbrev S33792x32 : Shape := ⟨2, ![33792, 32]⟩
abbrev S1x256x8x64 : Shape := ⟨4, ![1, 256, 8, 64]⟩
abbrev S1024x1024 : Shape := ⟨2, ![1024, 1024]⟩
abbrev S32x32x8x128 : Shape := ⟨4, ![32, 32, 8, 128]⟩
abbrev S32x4096x256 : Shape := ⟨3, ![32, 4096, 256]⟩
abbrev S1024x256 : Shape := ⟨2, ![1024, 256]⟩
abbrev S32x32x256 : Shape := ⟨3, ![32, 32, 256]⟩
abbrev S32x4128x256 : Shape := ⟨3, ![32, 4128, 256]⟩
abbrev S32x4096x32 : Shape := ⟨3, ![32, 4096, 32]⟩
abbrev S1024x32 : Shape := ⟨2, ![1024, 32]⟩
abbrev S32x32x32 : Shape := ⟨3, ![32, 32, 32]⟩
abbrev S32x4128x32 : Shape := ⟨3, ![32, 4128, 32]⟩
abbrev S32x32x8x64 : Shape := ⟨4, ![32, 32, 8, 64]⟩
abbrev S256x8x64 : Shape := ⟨3, ![256, 8, 64]⟩
abbrev S8x256x32x32 : Shape := ⟨4, ![8, 256, 32, 32]⟩
abbrev S32x32x8x256 : Shape := ⟨4, ![32, 32, 8, 256]⟩
abbrev S32x4128x32x8 : Shape := ⟨4, ![32, 4128, 32, 8]⟩
abbrev S32x8x32x4128 : Shape := ⟨4, ![32, 8, 32, 4128]⟩
abbrev S32x32x8x32 : Shape := ⟨4, ![32, 32, 8, 32]⟩
abbrev S_ : Shape := ⟨0, ![]⟩
abbrev S32x8x32 : Shape := ⟨3, ![32, 8, 32]⟩
abbrev S32x8x32x1 : Shape := ⟨4, ![32, 8, 32, 1]⟩
abbrev S32x256x8x32 : Shape := ⟨4, ![32, 256, 8, 32]⟩
abbrev S8x64x32x32 : Shape := ⟨4, ![8, 64, 32, 32]⟩
abbrev S1024x512 : Shape := ⟨2, ![1024, 512]⟩

abbrev nBuf : Space → Nat
  | .hbm => 52
  | .vmem => 0
  | .smem => 0
  | _ => 0

abbrev bufTy : (tb : Table) → Fin (tcTables nBuf tb) → BufTy
  | .hbm, ⟨0, _⟩ => ⟨S33792x1024, .bf16⟩
  | .hbm, ⟨1, _⟩ => ⟨S1x32x4096x256, .f32⟩
  | .hbm, ⟨2, _⟩ => ⟨S1x32x4096x32, .f32⟩
  | .hbm, ⟨3, _⟩ => ⟨S33792x256, .f32⟩
  | .hbm, ⟨4, _⟩ => ⟨S33792x32, .f32⟩
  | .hbm, ⟨5, _⟩ => ⟨S1x256x8x64, .f32⟩
  | .hbm, ⟨6, _⟩ => ⟨S1x256x8x64, .f32⟩
  | .hbm, ⟨7, _⟩ => ⟨S1024x1024, .bf16⟩
  | .hbm, ⟨8, _⟩ => ⟨S1024x1024, .f32⟩
  | .hbm, ⟨9, _⟩ => ⟨S32x32x8x128, .f32⟩
  | .hbm, ⟨10, _⟩ => ⟨S32x4096x256, .f32⟩
  | .hbm, ⟨11, _⟩ => ⟨S1024x256, .f32⟩
  | .hbm, ⟨12, _⟩ => ⟨S32x32x256, .f32⟩
  | .hbm, ⟨13, _⟩ => ⟨S32x4128x256, .f32⟩
  | .hbm, ⟨14, _⟩ => ⟨S32x4096x32, .f32⟩
  | .hbm, ⟨15, _⟩ => ⟨S1024x32, .f32⟩
  | .hbm, ⟨16, _⟩ => ⟨S32x32x32, .f32⟩
  | .hbm, ⟨17, _⟩ => ⟨S32x4128x32, .f32⟩
  | .hbm, ⟨18, _⟩ => ⟨S32x32x8x64, .f32⟩
  | .hbm, ⟨19, _⟩ => ⟨S256x8x64, .f32⟩
  | .hbm, ⟨20, _⟩ => ⟨S8x256x32x32, .f32⟩
  | .hbm, ⟨21, _⟩ => ⟨S32x32x8x256, .f32⟩
  | .hbm, ⟨22, _⟩ => ⟨S32x4128x32x8, .f32⟩
  | .hbm, ⟨23, _⟩ => ⟨S32x8x32x4128, .f32⟩
  | .hbm, ⟨24, _⟩ => ⟨S32x32x8x32, .f32⟩
  | .hbm, ⟨25, _⟩ => ⟨S32x4128x32x8, .f32⟩
  | .hbm, ⟨26, _⟩ => ⟨S32x8x32x4128, .f32⟩
  | .hbm, ⟨27, _⟩ => ⟨S32x8x32x4128, .f32⟩
  | .hbm, ⟨28, _⟩ => ⟨S_, .f32⟩
  | .hbm, ⟨29, _⟩ => ⟨S32x8x32x4128, .f32⟩
  | .hbm, ⟨30, _⟩ => ⟨S32x8x32x4128, .f32⟩
  | .hbm, ⟨31, _⟩ => ⟨S_, .f32⟩
  | .hbm, ⟨32, _⟩ => ⟨S32x8x32, .f32⟩
  | .hbm, ⟨33, _⟩ => ⟨S_, .f32⟩
  | .hbm, ⟨34, _⟩ => ⟨S32x8x32, .f32⟩
  | .hbm, ⟨35, _⟩ => ⟨S32x8x32, .f32⟩
  | .hbm, ⟨36, _⟩ => ⟨S32x8x32x1, .f32⟩
  | .hbm, ⟨37, _⟩ => ⟨S32x8x32x4128, .f32⟩
  | .hbm, ⟨38, _⟩ => ⟨S32x8x32x4128, .f32⟩
  | .hbm, ⟨39, _⟩ => ⟨S32x8x32x4128, .f32⟩
  | .hbm, ⟨40, _⟩ => ⟨S_, .f32⟩
  | .hbm, ⟨41, _⟩ => ⟨S32x8x32, .f32⟩
  | .hbm, ⟨42, _⟩ => ⟨S32x8x32x1, .f32⟩
  | .hbm, ⟨43, _⟩ => ⟨S32x8x32x4128, .f32⟩
  | .hbm, ⟨44, _⟩ => ⟨S32x8x32x4128, .f32⟩
  | .hbm, ⟨45, _⟩ => ⟨S32x256x8x32, .f32⟩
  | .hbm, ⟨46, _⟩ => ⟨S32x32x8x256, .f32⟩
  | .hbm, ⟨47, _⟩ => ⟨S256x8x64, .f32⟩
  | .hbm, ⟨48, _⟩ => ⟨S8x64x32x32, .f32⟩
  | .hbm, ⟨49, _⟩ => ⟨S32x32x8x64, .f32⟩
  | .hbm, ⟨50, _⟩ => ⟨S1024x512, .f32⟩
  | .hbm, ⟨51, _⟩ => ⟨S1024x512, .bf16⟩
  | _, _ => ⟨S33792x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Proof.Soft.lean ====
/- Softmax attention of one query over the extended reals, as sums over the key's number: the value a kernel's tile and the
   host's expression both take, and why the keys past the last visible one change nothing. -/
module

public import Idealize.ShloMosaic.PureOps.Ideal.Laws

@[expose] public section

noncomputable section

namespace Mla

open Idealize.ShloMosaic

/-- The greatest of the first `n` scores (⊥ if there is none). -/
def top (n : ℕ) (s : ℕ → EReal) : EReal := (Finset.range n).fold max ⊥ s

/-- The sum of the exponentials of the first `n` scores, taken from their greatest. -/
def mass (n : ℕ) (s : ℕ → EReal) : EReal := ∑ j ∈ Finset.range n, Ideal.exp (s j - top n s)

/-- Attention of one query at one output lane: the softmax of the first `n` scores, summed against the values. -/
def att (n : ℕ) (s v : ℕ → EReal) : EReal :=
  ∑ j ∈ Finset.range n, Ideal.div (Ideal.exp (s j - top n s)) (mass n s) * v j

theorem top_eq_sup (n : ℕ) (s : ℕ → EReal) : top n s = (Finset.range n).sup s := rfl

/-- Scores that are ⊥ past `n` leave the greatest where it is. -/
theorem top_of_bot {n N : ℕ} (h : n ≤ N) (s : ℕ → EReal) (hs : ∀ j, n ≤ j → j < N → s j = ⊥) : top N s = top n s := by
  rw [top_eq_sup, top_eq_sup]
  refine le_antisymm (Finset.sup_le fun j hj => ?_) (Finset.sup_mono (Finset.range_mono h))
  by_cases hn : j < n
  · exact Finset.le_sup (f := s) (Finset.mem_range.mpr hn)
  · rw [hs j (not_lt.mp hn) (Finset.mem_range.mp hj)]; exact bot_le

/-- ⊥ less anything is ⊥, so its exponential is 0. -/
theorem exp_bot_sub (x : EReal) : Ideal.exp (⊥ - x) = 0 := by
  rw [EReal.bot_sub]; exact Ideal.exp_bot

/-- Scores that are ⊥ past `n` add nothing to the sum of exponentials. -/
theorem mass_of_bot {n N : ℕ} (h : n ≤ N) (s : ℕ → EReal) (hs : ∀ j, n ≤ j → j < N → s j = ⊥) : mass N s = mass n s := by
  unfold mass
  rw [top_of_bot h s hs]
  refine (Finset.sum_subset (Finset.range_mono h) fun j hN hn => ?_).symm
  rw [hs j (not_lt.mp fun hlt => hn (Finset.mem_range.mpr hlt)) (Finset.mem_range.mp hN)]
  exact exp_bot_sub _

/-- A finite score with every other one below ⊤ makes the sum of exponentials more than 0. -/
theorem mass_pos {n : ℕ} (s : ℕ → EReal) (ht : ∀ j, j < n → s j < ⊤) {j₀ : ℕ} (h₀ : j₀ < n) (hb : s j₀ ≠ ⊥) : 0 < mass n s := by
  have hle : s j₀ ≤ top n s := by
    rw [top_eq_sup]; exact Finset.le_sup (f := s) (Finset.mem_range.mpr h₀)
  have hlt : top n s < ⊤ := by
    rw [top_eq_sup, Finset.sup_lt_iff (by exact bot_lt_top)]
    exact fun j hj => ht j (Finset.mem_range.mp hj)
  have nn : ∀ x : EReal, 0 ≤ Ideal.exp x := by
    intro x
    induction x with
    | bot => rw [Ideal.exp_bot]
    | top => rw [Ideal.exp_top]; exact le_top
    | coe r => rw [Ideal.exp_coe]; exact_mod_cast (Real.exp_pos r).le
  have hp : 0 < Ideal.exp (s j₀ - top n s) := by
    have hm : top n s ≠ ⊥ := fun h => hb (le_bot_iff.mp (h ▸ hle))
    lift top n s to ℝ using ⟨hlt.ne, hm⟩ with M
    lift s j₀ to ℝ using ⟨(ht j₀ h₀).ne, hb⟩ with x
    rw [← EReal.coe_sub, Ideal.exp_coe]
    exact_mod_cast Real.exp_pos _
  exact lt_of_lt_of_le hp (Finset.single_le_sum (f := fun j => Ideal.exp (s j - top n s)) (fun j _ => nn _) (Finset.mem_range.mpr h₀))

/-- So attention over `N` keys whose scores past `n` are ⊥ is attention over the first `n`. -/
theorem att_of_bot {n N : ℕ} (h : n ≤ N) (s v : ℕ → EReal) (hs : ∀ j, n ≤ j → j < N → s j = ⊥) (hm : mass n s ≠ 0) :
    att N s v = att n s v := by
  unfold att
  rw [top_of_bot h s hs, mass_of_bot h s hs]
  refine (Finset.sum_subset (Finset.range_mono h) fun j hN hn => ?_).symm
  rw [hs j (not_lt.mp fun hlt => hn (Finset.mem_range.mpr hlt)) (Finset.mem_range.mp hN), exp_bot_sub]
  unfold Ideal.div
  rw [if_neg hm, zero_mul, zero_mul]

/-- A softmax weight taken as the exponential times the reciprocal of the sum, where the sum is not 0. -/
theorem div_eq_mul_recip (x y : EReal) (h : y ≠ 0) : x * Ideal.div 1 y = Ideal.div x y := by
  unfold Ideal.div
  rw [if_neg h, if_neg h, one_mul]

/-- Attention reads only the first `n` scores and values. -/
theorem att_congr {n : ℕ} {s s' v v' : ℕ → EReal} (hs : ∀ j, j < n → s j = s' j) (hv : ∀ j, j < n → v j = v' j) :
    att n s v = att n s' v' := by
  have ht : top n s = top n s' := Finset.fold_congr fun j hj => hs j (Finset.mem_range.mp hj)
  have hm : mass n s = mass n s' := Finset.sum_congr rfl fun j hj => by rw [hs j (Finset.mem_range.mp hj), ht]
  exact Finset.sum_congr rfl fun j hj => by rw [hs j (Finset.mem_range.mp hj), hv j (Finset.mem_range.mp hj), ht, hm]

end Mla

end
-- ==== Proof.Tile.lean ====
/- One tile of the attention kernel, of 128 queries against `n` keys, at any `n`: the vectors the printed body computes, and
   what each holds at an index. -/
module

public import proofs.«01_k».proof.KernelIdeal
public import proofs.«01_k».proof.Proof.Soft
public import Idealize.ShloMosaic.Lib.Pointwise
public import Idealize.ShloMosaic.Lib.MatmulPlain

@[expose] public section

noncomputable section

namespace Mla

open Idealize.ShloMosaic Cert.KernelIdeal

/-- The shape of a matrix. -/
abbrev M2 (a b : ℕ) : Shape := ⟨2, ![a, b]⟩

section Words
variable {s : Shape}

/-- Floor division of a vector of words by 64, as jax writes it: the truncated quotient, less 1 where the signs differ and
    the remainder is not 0. -/
def chunks (x : IVec s 32) : IVec s 32 :=
  select
    (andi
      (cmpi .ne
        (subi (extui 32 (cmpi .sgt x (broadcast s 0#32)) (by decide)) (extui 32 (cmpi .slt x (broadcast s 0#32)) (by decide)))
        (broadcast s (Scalar.subi (Scalar.extui (Scalar.cmpi .sgt 64#32 0#32)) (Scalar.extui (Scalar.cmpi .slt 64#32 0#32)))))
      (cmpi .ne (remsi x (broadcast s 64#32)) (broadcast s 0#32)))
    (subi (divsi x (broadcast s 64#32)) (broadcast s 1#32))
    (divsi x (broadcast s 64#32))

/-- The same on one word. -/
def chunk (x : BitVec 32) : BitVec 32 := chunks (s := ⟨0, ![]⟩) (fun _ => x) (fun a => a.elim0)

theorem chunks_apply (x : IVec s 32) (i : s.Idx) : chunks x i = chunk (x i) := rfl

/-- On the words of 0 … 2047 it is the quotient by 64. -/
theorem chunk_ofNat : ∀ k : Fin 2048, chunk (BitVec.ofNat 32 k.val) = BitVec.ofNat 32 (k.val / 64) := by
  decide +kernel

end Words

/-- Which keys a query sees: those of its own chunk of 64 and of the chunks before. `w` is the number of the tile of 128 queries. -/
def sees (n : ℕ) (h0 : (M2 128 n).Iotas .tc 32 [0]) (h1 : (M2 128 n).Iotas .tc 32 [1]) (w : BitVec 32) : IVec (M2 128 n) 1 :=
  cmpi .sle (chunks (iota .tc (M2 128 n) 32 [1] h1))
    (chunks (addi (broadcast (M2 128 n) (Scalar.muli w 128#32)) (iota .tc (M2 128 n) 32 [0] h0)))

section Vectors
variable {F : FTy → Type} [FloatOps F] [Named F]

/-- The scaled scores of 128 queries against `n` keys, the unseen ones masked. -/
def scores (n : ℕ) (b : IVec (M2 128 n) 1) (q : Vec F (M2 128 128) .bf16) (k : Vec F (M2 n 128) .bf16) : FVec F (M2 128 n) .f32 :=
  select b
    (mulf (matmul (DotDims.transposedRhs 128 128 n) none q k (constant (M2 128 n) .f32 0x00000000#32))
      (broadcast (M2 128 n) (Scalar.ofBits .f32 0x3DD105EC#32 : F .f32)))
    (broadcast (M2 128 n) (Named.named κ "mask" 0xF149F2CA#32 : F .f32))

/-- The exponentials of the scores from their row's greatest. -/
def exps (n : ℕ) (hr : (M2 128 n).Reduces [1] ⟨1, ![128]⟩) (hc : (⟨1, ![128]⟩ : Shape).ShapeCasts (M2 128 1))
    (hb : (M2 128 1).Broadcasts (M2 128 n)) (s : FVec F (M2 128 n) .f32) : FVec F (M2 128 n) .f32 :=
  exp (subf s (broadcastTo (M2 128 n) (shapeCast (M2 128 1) (multiReduction .maximumf [1] ⟨1, ![128]⟩ s 0xFF800000#32 hr (.inl rfl) rfl) hc) hb))

/-- The softmax weights: each exponential times the reciprocal of its row's sum. -/
def weights (n : ℕ) (hr : (M2 128 n).Reduces [1] ⟨1, ![128]⟩) (hc : (⟨1, ![128]⟩ : Shape).ShapeCasts (M2 128 1))
    (hb : (M2 128 1).Broadcasts (M2 128 n)) (s : FVec F (M2 128 n) .f32) : FVec F (M2 128 n) .bf16 :=
  truncf .bf16
    (mulf (exps n hr hc hb s)
      (broadcastTo (M2 128 n)
        (divf (broadcast (M2 128 1) (Scalar.ofBits .f32 0x3F800000#32 : F .f32))
          (shapeCast (M2 128 1) (multiReduction .add [1] ⟨1, ![128]⟩ (exps n hr hc hb s) 0x00000000#32 hr (.inl rfl) rfl) hc)) hb)) (by decide)

/-- One head's output, at the 128 value lanes of its pair of heads. -/
def head (n : ℕ) (hr : (M2 128 n).Reduces [1] ⟨1, ![128]⟩) (hc : (⟨1, ![128]⟩ : Shape).ShapeCasts (M2 128 1))
    (hb : (M2 128 1).Broadcasts (M2 128 n)) (b : IVec (M2 128 n) 1) (q : Vec F (M2 128 128) .bf16) (k v : Vec F (M2 n 128) .bf16) :
    FVec F (M2 128 128) .f32 :=
  matmul (DotDims.plain 128 n 128) none (weights n hr hc hb (scores n b q k)) v (constant (M2 128 128) .f32 0x00000000#32)

/-- Two heads' outputs side by side: the first's at the lower 64 lanes, the second's at the upper. -/
def pair (hi : (M2 128 128).Iotas .tc 32 [1]) (a b : FVec F (M2 128 128) .f32) : FVec F (M2 128 128) .f32 :=
  select (cmpi .slt (iota .tc (M2 128 128) 32 [1] hi) (broadcast (M2 128 128) 64#32)) a b

/-- The tile's result from its eight heads. -/
def tile (hi : (M2 128 128).Iotas .tc 32 [1]) (hcat : Shape.Concatenates [M2 128 128, M2 128 128, M2 128 128, M2 128 128] (M2 128 512) 1)
    (o : Fin 8 → FVec F (M2 128 128) .f32) : FVec F (M2 128 512) .bf16 :=
  truncf .bf16
    (concatenate (M2 128 512) 1
      [⟨M2 128 128, pair hi (o 0) (o 1)⟩, ⟨M2 128 128, pair hi (o 2) (o 3)⟩, ⟨M2 128 128, pair hi (o 4) (o 5)⟩, ⟨M2 128 128, pair hi (o 6) (o 7)⟩] hcat) (by decide)

end Vectors

section Values

theorem ix2_eq {a b : ℕ} (r : Fin a) (j : Fin b) : ix2 r j = ValueIdx.ix2 r j := by
  funext i; match i with | ⟨0, _⟩ => rfl | ⟨1, _⟩ => rfl

/-- The named mask constant is ⊥. -/
theorem named_mask : (Named.named κ "mask" 0xF149F2CA#32 : Ideal .f32) = (⊥ : EReal) := rfl

/-- The word of float −∞ is ⊥. -/
theorem ofBits_neg_inf : Ideal.ofBits .f32 0xFF800000#32 = ⊥ := by
  simp [Ideal.ofBits, Ideal.ieee]

/-- A score: the products summed over the head's 128 lanes, scaled, where the key is seen; ⊥ where it is not. -/
theorem scores_apply (n : ℕ) (b : IVec (M2 128 n) 1) (q : Vec Ideal (M2 128 128) .bf16) (k : Vec Ideal (M2 n 128) .bf16) (r : Fin 128) (j : Fin n) :
    scores (F := Ideal) n b q k (ix2 r j)
      = if b (ix2 r j) = 1#1 then (∑ d : Fin 128, q (ix2 r d) * k (ix2 j d)) * Ideal.ofBits .f32 0x3DD105EC#32 else (⊥ : EReal) := by
  have hm : matmul (F := Ideal) (DotDims.transposedRhs 128 128 n) none q k (constant (M2 128 n) .f32 0x00000000#32) (ix2 r j)
      = Ideal.ofBits .f32 0x00000000#32 + ∑ d : Fin 128, q (ix2 r d) * k (ix2 j d) :=
    (congrArg _ (ix2_eq r j)).trans ((Ideal.matmul_transposedRhs_apply (φ₁ := .bf16) (φ₂ := .bf16) none q k
      (constant (F := Ideal) (M2 128 n) .f32 0x00000000#32) r j).trans (by simp only [← ix2_eq]; rfl))
  rw [Ideal.ofBits_zero_f32, zero_add] at hm
  rw [← hm]
  rfl

theorem exps_apply (n : ℕ) (hr : (M2 128 n).Reduces [1] ⟨1, ![128]⟩) (hc : (⟨1, ![128]⟩ : Shape).ShapeCasts (M2 128 1))
    (hb : (M2 128 1).Broadcasts (M2 128 n)) (s : FVec Ideal (M2 128 n) .f32) (r : Fin 128) (j : Fin n) :
    exps (F := Ideal) n hr hc hb s (ix2 r j) = Ideal.exp (s (ix2 r j) - (Finset.univ : Finset (Fin n)).fold max ⊥ fun k => s (ix2 r k)) := by
  pointwise [exps]
  rw [ofBits_neg_inf]

theorem weights_apply (n : ℕ) (hr : (M2 128 n).Reduces [1] ⟨1, ![128]⟩) (hc : (⟨1, ![128]⟩ : Shape).ShapeCasts (M2 128 1))
    (hb : (M2 128 1).Broadcasts (M2 128 n)) (s : FVec Ideal (M2 128 n) .f32) (r : Fin 128) (j : Fin n) :
    weights (F := Ideal) n hr hc hb s (ix2 r j)
      = exps (F := Ideal) n hr hc hb s (ix2 r j) * Ideal.div 1 (∑ k : Fin n, exps (F := Ideal) n hr hc hb s (ix2 r k)) := by
  pointwise [weights]

/-- A head's output at a lane is `att` of its scores and of that lane of the values, if the exponentials' sum is not 0. -/
theorem head_apply (n : ℕ) (hr : (M2 128 n).Reduces [1] ⟨1, ![128]⟩) (hc : (⟨1, ![128]⟩ : Shape).ShapeCasts (M2 128 1))
    (hb : (M2 128 1).Broadcasts (M2 128 n)) (b : IVec (M2 128 n) 1) (q : Vec Ideal (M2 128 128) .bf16) (k v : Vec Ideal (M2 n 128) .bf16)
    (r l : Fin 128) (S V : ℕ → EReal) (hS : ∀ j : Fin n, scores (F := Ideal) n b q k (ix2 r j) = S j.val) (hV : ∀ j : Fin n, v (ix2 j l) = V j.val)
    (hm : mass n S ≠ 0) :
    head (F := Ideal) n hr hc hb b q k v (ix2 r l) = att n S V := by
  have hfold : ((Finset.univ : Finset (Fin n)).fold max (⊥ : EReal) fun j => S j.val) = top n S := by
    rw [top_eq_sup]
    refine le_antisymm (Finset.sup_le fun j _ => Finset.le_sup (f := S) (Finset.mem_range.mpr j.isLt)) (Finset.sup_le fun j hj => ?_)
    exact Finset.le_sup (f := fun j : Fin n => S j.val) (Finset.mem_univ ⟨j, Finset.mem_range.mp hj⟩)
  have he : ∀ j : Fin n, exps (F := Ideal) n hr hc hb (scores (F := Ideal) n b q k) (ix2 r j) = Ideal.exp (S j.val - top n S) := by
    intro j; rw [exps_apply, hS, ← hfold]; simp only [hS]
  have hsum : (∑ j : Fin n, exps (F := Ideal) n hr hc hb (scores (F := Ideal) n b q k) (ix2 r j)) = mass n S := by
    rw [Finset.sum_congr rfl fun j _ => he j]; exact Fin.sum_univ_eq_sum_range (fun j => Ideal.exp (S j - top n S)) n
  have hmat := Ideal.matmul_plain_apply (φ₁ := .bf16) (φ₂ := .bf16) none (weights (F := Ideal) n hr hc hb (scores (F := Ideal) n b q k)) v (constant (F := Ideal) (M2 128 128) .f32 0x00000000#32) r l
  simp only [← ix2_eq] at hmat
  refine Eq.trans hmat ?_
  have hterm : ∀ j : Fin n, weights (F := Ideal) n hr hc hb (scores (F := Ideal) n b q k) (ix2 r j) * v (ix2 j l)
      = Ideal.div (Ideal.exp (S j.val - top n S)) (mass n S) * V j.val := by
    intro j; rw [weights_apply, hsum, he, hV, div_eq_mul_recip _ _ hm]
  rw [Finset.sum_congr rfl fun j _ => hterm j]
  refine Eq.trans (congrArg (· + _) Ideal.ofBits_zero_f32) ?_
  rw [zero_add]
  exact Fin.sum_univ_eq_sum_range (fun j => Ideal.div (Ideal.exp (S j - top n S)) (mass n S) * V j) n

theorem lane_lt : ∀ l : Fin 128, IntOp.cmpi CmpIPredicate.slt (BitVec.ofNat 32 l.val) 64#32 = if l.val < 64 then 1#1 else 0#1 := by
  decide +kernel

theorem pair_apply (hi : (M2 128 128).Iotas .tc 32 [1]) (a b : FVec Ideal (M2 128 128) .f32) (r l : Fin 128) :
    pair (F := Ideal) hi a b (ix2 r l) = if l.val < 64 then a (ix2 r l) else b (ix2 r l) := by
  pointwise [pair]
  rw [lane_lt]
  split <;> rfl

theorem chunk_le : ∀ a b : Fin 32, (IntOp.cmpi CmpIPredicate.sle (BitVec.ofNat 32 a.val) (BitVec.ofNat 32 b.val) = 1#1) ↔ a ≤ b := by
  decide +kernel

theorem query_word : ∀ (t : Fin 16) (r : Fin 128),
    IntOp.addi (Scalar.muli (BitVec.ofNat 32 t.val) 128#32) (BitVec.ofNat 32 r.val) = BitVec.ofNat 32 (128 * t.val + r.val) := by
  decide +kernel

/-- A query sees a key when the key's chunk of 64 is not past its own. -/
theorem sees_apply (n : ℕ) (hn : n ≤ 2048) (h0 : (M2 128 n).Iotas .tc 32 [0]) (h1 : (M2 128 n).Iotas .tc 32 [1]) (t : Fin 16) (r : Fin 128) (j : Fin n) :
    sees n h0 h1 (BitVec.ofNat 32 t.val) (ix2 r j) = 1#1 ↔ j.val / 64 ≤ (128 * t.val + r.val) / 64 := by
  have hj := j.isLt
  have hr := r.isLt
  have ht := t.isLt
  pointwise [sees]
  rw [chunks_apply, chunks_apply]
  have e1 : (iota Kind.tc (M2 128 n) 32 [1] h1) (ix2 r j) = BitVec.ofNat 32 j.val := by pointwise
  have e0 : (addi (broadcast (M2 128 n) (Scalar.muli (BitVec.ofNat 32 t.val) 128#32)) (iota Kind.tc (M2 128 n) 32 [0] h0)) (ix2 r j)
      = BitVec.ofNat 32 (128 * t.val + r.val) := by
    pointwise; exact query_word t r
  rw [e1, e0, chunk_ofNat ⟨j.val, by omega⟩, chunk_ofNat ⟨128 * t.val + r.val, by omega⟩]
  exact chunk_le ⟨j.val / 64, by omega⟩ ⟨(128 * t.val + r.val) / 64, by omega⟩

/-- The tile's result at output lane `l` is head `l / 64`'s, at lane `l % 128` of its pair. -/
theorem tile_apply (hi : (M2 128 128).Iotas .tc 32 [1]) (hcat : Shape.Concatenates [M2 128 128, M2 128 128, M2 128 128, M2 128 128] (M2 128 512) 1)
    (o : Fin 8 → FVec Ideal (M2 128 128) .f32) (r : Fin 128) (l : Fin 512) :
    tile (F := Ideal) hi hcat o (ix2 r l) = o ⟨l.val / 64, by omega⟩ (ix2 r ⟨l.val % 128, by omega⟩) := by
  have key : ∀ (g : Fin 8) (x : Fin 128), l.val / 64 = g.val → l.val % 128 = x.val →
      o g (ix2 r x) = o ⟨l.val / 64, by omega⟩ (ix2 r ⟨l.val % 128, by omega⟩) := by
    intro g x hg hx
    rw [show g = ⟨l.val / 64, by omega⟩ from Fin.ext hg.symm, show x = ⟨l.val % 128, by omega⟩ from Fin.ext hx.symm]
  have hl := l.isLt
  pointwise [tile]
  simp only [pair_apply]
  repeat' split
  all_goals (refine key _ _ ?_ ?_ <;> simp at * <;> omega)

end Values

end Mla

end
-- ==== Proof.Cases.lean ====
/- What the attention kernel leaves in each block of its result, at any point of its grid: the tile of Tile.lean, over as many
   keys as the point's group of two query tiles asks for. -/
module

public import proofs.«01_k».proof.Proof.Tile
public import proofs.«01_k».proof.Proof.Gen.KernelIdeal.Value
public import Idealize.ShloMosaic.Lib.Pipeline.Value
public import Idealize.ShloMosaic.Lib.Pipeline.FrameBody

@[expose] public section

set_option maxRecDepth 16384

noncomputable section

namespace Mla

open Idealize.ShloMosaic Idealize.ShloMosaic.TcCoe Idealize.ShloMosaic.Tactic Idealize.SL.Sem Cert.KernelIdeal Cert.KernelIdeal.Gen
variable {F : FTy → Type} [FloatOps F] [Named F]

/-- The shape relations one tile's operations take. -/
structure TileFacts (n : ℕ) : Prop where
  le : n ≤ 2048
  rows : (M2 128 n).Iotas .tc 32 [0]
  cols : (M2 128 n).Iotas .tc 32 [1]
  lanes : (M2 128 128).Iotas .tc 32 [1]
  red : (M2 128 n).Reduces [1] ⟨1, ![128]⟩
  cast : (⟨1, ![128]⟩ : Shape).ShapeCasts (M2 128 1)
  bcast : (M2 128 1).Broadcasts (M2 128 n)
  cat : Shape.Concatenates [M2 128 128, M2 128 128, M2 128 128, M2 128 128] (M2 128 512) 1

theorem q_in (h : Fin 8) : ∀ a, (![0, 128 * h.val] : Fin 2 → ℕ) a + (![128, 128] : Fin 2 → ℕ) a ≤ (M2 128 1024).size a := by
  have := h.isLt
  intro a; fin_cases a <;> simp <;> omega

theorem k_in {n : ℕ} (hn : n ≤ 2048) (h : Fin 8) : ∀ a, (![0, 128 * h.val] : Fin 2 → ℕ) a + (![n, 128] : Fin 2 → ℕ) a ≤ (M2 2048 1024).size a := by
  have := h.isLt
  intro a; fin_cases a <;> simp <;> omega

theorem v_in {n : ℕ} (hn : n ≤ 2048) (h : Fin 8) : ∀ a, (![0, 128 * (h.val / 2)] : Fin 2 → ℕ) a + (![n, 128] : Fin 2 → ℕ) a ≤ (M2 2048 512).size a := by
  have := h.isLt
  intro a; fin_cases a <;> simp <;> omega

/-- What the body stores for tile `w` of a batch, over the first `n` keys, from the blocks it reads. -/
def stored (n : ℕ) (f : TileFacts n) (w : BitVec 32) (x0 : Vec F S128x1024 .bf16) (x1 : Vec F S2048x1024 .bf16) (x2 : Vec F S2048x512 .bf16) :
    FVec F (M2 128 512) .bf16 :=
  tile f.lanes f.cat fun h => head n f.red f.cast f.bcast (sees n f.rows f.cols w)
    (View.ld x0 (Rect.unit ![0, 128 * h.val] ![128, 128] (q_in h)))
    (View.ld x1 (Rect.unit ![0, 128 * h.val] ![n, 128] (k_in f.le h)))
    (View.ld x2 (Rect.unit ![0, 128 * (h.val / 2)] ![n, 128] (v_in f.le h)))

/-- The relations hold at each of the eight key counts. -/
theorem facts : ∀ g : Fin 8, TileFacts (256 * (g.val + 1)) := by
  intro g
  refine ⟨by omega, ?_, ?_, by decide, ?_, by decide, ?_, by decide⟩ <;> revert g <;> decide

variable (m : (ℓ : Loc nD τ sig) → Buf (Elt F) ℓ)

/-- The tile stored at grid point `t`, if its query tile is in group `g`. -/
def storedAt (c : Dev nD) (t : Fin cfg0.N) (g : Fin 8) : FVec F (M2 128 512) .bf16 :=
  stored (256 * (g.val + 1)) (facts g) (BitVec.ofNat 32 (grid0.coords t 1).val) (iblk m c 0 t) (X0_1 m c t) (X0_2 m c t)

/-- Group 0's point stores the tile over the first 256 keys. -/
theorem outs_A (c : Dev nD) (t : Fin cfg0.N) (h : t.val % 16 / 2 = 0) : outsAt0 m c t.val t.isLt = storedAt m c t 0 := by
  rw [outsAt0_A m c t (by omega) (by omega) (by omega) (by omega) (by omega) (by omega) (by omega) (by omega)]
  unfold out0_A_3
  rw [View.read_writes_eq_canon _ _ _ (cover0_A_3 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread]
  rw [View.canon_unit_zero (by decide)]
  rfl

/-- Group 1's point stores the tile over the first 512 keys. -/
theorem outs_B (c : Dev nD) (t : Fin cfg0.N) (h : t.val % 16 / 2 = 1) : outsAt0 m c t.val t.isLt = storedAt m c t 1 := by
  rw [outsAt0_B m c t (by omega) (by omega) (by omega) (by omega) (by omega) (by omega) (by omega) (by omega)]
  unfold out0_B_3
  rw [View.read_writes_eq_canon _ _ _ (cover0_B_3 c _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread]
  rw [View.canon_unit_zero (by decide)]
  rfl

/-- Group 2's point stores the tile over the first 768 keys. -/
theorem outs_C (c : Dev nD) (t : Fin cfg0.N) (h : t.val % 16 / 2 = 2) : outsAt0 m c t.val t.isLt = storedAt m c t 2 := by
  rw [outsAt0_C m c t (by omega) (by omega) (by omega) (by omega) (by omega) (by omega) (by omega) (by omega)]
  unfold out0_C_3
  rw [View.read_writes_eq_canon _ _ _ (cover0_C_3 c _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread]
  rw [View.canon_unit_zero (by decide)]
  rfl

/-- Group 3's point stores the tile over the first 1024 keys. -/
theorem outs_D (c : Dev nD) (t : Fin cfg0.N) (h : t.val % 16 / 2 = 3) : outsAt0 m c t.val t.isLt = storedAt m c t 3 := by
  rw [outsAt0_D m c t (by omega) (by omega) (by omega) (by omega) (by omega) (by omega) (by omega) (by omega)]
  unfold out0_D_3
  rw [View.read_writes_eq_canon _ _ _ (cover0_D_3 c _ _ _ _ _ _ _ _ _ _ _ _ _ _ _ _ _ _ _ _)]
  unfold kernelRun0_D
  dsimp only
  sl_unfold_words
  simp only [View.readAt_eq_ld, (hs0_0 t).read_unread, (hs0_1 t).read_unread, (hs0_2 t).read_unread]
  rw [View.canon_unit_zero (by decide)]
  rfl

/-- Group 4's point stores the tile over the first 1280 keys. -/
theorem outs_E (c : Dev nD) (t : Fin cfg0.N) (h : t.val % 16 / 2 = 4) : outsAt0 m c t.val t.isLt = storedAt m c t 4 := by
  rw [outsAt0_E m c t (by omega) (by omega) (by omega) (by omega) (by omega) (by omega) (by omega) (by omega)]
  unfold out0_E_3
  rw [View.read_writes_eq_canon _ _ _ (cover0_E_3 c _ _ _ _ _ _ _ _ _ _ _ _ _ _ _ _ _ _ _ _)]
  unfold kernelRun0_E
  dsimp only
  sl_unfold_words
  simp only [View.readAt_eq_ld, (hs0_0 t).read_unread, (hs0_1 t).read_unread, (hs0_2 t).read_unread]
  rw [View.canon_unit_zero (by decide)]
  rfl

/-- Group 5's point stores the tile over the first 1536 keys. -/
theorem outs_F (c : Dev nD) (t : Fin cfg0.N) (h : t.val % 16 / 2 = 5) : outsAt0 m c t.val t.isLt = storedAt m c t 5 := by
  rw [outsAt0_F m c t (by omega) (by omega) (by omega) (by omega) (by omega) (by omega) (by omega) (by omega)]
  unfold out0_F_3
  rw [View.read_writes_eq_canon _ _ _ (cover0_F_3 c _ _ _ _ _ _ _ _ _ _ _ _ _ _ _ _ _ _ _ _)]
  unfold kernelRun0_F
  dsimp only
  sl_unfold_words
  simp only [View.readAt_eq_ld, (hs0_0 t).read_unread, (hs0_1 t).read_unread, (hs0_2 t).read_unread]
  rw [View.canon_unit_zero (by decide)]
  rfl

/-- Group 6's point stores the tile over the first 1792 keys. -/
theorem outs_G (c : Dev nD) (t : Fin cfg0.N) (h : t.val % 16 / 2 = 6) : outsAt0 m c t.val t.isLt = storedAt m c t 6 := by
  rw [outsAt0_G m c t (by omega) (by omega) (by omega) (by omega) (by omega) (by omega) (by omega) (by omega)]
  unfold out0_G_3
  rw [View.read_writes_eq_canon _ _ _ (cover0_G_3 c _ _ _ _ _ _ _ _ _ _ _ _ _ _ _ _ _ _ _ _)]
  unfold kernelRun0_G
  dsimp only
  sl_unfold_words
  simp only [View.readAt_eq_ld, (hs0_0 t).read_unread, (hs0_1 t).read_unread, (hs0_2 t).read_unread]
  rw [View.canon_unit_zero (by decide)]
  rfl

/-- Group 7's point stores the tile over the first 2048 keys. -/
theorem outs_H (c : Dev nD) (t : Fin cfg0.N) (h : t.val % 16 / 2 = 7) : outsAt0 m c t.val t.isLt = storedAt m c t 7 := by
  rw [outsAt0_H m c t (by omega) (by omega) (by omega) (by omega) (by omega) (by omega) (by omega) (by omega)]
  unfold out0_H_3
  rw [View.read_writes_eq_canon _ _ _ (cover0_H_3 c _ _ _ _ _ _ _ _ _ _ _ _ _ _ _ _ _ _ _ _)]
  unfold kernelRun0_H
  dsimp only
  sl_unfold_words
  simp only [View.readAt_eq_ld, (hs0_0 t).read_unread, (hs0_1 t).read_unread, (hs0_2 t).read_unread]
  rw [View.canon_unit_zero (by decide)]
  rfl

/-- So at every point. -/
theorem outs (c : Dev nD) (t : Fin cfg0.N) : ∀ g : Fin 8, t.val % 16 / 2 = g.val → outsAt0 m c t.val t.isLt = storedAt m c t g
  | 0, h => outs_A m c t h
  | 1, h => outs_B m c t h
  | 2, h => outs_C m c t h
  | 3, h => outs_D m c t h
  | 4, h => outs_E m c t h
  | 5, h => outs_F m c t h
  | 6, h => outs_G m c t h
  | 7, h => outs_H m c t h

end Mla

end
-- ==== Proof.Attention.lean ====
/- The attention of the prompt as a function of the three arrays, and that the kernel's result array is it. -/
module

public import proofs.«01_k».proof.Proof.Cases

@[expose] public section

set_option maxRecDepth 16384

noncomputable section

namespace Mla

open Idealize.ShloMosaic Idealize.ShloMosaic.TcCoe Idealize.SL.Sem Cert.KernelIdeal Cert.KernelIdeal.Gen

/-- A matrix read at two numbers (0 outside it). -/
def at2 {a b : ℕ} (x : (M2 a b).Idx → EReal) (r c : ℕ) : EReal := if h : r < a ∧ c < b then x (ix2 ⟨r, h.1⟩ ⟨c, h.2⟩) else 0

theorem at2_ix2 {a b : ℕ} (x : (M2 a b).Idx → EReal) (r : Fin a) (c : Fin b) : at2 x r.val c.val = x (ix2 r c) :=
  dif_pos ⟨r.isLt, c.isLt⟩

theorem at2_eq {a b : ℕ} (x : (M2 a b).Idx → EReal) (i : (M2 a b).Idx) (r c : ℕ) (h0 : (i 0).val = r) (h1 : (i 1).val = c) : at2 x r c = x i := by
  subst h0 h1
  rw [at2, dif_pos ⟨(i 0).isLt, (i 1).isLt⟩]
  congr 1
  funext a; match a with | ⟨0, _⟩ => rfl | ⟨1, _⟩ => rfl

/-- The scale of the scores, 1/√96 in f32. -/
def scale : EReal := Ideal.ofBits .f32 0x3DD105EC#32

/-- The score of head `h` at query row `R` against key `j` of the row's batch: ⊥ where the key's chunk of 64 is past the query's. -/
def score (q k : (M2 33792 1024).Idx → EReal) (R h j : ℕ) : EReal :=
  if j / 64 ≤ R % 2048 / 64 then (∑ d : Fin 128, at2 q R (128 * h + d.val) * at2 k (R / 2048 * 2048 + j) (128 * h + d.val)) * scale else ⊥

/-- The value of key `j` of row `R`'s batch at output lane `C`. -/
def val (v : (M2 33792 512).Idx → EReal) (R C j : ℕ) : EReal := at2 v (R / 2048 * 2048 + j) C

/-- The prompt's attention: at row `R` and lane `C`, head `C / 64`'s softmax over the 2048 keys of the row's batch. -/
def attention (q k : (M2 33792 1024).Idx → EReal) (v : (M2 33792 512).Idx → EReal) : (M2 32768 512).Idx → EReal := fun i =>
  att 2048 (score q k (i 0).val ((i 1).val / 64)) (val v (i 0).val (i 1).val)

/-- Every entry is a real number. -/
def Real {s : Shape} (x : s.Idx → EReal) : Prop := ∀ i, x i ≠ ⊤ ∧ x i ≠ ⊥

theorem at2_real {a b : ℕ} {x : (M2 a b).Idx → EReal} (hx : Real x) (r c : ℕ) : ∃ y : ℝ, at2 x r c = y := by
  unfold at2
  split
  · exact ⟨_, (EReal.coe_toReal (hx _).1 (hx _).2).symm⟩
  · exact ⟨0, rfl⟩

theorem scale_real : ∃ y : ℝ, scale = y := by
  unfold scale; simp [Ideal.ofBits, Ideal.ieee]
  exact ⟨_, rfl⟩

theorem sum_real {n : ℕ} (f : Fin n → EReal) (h : ∀ i, ∃ y : ℝ, f i = y) : ∃ y : ℝ, ∑ i, f i = y := by
  choose g hg using h
  exact ⟨∑ i, g i, by rw [Finset.sum_congr rfl fun i _ => hg i]; exact (map_sum (⟨⟨Real.toEReal, rfl⟩, EReal.coe_add⟩ : ℝ →+ EReal) g Finset.univ).symm⟩

/-- A seen key's score is a real number. -/
theorem score_real {q k : (M2 33792 1024).Idx → EReal} (hq : Real q) (hk : Real k) (R h j : ℕ) (hj : j / 64 ≤ R % 2048 / 64) :
    ∃ y : ℝ, score q k R h j = y := by
  unfold score
  rw [if_pos hj]
  obtain ⟨s, hs⟩ := sum_real (fun d : Fin 128 => at2 q R (128 * h + d.val) * at2 k (R / 2048 * 2048 + j) (128 * h + d.val)) fun d => by
    obtain ⟨a, ha⟩ := at2_real hq R (128 * h + d.val)
    obtain ⟨b, hb⟩ := at2_real hk (R / 2048 * 2048 + j) (128 * h + d.val)
    exact ⟨a * b, by rw [ha, hb, EReal.coe_mul]⟩
  obtain ⟨c, hc⟩ := scale_real
  exact ⟨s * c, by rw [hs, hc, EReal.coe_mul]⟩

/-- So a row's sum of exponentials, over any keys that reach the row's own, is not 0. -/
theorem mass_ne {q k : (M2 33792 1024).Idx → EReal} (hq : Real q) (hk : Real k) (R h n : ℕ) (hn : R % 2048 < n) : mass n (score q k R h) ≠ 0 := by
  refine (mass_pos (score q k R h) (fun j _ => ?_) hn ?_).ne'
  · by_cases hj : j / 64 ≤ R % 2048 / 64
    · obtain ⟨y, hy⟩ := score_real hq hk R h j hj
      rw [hy]; exact EReal.coe_lt_top y
    · rw [score, if_neg hj]; exact bot_lt_top
  · obtain ⟨y, hy⟩ := score_real hq hk R h (R % 2048) le_rfl
    rw [hy]; exact EReal.coe_ne_bot y

/-- Attention over the first `n` keys is the whole row's, where they reach the end of the query's chunk. -/
theorem attention_eq {q k : (M2 33792 1024).Idx → EReal} (hq : Real q) (hk : Real k) (v : (M2 33792 512).Idx → EReal) (i : (M2 32768 512).Idx)
    (n : ℕ) (hn : n ≤ 2048) (h : (i 0).val % 2048 / 64 * 64 + 64 ≤ n) :
    att n (score q k (i 0).val ((i 1).val / 64)) (val v (i 0).val (i 1).val) = attention q k v i := by
  refine (att_of_bot hn _ _ (fun j hj _ => ?_) (mass_ne hq hk _ _ _ (by omega))).symm
  rw [score, if_neg (by omega)]

variable (m : (ℓ : Loc nD τ sig) → Buf (Elt Ideal) ℓ)

/-- The kernel's three arguments on a device. -/
abbrev argQ (c : Dev nD) : (M2 33792 1024).Idx → EReal := m ((c : Thread nD τ).loc main_arg0)
abbrev argK (c : Dev nD) : (M2 33792 1024).Idx → EReal := m ((c : Thread nD τ).loc main_arg1)
abbrev argV (c : Dev nD) : (M2 33792 512).Idx → EReal := m ((c : Thread nD τ).loc main_arg2)

theorem coord1 : ∀ t : Fin cfg0.N, (grid0.coords t 1).val = t.val % 16 :=
  (by decide +kernel : ∀ t : Fin grid0.N, (grid0.coords t 1).val = t.val % 16)
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val / 16 ∧ win0_1.index t 1 = 0 :=
  (by decide +kernel : ∀ t : Fin grid0.N, win0_1.index t 0 = t.val / 16 ∧ win0_1.index t 1 = 0)
theorem idx2 : ∀ t : Fin cfg0.N, win0_2.index t 0 = t.val / 16 ∧ win0_2.index t 1 = 0 :=
  (by decide +kernel : ∀ t : Fin grid0.N, win0_2.index t 0 = t.val / 16 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)

/-- The query block at point `t` is rows 128·t … of the queries. -/
theorem q_blk (c : Dev nD) (t : Fin cfg0.N) (r : Fin 128) (d : Fin 1024) :
    (iblk m c 0 t : (M2 128 1024).Idx → EReal) (ix2 r d) = at2 (argQ m c) (128 * t.val + r.val) d.val := by
  refine (at2_eq _ (((cfg0.win 0).blk t).view.emb (ix2 r d)) _ _ ?_ ?_).symm
  · show win0_0.index t 0 * 128 + 1 * r.val = _; rw [(idx0 t).1]; omega
  · show win0_0.index t 1 * 1024 + 1 * d.val = _; rw [(idx0 t).2]; omega

/-- The key block at point `t` is the rows of batch `t / 16` of the keys. -/
theorem k_blk (c : Dev nD) (t : Fin cfg0.N) (r : Fin 2048) (d : Fin 1024) :
    (X0_1 m c t : (M2 2048 1024).Idx → EReal) (ix2 r d) = at2 (argK m c) (t.val / 16 * 2048 + r.val) d.val := by
  unfold X0_1 Pipeline.Window.fill
  rw [dif_pos (moved0_1 t _)]
  refine (at2_eq _ (((cfg0.win 1).blk t).view.emb _) _ _ ?_ ?_).symm
  · show win0_1.index t 0 * 2048 + 1 * r.val = _; rw [(idx1 t).1]; omega
  · show win0_1.index t 1 * 1024 + 1 * d.val = _; rw [(idx1 t).2]; omega

/-- The value block likewise. -/
theorem v_blk (c : Dev nD) (t : Fin cfg0.N) (r : Fin 2048) (d : Fin 512) :
    (X0_2 m c t : (M2 2048 512).Idx → EReal) (ix2 r d) = at2 (argV m c) (t.val / 16 * 2048 + r.val) d.val := by
  unfold X0_2 Pipeline.Window.fill
  rw [dif_pos (moved0_2 t _)]
  refine (at2_eq _ (((cfg0.win 2).blk t).view.emb _) _ _ ?_ ?_).symm
  · show win0_2.index t 0 * 2048 + 1 * r.val = _; rw [(idx2 t).1]; omega
  · show win0_2.index t 1 * 512 + 1 * d.val = _; rw [(idx2 t).2]; omega

/-- A piece of a block of columns, read at an index. -/
theorem ld_col {a b n : ℕ} (x : Vec Ideal (M2 a b) .bf16) (o : ℕ) (hin) (r : Fin n) (l : Fin 128) (hr : r.val < a) (hl : o + l.val < b) :
    View.ld (Val := Elt Ideal) x (Rect.unit (s := M2 a b) ![0, o] ![n, 128] hin) (ix2 r l) = x (ix2 ⟨r.val, hr⟩ ⟨o + l.val, hl⟩) := by
  refine congrArg x ?_
  funext a
  match a with
  | ⟨0, _⟩ => exact Fin.ext (by show 0 + 1 * r.val = r.val; omega)
  | ⟨1, _⟩ => exact Fin.ext (by show o + 1 * l.val = o + l.val; omega)

/-- WHAT A POINT STORES: at row `r` and lane `l` of its block, the attention at row 128·t + r of the result. -/
theorem storedAt_apply (c : Dev nD) (hq : Real (argQ m c)) (hk : Real (argK m c)) (t : Fin cfg0.N) (g : Fin 8) (hg : t.val % 16 / 2 = g.val)
    (r : Fin 128) (l : Fin 512) (i : (M2 32768 512).Idx) (h0 : (i 0).val = 128 * t.val + r.val) (h1 : (i 1).val = l.val) :
    storedAt (F := Ideal) m c t g (ix2 r l) = attention (argQ m c) (argK m c) (argV m c) i := by
  have hr := r.isLt
  have hl := l.isLt
  have hgl := g.isLt
  have hn : 256 * (g.val + 1) ≤ 2048 := by omega
  rw [← attention_eq hq hk (argV m c) i (256 * (g.val + 1)) hn (by omega)]
  unfold storedAt stored
  rw [tile_apply]
  have hb : (128 * t.val + r.val) / 2048 = t.val / 16 := by omega
  refine head_apply _ _ _ _ _ _ _ _ _ _ _ _ (fun j => ?_) (fun j => ?_) (mass_ne hq hk _ _ _ (by omega))
  · have hj := j.isLt
    have hs := sees_apply (256 * (g.val + 1)) hn (facts g).rows (facts g).cols ⟨t.val % 16, by omega⟩ r j
    rw [scores_apply, score, coord1]
    have hiff : (j.val / 64 ≤ (128 * (t.val % 16) + r.val) / 64) ↔ (j.val / 64 ≤ (i 0).val % 2048 / 64) := by
      rw [h0]; constructor <;> intro h <;> omega
    refine if_congr (hs.trans hiff) ?_ rfl
    refine congrArg (· * scale) (Finset.sum_congr rfl fun d _ => ?_)
    have hd := d.isLt
    rw [ld_col _ _ _ _ _ r.isLt (by simp only; omega), ld_col _ _ _ _ _ (by omega) (by simp only; omega), q_blk, k_blk, h0, h1, hb]
  · have hj := j.isLt
    rw [ld_col _ _ _ _ _ (by omega) (by simp only; omega), v_blk, val, h0, h1, hb]
    congr 1
    simp only; omega

/-- The kernel's result array is the attention of its arguments. -/
theorem final (c : Dev nD) (hq : Real (argQ m c)) (hk : Real (argK m c)) :
    (dats m 0 c).arrAt 3 cfg0.N = attention (argQ m c) (argK m c) (argV m c) := by
  refine (dats m 0 c).arrAt_eq_of_cover 3 (attention (argQ m c) (argK m c) (argV m c)) (fun t _ => ?_) (fun i => ?_)
  · rw [Cert.KernelIdeal.Value.flushed3, outs m c t ⟨t.val % 16 / 2, by omega⟩ rfl]
    funext j
    obtain ⟨r, l, rfl⟩ : ∃ (r : Fin 128) (l : Fin 512), j = ix2 r l := ⟨j 0, j 1, by
      funext a; match a with | ⟨0, _⟩ => rfl | ⟨1, _⟩ => rfl⟩
    refine storedAt_apply m c hq hk t _ rfl r l (((cfg0.win 3).blk t).view.emb (ix2 r l)) ?_ ?_
    · show win0_3.index t 0 * 128 + 1 * r.val = _; rw [(idx3 t).1]; omega
    · show win0_3.index t 1 * 512 + 1 * l.val = _; rw [(idx3 t).2]; omega
  · have hi0 : (i 0).val < 32768 := (i 0).isLt
    have hi1 : (i 1).val < 512 := (i 1).isLt
    let t : Fin cfg0.N := ⟨(i 0).val / 128, by have : cfg0.N = 256 := N_0; omega⟩
    refine ⟨t, flush0_3 t, ?_⟩
    show i ∈ ((View.whole main_v0).slice (win0_3.rect t)).set
    rw [View.set_slice_whole, Rect.mem_set_unit]
    intro a
    match a with
    | ⟨0, _⟩ =>
      show win0_3.index t 0 * 128 ≤ (i 0).val ∧ (i 0).val < win0_3.index t 0 * 128 + 128
      rw [(idx3 t).1]; simp only [t]; omega
    | ⟨1, _⟩ =>
      show win0_3.index t 1 * 512 ≤ (i 1).val ∧ (i 1).val < win0_3.index t 1 * 512 + 512
      rw [(idx3 t).2]; omega

end Mla

end
-- ==== Proof.Reference.lean ====
/- The reference's result array is the prompt's attention. -/
module

public import proofs.«01_k».proof.Proof.Attention
public import proofs.«01_k».proof.Proof.Gen.ReferenceIdeal.Read

@[expose] public section

set_option maxRecDepth 16384

noncomputable section

namespace Mla

open Idealize.ShloMosaic Idealize.ShloMosaic.TcCoe Cert.ReferenceIdeal Cert.ReferenceIdeal.Gen Cert.ReferenceIdeal.Read

/-- A position's chunk: the positions' quotient by 64, rounded down, is the natural number's. -/
theorem ref_chunk : ∀ k : Fin 2048, val_main_v13 (F := Ideal) (ix1 k) = BitVec.ofNat 32 (k.val / 64) := by
  decide +kernel

/-- Chunk numbers compare as natural numbers. -/
theorem ref_le : ∀ a b : Fin 32, IntOp.cmpi .sle (BitVec.ofNat 32 a.val) (BitVec.ofNat 32 b.val) = if a.val ≤ b.val then 1#1 else 0#1 := by
  decide +kernel

/-- The mask at a query and a key: 1 where the key's chunk is not past the query's. -/
theorem ref_mask (i : S2048x2048.Idx) : val_main_v18 (F := Ideal) i = if (i 1).val / 64 ≤ (i 0).val / 64 then 1#1 else 0#1 := by
  rw [val_main_v18_apply, val_main_v16_apply, val_main_v17_apply, val_main_v14_apply, val_main_v15_apply]
  have h1 : val_main_v13 (F := Ideal) (idx_main_v14 (idx_main_v16 i)) = BitVec.ofNat 32 ((i 1).val / 64) :=
    (congrArg _ (funext fun a => by match a with | ⟨0, _⟩ => rfl)).trans (ref_chunk (i 1))
  have h0 : val_main_v13 (F := Ideal) (idx_main_v15 (idx_main_v17 i)) = BitVec.ofNat 32 ((i 0).val / 64) :=
    (congrArg _ (funext fun a => by match a with | ⟨0, _⟩ => rfl)).trans (ref_chunk (i 0))
  rw [h0, h1]
  have b0 : (i 0).val < 2048 := (i 0).isLt
  have b1 : (i 1).val < 2048 := (i 1).isLt
  exact ref_le ⟨(i 1).val / 64, by omega⟩ ⟨(i 0).val / 64, by omega⟩

variable (q k : (M2 33792 1024).Idx → EReal) (v : (M2 33792 512).Idx → EReal)

/-- The queries by batch, position, head and lane. -/
theorem ref_q (i : S16x2048x8x128.Idx) : val_main_v2 (F := Ideal) q i = at2 q ((i 0).val * 2048 + (i 1).val) (128 * (i 2).val + (i 3).val) := by
  rw [val_main_v2_apply, val_main_v1_apply, val_main_v0_apply]
  have h0 : (i 0).val < 16 := (i 0).isLt
  have h1 : (i 1).val < 2048 := (i 1).isLt
  have h2 : (i 2).val < 8 := (i 2).isLt
  have h3 : (i 3).val < 128 := (i 3).isLt
  refine (at2_eq q _ _ _ ?_ ?_).symm
  · show ((((i 0).val * 2048 + (i 1).val) * 8 + (i 2).val) * 128 + (i 3).val) / 1024 = _; omega
  · show ((((i 0).val * 2048 + (i 1).val) * 8 + (i 2).val) * 128 + (i 3).val) % 1024 = _; omega

/-- The keys by batch, position, head and lane. -/
theorem ref_k (i : S16x2048x8x128.Idx) : val_main_v5 (F := Ideal) k i = at2 k ((i 0).val * 2048 + (i 1).val) (128 * (i 2).val + (i 3).val) := by
  rw [val_main_v5_apply, val_main_v4_apply, val_main_v3_apply]
  have h0 : (i 0).val < 16 := (i 0).isLt
  have h1 : (i 1).val < 2048 := (i 1).isLt
  have h2 : (i 2).val < 8 := (i 2).isLt
  have h3 : (i 3).val < 128 := (i 3).isLt
  refine (at2_eq k _ _ _ ?_ ?_).symm
  · show ((((i 0).val * 2048 + (i 1).val) * 8 + (i 2).val) * 128 + (i 3).val) / 1024 = _; omega
  · show ((((i 0).val * 2048 + (i 1).val) * 8 + (i 2).val) * 128 + (i 3).val) % 1024 = _; omega

/-- The values by batch, position, head and lane. -/
theorem ref_v (i : S16x2048x8x64.Idx) : val_main_v8 (F := Ideal) v i = at2 v ((i 0).val * 2048 + (i 1).val) (64 * (i 2).val + (i 3).val) := by
  rw [val_main_v8_apply, val_main_v7_apply, val_main_v6_apply]
  have h0 : (i 0).val < 16 := (i 0).isLt
  have h1 : (i 1).val < 2048 := (i 1).isLt
  have h2 : (i 2).val < 8 := (i 2).isLt
  have h3 : (i 3).val < 64 := (i 3).isLt
  refine (at2_eq v _ _ _ ?_ ?_).symm
  · show ((((i 0).val * 2048 + (i 1).val) * 8 + (i 2).val) * 64 + (i 3).val) / 512 = _; omega
  · show ((((i 0).val * 2048 + (i 1).val) * 8 + (i 2).val) * 64 + (i 3).val) % 512 = _; omega

/-- The masked score of a batch, head, query and key. -/
theorem ref_score (i : S16x8x2048x2048.Idx) :
    val_main_v19 (F := Ideal) q k i = score q k ((i 0).val * 2048 + (i 2).val) (i 1).val (i 3).val := by
  have b2 : (i 2).val < 2048 := (i 2).isLt
  rw [val_main_v19_apply, val_main_call1_v1_apply, ref_mask, val_main_call1_v2_apply, val_main_call1_v0_apply, val_main_cst_0_apply,
    val_main_v11_apply, val_main_v9_apply, val_main_v10_apply]
  simp only [ref_q, ref_k]
  unfold score
  have e1 : ((i 0).val * 2048 + (i 2).val) % 2048 = (i 2).val := by omega
  have e2 : ((i 0).val * 2048 + (i 2).val) / 2048 = (i 0).val := by omega
  rw [e1, e2]
  show (Scalar.select (if (i 3).val / 64 ≤ (i 2).val / 64 then 1#1 else 0#1) _ _ : EReal) = _
  split
  · rfl
  · exact ofBits_neg_inf

/-- A row's greatest score. -/
theorem ref_top (i : S16x8x2048.Idx) :
    val_main_v22 (F := Ideal) q k i = top 2048 (score q k ((i 0).val * 2048 + (i 2).val) (i 1).val) := by
  rw [val_main_v22_apply, val_main_v21_apply, val_main_cst_2_apply]
  have h20 : val_main_v20 (F := Ideal) q k i = (Finset.univ : Finset (Fin 2048)).fold max (⊥ : EReal) fun j =>
      score q k ((i 0).val * 2048 + (i 2).val) (i 1).val j.val := by
    unfold val_main_v20
    have h := ref_score q k
    generalize val_main_v19 (F := Ideal) q k = y at h ⊢
    pointwise [val_main_cst_1]
    simp only [h]
    rw [ofBits_neg_inf]
    rfl
  rw [h20]
  have hfold : ((Finset.univ : Finset (Fin 2048)).fold max (⊥ : EReal) fun j => score q k ((i 0).val * 2048 + (i 2).val) (i 1).val j.val)
      = top 2048 (score q k ((i 0).val * 2048 + (i 2).val) (i 1).val) := by
    rw [top_eq_sup]
    refine le_antisymm (Finset.sup_le fun j _ => Finset.le_sup (f := score q k _ _) (Finset.mem_range.mpr j.isLt)) (Finset.sup_le fun j hj => ?_)
    exact Finset.le_sup (f := fun j : Fin 2048 => score q k _ _ j.val) (Finset.mem_univ ⟨j, Finset.mem_range.mp hj⟩)
  rw [hfold]
  show max (Ideal.ofBits .f32 0xFF800000#32) _ = _
  rw [show Ideal.ofBits .f32 0xFF800000#32 = ⊥ from ofBits_neg_inf]
  exact max_bot_left _

/-- The exponential of a score's distance below its row's greatest. -/
theorem ref_exp (i : S16x8x2048x2048.Idx) :
    val_main_v26 (F := Ideal) q k i = Ideal.exp (score q k ((i 0).val * 2048 + (i 2).val) (i 1).val (i 3).val
      - top 2048 (score q k ((i 0).val * 2048 + (i 2).val) (i 1).val)) := by
  rw [val_main_v26_apply, val_main_v25_apply, val_main_v24_apply, val_main_v23_apply, ref_score, ref_top]
  rfl

/-- A row's sum of exponentials. -/
theorem ref_mass (i : S16x8x2048.Idx) :
    val_main_v27 (F := Ideal) q k i = mass 2048 (score q k ((i 0).val * 2048 + (i 2).val) (i 1).val) := by
  rw [val_main_v27_apply]
  simp only [ref_exp]
  refine Eq.trans (congrArg (· + _) (show val_main_cst_3 (F := Ideal) _ = (0 : EReal) from Ideal.ofBits_zero_f32)) ?_
  rw [zero_add]
  exact Fin.sum_univ_eq_sum_range (fun j => Ideal.exp (score q k ((i 0).val * 2048 + (i 2).val) (i 1).val j
      - top 2048 (score q k ((i 0).val * 2048 + (i 2).val) (i 1).val))) 2048

/-- The reference's result is the attention. -/
theorem ref_attention : val_main_v34 (F := Ideal) q k v = attention q k v := by
  funext i
  rw [val_main_v34_apply, val_main_v33_apply, val_main_v32_apply, val_main_v31_apply]
  have b0 : (i 0).val < 32768 := (i 0).isLt
  have b1 : (i 1).val < 512 := (i 1).isLt
  unfold attention att
  rw [← Fin.sum_univ_eq_sum_range]
  refine Finset.sum_congr rfl fun j _ => ?_
  rw [val_main_v30_apply, val_main_v29_apply, val_main_v28_apply, ref_exp, ref_mass, ref_v, mul_comm]
  have e0 : ((i 0).val * 512 + (i 1).val) / 1048576 = (i 0).val / 2048 := by omega
  have e1 : ((i 0).val * 512 + (i 1).val) / 512 % 2048 = (i 0).val % 2048 := by omega
  have e2 : ((i 0).val * 512 + (i 1).val) / 64 % 8 = (i 1).val / 64 := by omega
  have e3 : ((i 0).val * 512 + (i 1).val) % 64 = (i 1).val % 64 := by omega
  have eR : (i 0).val / 2048 * 2048 + (i 0).val % 2048 = (i 0).val := by omega
  have eC : 64 * ((i 1).val / 64) + (i 1).val % 64 = (i 1).val := by omega
  show Ideal.div (Ideal.exp (score q k (((i 0).val * 512 + (i 1).val) / 1048576 * 2048 + ((i 0).val * 512 + (i 1).val) / 512 % 2048)
      (((i 0).val * 512 + (i 1).val) / 64 % 8) j.val - top 2048 (score q k (((i 0).val * 512 + (i 1).val) / 1048576 * 2048
        + ((i 0).val * 512 + (i 1).val) / 512 % 2048) (((i 0).val * 512 + (i 1).val) / 64 % 8))))
      (mass 2048 (score q k (((i 0).val * 512 + (i 1).val) / 1048576 * 2048 + ((i 0).val * 512 + (i 1).val) / 512 % 2048)
        (((i 0).val * 512 + (i 1).val) / 64 % 8)))
    * at2 v (((i 0).val * 512 + (i 1).val) / 1048576 * 2048 + j.val) (64 * (((i 0).val * 512 + (i 1).val) / 64 % 8) + ((i 0).val * 512 + (i 1).val) % 64) = _
  rw [e0, e1, e2, e3, eR, eC]
  rfl

end Mla

end
-- ==== Proof.Finite.lean ====
/- The precondition says that the queries and keys are real numbers; with it the kernel's and the reference's results are one array. -/
module

public import proofs.«01_k».proof.Defs
public import proofs.«01_k».proof.Proof.Reference
public import proofs.«01_k».proof.Proof.Gen.KernelIdeal.Value
public import proofs.«01_k».proof.Proof.Gen.ReferenceIdeal.Run
public import Idealize.ShloMosaic.Lib.ReduceAll

@[expose] public section

set_option maxRecDepth 16384

noncomputable section

namespace Mla

open Idealize.ShloMosaic Idealize.ShloMosaic.TcCoe Idealize.SL.Sem

/-- The precondition's shapes fit together. -/
theorem pre_facts : Cert.Pre_finite_qk.Facts := ⟨by decide, by decide, by decide, by decide⟩

/-- Two bits whose `and` is 1 are 1. -/
theorem bits_of_and : ∀ a b : BitVec 1, IntOp.andi a b = 1#1 → a = 1#1 ∧ b = 1#1 := by decide

/-- An extended real whose absolute value is below f32's infinity is a real number. -/
theorem real_of_abs (x : EReal) (h : FloatOps.cmpf (F := Ideal) (φ := .f32) .olt (FloatOps.hostAbsf (F := Ideal) (φ := .f32) x) (Ideal.ofBits .f32 0x7F800000#32) = 1#1) :
    x ≠ ⊤ ∧ x ≠ ⊥ := by
  have hi : Ideal.ofBits .f32 0x7F800000#32 = ⊤ := by simp [Ideal.ofBits, Ideal.ieee]
  rw [hi] at h
  have ht : ¬ FloatOps.cmpf (F := Ideal) (φ := .f32) .olt (⊤ : EReal) (⊤ : EReal) = 1#1 := by
    show ¬ Ideal.cmp .olt ⊤ ⊤ = 1#1
    simp [Ideal.cmp]
  constructor <;> rintro rfl <;> refine ht (Eq.trans (congrArg (fun y => FloatOps.cmpf (F := Ideal) (φ := .f32) .olt y (⊤ : EReal)) ?_) h)
  · show (⊤ : EReal) = max ⊤ (-⊤); simp
  · show (⊤ : EReal) = max ⊥ (-⊥); simp

/-- An array all of whose entries pass the precondition's test is real. -/
theorem real_of_all [Cert.Pre_finite_qk.Facts] (x : (M2 33792 1024).Idx → EReal) (j : Cert.Pre_finite_qk.S_.Idx)
    (h : Host.reduce IntOp.andi (cmpf (F := Ideal) .olt (Host.absf (extf .f32 (x : FVec Ideal (M2 33792 1024) .bf16) Cert.Pre_finite_qk.Facts.bitsLt_bf16_f32))
        (broadcastInDim Cert.Pre_finite_qk.S33792x1024 ![] Cert.Pre_finite_qk.Facts.bcast_S_S33792x1024 (constant (F := Ideal) Cert.Pre_finite_qk.S_ .f32 0x7F800000#32)))
      (constantI Cert.Pre_finite_qk.S_ 1 1#1) Cert.Pre_finite_qk.Facts.reducesTo_S33792x1024_S_d0_1 Cert.Pre_finite_qk.Facts.h_S_ j = 1#1) : Real x := by
  intro i
  haveI : Subsingleton Cert.Pre_finite_qk.S_.Idx := ⟨fun a b => funext fun k => k.elim0⟩
  exact real_of_abs (x i) (Host.reduce_andi_all _ _ _ _ j h i)

/-- The precondition, read at the kernel's arguments. -/
theorem real_args [Cert.Pre_finite_qk.Facts] (m : (ℓ : Loc Cert.KernelIdeal.nD Cert.KernelIdeal.τ Cert.KernelIdeal.sig) → Buf (Elt Ideal) ℓ)
    (h : Cert.Pre_KernelIdeal_finite_qk m) (c : Dev Cert.KernelIdeal.nD) : Real (argQ m c) ∧ Real (argK m c) := by
  have hj := congrFun (h c) (fun k => k.elim0)
  obtain ⟨hq, hk⟩ := bits_of_and _ _ hj
  exact ⟨real_of_all _ _ hq, real_of_all _ _ hk⟩

attribute [local instance] Cert.KernelIdeal.Gen.facts Cert.ReferenceIdeal.Gen.facts pre_facts

/-- Over the extended reals, from arguments whose queries and keys are real, kernel and reference end with the same array: the attention. -/
theorem algebraic : Cert.algebraic_KernelIdeal_ReferenceIdeal_pre_finite_qk := by
  intro m g m' g' hpre hag
  refine ⟨fun c => attention (argQ m c) (argK m c) (argV m c), ?_, ?_⟩
  · refine (θ_run _ _ _).mono (fun _ h c => ⟨(h c).1.trans (final m c (real_args m hpre c).1 (real_args m hpre c).2), (h c).2⟩)
      (Cert.KernelIdeal.Value.run_blocks (F := Ideal) m g)
  · refine (θ_run _ _ _).mono (fun _ h c => ⟨(h c).1.trans ?_, (h c).2⟩) (Cert.ReferenceIdeal.Value.run (F := Ideal) m' g')
    rw [Cert.ReferenceIdeal.Read.val_main_v34_eq, (hag c).1, (hag c).2.1, (hag c).2.2]
    exact ref_attention _ _ _

end Mla

end
-- ==== Proof.LayerIdealRun.lean ====
/- The run of the layer's program at ideal numbers: two regions, the input projection and the sampled band attention, among stretches of host
   operations. Every unscoped buffer ends at the contents `W5`, of which the argument arrays are as launched. The text up to the last
   theorems is the launch set-up of a program of two regions. -/
module

public import proofs.«01_k».proof.Proof.Gen.LayerIdeal.Launch
public import proofs.«01_k».proof.Proof.Gen.LayerIdeal.Skeleton
public import proofs.«01_k».proof.Proof.Gen.LayerIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.LayerIdeal.Run

open Cert.LayerIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_inproj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, whether or not it was fetched there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, whether or not it was fetched there. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, whether or not it was fetched there. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, whether or not it was fetched there. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, whether or not it was fetched there. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, whether or not it was fetched there. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10's staging buffer holds its block at every point, whether or not it was fetched there. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11's staging buffer holds its block at every point, whether or not it was fetched there. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)
/-- Input window 12's staging buffer holds its block at every point, whether or not it was fetched there. -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)
/-- Input window 13's staging buffer holds its block at every point, whether or not it was fetched there. -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x128 := Rect.unit (s := S256x128) ![0, 0] S256x128.size inb_S256x128_S256x128_0_0
abbrev r0_3 : Rect S1024x896 := Rect.unit (s := S1024x896) ![0, 0] S1024x896.size inb_S1024x896_S1024x896_0_0
abbrev r0_4 : Rect S256x32 := Rect.unit (s := S256x32) ![0, 0] S256x32.size inb_S256x32_S256x32_0_0
abbrev r0_5 : Rect S1x384 := Rect.unit (s := S1x384) ![0, 0] S1x384.size inb_S1x384_S1x384_0_0
abbrev r0_6 : Rect S384x1024 := Rect.unit (s := S384x1024) ![0, 0] S384x1024.size inb_S384x1024_S384x1024_0_0
abbrev r0_7 : Rect S1x256 := Rect.unit (s := S1x256) ![0, 0] S1x256.size inb_S1x256_S1x256_0_0
abbrev r0_8 : Rect S256x256 := Rect.unit (s := S256x256) ![0, 0] S256x256.size inb_S256x256_S256x256_0_0
abbrev r0_9 : Rect S256x512 := Rect.unit (s := S256x512) ![0, 0] S256x512.size inb_S256x512_S256x512_0_0
abbrev r0_10 : Rect S1024x1536 := Rect.unit (s := S1024x1536) ![0, 0] S1024x1536.size inb_S1024x1536_S1024x1536_0_0
abbrev r0_11 : Rect S1024x2048 := Rect.unit (s := S1024x2048) ![0, 0] S1024x2048.size inb_S1024x2048_S1024x2048_0_0

/-! ## What the body leaves in each output window's buffer -/

/-! ### Values of the body that several stores share, named once -/

def k0_pay22 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : FVec F S256x1024 .bf16 :=
  k0_pay4 i (View.ld x0 r0_0) (View.ld x1 r0_0) (View.ld x2 r0_1) -- `v20`
def k0_pay23 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : FVec F S256x256 .f32 :=
  k0_pay12 (k0_pay7 i (View.ld x0 r0_0) (View.ld x1 r0_0) (View.ld x2 r0_1) (View.ld x3 r0_3)) (View.ld x7 r0_7) -- `v78`

/-- What the body leaves in window 14's buffer: its stores, the last first. -/
def out0_14 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x256 .f32 :=
  View.canon [⟨r0_8, k0_pay23 i x0 x1 x2 x3 x4 x5 x6 x7 x8 x9 x10 x11 x12 x13⟩]

/-- Its stores tile the buffer (checked by evaluation), so they cover it. -/
theorem cover0_14 (p0 : Vec F S256x256 .f32) (y : S256x256.Idx) :
    ∃ pc ∈ ([⟨r0_8, p0⟩] : List (View.Piece (Elt F) S256x256 .f32)), y ∈ pc.1.set :=
  View.cover_of_tiled [⟨r0_8, p0⟩] S256x256.size (by rfl) y

/-- What the body leaves in window 15's buffer: its stores, the last first. -/
def out0_15 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x32 .f32 :=
  View.canon [⟨r0_4, k0_pay9 i (View.ld x0 r0_0) (View.ld x1 r0_0) (View.ld x2 r0_1) (View.ld x12 r0_2) (View.ld x13 r0_2) (View.ld x3 r0_3)⟩]

/-- Its stores tile the buffer (checked by evaluation), so they cover it. -/
theorem cover0_15 (p0 : Vec F S256x32 .f32) (y : S256x32.Idx) :
    ∃ pc ∈ ([⟨r0_4, p0⟩] : List (View.Piece (Elt F) S256x32 .f32)), y ∈ pc.1.set :=
  View.cover_of_tiled [⟨r0_4, p0⟩] S256x32.size (by rfl) y

/-- What the body leaves in window 16's buffer: its stores, the last first. -/
def out0_16 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x1024 .bf16 :=
  View.canon [⟨r0_0, k0_pay11 (k0_pay5 (View.ld x12 r0_2)) (k0_pay6 (View.ld x13 r0_2)) (k0_pay10 i (View.ld x0 r0_0) (View.ld x1 r0_0) (View.ld x2 r0_1) (View.ld x3 r0_3)) (View.ld x6 r0_5) (View.ld x8 r0_6) (View.ld x9 r0_6)⟩]

/-- Its stores tile the buffer (checked by evaluation), so they cover it. -/
theorem cover0_16 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- What the body leaves in window 17's buffer: its stores, the last first. -/
def out0_17 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x1024 .bf16 :=
  View.canon [⟨r0_0, k0_pay14 (k0_pay8 i (View.ld x0 r0_0) (View.ld x1 r0_0) (View.ld x2 r0_1) (View.ld x12 r0_2) (View.ld x13 r0_2) (View.ld x3 r0_3)) (k0_pay23 i x0 x1 x2 x3 x4 x5 x6 x7 x8 x9 x10 x11 x12 x13) (View.ld x10 r0_0)⟩]

/-- Its stores tile the buffer (checked by evaluation), so they cover it. -/
theorem cover0_17 (p0 : Vec F S256x1024 .bf16) (y : S256x1024.Idx) :
    ∃ pc ∈ ([⟨r0_0, p0⟩] : List (View.Piece (Elt F) S256x1024 .bf16)), y ∈ pc.1.set :=
  View.cover_of_tiled [⟨r0_0, p0⟩] S256x1024.size (by rfl) y

/-- What the body leaves in window 18's buffer: its stores, the last first. -/
def out0_18 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .bf16 :=
  View.canon [⟨r0_9, k0_pay15 (k0_pay23 i x0 x1 x2 x3 x4 x5 x6 x7 x8 x9 x10 x11 x12 x13) (View.ld x11 r0_9)⟩]

/-- Its stores tile the buffer (checked by evaluation), so they cover it. -/
theorem cover0_18 (p0 : Vec F S256x512 .bf16) (y : S256x512.Idx) :
    ∃ pc ∈ ([⟨r0_9, p0⟩] : List (View.Piece (Elt F) S256x512 .bf16)), y ∈ pc.1.set :=
  View.cover_of_tiled [⟨r0_9, p0⟩] S256x512.size (by rfl) y

/-- What the body leaves in window 19's buffer: its stores, the last first. -/
def out0_19 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .bf16 :=
  View.canon [⟨r0_9, k0_pay17 (k0_pay22 i x0 x1 x2 x3 x4 x5 x6 x7 x8 x9 x10 x11 x12 x13) (View.ld x4 r0_10)⟩]

/-- Its stores tile the buffer (checked by evaluation), so they cover it. -/
theorem cover0_19 (p0 : Vec F S256x512 .bf16) (y : S256x512.Idx) :
    ∃ pc ∈ ([⟨r0_9, p0⟩] : List (View.Piece (Elt F) S256x512 .bf16)), y ∈ pc.1.set :=
  View.cover_of_tiled [⟨r0_9, p0⟩] S256x512.size (by rfl) y

/-- What the body leaves in window 20's buffer: its stores, the last first. -/
def out0_20 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .bf16 :=
  View.canon [⟨r0_9, k0_pay20 (k0_pay22 i x0 x1 x2 x3 x4 x5 x6 x7 x8 x9 x10 x11 x12 x13) (View.ld x4 r0_10)⟩]

/-- Its stores tile the buffer (checked by evaluation), so they cover it. -/
theorem cover0_20 (p0 : Vec F S256x512 .bf16) (y : S256x512.Idx) :
    ∃ pc ∈ ([⟨r0_9, p0⟩] : List (View.Piece (Elt F) S256x512 .bf16)), y ∈ pc.1.set :=
  View.cover_of_tiled [⟨r0_9, p0⟩] S256x512.size (by rfl) y

/-- What the body leaves in window 21's buffer: its stores, the last first. -/
def out0_21 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .bf16 :=
  View.canon [⟨r0_9, k0_pay21 (k0_pay22 i x0 x1 x2 x3 x4 x5 x6 x7 x8 x9 x10 x11 x12 x13) (View.ld x4 r0_10)⟩]

/-- Its stores tile the buffer (checked by evaluation), so they cover it. -/
theorem cover0_21 (p0 : Vec F S256x512 .bf16) (y : S256x512.Idx) :
    ∃ pc ∈ ([⟨r0_9, p0⟩] : List (View.Piece (Elt F) S256x512 .bf16)), y ∈ pc.1.set :=
  View.cover_of_tiled [⟨r0_9, p0⟩] S256x512.size (by rfl) y

/-- What the body leaves in window 22's buffer: its stores, the last first. -/
def out0_22 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .f32 :=
  View.canon [⟨r0_9, k0_pay18 (k0_pay22 i x0 x1 x2 x3 x4 x5 x6 x7 x8 x9 x10 x11 x12 x13) (View.ld x4 r0_10)⟩]

/-- Its stores tile the buffer (checked by evaluation), so they cover it. -/
theorem cover0_22 (p0 : Vec F S256x512 .f32) (y : S256x512.Idx) :
    ∃ pc ∈ ([⟨r0_9, p0⟩] : List (View.Piece (Elt F) S256x512 .f32)), y ∈ pc.1.set :=
  View.cover_of_tiled [⟨r0_9, p0⟩] S256x512.size (by rfl) y

/-- What the body leaves in window 23's buffer: its stores, the last first. -/
def out0_23 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x512 .f32 :=
  View.canon [⟨r0_9, k0_pay19 (k0_pay22 i x0 x1 x2 x3 x4 x5 x6 x7 x8 x9 x10 x11 x12 x13) (View.ld x4 r0_10)⟩]

/-- Its stores tile the buffer (checked by evaluation), so they cover it. -/
theorem cover0_23 (p0 : Vec F S256x512 .f32) (y : S256x512.Idx) :
    ∃ pc ∈ ([⟨r0_9, p0⟩] : List (View.Piece (Elt F) S256x512 .f32)), y ∈ pc.1.set :=
  View.cover_of_tiled [⟨r0_9, p0⟩] S256x512.size (by rfl) y

/-- What the body leaves in window 24's buffer: its stores, the last first. -/
def out0_24 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x1024 .f32 :=
  View.canon [⟨r0_0, k0_pay2 (k0_pay22 i x0 x1 x2 x3 x4 x5 x6 x7 x8 x9 x10 x11 x12 x13) (View.ld x5 r0_11)⟩]

/-- Its stores tile the buffer (checked by evaluation), so they cover it. -/
theorem cover0_24 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-- What the body leaves in window 25's buffer: its stores, the last first. -/
def out0_25 (i : grid0.Coords) (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) : Vec F S256x1024 .f32 :=
  View.canon [⟨r0_0, k0_pay3 (k0_pay22 i x0 x1 x2 x3 x4 x5 x6 x7 x8 x9 x10 x11 x12 x13) (View.ld x5 r0_11)⟩]

/-- Its stores tile the buffer (checked by evaluation), so they cover it. -/
theorem cover0_25 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

/-! ## The body's triple -/

set_option maxHeartbeats 1000000 in
/-- The body keeps its inputs' staging buffers and leaves in each output's the contents stated for it. -/
theorem sound_kernel0 (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x896 .bf16) (harg4 : arg4.IsWhole) (arg5 : Memref sig .tc .vmem S1024x1536 .bf16) (harg5 : arg5.IsWhole) (arg6 : Memref sig .tc .vmem S1024x2048 .bf16) (harg6 : arg6.IsWhole) (arg7 : Memref sig .tc .vmem S1x384 .f32) (harg7 : arg7.IsWhole) (arg8 : Memref sig .tc .vmem S1x256 .f32) (harg8 : arg8.IsWhole) (arg9 : Memref sig .tc .vmem S384x1024 .bf16) (harg9 : arg9.IsWhole) (arg10 : Memref sig .tc .vmem S384x1024 .bf16) (harg10 : arg10.IsWhole) (arg11 : Memref sig .tc .vmem S256x1024 .bf16) (harg11 : arg11.IsWhole) (arg12 : Memref sig .tc .vmem S256x512 .bf16) (harg12 : arg12.IsWhole) (arg13 : Memref sig .tc .vmem S256x128 .f32) (harg13 : arg13.IsWhole) (arg14 : Memref sig .tc .vmem S256x128 .f32) (harg14 : arg14.IsWhole) (arg15 : Memref sig .tc .vmem S256x256 .f32) (harg15 : arg15.IsWhole) (arg16 : Memref sig .tc .vmem S256x32 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x512 .bf16) (harg21 : arg21.IsWhole) (arg22 : Memref sig .tc .vmem S256x512 .bf16) (harg22 : arg22.IsWhole) (arg23 : Memref sig .tc .vmem S256x512 .f32) (harg23 : arg23.IsWhole) (arg24 : Memref sig .tc .vmem S256x512 .f32) (harg24 : arg24.IsWhole) (arg25 : Memref sig .tc .vmem S256x1024 .f32) (harg25 : arg25.IsWhole) (arg26 : Memref sig .tc .vmem S256x1024 .f32) (harg26 : arg26.IsWhole)
    (x0 : Vec F S256x1024 .f32) (x1 : Vec F S256x1024 .f32) (x2 : Vec F S1x1024 .f32) (x3 : Vec F S1024x896 .bf16) (x4 : Vec F S1024x1536 .bf16) (x5 : Vec F S1024x2048 .bf16) (x6 : Vec F S1x384 .f32) (x7 : Vec F S1x256 .f32) (x8 : Vec F S384x1024 .bf16) (x9 : Vec F S384x1024 .bf16) (x10 : Vec F S256x1024 .bf16) (x11 : Vec F S256x512 .bf16) (x12 : Vec F S256x128 .f32) (x13 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 i x0 x1 x2 x3 x4 x5 x6 x7 x8 x9 x10 x11 x12 x13) ∗ owns (c : Thread nD τ) arg16 fullShare (out0_15 i x0 x1 x2 x3 x4 x5 x6 x7 x8 x9 x10 x11 x12 x13) ∗ owns (c : Thread nD τ) arg17 fullShare (out0_16 i x0 x1 x2 x3 x4 x5 x6 x7 x8 x9 x10 x11 x12 x13) ∗ owns (c : Thread nD τ) arg18 fullShare (out0_17 i x0 x1 x2 x3 x4 x5 x6 x7 x8 x9 x10 x11 x12 x13) ∗ owns (c : Thread nD τ) arg19 fullShare (out0_18 i x0 x1 x2 x3 x4 x5 x6 x7 x8 x9 x10 x11 x12 x13) ∗ owns (c : Thread nD τ) arg20 fullShare (out0_19 i x0 x1 x2 x3 x4 x5 x6 x7 x8 x9 x10 x11 x12 x13) ∗ owns (c : Thread nD τ) arg21 fullShare (out0_20 i x0 x1 x2 x3 x4 x5 x6 x7 x8 x9 x10 x11 x12 x13) ∗ owns (c : Thread nD τ) arg22 fullShare (out0_21 i x0 x1 x2 x3 x4 x5 x6 x7 x8 x9 x10 x11 x12 x13) ∗ owns (c : Thread nD τ) arg23 fullShare (out0_22 i x0 x1 x2 x3 x4 x5 x6 x7 x8 x9 x10 x11 x12 x13) ∗ owns (c : Thread nD τ) arg24 fullShare (out0_23 i x0 x1 x2 x3 x4 x5 x6 x7 x8 x9 x10 x11 x12 x13) ∗ owns (c : Thread nD τ) arg25 fullShare (out0_24 i x0 x1 x2 x3 x4 x5 x6 x7 x8 x9 x10 x11 x12 x13) ∗ owns (c : Thread nD τ) arg26 fullShare (out0_25 i x0 x1 x2 x3 x4 x5 x6 x7 x8 x9 x10 x11 x12 x13)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_inproj_eq_skeleton]; unfold cc0_inproj_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  iexists _; isplitr
  swap; · iexact H25
  ipureintro
  refine (View.read_writes_eq_canon _ _ _ (cover0_25 _)).trans ?_
  rfl

/-! ## The pipeline's proof data -/

/-- The proof data of pipeline 0 on core `c`: the arrays as the region finds them (`V`); after the body at
    point `t` each input's buffer at its block and each output's at `out0_W` of the input blocks; the invariant the
    class's `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨15, _⟩ => out0_15 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨16, _⟩ => out0_16 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨17, _⟩ => out0_17 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨18, _⟩ => out0_18 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨19, _⟩ => out0_19 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨20, _⟩ => out0_20 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨21, _⟩ => out0_21 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨22, _⟩ => out0_22 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨23, _⟩ => out0_23 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨24, _⟩ => out0_24 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨25, _⟩ => out0_25 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    | ⟨_ + 26, h⟩ => absurd h (Nat.not_lt.2 (Nat.le_add_left _ _))
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = out0_14 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_15 (c : Dev nD) (t : Fin cfg0.N) : (dat0 V c).after 15 t = out0_15 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_16 (c : Dev nD) (t : Fin cfg0.N) : (dat0 V c).after 16 t = out0_16 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_17 (c : Dev nD) (t : Fin cfg0.N) : (dat0 V c).after 17 t = out0_17 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_18 (c : Dev nD) (t : Fin cfg0.N) : (dat0 V c).after 18 t = out0_18 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_19 (c : Dev nD) (t : Fin cfg0.N) : (dat0 V c).after 19 t = out0_19 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_20 (c : Dev nD) (t : Fin cfg0.N) : (dat0 V c).after 20 t = out0_20 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_21 (c : Dev nD) (t : Fin cfg0.N) : (dat0 V c).after 21 t = out0_21 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_22 (c : Dev nD) (t : Fin cfg0.N) : (dat0 V c).after 22 t = out0_22 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_23 (c : Dev nD) (t : Fin cfg0.N) : (dat0 V c).after 23 t = out0_23 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_24 (c : Dev nD) (t : Fin cfg0.N) : (dat0 V c).after 24 t = out0_24 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]
theorem after0_25 (c : Dev nD) (t : Fin cfg0.N) : (dat0 V c).after 25 t = out0_25 (grid0.coords t) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d

/-! ## The body obligation, at a generic point -/

/-- What the body is called with at point `t` `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t))

set_option maxHeartbeats 4000000 in
/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply (sound_kernel0 c Set.univ (grid0.coords t) _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, H13, H14, H15, H16, H17, H18, H19, H20, H21, H22, H23, H24, H25⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iexact H25

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 4000000 in
/-- The body obligation, at every point: the body's triple restated `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_band_sample` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, whether or not it was fetched there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, whether or not it was fetched there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, whether or not it was fetched there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, whether or not it was fetched there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, whether or not it was fetched there. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, whether or not it was fetched there. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 9, through which its contents are stated (`View.read_writes_of_cover`: the
    choice does not matter). -/
abbrev VO1_9 : View sig .tc .vmem S32x512 .bf16 := (Memref.whole cc1_stg9_0 : Memref sig .tc .vmem S32x512 .bf16).view
/-- One staging buffer of output window 10, through which its contents are stated (`View.read_writes_of_cover`: the
    choice does not matter). -/
abbrev VO1_10 : View sig .tc .vmem S1x512x512 .f32 := (Memref.whole cc1_stg10_0 : Memref sig .tc .vmem S1x512x512 .f32).view
/-- One staging buffer of output window 11, through which its contents are stated (`View.read_writes_of_cover`: the
    choice does not matter). -/
abbrev VO1_11 : View sig .tc .vmem S1x512x512 .f32 := (Memref.whole cc1_stg11_0 : Memref sig .tc .vmem S1x512x512 .f32).view
/-- Each window's current staging memref at point `t`, spelled as the pipeline passes it (`bodyAt1`), and its wholeness. -/
abbrev ms1_0 (t : Fin cfg1.N) : Memref sig .tc .vmem S32x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S32x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S32x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x32x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x32x32 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S32x512 .bf16 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x512x512 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x512x512 .f32 := win1_11.stage (cfg1.slots t 11)
abbrev hs1_11 (t : Fin cfg1.N) : (ms1_11 t).IsWhole := hstage1_11 ((cfg1.slots t 11).cast nbuf1_11)

-- (the run's proof term is large: the definition's epilogue — `abstractNestedProofs` — walks it past the default budget)
set_option maxHeartbeats 1000000 in
/-- The pieces that the body's stores leave in each output's staging buffer, with the proof that the body leaves them and keeps its inputs. -/
noncomputable def kernelRun1_A (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) :
    Σ' (L9 : List (View.Piece (Elt F) S32x512 .bf16)), Σ' (L10 : List (View.Piece (Elt F) S1x512x512 .f32)), { L11 : List (View.Piece (Elt F) S1x512x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc1_band_sample i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc1_band_sample_eq_skeleton]; unfold cc1_band_sample_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

/-- The run's pieces for output 9 tile its block (1 store of `S32x512`, checked by the kernel's evaluation: `Piece.tiledL`, linear in the pieces, through a loop's `@[irreducible]` trip theorem too), so they cover it. -/
theorem cover1_A_9 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) (y : S32x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1, y ∈ pc.1.set :=
  View.cover_of_tiledL (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1 S32x512.size (by sl_kernel_rfl) y

/-- What the run leaves in output 9's staging buffer: its pieces read back over junk. -/
def out1_A_9 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) : Vec F S32x512 .bf16 :=
  VO1_9.read (Elt F) (VO1_9.writes (Elt F) VO1_9.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1)

/-- The run's pieces for output 10 are of SEVERAL sizes (2 stores of `S1x32x512`, `S1x480x512`): cut into blocks of `![1, 32, 512]` they tile its block (checked by the kernel's evaluation: `Piece.tiledBy`), so they cover it. -/
theorem cover1_A_10 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) (y : S1x512x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1 ![1, 32, 512] (by sl_kernel_rfl) y

/-- What the run leaves in output 10's staging buffer: its pieces read back over junk. -/
def out1_A_10 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) : Vec F S1x512x512 .f32 :=
  VO1_10.read (Elt F) (VO1_10.writes (Elt F) VO1_10.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1)

/-- The run's pieces for output 11 are of SEVERAL sizes (2 stores of `S1x32x512`, `S1x480x512`): cut into blocks of `![1, 32, 512]` they tile its block (checked by the kernel's evaluation: `Piece.tiledBy`), so they cover it. -/
theorem cover1_A_11 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) (y : S1x512x512.Idx) :
    ∃ pc ∈ (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.2.1, y ∈ pc.1.set :=
  View.cover_of_tiledBy (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.2.1 ![1, 32, 512] (by sl_kernel_rfl) y

/-- What the run leaves in output 11's staging buffer: its pieces read back over junk. -/
def out1_A_11 (c : Dev nD) (i : grid1.Coords) (arg1 : Memref sig .tc .vmem S32x512 .bf16) (harg1 : arg1.IsWhole) (arg2 : Memref sig .tc .vmem S1x512x512 .f32) (harg2 : arg2.IsWhole) (arg3 : Memref sig .tc .vmem S1x512x512 .f32) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x512 .f32) (harg6 : arg6.IsWhole) (arg7 : Memref sig .tc .vmem S32x512 .f32) (harg7 : arg7.IsWhole) (arg8 : Memref sig .tc .vmem S8x32x512 .f32) (harg8 : arg8.IsWhole) (arg9 : Memref sig .tc .vmem S8x32x32 .f32) (harg9 : arg9.IsWhole) (arg10 : Memref sig .tc .vmem S32x512 .bf16) (harg10 : arg10.IsWhole) (arg11 : Memref sig .tc .vmem S1x512x512 .f32) (harg11 : arg11.IsWhole) (arg12 : Memref sig .tc .vmem S1x512x512 .f32) (harg12 : arg12.IsWhole)
    (x0 : Vec F S32x512 .bf16) (x1 : Vec F S1x512x512 .f32) (x2 : Vec F S1x512x512 .f32) (x3 : Vec F S32x512 .bf16) (x4 : Vec F S32x512 .bf16) (x5 : Vec F S32x512 .f32) (x6 : Vec F S32x512 .f32) (x7 : Vec F S8x32x512 .f32) (x8 : Vec F S8x32x32 .f32) : Vec F S1x512x512 .f32 :=
  VO1_11.read (Elt F) (VO1_11.writes (Elt F) VO1_11.junk (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.2.1)

/-! ## What the outputs hold after each point -/

/-- What the outputs' staging buffers hold after the body at point `t` (as a tuple, in window order): the run's contents at
    the point's memrefs and input blocks. -/
def outsAt1 (c : Dev nD) (t : Fin cfg1.N) : Vec F S32x512 .bf16 × Vec F S1x512x512 .f32 × Vec F S1x512x512 .f32 :=
  (out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t), out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t), out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (iblk1 V c 0 t) (iblk1 V c 1 t) (iblk1 V c 2 t) (iblk1 V c 3 t) (iblk1 V c 4 t) (iblk1 V c 5 t) (iblk1 V c 6 t) (iblk1 V c 7 t) (iblk1 V c 8 t))

/-! ## The pipeline's proof data -/

/-- The proof data of pipeline 1 on core `c`: the arrays as the region finds them (`V`); after the body at
    point `t` each input's buffer at its block and the outputs' at `outsAt1`; the invariant the class's `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t).1
    | ⟨10, _⟩ => (outsAt1 V c t).2.1
    | ⟨11, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t).1 := by dsimp only [dat1]
theorem after1_10 (c : Dev nD) (t : Fin cfg1.N) : (dat1 V c).after 10 t = (outsAt1 V c t).2.1 := by dsimp only [dat1]
theorem after1_11 (c : Dev nD) (t : Fin cfg1.N) : (dat1 V c).after 11 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 1200000 in
/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  unfold outsAt1
  unfold out1_A_9 out1_A_10 out1_A_11; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun1_A c (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover1_A_10 c _ _ _ _ _ _ _ _ _ _ _ _ _ _ _ _ _ _ _ _ _ _ _ _ _ _ _ _ _ _ _ _ _ _)
  unfold owns; iexists _; isplitr
  swap; · iexact H11
  ipureintro; exact View.read_writes_of_cover _ _ _ _ _ (cover1_A_11 c _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11]

/-! ## The host stretches: none allocates a buffer, and each lists the references its operations write, in order,
    so that a reference absent from the list keeps its contents across the stretch
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_c, main_c_1, main_v0, main_v1, main_cst_2, main_v2, main_cst_3, main_v3, main_v4, main_v5, main_v6, main_v7, main_v8, main_v9, main_v10, main_v11, main_v12, main_v13, main_v14, main_v15, main_v16, main_cst_4, main_v17, main_cst_5, main_v18, main_v19, main_v20, main_v21, main_v22, main_v23, main_v24, main_v25, main_v26, main_v27, main_v28, main_v29, main_v30, main_cst_6, main_v31, main_v32, main_v33, main_v34, main_v35, main_v36, main_v37, main_v38, main_v39, main_v40, main_v41, main_v42, main_v43, main_v44, main_cst_7, main_v45, main_cst_8, main_v46, main_v47, main_cst_9, main_v48, main_v49, main_v50, main_v51, main_v52, main_v53, main_v54, main_v55, main_v56, main_v57]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v59, main_c_10, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v139, main_v140, main_v141, main_v142, main_v143, main_v144, main_v145, main_v146, main_v147, main_v148, main_v149, main_v150, main_v151, main_v152, main_v153, main_v154, main_v155, main_v156]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)
theorem W5_main_arg9 (c : Dev nD) : W5 m ρ c (Proc.devRef .tc main_arg9) = m ((c : Thread nD τ).loc main_arg9) :=
  W5_args m ρ c main_arg9 (by decide)
theorem W5_main_arg10 (c : Dev nD) : W5 m ρ c (Proc.devRef .tc main_arg10) = m ((c : Thread nD τ).loc main_arg10) :=
  W5_args m ρ c main_arg10 (by decide)
theorem W5_main_arg11 (c : Dev nD) : W5 m ρ c (Proc.devRef .tc main_arg11) = m ((c : Thread nD τ).loc main_arg11) :=
  W5_args m ρ c main_arg11 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 takes the unscoped buffers from its entry contents to its exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 takes the unscoped buffers from its entry contents to its exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- From any memory with zero counters every weakly fair execution terminates, nothing faulting, with every unscoped buffer at `W5` and
    every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ ⟨h, hz⟩ => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩), hz⟩) (run m ρ)

end Cert.LayerIdeal.Run

end
-- ==== Proof.Rows.lean ====
/- One row of the layer's input projection over the extended reals: the normalized frame, its products with the weights, the rotation
   by position, and what of it the two attentions read. Every vector is a function of the lane's number. -/
module

public import Idealize.ShloMosaic.PureOps.Ideal.Laws
public import Idealize.ShloMosaic.Lib.Pointwise

@[expose] public section

noncomputable section

namespace Mixer

open Idealize.ShloMosaic

/-- What the layer adds to a mean square before the root. -/
def eps : EReal := Ideal.ofBits .f32 0x358637BD#32

/-- A row of `n` lanes over the root of its mean square (`N` is `n` as a number), times a gain. -/
def norm (n : ℕ) (N : EReal) (u g : ℕ → EReal) (j : ℕ) : EReal :=
  u j * Ideal.rsqrt (Ideal.div (∑ i ∈ Finset.range n, u i * u i) N + eps) * g j

/-- A row of `n` lanes times column `c` of a matrix. -/
def dot (n : ℕ) (u : ℕ → EReal) (w : ℕ → ℕ → EReal) (c : ℕ) : EReal := ∑ k ∈ Finset.range n, u k * w k c

/-- The rotation of 32 lanes, lane `i` with lane `i + 16` by the angle of number `i`, given the cosines and the sines. -/
def rope (u c s : ℕ → EReal) (d : ℕ) : EReal :=
  if d < 16 then u d * c d - u (d + 16) * s d else u (d - 16) * s (d - 16) + u d * c (d - 16)

/-- The arguments that the rows are made from, as functions of the numbers of their axes: `x` is the frames of both groups one after the other. -/
structure Args where
  x : ℕ → ℕ → EReal
  gm : ℕ → EReal
  w : ℕ → ℕ → EReal
  gq : ℕ → EReal
  gkv : ℕ → EReal
  wuq : ℕ → ℕ → EReal
  wuk : ℕ → ℕ → ℕ → EReal
  wuv : ℕ → ℕ → ℕ → EReal

/-- The position of frame `t` in its stream: 32768 frames of new streams of 2048, then streams of 32 that follow 4096 frames. -/
def pos (t : ℕ) : ℕ := if t < 32768 then t % 2048 else 4096 + (t - 32768) % 32

/-- The bits of the 16 frequencies of the rotation. -/
def freqBits : List (BitVec 32) :=
  [0x3F800000#32, 0x3F0FF59A#32, 0x3EA1E89B#32, 0x3E361887#32, 0x3DCCCCCD#32, 0x3D6655C3#32, 0x3D0186E2#32, 0x3C91AD39#32,
    0x3C23D70A#32, 0x3BB8449C#32, 0x3B4F3E37#32, 0x3AE91528#32, 0x3A83126F#32, 0x3A136A16#32, 0x39A5CB5F#32, 0x393A7753#32]

/-- Frequency `i` of the rotation. -/
def freq (i : ℕ) : EReal := Ideal.ofBits .f32 (freqBits.getD i 0#32)

/-- The angle of number `i` at position `p`. -/
def angle (p : ℕ) (i : ℕ) : EReal := ((p : ℝ) : EReal) * freq i

/-- Its cosine. -/
def cosAt (p : ℕ) (i : ℕ) : EReal := Ideal.cos (angle p i)

/-- Its sine. -/
def sinAt (p : ℕ) (i : ℕ) : EReal := Ideal.sin (angle p i)

namespace Args
variable (A : Args)

/-- The normalized frame. -/
def hid (t : ℕ) : ℕ → EReal := norm 1024 (Ideal.ofBits .f32 0x44800000#32) (A.x t) A.gm

/-- Its product with the input projection's column `c`. -/
def proj (t : ℕ) : ℕ → EReal := dot 1024 (A.hid t) A.w

/-- The normalized latent of the keys and values. -/
def lat (t : ℕ) : ℕ → EReal := norm 256 (Ideal.ofBits .f32 0x43800000#32) (fun j => A.proj t (384 + j)) A.gkv

/-- The rotated key that the heads share. -/
def krope (t : ℕ) : ℕ → EReal := rope (fun d => A.proj t (640 + d)) (cosAt (pos t)) (sinAt (pos t))

/-- The normalized latent of the queries. -/
def qlat (t : ℕ) : ℕ → EReal := norm 384 (Ideal.ofBits .f32 0x43C00000#32) (A.proj t) A.gq

/-- The queries before the rotation, 96 lanes to a head. -/
def qraw (t : ℕ) : ℕ → EReal := dot 384 (A.qlat t) A.wuq

/-- The queries, 128 lanes to a head: 64 plain, 32 rotated, 32 of zeros. -/
def query (t l : ℕ) : EReal :=
  if l % 128 < 64 then A.qraw t (96 * (l / 128) + l % 128)
  else if l % 128 < 96 then rope (fun d => A.qraw t (96 * (l / 128) + 64 + d)) (cosAt (pos t)) (sinAt (pos t)) (l % 128 - 64)
  else 0

/-- The keys, 128 lanes to a head: 64 from the latent, 32 rotated, 32 of zeros. -/
def key (t l : ℕ) : EReal :=
  if l % 128 < 64 then dot 256 (A.lat t) (fun c n => A.wuk c (l / 128) n) (l % 128)
  else if l % 128 < 96 then A.krope t (l % 128 - 64)
  else 0

/-- The values, 64 lanes to a head. -/
def value (t l : ℕ) : EReal := dot 256 (A.lat t) (fun c v => A.wuv c (l / 64) v) (l % 64)

end Args

/-! ## Arrays read at numbers -/

/-- A matrix at two numbers, 0 outside it. -/
def get2 {a b : ℕ} (f : (⟨2, ![a, b]⟩ : Shape).Idx → EReal) (i j : ℕ) : EReal :=
  if h : i < a ∧ j < b then f (ix2 ⟨i, h.1⟩ ⟨j, h.2⟩) else 0

/-- An array of three axes at three numbers, 0 outside it. -/
def get3 {a b c : ℕ} (f : (⟨3, ![a, b, c]⟩ : Shape).Idx → EReal) (i j k : ℕ) : EReal :=
  if h : i < a ∧ j < b ∧ k < c then f (ix3 ⟨i, h.1⟩ ⟨j, h.2.1⟩ ⟨k, h.2.2⟩) else 0

/-- An array of four axes at four numbers, 0 outside it. -/
def get4 {a b c d : ℕ} (f : (⟨4, ![a, b, c, d]⟩ : Shape).Idx → EReal) (i j k l : ℕ) : EReal :=
  if h : i < a ∧ j < b ∧ k < c ∧ l < d then f (ix4 ⟨i, h.1⟩ ⟨j, h.2.1⟩ ⟨k, h.2.2.1⟩ ⟨l, h.2.2.2⟩) else 0

/-- An array of five axes at five numbers, 0 outside it. -/
def get5 {a b c d e : ℕ} (f : (⟨5, ![a, b, c, d, e]⟩ : Shape).Idx → EReal) (i j k l n : ℕ) : EReal :=
  if h : i < a ∧ j < b ∧ k < c ∧ l < d ∧ n < e then f (ix5 ⟨i, h.1⟩ ⟨j, h.2.1⟩ ⟨k, h.2.2.1⟩ ⟨l, h.2.2.2.1⟩ ⟨n, h.2.2.2.2⟩) else 0

/-- A matrix's element is what stands at its numbers. -/
theorem elem2 {a b : ℕ} (f : (⟨2, ![a, b]⟩ : Shape).Idx → EReal) (p : Fin a) (q : Fin b) {i j : ℕ} (hi : p.val = i) (hj : q.val = j) :
    f (ix2 p q) = get2 f i j := by
  subst hi hj; unfold get2; rw [dif_pos ⟨p.isLt, q.isLt⟩]

/-- The same with three axes. -/
theorem elem3 {a b c : ℕ} (f : (⟨3, ![a, b, c]⟩ : Shape).Idx → EReal) (p : Fin a) (q : Fin b) (r : Fin c) {i j k : ℕ}
    (hi : p.val = i) (hj : q.val = j) (hk : r.val = k) : f (ix3 p q r) = get3 f i j k := by
  subst hi hj hk; unfold get3; rw [dif_pos ⟨p.isLt, q.isLt, r.isLt⟩]

/-- The same with four axes. -/
theorem elem4 {a b c d : ℕ} (f : (⟨4, ![a, b, c, d]⟩ : Shape).Idx → EReal) (p : Fin a) (q : Fin b) (r : Fin c) (s : Fin d) {i j k l : ℕ}
    (hi : p.val = i) (hj : q.val = j) (hk : r.val = k) (hl : s.val = l) : f (ix4 p q r s) = get4 f i j k l := by
  subst hi hj hk hl; unfold get4; rw [dif_pos ⟨p.isLt, q.isLt, r.isLt, s.isLt⟩]

/-- The same with five axes. -/
theorem elem5 {a b c d e : ℕ} (f : (⟨5, ![a, b, c, d, e]⟩ : Shape).Idx → EReal) (p : Fin a) (q : Fin b) (r : Fin c) (s : Fin d) (u : Fin e)
    {i j k l n : ℕ} (hi : p.val = i) (hj : q.val = j) (hk : r.val = k) (hl : s.val = l) (hn : u.val = n) :
    f (ix5 p q r s u) = get5 f i j k l n := by
  subst hi hj hk hl hn; unfold get5; rw [dif_pos ⟨p.isLt, q.isLt, r.isLt, s.isLt, u.isLt⟩]

/-- The rows' arguments out of the layer's arrays. -/
def args (x0 : (⟨3, ![16, 2048, 1024]⟩ : Shape).Idx → EReal) (x1 : (⟨3, ![32, 32, 1024]⟩ : Shape).Idx → EReal)
    (x4 : (⟨2, ![1, 1024]⟩ : Shape).Idx → EReal) (x5 : (⟨3, ![1, 1024, 4256]⟩ : Shape).Idx → EReal)
    (x6 : (⟨2, ![1, 384]⟩ : Shape).Idx → EReal) (x7 : (⟨2, ![1, 256]⟩ : Shape).Idx → EReal) (x8 : (⟨3, ![1, 384, 768]⟩ : Shape).Idx → EReal)
    (x9 x10 : (⟨4, ![1, 256, 8, 64]⟩ : Shape).Idx → EReal) : Args where
  x t j := if t < 32768 then get3 x0 (t / 2048) (t % 2048) j else get3 x1 ((t - 32768) / 32) ((t - 32768) % 32) j
  gm := get2 x4 0
  w := get3 x5 0
  gq := get2 x6 0
  gkv := get2 x7 0
  wuq := get3 x8 0
  wuk := get4 x9 0
  wuv := get4 x10 0

/-! ## Congruence and reality -/

/-- Rows that agree on their lanes have the same normalization. -/
theorem norm_congr {n : ℕ} {N : EReal} {u u' g g' : ℕ → EReal} (hu : ∀ j, j < n → u j = u' j) {j : ℕ} (hj : j < n) (hg : g j = g' j) :
    norm n N u g j = norm n N u' g' j := by
  unfold norm
  rw [hu j hj, hg, Finset.sum_congr rfl fun i hi => by rw [hu i (Finset.mem_range.mp hi)]]

/-- A product of rows and columns that agree. -/
theorem dot_congr {n : ℕ} {u u' : ℕ → EReal} {w w' : ℕ → ℕ → EReal} {c c' : ℕ} (hu : ∀ j, j < n → u j = u' j) (hw : ∀ j, j < n → w j c = w' j c') :
    dot n u w c = dot n u' w' c' :=
  Finset.sum_congr rfl fun k hk => by rw [hu k (Finset.mem_range.mp hk), hw k (Finset.mem_range.mp hk)]

/-- Against a column of zeros a row's product is 0. -/
theorem dot_zero {n : ℕ} {u : ℕ → EReal} {w : ℕ → ℕ → EReal} {c : ℕ} (hw : ∀ j, j < n → w j c = 0) : dot n u w c = 0 :=
  Finset.sum_eq_zero fun k hk => by rw [hw k (Finset.mem_range.mp hk), mul_zero]

/-- The first `n` entries are finite numbers. -/
def Fine (n : ℕ) (u : ℕ → EReal) : Prop := ∀ j, j < n → ∃ r : ℝ, u j = (r : EReal)

/-- A sum of finite numbers is the number that the sum of the reals is. -/
theorem coe_sum (n : ℕ) (f : ℕ → ℝ) : ((∑ k ∈ Finset.range n, f k : ℝ) : EReal) = ∑ k ∈ Finset.range n, (f k : EReal) := by
  induction n with
  | zero => simp
  | succ n ih => rw [Finset.sum_range_succ, Finset.sum_range_succ, EReal.coe_add, ih]

/-- A product of finite rows is finite. -/
theorem dot_fine {n : ℕ} {u : ℕ → EReal} {w : ℕ → ℕ → EReal} {c : ℕ} (hu : Fine n u) (hw : Fine n fun k => w k c) : ∃ r : ℝ, dot n u w c = (r : EReal) := by
  choose! a ha using hu
  choose! b hb using hw
  replace hb : ∀ k, k < n → w k c = (b k : EReal) := hb
  refine ⟨∑ k ∈ Finset.range n, a k * b k, ?_⟩
  rw [coe_sum]
  exact Finset.sum_congr rfl fun k hk => by rw [ha k (Finset.mem_range.mp hk), hb k (Finset.mem_range.mp hk), EReal.coe_mul]

/-- Against the negated column of a finite matrix, the product of a finite row is negated. -/
theorem dot_neg {n : ℕ} {u : ℕ → EReal} {w w' : ℕ → ℕ → EReal} {c c' : ℕ} (hu : Fine n u) (hw : Fine n fun k => w k c)
    (hn : ∀ k, k < n → w' k c' = -w k c) : dot n u w' c' = -dot n u w c := by
  choose! a ha using hu
  choose! b hb using hw
  replace hb : ∀ k, k < n → w k c = (b k : EReal) := hb
  have h : dot n u w c = ((∑ k ∈ Finset.range n, a k * b k : ℝ) : EReal) := by
    rw [coe_sum]
    exact Finset.sum_congr rfl fun k hk => by rw [ha k (Finset.mem_range.mp hk), hb k (Finset.mem_range.mp hk), EReal.coe_mul]
  have h' : dot n u w' c' = ((∑ k ∈ Finset.range n, a k * -b k : ℝ) : EReal) := by
    rw [coe_sum]
    exact Finset.sum_congr rfl fun k hk => by
      rw [hn k (Finset.mem_range.mp hk), ha k (Finset.mem_range.mp hk), hb k (Finset.mem_range.mp hk), EReal.coe_mul, EReal.coe_neg]
  rw [h, h', ← EReal.coe_neg]
  simp [Finset.sum_neg_distrib]

/-- What is added to a mean square is a positive number. -/
theorem eps_pos : ∃ e : ℝ, 0 < e ∧ eps = (e : EReal) := by
  refine ⟨_, ?_, by simp only [eps, Ideal.ofBits, Ideal.ieee]; simp; rfl⟩
  norm_num

/-- The normalization of a finite row by a finite gain is finite, `N` being a positive number. -/
theorem norm_fine {n : ℕ} {N : EReal} {u g : ℕ → EReal} (hN : ∃ r : ℝ, 0 < r ∧ N = (r : EReal)) (hu : Fine n u) (hg : Fine n g) :
    Fine n (norm n N u g) := by
  intro j hj
  obtain ⟨e, he, hE⟩ := eps_pos
  obtain ⟨r, hr, hR⟩ := hN
  choose! a ha using hu
  obtain ⟨b, hb⟩ := hg j hj
  have hs : ∑ i ∈ Finset.range n, u i * u i = ((∑ i ∈ Finset.range n, a i * a i : ℝ) : EReal) := by
    rw [coe_sum]
    exact Finset.sum_congr rfl fun k hk => by rw [ha k (Finset.mem_range.mp hk), EReal.coe_mul]
  have h0 : 0 ≤ ∑ i ∈ Finset.range n, a i * a i := Finset.sum_nonneg fun i _ => mul_self_nonneg _
  have hd : Ideal.div (∑ i ∈ Finset.range n, u i * u i) N + eps = (((∑ i ∈ Finset.range n, a i * a i) * r⁻¹ + e : ℝ) : EReal) := by
    unfold Ideal.div
    rw [hs, hR, hE, if_neg (by exact_mod_cast hr.ne'), ← EReal.coe_inv, ← EReal.coe_mul, ← EReal.coe_add]
  have hp : 0 < (∑ i ∈ Finset.range n, a i * a i) * r⁻¹ + e := by positivity
  refine ⟨a j * (Real.sqrt ((∑ i ∈ Finset.range n, a i * a i) * r⁻¹ + e))⁻¹ * b, ?_⟩
  unfold norm
  rw [hd, ha j hj, hb]
  show _ * (if _ then _ else if _ then _ else _) * _ = _
  rw [if_neg (not_lt.mpr hp.le), if_neg hp.ne', EReal.coe_mul, EReal.coe_mul]

end Mixer

end
-- ==== Proof.Host.lean ====
/- What the host prepares for the input projection, element by element: the weights cut, padded and negated as the kernel takes them, and
   the tables of cosines and sines. -/
module

public import proofs.«01_k».proof.LayerIdeal
public import proofs.«01_k».proof.Proof.Gen.LayerIdeal.Launch
public import proofs.«01_k».proof.Proof.Rows
public import Idealize.ShloMosaic.Lib.StableHlo.ReadAt
public import Idealize.ShloMosaic.Lib.Pointwise

@[expose] public section

set_option maxRecDepth 16384

noncomputable section

namespace Mixer

open Idealize.ShloMosaic Cert.LayerIdeal Cert.LayerIdeal.Gen

attribute [local instance] Cert.LayerIdeal.Gen.facts

/-- The weight of the first product: the latents' columns, then the rotary key's columns at lanes 64 … 95 of one register row, and its
    columns rotated (the upper half negated, then the lower) at the same lanes of the next. -/
def cols1 (w : ℕ → ℕ → EReal) (k l : ℕ) : EReal :=
  if l < 640 then w k l else if l < 704 then 0 else if l < 736 then w k (640 + (l - 704)) else if l < 832 then 0
  else if l < 848 then -w k (656 + (l - 832)) else if l < 864 then w k (640 + (l - 848)) else 0

/-- The weight of the queries, each head's 96 columns padded to 128. -/
def colsQ (w : ℕ → ℕ → EReal) (k l : ℕ) : EReal := if l % 128 < 96 then w k (96 * (l / 128) + l % 128) else 0

/-- The weight of the rotated queries: each head's rotary columns, the upper half negated, then the lower. -/
def colsR (w : ℕ → ℕ → EReal) (k l : ℕ) : EReal :=
  if l % 128 < 64 then 0 else if l % 128 < 80 then -w k (96 * (l / 128) + 80 + (l % 128 - 64))
  else if l % 128 < 96 then w k (96 * (l / 128) + 64 + (l % 128 - 80)) else 0

/-- The weight of the keys, each head's 64 columns padded to 128. -/
def colsK (w : ℕ → ℕ → ℕ → EReal) (k l : ℕ) : EReal := if l % 128 < 64 then w k (l / 128) (l % 128) else 0

/-- The position in row `p` of the rotation's tables. -/
def tabPos (p : ℕ) : ℕ := if p < 2048 then p else 4096 + (p - 2048) % 32

/-- One row of a rotation table: `a` on the first 64 lanes, the 16 values twice, then zeros. -/
def table (a : EReal) (f : ℕ → EReal) (l : ℕ) : EReal :=
  if l < 64 then a else if l < 80 then f (l - 64) else if l < 96 then f (l - 80) else 0

variable (V : Valuation τ sig (Elt Ideal))

/-- The rows' arguments as the host's valuation holds them. -/
def hargs : Args :=
  args (V (Proc.devRef .tc main_arg0)) (V (Proc.devRef .tc main_arg1)) (V (Proc.devRef .tc main_arg4)) (V (Proc.devRef .tc main_arg5))
    (V (Proc.devRef .tc main_arg6)) (V (Proc.devRef .tc main_arg7)) (V (Proc.devRef .tc main_arg8)) (V (Proc.devRef .tc main_arg9))
    (V (Proc.devRef .tc main_arg10))

/-- Bits of a natural number: no sign, and the significand is the number shifted. -/
def IsNat (b : BitVec 32) (n : ℕ) : Prop :=
  (b = 0#32 ∧ n = 0) ∨ ((b.extractLsb' 31 1 == 1#1) = false ∧ (b.extractLsb' 23 8).toNat ≠ 0 ∧ (b.extractLsb' 23 8).toNat ≤ 150
    ∧ 2 ^ 23 + (b.extractLsb' 0 23).toNat = n * 2 ^ (150 - (b.extractLsb' 23 8).toNat))

instance (b : BitVec 32) (n : ℕ) : Decidable (IsNat b n) := by unfold IsNat; infer_instance

/-- Such bits are the number. -/
theorem ofBits_nat {b : BitVec 32} {n : ℕ} (h : IsNat b n) : Ideal.ofBits .f32 b = ((n : ℝ) : EReal) := by
  rcases h with ⟨rfl, rfl⟩ | ⟨hs, h0, h1, h2⟩
  · simp [Ideal.ofBits, Ideal.ieee]
  · show Ideal.ieee 8 23 b = _
    unfold Ideal.ieee
    simp only [hs, show (8 + 23 : ℕ) = 31 from rfl]
    rw [if_neg (by omega), if_neg h0, h2]
    congr 1
    simp only [Bool.false_eq_true, if_false, one_mul]
    generalize (b.extractLsb' 23 8).toNat = e at *
    push_cast
    rw [mul_assoc, ← zpow_natCast, ← zpow_add₀ (by norm_num : (2 : ℝ) ≠ 0)]
    rw [show (((150 - e : ℕ) : ℤ) + ((e : ℤ) - 127 - 23)) = 0 by push_cast [h1]; ring]
    simp

/-- The positions of the rotation's tables, as numbers. -/
theorem tab_bits : ∀ p : Fin 2304, IsNat (lit0 p) (tabPos p) := by decide +kernel

/-- The frequencies of the rotation's tables. -/
theorem freq_bits : ∀ i : Fin 16, lit1 i = freqBits.getD i 0#32 := by decide

/-- The tables' angles. -/
theorem table_angle (p : Fin 2304) (i : Fin 16) :
    Ideal.ofBits .f32 (lit0 (S2304.rowMajor (ix1 p))) * Ideal.ofBits .f32 (lit1 (S16.rowMajor (ix1 i))) = angle (tabPos p) i := by
  have hp : S2304.rowMajor (ix1 p) = p := Fin.ext ((by decide +kernel : ∀ p : Fin 2304, (S2304.rowMajor (ix1 p)).val = p.val) p)
  have hi : S16.rowMajor (ix1 i) = i := Fin.ext ((by decide +kernel : ∀ i : Fin 16, (S16.rowMajor (ix1 i)).val = i.val) i)
  rw [hp, hi, ofBits_nat (tab_bits p), freq_bits]
  rfl

set_option maxHeartbeats 2000000 in
/-- The first product's weight. -/
theorem w1_at (k : Fin 1024) (l : Fin 896) :
    StableHlo.after hostOps0 V (Proc.devRef .tc main_v10) (ix2 k l) = cols1 (hargs V).w k l := by
  after_reads_at
  unfold cols1
  by_cases h0 : l.val < 640
  · rw [dif_pos h0, if_pos h0]
    after_reads_at
    exact elem3 _ _ _ _ (by simp) (by simp) (by simp)
  rw [dif_neg h0, if_neg h0]
  by_cases h1 : l.val < 704
  · rw [dif_pos (by omega), if_pos h1]
    after_reads_at
  rw [dif_neg (by omega), if_neg h1]
  by_cases h2 : l.val < 736
  · rw [dif_pos (by omega), if_pos h2]
    after_reads_at
    exact elem3 _ _ _ _ (by simp) (by simp) (by simp; omega)
  rw [dif_neg (by omega), if_neg h2]
  by_cases h3 : l.val < 832
  · rw [if_pos h3]
    by_cases h : l.val < 768
    · rw [dif_pos (by omega)]
      after_reads_at
    · rw [dif_neg (by omega), dif_pos (by omega)]
      after_reads_at
  rw [dif_neg (by omega), dif_neg (by omega), if_neg h3]
  by_cases h4 : l.val < 864
  · rw [dif_pos (by omega), if_pos h4]
    after_reads_at
    by_cases h5 : l.val < 848
    · rw [if_pos h5, dif_pos (show l.val - 640 - 64 - 32 - 32 - 64 < 16 by omega)]
      exact congrArg Neg.neg (elem3 _ _ _ _ (by simp) (by simp) (by simp; omega))
    · rw [if_neg h5, dif_neg (show ¬ l.val - 640 - 64 - 32 - 32 - 64 < 16 by omega)]
      exact elem3 _ _ _ _ (by simp) (by simp) (by simp; omega)
  · rw [dif_neg (by omega), if_neg (show ¬ l.val < 848 by omega), if_neg h4]
    after_reads_at

/-- The second product's weight. -/
theorem w2_at (k : Fin 1024) (l : Fin 1536) :
    StableHlo.after hostOps0 V (Proc.devRef .tc main_v12) (ix2 k l) = (hargs V).w k (672 + l) := by
  after_reads_at
  exact elem3 _ _ _ _ (by simp) (by simp) (by simp)

/-- The gates' weight. -/
theorem w3_at (k : Fin 1024) (l : Fin 2048) :
    StableHlo.after hostOps0 V (Proc.devRef .tc main_v14) (ix2 k l) = (hargs V).w k (2208 + l) := by
  after_reads_at
  exact elem3 _ _ _ _ (by simp) (by simp) (by simp)

/-- The queries' weight. -/
theorem wuq1_at (k : Fin 384) (l : Fin 1024) :
    StableHlo.after hostOps0 V (Proc.devRef .tc main_v21) (ix2 k l) = colsQ (hargs V).wuq k l := by
  after_reads_at
  unfold colsQ
  by_cases h : l.val % 128 < 96
  · rw [dif_pos h, if_pos h]
    after_reads_at
    exact elem3 _ _ _ _ (by simp) (by simp) (by simp; omega)
  · rw [dif_neg h, if_neg h]
    after_reads_at

/-- The rotated queries' weight at the plain lanes. -/
theorem colsR_plain (w : ℕ → ℕ → EReal) (k : ℕ) {l : ℕ} (h : l % 128 < 64 ∨ 96 ≤ l % 128) : colsR w k l = 0 := by
  unfold colsR; split_ifs <;> first | rfl | omega

/-- The rotated queries' weight at the lower half of the rotary lanes. -/
theorem colsR_low (w : ℕ → ℕ → EReal) (k : ℕ) {l : ℕ} (h : 64 ≤ l % 128) (h' : l % 128 < 80) :
    colsR w k l = -w k (96 * (l / 128) + 80 + (l % 128 - 64)) := by
  unfold colsR; rw [if_neg (by omega), if_pos h']

/-- The rotated queries' weight at the upper half of the rotary lanes. -/
theorem colsR_high (w : ℕ → ℕ → EReal) (k : ℕ) {l : ℕ} (h : 80 ≤ l % 128) (h' : l % 128 < 96) :
    colsR w k l = w k (96 * (l / 128) + 64 + (l % 128 - 80)) := by
  unfold colsR; rw [if_neg (by omega), if_neg (by omega), if_pos h']

set_option maxHeartbeats 1000000 in
/-- The rotated queries' weight. -/
theorem wuq2_at (k : Fin 384) (l : Fin 1024) :
    StableHlo.after hostOps0 V (Proc.devRef .tc main_v29) (ix2 k l) = colsR (hargs V).wuq k l := by
  after_reads_at
  by_cases h0 : l.val % 128 < 64
  · refine Eq.trans ?_ (colsR_plain _ _ (.inl h0)).symm
    rw [dif_pos h0]
    after_reads_at
  by_cases h1 : l.val % 128 < 96
  · by_cases h2 : l.val % 128 < 80
    · refine Eq.trans ?_ (colsR_low _ _ (by omega) h2).symm
      rw [dif_neg h0, dif_pos (by omega)]
      after_reads_at
      refine (dif_pos (show l.val % 128 - 64 < 16 by omega)).trans ?_
      exact congrArg Neg.neg (elem3 _ _ _ _ (by simp) (by simp) (by simp; omega))
    · refine Eq.trans ?_ (colsR_high _ _ (by omega) h1).symm
      rw [dif_neg h0, dif_pos (by omega)]
      after_reads_at
      refine (dif_neg (show ¬ l.val % 128 - 64 < 16 by omega)).trans ?_
      exact elem3 _ _ _ _ (by simp) (by simp) (by simp; omega)
  · refine Eq.trans ?_ (colsR_plain _ _ (.inr (by omega))).symm
    rw [dif_neg h0, dif_neg (by omega)]
    after_reads_at

/-- The keys' weight. -/
theorem wukp_at (k : Fin 256) (l : Fin 1024) :
    StableHlo.after hostOps0 V (Proc.devRef .tc main_v34) (ix2 k l) = colsK (hargs V).wuk k l := by
  after_reads_at
  unfold colsK
  by_cases h : l.val % 128 < 64
  · rw [dif_pos h, if_pos h]
    after_reads_at
    exact elem4 _ _ _ _ _ (by simp) (by simp) (by simp) (by simp)
  · rw [dif_neg h, if_neg h]
    after_reads_at

/-- The values' weight. -/
theorem wuv_at (k : Fin 256) (l : Fin 512) :
    StableHlo.after hostOps0 V (Proc.devRef .tc main_v37) (ix2 k l) = (hargs V).wuv k (l / 64) (l % 64) := by
  after_reads_at
  exact elem4 _ _ _ _ _ (by simp) (by simp) (by simp) (by simp)

/-- The new streams' frames. -/
theorem xp_at (t : Fin 32768) (j : Fin 1024) :
    StableHlo.after hostOps0 V (Proc.devRef .tc main_v50) (ix2 t j) = (hargs V).x t j := by
  after_reads_at
  show _ = ite _ _ _
  rw [if_pos t.isLt]
  exact elem3 _ _ _ _ (by simp) (by simp) (by simp)

/-- The sampled streams' frames. -/
theorem xs_at (t : Fin 1024) (j : Fin 1024) :
    StableHlo.after hostOps0 V (Proc.devRef .tc main_v51) (ix2 t j) = (hargs V).x (32768 + t) j := by
  after_reads_at
  show _ = ite _ _ _
  rw [if_neg (by omega)]
  exact elem3 _ _ _ _ (by simp) (by simp) (by simp)

/-- The gain of the frames' norm. -/
theorem gm_at (z : Fin 1) (j : Fin 1024) :
    StableHlo.after hostOps0 V (Proc.devRef .tc main_v53) (ix2 z j) = (hargs V).gm j := by
  after_reads_at
  exact elem2 _ _ _ (by simp) (by simp)

/-- The gain of the queries' latent. -/
theorem gq_at (z : Fin 1) (j : Fin 384) :
    StableHlo.after hostOps0 V (Proc.devRef .tc main_v55) (ix2 z j) = (hargs V).gq j := by
  after_reads_at
  exact elem2 _ _ _ (by simp) (by simp)

/-- The gain of the keys' latent. -/
theorem gkv_at (z : Fin 1) (j : Fin 256) :
    StableHlo.after hostOps0 V (Proc.devRef .tc main_v57) (ix2 z j) = (hargs V).gkv j := by
  after_reads_at
  exact elem2 _ _ _ (by simp) (by simp)

set_option maxHeartbeats 1000000 in
/-- The table of cosines. -/
theorem cos_at (k : Fin 2304) (l : Fin 128) :
    StableHlo.after hostOps0 V (Proc.devRef .tc main_v47) (ix2 k l) = table 1 (cosAt (tabPos k)) l := by
  after_reads_at
  unfold table
  by_cases h0 : l.val < 64
  · rw [dif_pos h0, if_pos h0]
    after_reads_at
  rw [dif_neg h0, if_neg h0]
  by_cases h1 : l.val < 80
  · rw [dif_pos (by omega), if_pos h1]
    after_reads_at
    rw [table_angle]; rfl
  rw [dif_neg (by omega), if_neg h1]
  by_cases h2 : l.val < 96
  · rw [dif_pos (by omega), if_pos h2]
    after_reads_at
    rw [table_angle]
    exact congrArg (cosAt (tabPos k)) (by simp; omega)
  · rw [dif_neg (by omega), if_neg h2]
    after_reads_at

set_option maxHeartbeats 1000000 in
/-- The table of sines. -/
theorem sin_at (k : Fin 2304) (l : Fin 128) :
    StableHlo.after hostOps0 V (Proc.devRef .tc main_v49) (ix2 k l) = table 0 (sinAt (tabPos k)) l := by
  after_reads_at
  unfold table
  by_cases h0 : l.val < 64
  · rw [dif_pos h0, if_pos h0]
    after_reads_at
  rw [dif_neg h0, if_neg h0]
  by_cases h1 : l.val < 80
  · rw [dif_pos (by omega), if_pos h1]
    after_reads_at
    rw [table_angle]; rfl
  rw [dif_neg (by omega), if_neg h1]
  by_cases h2 : l.val < 96
  · rw [dif_pos (by omega), if_pos h2]
    after_reads_at
    rw [table_angle]
    exact congrArg (sinAt (tabPos k)) (by simp; omega)
  · rw [dif_neg (by omega), if_neg h2]
    after_reads_at

end Mixer

end
-- ==== Proof.LayerTile.lean ====
/- One tile of the input projection, row by row: what the vectors that the body stores hold, as sequences over the lanes. -/
module

public import proofs.«01_k».proof.Proof.Gen.LayerIdeal.Skeleton
public import proofs.«01_k».proof.Proof.Host
public import Idealize.ShloMosaic.Lib.Pointwise
public import Idealize.ShloMosaic.Lib.MatmulPlain

@[expose] public section

set_option maxRecDepth 16384

noncomputable section

namespace Mixer

open Idealize.ShloMosaic Cert.LayerIdeal Cert.LayerIdeal.Gen

attribute [local instance] Cert.LayerIdeal.Gen.facts

/-- Row `r` of the matrix `X` is the sequence `u`. -/
def IsRow {a b : ℕ} (X : (⟨2, ![a, b]⟩ : Shape).Idx → EReal) (r : Fin a) (u : ℕ → EReal) : Prop := ∀ j : Fin b, X (ix2 r j) = u j

/-- The matrix `X` is the double sequence `w`. -/
def IsMat {a b : ℕ} (X : (⟨2, ![a, b]⟩ : Shape).Idx → EReal) (w : ℕ → ℕ → EReal) : Prop := ∀ (k : Fin a) (l : Fin b), X (ix2 k l) = w k l

/-- The product of a row with a column, as a sum over the lanes. -/
theorem sum_dot {n : ℕ} (f : Fin n → EReal) (u : ℕ → EReal) (w : ℕ → ℕ → EReal) (c : ℕ) (h : ∀ k : Fin n, f k = u k * w k c) :
    ∑ k, f k = dot n u w c := by
  unfold dot
  rw [Finset.sum_range]
  exact Finset.sum_congr rfl fun k _ => h k

section
variable (i : grid0.Coords) {r : Fin 256}

/-- The frame's row, normalized: the frame is of the first group on the first 128 tiles, of the second on the rest. -/
theorem hid_row {v1 v3 : Vec Ideal S256x1024 .f32} {v6 : Vec Ideal S1x1024 .f32} {u g : ℕ → EReal}
    (hx : ∀ j : Fin 1024, (Scalar.select (Scalar.cmpi .slt (BitVec.ofNat 32 (i 0).val) 128#32) (v1 (ix2 r j)) (v3 (ix2 r j)) : EReal) = u j)
    (hg : IsRow v6 0 g) : IsRow (k0_pay4 i v1 v3 v6) r (norm 1024 (Ideal.ofBits .f32 0x44800000#32) u g) := by
  intro j
  pointwise [k0_pay4]
  unfold norm
  rw [Finset.sum_range]
  simp only [hx, hg j]
  rfl

/-- The first product. -/
theorem z1_row {v1 v3 : Vec Ideal S256x1024 .f32} {v6 : Vec Ideal S1x1024 .f32} {w : Vec Ideal S1024x896 .bf16} {h : ℕ → EReal} {W : ℕ → ℕ → EReal}
    (hh : IsRow (k0_pay4 i v1 v3 v6) r h) (hw : IsMat w W) : IsRow (k0_pay7 i v1 v3 v6 w) r (dot 1024 h W) := by
  intro j
  pointwise [k0_pay7]
  exact sum_dot _ _ _ _ fun k => by rw [hh k]; exact congrArg (_ * ·) (hw k j)

/-- The rotated key on one register row of 128 lanes. -/
theorem k128_row {v1 v3 : Vec Ideal S256x1024 .f32} {v6 : Vec Ideal S1x1024 .f32} {w : Vec Ideal S1024x896 .bf16} {c s : Vec Ideal S256x128 .f32}
    {z C S : ℕ → EReal} (hz : IsRow (k0_pay7 i v1 v3 v6 w) r z) (hc : IsRow c r C) (hs : IsRow s r S) :
    IsRow (k0_pay8 i v1 v3 v6 c s w) r (fun l => z (640 + l) * C l + z (768 + l) * S l) := by
  intro j
  pointwise [k0_pay8, k0_pay5, k0_pay6]
  have h1 := hz ⟨640 + j.val, by omega⟩
  have h2 := hz ⟨768 + j.val, by omega⟩
  have h3 := hc j
  have h4 := hs j
  exact congrArg₂ (· + ·) (congrArg₂ (· * ·) h1 h3) (congrArg₂ (· * ·) h2 h4)

/-- Its rotary lanes. -/
theorem kr_row {v1 v3 : Vec Ideal S256x1024 .f32} {v6 : Vec Ideal S1x1024 .f32} {w : Vec Ideal S1024x896 .bf16} {c s : Vec Ideal S256x128 .f32}
    {k : ℕ → EReal} (hk : IsRow (k0_pay8 i v1 v3 v6 c s w) r k) : IsRow (k0_pay9 i v1 v3 v6 c s w) r (fun d => k (64 + d)) := by
  intro j
  pointwise [k0_pay9]
  exact hk ⟨64 + j.val, by omega⟩

/-- The queries' latent before its norm. -/
theorem cq_row {v1 v3 : Vec Ideal S256x1024 .f32} {v6 : Vec Ideal S1x1024 .f32} {w : Vec Ideal S1024x896 .bf16} {z : ℕ → EReal}
    (hz : IsRow (k0_pay7 i v1 v3 v6 w) r z) : IsRow (k0_pay10 i v1 v3 v6 w) r z := by
  intro j
  pointwise [k0_pay10]
  exact hz ⟨j.val, by omega⟩

end

/-- One row of eight copies of a register row reads the lane's remainder by 128. -/
theorem eight {u : Fin 128 → EReal} {C : ℕ → EReal} (hu : ∀ j, u j = C j) (j : Fin 1024) :
    (if h : j.val < 128 then u ⟨j, h⟩ else if h : j.val - 128 < 128 then u ⟨j - 128, h⟩
      else if h : j.val - 128 - 128 < 128 then u ⟨j - 128 - 128, h⟩ else if h : j.val - 128 - 128 - 128 < 128 then u ⟨j - 128 - 128 - 128, h⟩
      else if h : j.val - 128 - 128 - 128 - 128 < 128 then u ⟨j - 128 - 128 - 128 - 128, h⟩
      else if h : j.val - 128 - 128 - 128 - 128 - 128 < 128 then u ⟨j - 128 - 128 - 128 - 128 - 128, h⟩
      else if h : j.val - 128 - 128 - 128 - 128 - 128 - 128 < 128 then u ⟨j - 128 - 128 - 128 - 128 - 128 - 128, h⟩
      else u ⟨j.val - 128 - 128 - 128 - 128 - 128 - 128 - 128, by omega⟩) = C (j % 128) := by
  split_ifs <;> rw [hu] <;> exact congrArg C (by simp only []; omega)

variable {r : Fin 256}

/-- The queries. -/
theorem q_row {c s : FVec Ideal S256x128 .f32} {z : FVec Ideal S256x384 .f32} {g : Vec Ideal S1x384 .f32} {w1 w2 : Vec Ideal S384x1024 .bf16}
    {C S u G : ℕ → EReal} {W1 W2 : ℕ → ℕ → EReal} (hc : IsRow c r C) (hs : IsRow s r S) (hz : IsRow z r u) (hg : IsRow g 0 G)
    (h1 : IsMat w1 W1) (h2 : IsMat w2 W2) :
    IsRow (k0_pay11 c s z g w1 w2) r (fun l => dot 384 (norm 384 (Ideal.ofBits .f32 0x43C00000#32) u G) W1 l * C (l % 128)
      + dot 384 (norm 384 (Ideal.ofBits .f32 0x43C00000#32) u G) W2 l * S (l % 128)) := by
  intro j
  pointwise [k0_pay11]
  have hn : ∀ k : Fin 384, (z (ix2 r k) * Ideal.rsqrt (Ideal.div (∑ x, z (ix2 r x) * z (ix2 r x)) (Ideal.ofBits .f32 0x43C00000#32)
      + Ideal.ofBits .f32 0x358637BD#32) * g (ix2 0 k) : EReal) = norm 384 (Ideal.ofBits .f32 0x43C00000#32) u G k := by
    intro k
    unfold norm
    rw [Finset.sum_range]
    simp only [hz _]
    exact congrArg (_ * ·) (hg k)
  refine congrArg₂ (· + ·) (congrArg₂ (· * ·) (sum_dot _ _ _ _ fun k => ?_) (eight (u := fun l => c (ix2 r l)) hc j))
    (congrArg₂ (· * ·) (sum_dot _ _ _ _ fun k => ?_) (eight (u := fun l => s (ix2 r l)) hs j))
  · exact congrArg₂ (· * ·) (hn k) (h1 k j)
  · exact congrArg₂ (· * ·) (hn k) (h2 k j)

/-- The latent of the keys and values. -/
theorem lat_row {z : FVec Ideal S256x896 .f32} {g : Vec Ideal S1x256 .f32} {u G : ℕ → EReal} (hz : IsRow z r u) (hg : IsRow g 0 G) :
    IsRow (k0_pay12 z g) r (norm 256 (Ideal.ofBits .f32 0x43800000#32) (fun j => u (384 + j)) G) := by
  intro j
  pointwise [k0_pay12]
  unfold norm
  rw [Finset.sum_range]
  simp only [hz _]
  exact congrArg (_ * ·) (hg j)

/-- The keys. -/
theorem k_row {k : FVec Ideal S256x128 .f32} {v : FVec Ideal S256x256 .f32} {w : Vec Ideal S256x1024 .bf16} {K L : ℕ → EReal} {W : ℕ → ℕ → EReal}
    (hk : IsRow k r K) (hv : IsRow v r L) (hw : IsMat w W) : IsRow (k0_pay14 k v w) r (fun l => dot 256 L W l + K (l % 128)) := by
  intro j
  pointwise [k0_pay14, k0_pay13]
  exact congrArg₂ (· + ·) (sum_dot _ _ _ _ fun x => congrArg₂ (· * ·) (hv x) (hw x j)) (eight (u := fun l => k (ix2 r l)) hk j)

/-- The values. -/
theorem v_row {v : FVec Ideal S256x256 .f32} {w : Vec Ideal S256x512 .bf16} {L : ℕ → EReal} {W : ℕ → ℕ → EReal}
    (hv : IsRow v r L) (hw : IsMat w W) : IsRow (k0_pay15 v w) r (dot 256 L W) := by
  intro j
  pointwise [k0_pay15, k0_pay13]
  exact sum_dot _ _ _ _ fun x => congrArg₂ (· * ·) (hv x) (hw x j)

section
variable {h : FVec Ideal S256x1024 .bf16} {H : ℕ → EReal} {W : ℕ → ℕ → EReal}

/-- The band's queries. -/
theorem qb_row {w : Vec Ideal S1024x1536 .bf16} (hh : IsRow h r H) (hw : IsMat w W) : IsRow (k0_pay17 h w) r (dot 1024 H W) := by
  intro j
  pointwise [k0_pay17, k0_pay16]
  exact sum_dot _ _ _ _ fun x => congrArg₂ (· * ·) (hh x) (hw x _)

/-- The band's keys. -/
theorem kb_row {w : Vec Ideal S1024x1536 .bf16} (hh : IsRow h r H) (hw : IsMat w W) : IsRow (k0_pay18 h w) r (fun l => dot 1024 H W (512 + l)) := by
  intro j
  pointwise [k0_pay18, k0_pay16]
  exact sum_dot _ _ _ _ fun x => congrArg₂ (· * ·) (hh x) (hw x _)

/-- The band's values. -/
theorem vb_row {w : Vec Ideal S1024x1536 .bf16} (hh : IsRow h r H) (hw : IsMat w W) : IsRow (k0_pay19 h w) r (fun l => dot 1024 H W (1024 + l)) := by
  intro j
  pointwise [k0_pay19, k0_pay16]
  exact sum_dot _ _ _ _ fun x => congrArg₂ (· * ·) (hh x) (hw x _)

/-- The gate of the latent attention. -/
theorem ga_row {w : Vec Ideal S1024x2048 .bf16} (hh : IsRow h r H) (hw : IsMat w W) :
    IsRow (k0_pay2 h w) r (fun l => Ideal.logistic (dot 1024 H W l)) := by
  intro j
  pointwise [k0_pay2, k0_pay1]
  exact congrArg Ideal.logistic (sum_dot _ _ _ _ fun x => congrArg₂ (· * ·) (hh x) (hw x _))

/-- The gate of the band attention. -/
theorem gb_row {w : Vec Ideal S1024x2048 .bf16} (hh : IsRow h r H) (hw : IsMat w W) :
    IsRow (k0_pay3 h w) r (fun l => Ideal.logistic (dot 1024 H W (1024 + l))) := by
  intro j
  pointwise [k0_pay3, k0_pay1]
  exact congrArg Ideal.logistic (sum_dot _ _ _ _ fun x => congrArg₂ (· * ·) (hh x) (hw x _))

end

/-! ## The rows of one frame -/

section
variable (A : Args) (t : ℕ)

/-- The first product at the latents' lanes. -/
theorem z1_plain {l : ℕ} (hl : l < 640) : dot 1024 (A.hid t) (cols1 A.w) l = A.proj t l :=
  dot_congr (fun _ _ => rfl) fun k _ => by unfold cols1; rw [if_pos hl]

/-- The first product at the lanes between. -/
theorem z1_gap {l : ℕ} (hl : 640 ≤ l ∧ l < 704 ∨ 736 ≤ l ∧ l < 832 ∨ 864 ≤ l) : dot 1024 (A.hid t) (cols1 A.w) l = 0 :=
  dot_zero fun k _ => by unfold cols1; split_ifs <;> first | rfl | omega

/-- The first product at the rotary key's lanes. -/
theorem z1_rope {d : ℕ} (hd : d < 32) : dot 1024 (A.hid t) (cols1 A.w) (704 + d) = A.proj t (640 + d) :=
  dot_congr (fun _ _ => rfl) fun k _ => by
    unfold cols1; rw [if_neg (by omega), if_neg (by omega), if_pos (by omega), show 704 + d - 704 = d by omega]

/-- What must be finite for the negated columns to give negated products. -/
structure Args.Finite : Prop where
  x : ∀ t, t < 33792 → Fine 1024 (A.x t)
  gm : Fine 1024 A.gm
  w : ∀ c, c < 4256 → Fine 1024 fun k => A.w k c
  gq : Fine 384 A.gq
  wuq : ∀ c, c < 768 → Fine 384 fun k => A.wuq k c

variable {A} (hA : A.Finite) {t} (ht : t < 33792)
include hA ht

/-- The normalized frame is finite. -/
theorem hid_fine : Fine 1024 (A.hid t) :=
  norm_fine ⟨1024, by norm_num, by simp [Ideal.ofBits, Ideal.ieee]; rw [← EReal.coe_mul]; norm_num⟩ (hA.x t ht) hA.gm

/-- The queries' latent is finite. -/
theorem qlat_fine : Fine 384 (A.qlat t) :=
  norm_fine ⟨384, by norm_num, by simp [Ideal.ofBits, Ideal.ieee]; rw [← EReal.coe_mul]; norm_num⟩
    (fun c hc => dot_fine (hid_fine hA ht) (hA.w c (by omega))) hA.gq

/-- The first product at the rotated key's lower lanes. -/
theorem z1_low {d : ℕ} (hd : d < 16) : dot 1024 (A.hid t) (cols1 A.w) (832 + d) = -A.proj t (640 + (d + 16)) :=
  dot_neg (hid_fine hA ht) (hA.w _ (by omega)) fun k _ => by
    unfold cols1
    rw [if_neg (by omega), if_neg (by omega), if_neg (by omega), if_neg (by omega), if_pos (by omega)]
    exact congrArg (fun c => -A.w k c) (by omega)

omit hA ht in
/-- The first product at the rotated key's upper lanes. -/
theorem z1_high {d : ℕ} (h0 : 16 ≤ d) (hd : d < 32) : dot 1024 (A.hid t) (cols1 A.w) (832 + d) = A.proj t (640 + (d - 16)) :=
  dot_congr (fun _ _ => rfl) fun k _ => by
    unfold cols1
    rw [if_neg (by omega), if_neg (by omega), if_neg (by omega), if_neg (by omega), if_neg (by omega), if_pos (by omega)]
    exact congrArg (A.w k) (by omega)

omit hA ht in
/-- The table's row at the plain lanes. -/
theorem table_plain {a : EReal} {f : ℕ → EReal} {l : ℕ} (h : l < 64) : table a f l = a := by unfold table; rw [if_pos h]

omit hA ht in
/-- The table's row at the lower rotary lanes. -/
theorem table_low {a : EReal} {f : ℕ → EReal} {d : ℕ} (h : d < 16) : table a f (64 + d) = f d := by
  unfold table; rw [if_neg (by omega), if_pos (by omega)]; exact congrArg f (by omega)

omit hA ht in
/-- The table's row at the upper rotary lanes. -/
theorem table_high {a : EReal} {f : ℕ → EReal} {d : ℕ} (h0 : 16 ≤ d) (h : d < 32) : table a f (64 + d) = f (d - 16) := by
  unfold table; rw [if_neg (by omega), if_neg (by omega), if_pos (by omega)]; exact congrArg f (by omega)

/-- The rotated key as the kernel makes it, at the rotary lanes. -/
theorem k128_rope {d : ℕ} (hd : d < 32) :
    dot 1024 (A.hid t) (cols1 A.w) (640 + (64 + d)) * table 1 (cosAt (pos t)) (64 + d)
      + dot 1024 (A.hid t) (cols1 A.w) (768 + (64 + d)) * table 0 (sinAt (pos t)) (64 + d) = A.krope t d := by
  rw [show 640 + (64 + d) = 704 + d by omega, show 768 + (64 + d) = 832 + d by omega, z1_rope A t hd]
  unfold Args.krope rope
  by_cases h : d < 16
  · rw [if_pos h, z1_low hA ht h, table_low h, table_low h, neg_mul, sub_eq_add_neg]
  · rw [if_neg h, z1_high (by omega) hd, table_high (by omega) hd, table_high (by omega) hd, add_comm]

omit hA ht in
/-- The rotated key as the kernel makes it is 0 at the other lanes. -/
theorem k128_gap {l : ℕ} (c s : EReal) (h : l < 64 ∨ 96 ≤ l) (hl : l < 128) :
    dot 1024 (A.hid t) (cols1 A.w) (640 + l) * c + dot 1024 (A.hid t) (cols1 A.w) (768 + l) * s = 0 := by
  rw [z1_gap A t (by omega), z1_gap A t (by omega), zero_mul, zero_mul, add_zero]

/-- The queries as the kernel makes them. -/
theorem query_eq {l : ℕ} (hl : l < 1024) :
    dot 384 (A.qlat t) (colsQ A.wuq) l * table 1 (cosAt (pos t)) (l % 128)
      + dot 384 (A.qlat t) (colsR A.wuq) l * table 0 (sinAt (pos t)) (l % 128) = A.query t l := by
  have hq : l % 128 < 96 → dot 384 (A.qlat t) (colsQ A.wuq) l = A.qraw t (96 * (l / 128) + l % 128) := fun h =>
    dot_congr (fun _ _ => rfl) fun k _ => by unfold colsQ; rw [if_pos h]
  unfold Args.query
  by_cases h0 : l % 128 < 64
  · rw [if_pos h0, hq (by omega), table_plain h0, table_plain h0, mul_one, mul_zero, add_zero]
  rw [if_neg h0]
  by_cases h1 : l % 128 < 96
  · rw [if_pos h1, hq h1]
    obtain ⟨d, hd⟩ : ∃ d, l % 128 = 64 + d := ⟨l % 128 - 64, by omega⟩
    have h32 : d < 32 := by omega
    rw [hd, show 64 + d - 64 = d by omega]
    unfold rope
    by_cases h : d < 16
    · rw [if_pos h, table_low h, table_low h, dot_neg (c := 96 * (l / 128) + 64 + (d + 16)) (qlat_fine hA ht) (hA.wuq _ (by omega)) fun k _ => by
        rw [colsR_low _ _ (by omega) (by omega)]; exact congrArg (fun c => -A.wuq k c) (by omega), neg_mul, sub_eq_add_neg,
        show 96 * (l / 128) + (64 + d) = 96 * (l / 128) + 64 + d by omega]
      rfl
    · rw [if_neg h, table_high (by omega) h32, table_high (by omega) h32, add_comm,
        show 96 * (l / 128) + (64 + d) = 96 * (l / 128) + 64 + d by omega]
      refine congrArg (· * _ + _) (dot_congr (fun _ _ => rfl) fun k _ => ?_)
      rw [colsR_high _ _ (by omega) (by omega)]; exact congrArg (A.wuq k) (by omega)
  · rw [if_neg h1, dot_zero fun k _ => by unfold colsQ; rw [if_neg h1], dot_zero fun k _ => colsR_plain _ _ (.inr (by omega)), zero_mul, zero_mul,
      add_zero]

/-- The keys as the kernel makes them. -/
theorem key_eq {l : ℕ} (hl : l < 1024) :
    dot 256 (A.lat t) (colsK A.wuk) l
      + (dot 1024 (A.hid t) (cols1 A.w) (640 + l % 128) * table 1 (cosAt (pos t)) (l % 128)
        + dot 1024 (A.hid t) (cols1 A.w) (768 + l % 128) * table 0 (sinAt (pos t)) (l % 128)) = A.key t l := by
  unfold Args.key
  by_cases h0 : l % 128 < 64
  · rw [if_pos h0, k128_gap _ _ (.inl h0) (by omega), add_zero]
    exact dot_congr (fun _ _ => rfl) fun k _ => by unfold colsK; rw [if_pos h0]
  rw [if_neg h0, dot_zero fun k _ => by unfold colsK; rw [if_neg h0], zero_add]
  by_cases h1 : l % 128 < 96
  · rw [if_pos h1, ← k128_rope hA ht (d := l % 128 - 64) (by omega), show 64 + (l % 128 - 64) = l % 128 by omega]
  · rw [if_neg h1, k128_gap _ _ (.inr (by omega)) (by omega)]

end

end Mixer

end
-- ==== Proof.Results.lean ====
/- The shapes that the rows' sequences are returned in: which frame and which lane stands at which index. -/
module

public import proofs.«01_k».proof.Proof.Rows

@[expose] public section

set_option maxRecDepth 16384

noncomputable section

namespace Mixer

open Idealize.ShloMosaic

/-- An array of all the frames' rows: row `t` holds the first `n` entries of `U t`. -/
def arr (n : ℕ) (U : ℕ → ℕ → EReal) : (⟨2, ![33792, n]⟩ : Shape).Idx → EReal := fun i => U (i 0).val (i 1).val

/-- The new streams' rows, stream by stream. -/
def streams (n : ℕ) (U : ℕ → ℕ → EReal) : (⟨4, ![1, 16, 2048, n]⟩ : Shape).Idx → EReal := fun i =>
  U ((i 1).val * 2048 + (i 2).val) (i 3).val

/-- The sampled streams' rows, stream by stream: they follow the new streams' 32768 rows. -/
def samples (n : ℕ) (U : ℕ → ℕ → EReal) : (⟨4, ![1, 32, 32, n]⟩ : Shape).Idx → EReal := fun i =>
  U (32768 + ((i 1).val * 32 + (i 2).val)) (i 3).val

/-- The last 512 rows of each new stream, head by head. -/
def tails (U : ℕ → ℕ → EReal) : (⟨5, ![1, 16, 512, 8, 64]⟩ : Shape).Idx → EReal := fun i =>
  U ((i 1).val * 2048 + (1536 + (i 2).val)) ((i 3).val * 64 + (i 4).val)

/-- The sampled streams' buffers moved on by 32 rows: the rows from the 32nd on, then the stream's new rows. -/
def rolled (C : (⟨5, ![1, 32, 512, 8, 64]⟩ : Shape).Idx → EReal) (U : ℕ → ℕ → EReal) : (⟨5, ![1, 32, 512, 8, 64]⟩ : Shape).Idx → EReal := fun i =>
  if h : (i 2).val < 480 then C (ix5 0 (i 1) ⟨(i 2).val + 32, by omega⟩ (i 3) (i 4))
  else U (32768 + 32 * (i 1).val + ((i 2).val - 480)) ((i 3).val * 64 + (i 4).val)

/-- The columns of the projection from the `o`-th on. -/
def Args.cols (A : Args) (o : ℕ) : ℕ → ℕ → EReal := fun t l => A.proj t (o + l)

/-- The gate made of the columns of the projection from the `o`-th on. -/
def Args.gate (A : Args) (o : ℕ) : ℕ → ℕ → EReal := fun t l => Ideal.logistic (A.proj t (o + l))

end Mixer
-- ==== Proof.LayerOut.lean ====
/- What the input projection leaves in each of its twelve arrays: row `t` is what the frame `t` gives. -/
module

public import proofs.«01_k».proof.Proof.LayerIdealRun
public import proofs.«01_k».proof.Proof.LayerTile
public import proofs.«01_k».proof.Proof.Results

@[expose] public section

set_option maxRecDepth 16384

noncomputable section

namespace Mixer

open Idealize.ShloMosaic Idealize.ShloMosaic.TcCoe Cert.LayerIdeal Cert.LayerIdeal.Gen Cert.LayerIdeal.Run

attribute [local instance] Cert.LayerIdeal.Gen.facts

/-- A whole block loaded is the block. -/
theorem ld_all {a b : ℕ} {e : EltTy} (x : Vec Ideal ⟨2, ![a, b]⟩ e) (hin) (p : Fin a) (q : Fin b) :
    View.ld (Val := Elt Ideal) x (Rect.unit (s := ⟨2, ![a, b]⟩) ![0, 0] ![a, b] hin) (ix2 p q) = x (ix2 p q) := by
  refine congrArg x ?_
  funext a
  match a with
  | ⟨0, _⟩ => exact Fin.ext (by show 0 + 1 * p.val = p.val; omega)
  | ⟨1, _⟩ => exact Fin.ext (by show 0 + 1 * q.val = q.val; omega)

/-- Rows need to agree only on their lanes. -/
theorem IsRow.congr {a b : ℕ} {X : (⟨2, ![a, b]⟩ : Shape).Idx → EReal} {r : Fin a} {u u' : ℕ → EReal} (h : IsRow X r u)
    (e : ∀ j, j < b → u j = u' j) : IsRow X r u' := fun j => (h j).trans (e j j.isLt)

/-- A tile's inputs at one row: the row is of frame `t`. -/
structure Tile (A : Args) (i : grid0.Coords) (r : Fin 256) (t : ℕ) (x0 x1 : Vec Ideal S256x1024 .f32) (x2 : Vec Ideal S1x1024 .f32)
    (x3 : Vec Ideal S1024x896 .bf16) (x4 : Vec Ideal S1024x1536 .bf16) (x5 : Vec Ideal S1024x2048 .bf16) (x6 : Vec Ideal S1x384 .f32)
    (x7 : Vec Ideal S1x256 .f32) (x8 x9 : Vec Ideal S384x1024 .bf16) (x10 : Vec Ideal S256x1024 .bf16) (x11 : Vec Ideal S256x512 .bf16)
    (x12 x13 : Vec Ideal S256x128 .f32) : Prop where
  x : ∀ j : Fin 1024, (Scalar.select (Scalar.cmpi .slt (BitVec.ofNat 32 (i 0).val) 128#32) (x0 (ix2 r j)) (x1 (ix2 r j)) : EReal) = A.x t j
  gm : IsRow x2 0 A.gm
  w1 : IsMat x3 (cols1 A.w)
  w2 : IsMat x4 (fun k l => A.w k (672 + l))
  w3 : IsMat x5 (fun k l => A.w k (2208 + l))
  gq : IsRow x6 0 A.gq
  gkv : IsRow x7 0 A.gkv
  wq : IsMat x8 (colsQ A.wuq)
  wr : IsMat x9 (colsR A.wuq)
  wk : IsMat x10 (colsK A.wuk)
  wv : IsMat x11 (fun k l => A.wuv k (l / 64) (l % 64))
  cos : IsRow x12 r (table 1 (cosAt (pos t)))
  sin : IsRow x13 r (table 0 (sinAt (pos t)))

namespace Tile
variable {A : Args} {i : grid0.Coords} {r : Fin 256} {t : ℕ} {x0 x1 : Vec Ideal S256x1024 .f32} {x2 : Vec Ideal S1x1024 .f32}
    {x3 : Vec Ideal S1024x896 .bf16} {x4 : Vec Ideal S1024x1536 .bf16} {x5 : Vec Ideal S1024x2048 .bf16} {x6 : Vec Ideal S1x384 .f32}
    {x7 : Vec Ideal S1x256 .f32} {x8 x9 : Vec Ideal S384x1024 .bf16} {x10 : Vec Ideal S256x1024 .bf16} {x11 : Vec Ideal S256x512 .bf16}
    {x12 x13 : Vec Ideal S256x128 .f32} (T : Tile A i r t x0 x1 x2 x3 x4 x5 x6 x7 x8 x9 x10 x11 x12 x13)
include T

/-- The normalized frame. -/
theorem hid : IsRow (k0_pay4 i (View.ld x0 r0_0) (View.ld x1 r0_0) (View.ld x2 r0_1)) r (A.hid t) :=
  hid_row i (fun j => by rw [ld_all, ld_all]; exact T.x j) fun j => (ld_all x2 _ 0 j).trans (T.gm j)

/-- The first product. -/
theorem z1 : IsRow (k0_pay7 i (View.ld x0 r0_0) (View.ld x1 r0_0) (View.ld x2 r0_1) (View.ld x3 r0_3)) r (dot 1024 (A.hid t) (cols1 A.w)) :=
  z1_row i T.hid fun k l => (ld_all x3 _ k l).trans (T.w1 k l)

/-- The rotated key. -/
theorem k128 : IsRow (k0_pay8 i (View.ld x0 r0_0) (View.ld x1 r0_0) (View.ld x2 r0_1) (View.ld x12 r0_2) (View.ld x13 r0_2) (View.ld x3 r0_3)) r
    (fun l => dot 1024 (A.hid t) (cols1 A.w) (640 + l) * table 1 (cosAt (pos t)) l
      + dot 1024 (A.hid t) (cols1 A.w) (768 + l) * table 0 (sinAt (pos t)) l) :=
  k128_row i T.z1 (fun l => (ld_all x12 _ r l).trans (T.cos l)) fun l => (ld_all x13 _ r l).trans (T.sin l)

/-- The latent. -/
theorem lat' : IsRow (k0_pay23 i x0 x1 x2 x3 x4 x5 x6 x7 x8 x9 x10 x11 x12 x13) r (A.lat t) :=
  (lat_row T.z1 fun j => (ld_all x7 _ 0 j).trans (T.gkv j)).congr fun j hj =>
    norm_congr (fun k hk => z1_plain A t (by omega)) hj rfl

/-- What is stored of the latent. -/
theorem lat : IsRow (out0_14 i x0 x1 x2 x3 x4 x5 x6 x7 x8 x9 x10 x11 x12 x13) r (A.lat t) := by
  unfold out0_14
  rw [View.canon_unit_zero (by decide)]
  exact T.lat'

/-- What is stored of the shared key. -/
theorem kr (hA : A.Finite) (ht : t < 33792) : IsRow (out0_15 i x0 x1 x2 x3 x4 x5 x6 x7 x8 x9 x10 x11 x12 x13) r (A.krope t) := by
  unfold out0_15
  rw [View.canon_unit_zero (by decide)]
  exact (kr_row i T.k128).congr fun d hd => k128_rope hA ht hd

/-- What is stored of the queries. -/
theorem query (hA : A.Finite) (ht : t < 33792) : IsRow (out0_16 i x0 x1 x2 x3 x4 x5 x6 x7 x8 x9 x10 x11 x12 x13) r (A.query t) := by
  unfold out0_16
  rw [View.canon_unit_zero (by decide)]
  refine (q_row (C := table 1 (cosAt (pos t))) (S := table 0 (sinAt (pos t))) (u := dot 1024 (A.hid t) (cols1 A.w)) (G := A.gq) (fun l => ?_) (fun l => ?_)
    (cq_row i T.z1) (fun j => (ld_all x6 _ 0 j).trans (T.gq j)) (fun k l => (ld_all x8 _ k l).trans (T.wq k l))
    fun k l => (ld_all x9 _ k l).trans (T.wr k l)).congr fun l hl => ?_
  · pointwise [k0_pay5]
    exact T.cos l
  · pointwise [k0_pay6]
    exact T.sin l
  · rw [← query_eq hA ht hl]
    have h : ∀ k, k < 384 → norm 384 (Ideal.ofBits .f32 0x43C00000#32) (dot 1024 (A.hid t) (cols1 A.w)) A.gq k = A.qlat t k := fun k hk =>
      norm_congr (fun j hj => z1_plain A t (by omega)) hk rfl
    rw [dot_congr h fun _ _ => rfl, dot_congr (w := colsR A.wuq) h fun _ _ => rfl]

/-- What is stored of the keys. -/
theorem key (hA : A.Finite) (ht : t < 33792) : IsRow (out0_17 i x0 x1 x2 x3 x4 x5 x6 x7 x8 x9 x10 x11 x12 x13) r (A.key t) := by
  unfold out0_17
  rw [View.canon_unit_zero (by decide)]
  exact (k_row T.k128 T.lat' fun k l => (ld_all x10 _ k l).trans (T.wk k l)).congr fun l hl => key_eq hA ht hl

/-- What is stored of the values. -/
theorem value : IsRow (out0_18 i x0 x1 x2 x3 x4 x5 x6 x7 x8 x9 x10 x11 x12 x13) r (A.value t) := by
  unfold out0_18
  rw [View.canon_unit_zero (by decide)]
  exact (v_row T.lat' fun k l => (ld_all x11 _ k l).trans (T.wv k l)).congr fun l hl => rfl

/-- What is stored of the band's queries. -/
theorem qb : IsRow (out0_19 i x0 x1 x2 x3 x4 x5 x6 x7 x8 x9 x10 x11 x12 x13) r (fun l => A.proj t (672 + l)) := by
  unfold out0_19
  rw [View.canon_unit_zero (by decide)]
  exact (qb_row T.hid fun k l => (ld_all x4 _ k l).trans (T.w2 k l)).congr fun l hl => rfl

/-- What is stored of the band's keys, as the attention takes them, -/
theorem kb : IsRow (out0_22 i x0 x1 x2 x3 x4 x5 x6 x7 x8 x9 x10 x11 x12 x13) r (fun l => A.proj t (1184 + l)) := by
  unfold out0_22
  rw [View.canon_unit_zero (by decide)]
  exact (kb_row (W := fun k l => A.w k (672 + l)) T.hid fun k l => (ld_all x4 _ k l).trans (T.w2 k l)).congr fun l hl => dot_congr (fun _ _ => rfl) fun k _ =>
    congrArg (A.w k) (by omega)

/-- and of its values, -/
theorem vb : IsRow (out0_23 i x0 x1 x2 x3 x4 x5 x6 x7 x8 x9 x10 x11 x12 x13) r (fun l => A.proj t (1696 + l)) := by
  unfold out0_23
  rw [View.canon_unit_zero (by decide)]
  exact (vb_row (W := fun k l => A.w k (672 + l)) T.hid fun k l => (ld_all x4 _ k l).trans (T.w2 k l)).congr fun l hl => dot_congr (fun _ _ => rfl) fun k _ =>
    congrArg (A.w k) (by omega)

/-- and the keys once more, -/
theorem kb16 : IsRow (out0_20 i x0 x1 x2 x3 x4 x5 x6 x7 x8 x9 x10 x11 x12 x13) r (fun l => A.proj t (1184 + l)) := by
  have h := T.kb
  unfold out0_22 at h
  rw [View.canon_unit_zero (by decide)] at h
  unfold out0_20
  rw [View.canon_unit_zero (by decide)]
  exact fun j => h j

/-- and the values. -/
theorem vb16 : IsRow (out0_21 i x0 x1 x2 x3 x4 x5 x6 x7 x8 x9 x10 x11 x12 x13) r (fun l => A.proj t (1696 + l)) := by
  have h := T.vb
  unfold out0_23 at h
  rw [View.canon_unit_zero (by decide)] at h
  unfold out0_21
  rw [View.canon_unit_zero (by decide)]
  exact fun j => h j

/-- What is stored of the gate of the latent attention, -/
theorem ga : IsRow (out0_24 i x0 x1 x2 x3 x4 x5 x6 x7 x8 x9 x10 x11 x12 x13) r (fun l => Ideal.logistic (A.proj t (2208 + l))) := by
  unfold out0_24
  rw [View.canon_unit_zero (by decide)]
  exact (ga_row T.hid fun k l => (ld_all x5 _ k l).trans (T.w3 k l)).congr fun l hl => rfl

/-- and of that of the band attention. -/
theorem gb : IsRow (out0_25 i x0 x1 x2 x3 x4 x5 x6 x7 x8 x9 x10 x11 x12 x13) r (fun l => Ideal.logistic (A.proj t (3232 + l))) := by
  unfold out0_25
  rw [View.canon_unit_zero (by decide)]
  exact (gb_row (W := fun k l => A.w k (2208 + l)) T.hid fun k l => (ld_all x5 _ k l).trans (T.w3 k l)).congr fun l hl => congrArg Ideal.logistic
    (dot_congr (fun _ _ => rfl) fun k _ => congrArg (A.w k) (by omega))

end Tile

variable (m : (ℓ : Loc nD τ sig) → Buf (Elt Ideal) ℓ) (ρ : Dev nD → PrngReg) (c : Dev nD)

/-- Which blocks the windows take at a tile: the frames', -/
theorem at_frames : ∀ t : Fin cfg0.N, win0_0.index t = ![min t.val 127, 0] ∧ win0_1.index t = ![t.val - 128, 0] :=
  (by decide +kernel : ∀ t : Fin grid0.N, win0_0.index t = ![min t.val 127, 0] ∧ win0_1.index t = ![t.val - 128, 0])

/-- the tables', -/
theorem at_tables : ∀ t : Fin cfg0.N, win0_12.index t = ![if t.val < 128 then t.val % 8 else 8, 0]
    ∧ win0_13.index t = ![if t.val < 128 then t.val % 8 else 8, 0] :=
  (by decide +kernel : ∀ t : Fin grid0.N, win0_12.index t = ![if t.val < 128 then t.val % 8 else 8, 0]
    ∧ win0_13.index t = ![if t.val < 128 then t.val % 8 else 8, 0])

/-- the weights', which are whole, -/
theorem at_weights : ∀ t : Fin cfg0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] :=
  (by decide +kernel : ∀ t : Fin grid0.N, win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0])

/-- and the results'. -/
theorem at_results : ∀ t : Fin cfg0.N, win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0] :=
  (by decide +kernel : ∀ t : Fin grid0.N, win0_14.index t = ![t.val, 0] ∧ win0_15.index t = ![t.val, 0] ∧ win0_16.index t = ![t.val, 0]
    ∧ win0_17.index t = ![t.val, 0] ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0] ∧ win0_24.index t = ![t.val, 0]
    ∧ win0_25.index t = ![t.val, 0])

/-- The grid's only coordinate is the tile's number. -/
theorem coord0 : ∀ t : Fin cfg0.N, (grid0.coords t 0).val = t.val :=
  (by decide +kernel : ∀ t : Fin grid0.N, (grid0.coords t 0).val = t.val)

/-- A tile's block of an array, read at an index: the block's number times its extent, plus the index. -/
theorem ix2_of {a b : ℕ} (e : (⟨2, ![a, b]⟩ : Shape).Idx) (p : Fin a) (q : Fin b) (h0 : (e 0).val = p.val) (h1 : (e 1).val = q.val) : e = ix2 p q := by
  funext a
  match a with
  | ⟨0, _⟩ => exact Fin.ext h0
  | ⟨1, _⟩ => exact Fin.ext h1

/-- A block's index in its array, where the block's number is `n` along the rows. -/
theorem blk_of {a b a' n : ℕ} {f : Fin 2 → ℕ} (e : (⟨2, ![a', b]⟩ : Shape).Idx) (hf : f = ![n, 0]) (p : Fin a) (q : Fin b) (x : Fin a')
    (h0 : (e 0).val = f 0 * a + 1 * p.val) (h1 : (e 1).val = f 1 * b + 1 * q.val) (hx : n * a + p.val = x.val) : e = ix2 x q := by
  subst hf
  refine ix2_of e x q (h0.trans ?_) (h1.trans ?_)
  · show n * a + 1 * p.val = _; omega
  · show 0 * b + 1 * q.val = _; omega

/-! The blocks of the weights, at every tile. -/

/-- The gain of the frames' norm. -/
theorem gm_blk (t : Fin cfg0.N) : IsRow (iblk0 (V1 m ρ) c 2 t : S1x1024.Idx → EReal) 0 (hargs (W0 m ρ c)).gm := fun j =>
  (congrArg (V1 m ρ c main_v53) (blk_of (a := 1) (((cfg0.win 2).blk t).view.emb (ix2 0 j)) (at_weights t).1 0 j 0 rfl rfl rfl)).trans
    (gm_at (W0 m ρ c) 0 j)

/-- The first product's weight. -/
theorem w1_blk (t : Fin cfg0.N) : IsMat (iblk0 (V1 m ρ) c 3 t : S1024x896.Idx → EReal) (cols1 (hargs (W0 m ρ c)).w) := fun k l =>
  (congrArg (V1 m ρ c main_v10) (blk_of (a := 1024) (((cfg0.win 3).blk t).view.emb (ix2 k l)) (at_weights t).2.1 k l k rfl rfl (by omega))).trans
    (w1_at (W0 m ρ c) k l)

/-- The second product's weight. -/
theorem w2_blk (t : Fin cfg0.N) : IsMat (iblk0 (V1 m ρ) c 4 t : S1024x1536.Idx → EReal) (fun k l => (hargs (W0 m ρ c)).w k (672 + l)) := fun k l =>
  (congrArg (V1 m ρ c main_v12) (blk_of (a := 1024) (((cfg0.win 4).blk t).view.emb (ix2 k l)) (at_weights t).2.2.1 k l k rfl rfl (by omega))).trans
    (w2_at (W0 m ρ c) k l)

/-- The gates' weight. -/
theorem w3_blk (t : Fin cfg0.N) : IsMat (iblk0 (V1 m ρ) c 5 t : S1024x2048.Idx → EReal) (fun k l => (hargs (W0 m ρ c)).w k (2208 + l)) := fun k l =>
  (congrArg (V1 m ρ c main_v14) (blk_of (a := 1024) (((cfg0.win 5).blk t).view.emb (ix2 k l)) (at_weights t).2.2.2.1 k l k rfl rfl (by omega))).trans
    (w3_at (W0 m ρ c) k l)

/-- The gain of the queries' latent. -/
theorem gq_blk (t : Fin cfg0.N) : IsRow (iblk0 (V1 m ρ) c 6 t : S1x384.Idx → EReal) 0 (hargs (W0 m ρ c)).gq := fun j =>
  (congrArg (V1 m ρ c main_v55) (blk_of (a := 1) (((cfg0.win 6).blk t).view.emb (ix2 0 j)) (at_weights t).2.2.2.2.1 0 j 0 rfl rfl rfl)).trans
    (gq_at (W0 m ρ c) 0 j)

/-- The gain of the keys' latent. -/
theorem gkv_blk (t : Fin cfg0.N) : IsRow (iblk0 (V1 m ρ) c 7 t : S1x256.Idx → EReal) 0 (hargs (W0 m ρ c)).gkv := fun j =>
  (congrArg (V1 m ρ c main_v57) (blk_of (a := 1) (((cfg0.win 7).blk t).view.emb (ix2 0 j)) (at_weights t).2.2.2.2.2.1 0 j 0 rfl rfl rfl)).trans
    (gkv_at (W0 m ρ c) 0 j)

/-- The queries' weight. -/
theorem wq_blk (t : Fin cfg0.N) : IsMat (iblk0 (V1 m ρ) c 8 t : S384x1024.Idx → EReal) (colsQ (hargs (W0 m ρ c)).wuq) := fun k l =>
  (congrArg (V1 m ρ c main_v21) (blk_of (a := 384) (((cfg0.win 8).blk t).view.emb (ix2 k l)) (at_weights t).2.2.2.2.2.2.1 k l k rfl rfl (by omega))).trans
    (wuq1_at (W0 m ρ c) k l)

/-- The rotated queries' weight. -/
theorem wr_blk (t : Fin cfg0.N) : IsMat (iblk0 (V1 m ρ) c 9 t : S384x1024.Idx → EReal) (colsR (hargs (W0 m ρ c)).wuq) := fun k l =>
  (congrArg (V1 m ρ c main_v29) (blk_of (a := 384) (((cfg0.win 9).blk t).view.emb (ix2 k l)) (at_weights t).2.2.2.2.2.2.2.1 k l k rfl rfl (by omega))).trans
    (wuq2_at (W0 m ρ c) k l)

/-- The keys' weight. -/
theorem wk_blk (t : Fin cfg0.N) : IsMat (iblk0 (V1 m ρ) c 10 t : S256x1024.Idx → EReal) (colsK (hargs (W0 m ρ c)).wuk) := fun k l =>
  (congrArg (V1 m ρ c main_v34) (blk_of (a := 256) (((cfg0.win 10).blk t).view.emb (ix2 k l)) (at_weights t).2.2.2.2.2.2.2.2.1 k l k rfl rfl (by omega))).trans
    (wukp_at (W0 m ρ c) k l)

/-- The values' weight. -/
theorem wv_blk (t : Fin cfg0.N) : IsMat (iblk0 (V1 m ρ) c 11 t : S256x512.Idx → EReal) (fun k l => (hargs (W0 m ρ c)).wuv k (l / 64) (l % 64)) := fun k l =>
  (congrArg (V1 m ρ c main_v37) (blk_of (a := 256) (((cfg0.win 11).blk t).view.emb (ix2 k l)) (at_weights t).2.2.2.2.2.2.2.2.2 k l k rfl rfl (by omega))).trans
    (wuv_at (W0 m ρ c) k l)

/-- The first coordinate's comparison with 128. -/
theorem first_group : ∀ t : Fin 132, Scalar.cmpi .slt (BitVec.ofNat 32 t.val) 128#32 = if t.val < 128 then 1#1 else 0#1 := by decide +kernel

/-- The frames' rows: of the first group on the first 128 tiles. -/
theorem x_blk (t : Fin cfg0.N) (r : Fin 256) (j : Fin 1024) :
    (Scalar.select (Scalar.cmpi .slt (BitVec.ofNat 32 (grid0.coords t 0).val) 128#32) ((iblk0 (V1 m ρ) c 0 t : S256x1024.Idx → EReal) (ix2 r j))
      ((iblk0 (V1 m ρ) c 1 t : S256x1024.Idx → EReal) (ix2 r j)) : EReal) = (hargs (W0 m ρ c)).x (256 * t.val + r.val) j := by
  have ht : t.val < 132 := lt_of_lt_of_eq t.isLt N_0
  rw [coord0, first_group ⟨t.val, ht⟩]
  by_cases h : t.val < 128
  · rw [if_pos h]
    exact (congrArg (V1 m ρ c main_v50) (blk_of (a := 256) (((cfg0.win 0).blk t).view.emb (ix2 r j)) (at_frames t).1 r j
      ⟨256 * t.val + r.val, by omega⟩ rfl rfl (by show min t.val 127 * 256 + r.val = 256 * t.val + r.val; omega))).trans (xp_at (W0 m ρ c) _ j)
  · rw [if_neg h]
    refine ((congrArg (V1 m ρ c main_v51) (blk_of (a := 256) (((cfg0.win 1).blk t).view.emb (ix2 r j)) (at_frames t).2 r j
      ⟨256 * t.val + r.val - 32768, by omega⟩ rfl rfl (by show (t.val - 128) * 256 + r.val = 256 * t.val + r.val - 32768; omega))).trans
      (xs_at (W0 m ρ c) _ j)).trans ?_
    exact congrArg (fun n => (hargs (W0 m ρ c)).x n j) (by simp only; omega)

/-- The tables' row of a tile's row. -/
def tabRow (t r : ℕ) : ℕ := (if t < 128 then t % 8 else 8) * 256 + r

theorem tabRow_lt (t : ℕ) (r : Fin 256) : tabRow t r < 2304 := by unfold tabRow; split_ifs <;> omega

/-- It holds the frame's position. -/
theorem tabPos_row {t : ℕ} (ht : t < 132) (r : Fin 256) : tabPos (tabRow t r) = pos (256 * t + r.val) := by
  unfold tabPos tabRow pos
  split_ifs <;> omega

/-- The cosines' row. -/
theorem cos_blk (t : Fin cfg0.N) (r : Fin 256) :
    IsRow (iblk0 (V1 m ρ) c 12 t : S256x128.Idx → EReal) r (table 1 (cosAt (pos (256 * t.val + r.val)))) := fun l =>
  ((congrArg (V1 m ρ c main_v47) (blk_of (a := 256) (((cfg0.win 12).blk t).view.emb (ix2 r l)) (at_tables t).1 r l ⟨_, tabRow_lt t.val r⟩
    rfl rfl rfl)).trans (cos_at (W0 m ρ c) _ l)).trans
    (congrArg (fun p => table 1 (cosAt p) l) (tabPos_row (lt_of_lt_of_eq t.isLt N_0) r))

/-- The sines' row. -/
theorem sin_blk (t : Fin cfg0.N) (r : Fin 256) :
    IsRow (iblk0 (V1 m ρ) c 13 t : S256x128.Idx → EReal) r (table 0 (sinAt (pos (256 * t.val + r.val)))) := fun l =>
  ((congrArg (V1 m ρ c main_v49) (blk_of (a := 256) (((cfg0.win 13).blk t).view.emb (ix2 r l)) (at_tables t).2 r l ⟨_, tabRow_lt t.val r⟩
    rfl rfl rfl)).trans (sin_at (W0 m ρ c) _ l)).trans
    (congrArg (fun p => table 0 (sinAt p) l) (tabPos_row (lt_of_lt_of_eq t.isLt N_0) r))

/-- Tile `t` at its row `r` is of frame 256·t + r. -/
theorem tile (t : Fin cfg0.N) (r : Fin 256) : Tile (hargs (W0 m ρ c)) (grid0.coords t) r (256 * t.val + r.val)
    (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t)
    (iblk0 (V1 m ρ) c 6 t) (iblk0 (V1 m ρ) c 7 t) (iblk0 (V1 m ρ) c 8 t) (iblk0 (V1 m ρ) c 9 t) (iblk0 (V1 m ρ) c 10 t)
    (iblk0 (V1 m ρ) c 11 t) (iblk0 (V1 m ρ) c 12 t) (iblk0 (V1 m ρ) c 13 t) :=
  ⟨x_blk m ρ c t r, gm_blk m ρ c t, w1_blk m ρ c t, w2_blk m ρ c t, w3_blk m ρ c t, gq_blk m ρ c t, gkv_blk m ρ c t, wq_blk m ρ c t,
    wr_blk m ρ c t, wk_blk m ρ c t, wv_blk m ρ c t, cos_blk m ρ c t r, sin_blk m ρ c t r⟩

/-- A block of 256 rows is the array's, where each row is. -/
theorem rows_eq {n t : ℕ} {U : ℕ → ℕ → EReal} {X : (⟨2, ![256, n]⟩ : Shape).Idx → EReal} {f : Fin 2 → ℕ} (hf : f = ![t, 0])
    {e : (⟨2, ![256, n]⟩ : Shape).Idx → (⟨2, ![33792, n]⟩ : Shape).Idx} (h0 : ∀ j, (e j 0).val = f 0 * 256 + 1 * (j 0).val)
    (h1 : ∀ j, (e j 1).val = f 1 * n + 1 * (j 1).val) (hX : ∀ r : Fin 256, IsRow X r (U (256 * t + r.val))) (j) : X j = arr n U (e j) := by
  subst hf
  have hj : j = ix2 (j 0) (j 1) := ix2_of j _ _ rfl rfl
  unfold arr
  rw [h0, h1]
  conv_lhs => rw [hj]
  refine (hX (j 0) (j 1)).trans ?_
  show U _ _ = U (t * 256 + 1 * (j 0).val) (0 * n + 1 * (j 1).val)
  congr 1
  · omega
  · omega

/-- The tile that row `i` is of. -/
def tileOf (i : ℕ) (h : i < 33792) : Fin cfg0.N := ⟨i / 256, by have : cfg0.N = 132 := N_0; omega⟩

theorem in_tile {n : ℕ} {f : Fin 2 → ℕ} (i : (⟨2, ![33792, n]⟩ : Shape).Idx) (hf : f = ![(i 0).val / 256, 0]) :
    ∀ a : Fin 2, f a * ![256, n] a ≤ (i a).val ∧ (i a).val < f a * ![256, n] a + ![256, n] a := by
  subst hf
  intro a
  match a with
  | ⟨0, _⟩ => show (i 0).val / 256 * 256 ≤ (i 0).val ∧ (i 0).val < (i 0).val / 256 * 256 + 256; omega
  | ⟨1, _⟩ => show 0 * n ≤ (i 1).val ∧ (i 1).val < 0 * n + n; have : (i 1).val < n := (i 1).isLt; omega

/-- A row of a tile is a frame's. -/
theorem row_lt (t : Fin cfg0.N) (r : Fin 256) : 256 * t.val + r.val < 33792 := by
  have ht : t.val < 132 := lt_of_lt_of_eq t.isLt N_0
  omega

/-- The latents. -/
theorem lat_arr : (dat0 (V1 m ρ) c).arrAt 14 cfg0.N = arr 256 (hargs (W0 m ρ c)).lat := by
  refine (dat0 (V1 m ρ) c).arrAt_eq_of_cover 14 (arr 256 (hargs (W0 m ρ c)).lat) (fun t _ => ?_) (fun i => ?_)
  · show (cfg0.win 14).cut (grid0.coords t) ((dat0 (V1 m ρ) c).after 14 t) = _
    rw [after0_14]
    exact funext (rows_eq (n := 256) (t := t.val) (U := (hargs (W0 m ρ c)).lat) (e := ((cfg0.win 14).blk t).view.emb) (at_results t).1 (fun _ => rfl) (fun _ => rfl) fun r => (tile m ρ c t r).lat)
  · let t := tileOf (i 0).val (i 0).isLt
    refine ⟨t, flush0_14 t, ?_⟩
    show i ∈ ((View.whole main_v58_0).slice (win0_14.rect t)).set
    rw [View.set_slice_whole, Rect.mem_set_unit]
    exact in_tile i (at_results t).1

/-- The shared keys. -/
theorem kr_arr (hA : (hargs (W0 m ρ c)).Finite) : (dat0 (V1 m ρ) c).arrAt 15 cfg0.N = arr 32 (hargs (W0 m ρ c)).krope := by
  refine (dat0 (V1 m ρ) c).arrAt_eq_of_cover 15 (arr 32 (hargs (W0 m ρ c)).krope) (fun t _ => ?_) (fun i => ?_)
  · show (cfg0.win 15).cut (grid0.coords t) ((dat0 (V1 m ρ) c).after 15 t) = _
    rw [after0_15]
    exact funext (rows_eq (n := 32) (t := t.val) (U := (hargs (W0 m ρ c)).krope) (e := ((cfg0.win 15).blk t).view.emb) (at_results t).2.1 (fun _ => rfl) (fun _ => rfl) fun r => (tile m ρ c t r).kr hA (row_lt t r))
  · let t := tileOf (i 0).val (i 0).isLt
    refine ⟨t, flush0_15 t, ?_⟩
    show i ∈ ((View.whole main_v58_1).slice (win0_15.rect t)).set
    rw [View.set_slice_whole, Rect.mem_set_unit]
    exact in_tile i (at_results t).2.1

/-- The queries. -/
theorem query_arr (hA : (hargs (W0 m ρ c)).Finite) : (dat0 (V1 m ρ) c).arrAt 16 cfg0.N = arr 1024 (hargs (W0 m ρ c)).query := by
  refine (dat0 (V1 m ρ) c).arrAt_eq_of_cover 16 (arr 1024 (hargs (W0 m ρ c)).query) (fun t _ => ?_) (fun i => ?_)
  · show (cfg0.win 16).cut (grid0.coords t) ((dat0 (V1 m ρ) c).after 16 t) = _
    rw [after0_16]
    exact funext (rows_eq (n := 1024) (t := t.val) (U := (hargs (W0 m ρ c)).query) (e := ((cfg0.win 16).blk t).view.emb) (at_results t).2.2.1 (fun _ => rfl) (fun _ => rfl) fun r => (tile m ρ c t r).query hA (row_lt t r))
  · let t := tileOf (i 0).val (i 0).isLt
    refine ⟨t, flush0_16 t, ?_⟩
    show i ∈ ((View.whole main_v58_2).slice (win0_16.rect t)).set
    rw [View.set_slice_whole, Rect.mem_set_unit]
    exact in_tile i (at_results t).2.2.1

/-- The keys. -/
theorem key_arr (hA : (hargs (W0 m ρ c)).Finite) : (dat0 (V1 m ρ) c).arrAt 17 cfg0.N = arr 1024 (hargs (W0 m ρ c)).key := by
  refine (dat0 (V1 m ρ) c).arrAt_eq_of_cover 17 (arr 1024 (hargs (W0 m ρ c)).key) (fun t _ => ?_) (fun i => ?_)
  · show (cfg0.win 17).cut (grid0.coords t) ((dat0 (V1 m ρ) c).after 17 t) = _
    rw [after0_17]
    exact funext (rows_eq (n := 1024) (t := t.val) (U := (hargs (W0 m ρ c)).key) (e := ((cfg0.win 17).blk t).view.emb) (at_results t).2.2.2.1 (fun _ => rfl) (fun _ => rfl) fun r => (tile m ρ c t r).key hA (row_lt t r))
  · let t := tileOf (i 0).val (i 0).isLt
    refine ⟨t, flush0_17 t, ?_⟩
    show i ∈ ((View.whole main_v58_3).slice (win0_17.rect t)).set
    rw [View.set_slice_whole, Rect.mem_set_unit]
    exact in_tile i (at_results t).2.2.2.1

/-- The values. -/
theorem value_arr : (dat0 (V1 m ρ) c).arrAt 18 cfg0.N = arr 512 (hargs (W0 m ρ c)).value := by
  refine (dat0 (V1 m ρ) c).arrAt_eq_of_cover 18 (arr 512 (hargs (W0 m ρ c)).value) (fun t _ => ?_) (fun i => ?_)
  · show (cfg0.win 18).cut (grid0.coords t) ((dat0 (V1 m ρ) c).after 18 t) = _
    rw [after0_18]
    exact funext (rows_eq (n := 512) (t := t.val) (U := (hargs (W0 m ρ c)).value) (e := ((cfg0.win 18).blk t).view.emb) (at_results t).2.2.2.2.1 (fun _ => rfl) (fun _ => rfl) fun r => (tile m ρ c t r).value)
  · let t := tileOf (i 0).val (i 0).isLt
    refine ⟨t, flush0_18 t, ?_⟩
    show i ∈ ((View.whole main_v58_4).slice (win0_18.rect t)).set
    rw [View.set_slice_whole, Rect.mem_set_unit]
    exact in_tile i (at_results t).2.2.2.2.1

/-- The band's queries. -/
theorem qb_arr : (dat0 (V1 m ρ) c).arrAt 19 cfg0.N = arr 512 (fun t l => (hargs (W0 m ρ c)).proj t (672 + l)) := by
  refine (dat0 (V1 m ρ) c).arrAt_eq_of_cover 19 (arr 512 (fun t l => (hargs (W0 m ρ c)).proj t (672 + l))) (fun t _ => ?_) (fun i => ?_)
  · show (cfg0.win 19).cut (grid0.coords t) ((dat0 (V1 m ρ) c).after 19 t) = _
    rw [after0_19]
    exact funext (rows_eq (n := 512) (t := t.val) (U := (fun t l => (hargs (W0 m ρ c)).proj t (672 + l))) (e := ((cfg0.win 19).blk t).view.emb) (at_results t).2.2.2.2.2.1 (fun _ => rfl) (fun _ => rfl) fun r => (tile m ρ c t r).qb)
  · let t := tileOf (i 0).val (i 0).isLt
    refine ⟨t, flush0_19 t, ?_⟩
    show i ∈ ((View.whole main_v58_5).slice (win0_19.rect t)).set
    rw [View.set_slice_whole, Rect.mem_set_unit]
    exact in_tile i (at_results t).2.2.2.2.2.1

/-- The band's keys. -/
theorem kb16_arr : (dat0 (V1 m ρ) c).arrAt 20 cfg0.N = arr 512 (fun t l => (hargs (W0 m ρ c)).proj t (1184 + l)) := by
  refine (dat0 (V1 m ρ) c).arrAt_eq_of_cover 20 (arr 512 (fun t l => (hargs (W0 m ρ c)).proj t (1184 + l))) (fun t _ => ?_) (fun i => ?_)
  · show (cfg0.win 20).cut (grid0.coords t) ((dat0 (V1 m ρ) c).after 20 t) = _
    rw [after0_20]
    exact funext (rows_eq (n := 512) (t := t.val) (U := (fun t l => (hargs (W0 m ρ c)).proj t (1184 + l))) (e := ((cfg0.win 20).blk t).view.emb) (at_results t).2.2.2.2.2.2.1 (fun _ => rfl) (fun _ => rfl) fun r => (tile m ρ c t r).kb16)
  · let t := tileOf (i 0).val (i 0).isLt
    refine ⟨t, flush0_20 t, ?_⟩
    show i ∈ ((View.whole main_v58_6).slice (win0_20.rect t)).set
    rw [View.set_slice_whole, Rect.mem_set_unit]
    exact in_tile i (at_results t).2.2.2.2.2.2.1

/-- The band's values. -/
theorem vb16_arr : (dat0 (V1 m ρ) c).arrAt 21 cfg0.N = arr 512 (fun t l => (hargs (W0 m ρ c)).proj t (1696 + l)) := by
  refine (dat0 (V1 m ρ) c).arrAt_eq_of_cover 21 (arr 512 (fun t l => (hargs (W0 m ρ c)).proj t (1696 + l))) (fun t _ => ?_) (fun i => ?_)
  · show (cfg0.win 21).cut (grid0.coords t) ((dat0 (V1 m ρ) c).after 21 t) = _
    rw [after0_21]
    exact funext (rows_eq (n := 512) (t := t.val) (U := (fun t l => (hargs (W0 m ρ c)).proj t (1696 + l))) (e := ((cfg0.win 21).blk t).view.emb) (at_results t).2.2.2.2.2.2.2.1 (fun _ => rfl) (fun _ => rfl) fun r => (tile m ρ c t r).vb16)
  · let t := tileOf (i 0).val (i 0).isLt
    refine ⟨t, flush0_21 t, ?_⟩
    show i ∈ ((View.whole main_v58_7).slice (win0_21.rect t)).set
    rw [View.set_slice_whole, Rect.mem_set_unit]
    exact in_tile i (at_results t).2.2.2.2.2.2.2.1

/-- The band's keys for the buffers. -/
theorem kb_arr : (dat0 (V1 m ρ) c).arrAt 22 cfg0.N = arr 512 (fun t l => (hargs (W0 m ρ c)).proj t (1184 + l)) := by
  refine (dat0 (V1 m ρ) c).arrAt_eq_of_cover 22 (arr 512 (fun t l => (hargs (W0 m ρ c)).proj t (1184 + l))) (fun t _ => ?_) (fun i => ?_)
  · show (cfg0.win 22).cut (grid0.coords t) ((dat0 (V1 m ρ) c).after 22 t) = _
    rw [after0_22]
    exact funext (rows_eq (n := 512) (t := t.val) (U := (fun t l => (hargs (W0 m ρ c)).proj t (1184 + l))) (e := ((cfg0.win 22).blk t).view.emb) (at_results t).2.2.2.2.2.2.2.2.1 (fun _ => rfl) (fun _ => rfl) fun r => (tile m ρ c t r).kb)
  · let t := tileOf (i 0).val (i 0).isLt
    refine ⟨t, flush0_22 t, ?_⟩
    show i ∈ ((View.whole main_v58_8).slice (win0_22.rect t)).set
    rw [View.set_slice_whole, Rect.mem_set_unit]
    exact in_tile i (at_results t).2.2.2.2.2.2.2.2.1

/-- The band's values for the buffers. -/
theorem vb_arr : (dat0 (V1 m ρ) c).arrAt 23 cfg0.N = arr 512 (fun t l => (hargs (W0 m ρ c)).proj t (1696 + l)) := by
  refine (dat0 (V1 m ρ) c).arrAt_eq_of_cover 23 (arr 512 (fun t l => (hargs (W0 m ρ c)).proj t (1696 + l))) (fun t _ => ?_) (fun i => ?_)
  · show (cfg0.win 23).cut (grid0.coords t) ((dat0 (V1 m ρ) c).after 23 t) = _
    rw [after0_23]
    exact funext (rows_eq (n := 512) (t := t.val) (U := (fun t l => (hargs (W0 m ρ c)).proj t (1696 + l))) (e := ((cfg0.win 23).blk t).view.emb) (at_results t).2.2.2.2.2.2.2.2.2.1 (fun _ => rfl) (fun _ => rfl) fun r => (tile m ρ c t r).vb)
  · let t := tileOf (i 0).val (i 0).isLt
    refine ⟨t, flush0_23 t, ?_⟩
    show i ∈ ((View.whole main_v58_9).slice (win0_23.rect t)).set
    rw [View.set_slice_whole, Rect.mem_set_unit]
    exact in_tile i (at_results t).2.2.2.2.2.2.2.2.2.1

/-- The latent attention's gates. -/
theorem ga_arr : (dat0 (V1 m ρ) c).arrAt 24 cfg0.N = arr 1024 (fun t l => Ideal.logistic ((hargs (W0 m ρ c)).proj t (2208 + l))) := by
  refine (dat0 (V1 m ρ) c).arrAt_eq_of_cover 24 (arr 1024 (fun t l => Ideal.logistic ((hargs (W0 m ρ c)).proj t (2208 + l)))) (fun t _ => ?_) (fun i => ?_)
  · show (cfg0.win 24).cut (grid0.coords t) ((dat0 (V1 m ρ) c).after 24 t) = _
    rw [after0_24]
    exact funext (rows_eq (n := 1024) (t := t.val) (U := (fun t l => Ideal.logistic ((hargs (W0 m ρ c)).proj t (2208 + l)))) (e := ((cfg0.win 24).blk t).view.emb) (at_results t).2.2.2.2.2.2.2.2.2.2.1 (fun _ => rfl) (fun _ => rfl) fun r => (tile m ρ c t r).ga)
  · let t := tileOf (i 0).val (i 0).isLt
    refine ⟨t, flush0_24 t, ?_⟩
    show i ∈ ((View.whole main_v58_10).slice (win0_24.rect t)).set
    rw [View.set_slice_whole, Rect.mem_set_unit]
    exact in_tile i (at_results t).2.2.2.2.2.2.2.2.2.2.1

/-- The band attention's gates. -/
theorem gb_arr : (dat0 (V1 m ρ) c).arrAt 25 cfg0.N = arr 1024 (fun t l => Ideal.logistic ((hargs (W0 m ρ c)).proj t (3232 + l))) := by
  refine (dat0 (V1 m ρ) c).arrAt_eq_of_cover 25 (arr 1024 (fun t l => Ideal.logistic ((hargs (W0 m ρ c)).proj t (3232 + l)))) (fun t _ => ?_) (fun i => ?_)
  · show (cfg0.win 25).cut (grid0.coords t) ((dat0 (V1 m ρ) c).after 25 t) = _
    rw [after0_25]
    exact funext (rows_eq (n := 1024) (t := t.val) (U := (fun t l => Ideal.logistic ((hargs (W0 m ρ c)).proj t (3232 + l)))) (e := ((cfg0.win 25).blk t).view.emb) (at_results t).2.2.2.2.2.2.2.2.2.2.2 (fun _ => rfl) (fun _ => rfl) fun r => (tile m ρ c t r).gb)
  · let t := tileOf (i 0).val (i 0).isLt
    refine ⟨t, flush0_25 t, ?_⟩
    show i ∈ ((View.whole main_v58_11).slice (win0_25.rect t)).set
    rw [View.set_slice_whole, Rect.mem_set_unit]
    exact in_tile i (at_results t).2.2.2.2.2.2.2.2.2.2.2

end Mixer

end
-- ==== Proof.LayerBuf.lean ====
/- The rolled buffers of the sampled group: what the second call leaves in them. -/
module

public import proofs.«01_k».proof.Proof.LayerOut

@[expose] public section

set_option maxRecDepth 16384

noncomputable section

namespace Mixer

open Idealize.ShloMosaic Idealize.ShloMosaic.TcCoe Cert.LayerIdeal Cert.LayerIdeal.Gen Cert.LayerIdeal.Run

attribute [local instance] Cert.LayerIdeal.Gen.facts

/-- A row's buffer, moved on by 32 frames: the buffer's own rows from the 32nd on, then the new rows. -/
def moved (C : S1x512x512.Idx → EReal) (X : S32x512.Idx → EReal) : S1x512x512.Idx → EReal := fun y =>
  if h : (y 1).val < 480 then C (ix3 0 ⟨(y 1).val + 32, by omega⟩ (y 2)) else X (ix2 ⟨(y 1).val - 480, by have : (y 1).val < 512 := (y 1).isLt; omega⟩ (y 2))

/-- A whole block of one buffer loaded is the block. -/
theorem ld_buf (C : Vec Ideal S1x512x512 .f32) (hin) (p : Fin 1) (q l : Fin 512) :
    View.ld (Val := Elt Ideal) C (Rect.unit (s := S1x512x512) ![0, 0, 0] ![1, 512, 512] hin) (ix3 p q l) = C (ix3 p q l) := by
  refine congrArg C ?_
  funext a
  match a with
  | ⟨0, _⟩ => exact Fin.ext (by show 0 + 1 * p.val = p.val; omega)
  | ⟨1, _⟩ => exact Fin.ext (by show 0 + 1 * q.val = q.val; omega)
  | ⟨2, _⟩ => exact Fin.ext (by show 0 + 1 * l.val = l.val; omega)

/-- The rows kept of the keys' buffer are its rows from the 32nd on. -/
theorem kept_k (C : FVec Ideal S1x512x512 .f32) (p : Fin 1) (q : Fin 480) (l : Fin 512) :
    k1_pay98 (k1_pay4 C) (ix3 p q l) = C (ix3 p ⟨q.val + 32, by omega⟩ l) := by
  pointwise [k1_pay98, k1_pay4]
  first | rfl | (refine congrArg C ?_; congr 1 <;> exact Fin.ext (by simp; try omega))

/-- The rows kept of the values' buffer are its rows from the 32nd on. -/
theorem kept_v (C : FVec Ideal S1x512x512 .f32) (p : Fin 1) (q : Fin 480) (l : Fin 512) :
    k1_pay2 (k1_pay5 C) (ix3 p q l) = C (ix3 p ⟨q.val + 32, by omega⟩ l) := by
  pointwise [k1_pay2, k1_pay5]
  first | rfl | (refine congrArg C ?_; congr 1 <;> exact Fin.ext (by simp; try omega))

/-- The new rows of the keys' buffer are stored as they come. -/
theorem new_k (X : FVec Ideal S32x512 .f32) (p : Fin 1) (q : Fin 32) (l : Fin 512) : k1_pay1 (k1_pay99 X) (ix3 p q l) = X (ix2 q l) := by
  pointwise [k1_pay1, k1_pay99]

/-- The new rows of the values' buffer are stored as they come. -/
theorem new_v (X : FVec Ideal S32x512 .f32) (p : Fin 1) (q : Fin 32) (l : Fin 512) : k1_pay3 X (ix3 p q l) = X (ix2 q l) := by
  pointwise [k1_pay3]

/-- What is stored in a buffer's last 32 rows is what the moved buffer has there. -/
theorem moved_new {C : S1x512x512.Idx → EReal} {X : S32x512.Idx → EReal} {P : S1x32x512.Idx → EReal} (hP : ∀ p q l, P (ix3 p q l) = X (ix2 q l))
    (e : S1x32x512.Idx → S1x512x512.Idx) (h1 : ∀ x, (e x 1).val = 480 + 1 * (x 1).val) (h2 : ∀ x, (e x 2).val = 0 + 1 * (x 2).val) (x) :
    P x = moved C X (e x) := by
  refine (congrArg P (eq_ix3 x)).trans ((hP _ _ _).trans (Eq.trans ?_ (dif_neg (by rw [h1]; omega)).symm))
  refine congrArg X (ix2_of _ _ _ ?_ ?_).symm
  · show (e x 1).val - 480 = (x 1).val
    rw [h1]
    omega
  · show (e x 2).val = (x 2).val
    rw [h2]
    omega

/-- What is stored in a buffer's first 480 rows is what the moved buffer has there. -/
theorem moved_kept {C : S1x512x512.Idx → EReal} {X : S32x512.Idx → EReal} {P : S1x480x512.Idx → EReal}
    (hP : ∀ p q l, P (ix3 p q l) = C (ix3 p ⟨q.val + 32, by omega⟩ l))
    (e : S1x480x512.Idx → S1x512x512.Idx) (h1 : ∀ x, (e x 1).val = 0 + 1 * (x 1).val) (h2 : ∀ x, (e x 2).val = 0 + 1 * (x 2).val) (x) :
    P x = moved C X (e x) := by
  have hx : (x 1).val < 480 := (x 1).isLt
  have h0 : (x 0).val < 1 := (x 0).isLt
  refine (congrArg P (eq_ix3 x)).trans ((hP _ _ _).trans (Eq.trans ?_ (dif_pos (by rw [h1]; omega)).symm))
  refine congrArg C ?_
  funext a
  match a with
  | ⟨0, _⟩ => exact Fin.ext (by show (x 0).val = 0; omega)
  | ⟨1, _⟩ => exact Fin.ext (by show (x 1).val + 32 = (e x 1).val + 32; rw [h1]; omega)
  | ⟨2, _⟩ => exact Fin.ext (by show (x 2).val = (e x 2).val; rw [h2]; omega)

/-- What is stored in the first 480 rows of the keys' buffer is what the moved buffer has there. -/
theorem low_k (C : Vec Ideal S1x512x512 .f32) (X : Vec Ideal S32x512 .f32) (x : S1x480x512.Idx) :
    k1_pay98 (k1_pay4 (View.ld (Val := Elt Ideal) C (Rect.unit (s := S1x512x512) ![0, 0, 0] ![1, 512, 512] inb_S1x512x512_S1x512x512_0_0_0))) x
      = moved C X ((Rect.unit (s := S1x512x512) ![0, 0, 0] ![1, 480, 512] inb_S1x512x512_S1x480x512_0_0_0).emb x) :=
  moved_kept (C := C) (X := X) (fun p q l => (kept_k _ p q l).trans (ld_buf C _ p _ l)) _ (fun _ => rfl) (fun _ => rfl) x

/-- What is stored in the last 32 rows of the keys' buffer is what the moved buffer has there. -/
theorem high_k (C : Vec Ideal S1x512x512 .f32) (X : Vec Ideal S32x512 .f32) (x : S1x32x512.Idx) :
    k1_pay1 (k1_pay99 (View.ld (Val := Elt Ideal) X (Rect.unit (s := S32x512) ![0, 0] ![32, 512] inb_S32x512_S32x512_0_0))) x
      = moved C X ((Rect.unit (s := S1x512x512) ![0, 480, 0] ![1, 32, 512] inb_S1x512x512_S1x32x512_0_480_0).emb x) :=
  moved_new (C := C) (X := X) (fun p q l => (new_k _ p q l).trans (ld_all X _ q l)) _ (fun _ => rfl) (fun _ => rfl) x

/-- What is stored in the first 480 rows of the values' buffer is what the moved buffer has there. -/
theorem low_v (C : Vec Ideal S1x512x512 .f32) (X : Vec Ideal S32x512 .f32) (x : S1x480x512.Idx) :
    k1_pay2 (k1_pay5 (View.ld (Val := Elt Ideal) C (Rect.unit (s := S1x512x512) ![0, 0, 0] ![1, 512, 512] inb_S1x512x512_S1x512x512_0_0_0))) x
      = moved C X ((Rect.unit (s := S1x512x512) ![0, 0, 0] ![1, 480, 512] inb_S1x512x512_S1x480x512_0_0_0).emb x) :=
  moved_kept (C := C) (X := X) (fun p q l => (kept_v _ p q l).trans (ld_buf C _ p _ l)) _ (fun _ => rfl) (fun _ => rfl) x

/-- What is stored in the last 32 rows of the values' buffer is what the moved buffer has there. -/
theorem high_v (C : Vec Ideal S1x512x512 .f32) (X : Vec Ideal S32x512 .f32) (x : S1x32x512.Idx) :
    k1_pay3 (View.ld (Val := Elt Ideal) X (Rect.unit (s := S32x512) ![0, 0] ![32, 512] inb_S32x512_S32x512_0_0)) x
      = moved C X ((Rect.unit (s := S1x512x512) ![0, 480, 0] ![1, 32, 512] inb_S1x512x512_S1x32x512_0_480_0).emb x) :=
  moved_new (C := C) (X := X) (fun p q l => (new_v _ p q l).trans (ld_all X _ q l)) _ (fun _ => rfl) (fun _ => rfl) x

section
variable (V : (c : Dev nD) → (r : Ref sig .tc) → r.ty.Contents (Elt Ideal)) (c : Dev nD) (t : Fin cfg1.N)

/-- What is stored of the keys' buffer is the old one moved on by the new keys. -/
theorem moved_k : (outsAt1 V c t).2.1 = moved (iblk1 V c 1 t) (iblk1 V c 5 t) := by
  unfold outsAt1
  dsimp only
  unfold out1_A_10
  funext y
  rw [View.read_writes_apply_eq_canon _ _ _ _ (cover1_A_10 c _ _ _ _ _ _ _ _ _ _ _ _ _ _ _ _ _ _ _ _ _ _ _ _ _ _ _ _ _ _ _ _ _ _ y)]
  refine View.canon_apply_of_pieces _ _ ?_ y (cover1_A_10 c _ _ _ _ _ _ _ _ _ _ _ _ _ _ _ _ _ _ _ _ _ _ _ _ _ _ _ _ _ _ _ _ _ _ y)
  unfold kernelRun1_A
  dsimp only
  sl_unfold_words
  simp only [View.readAt_eq_ld, (hs1_1 t).read_unread, (hs1_5 t).read_unread]
  intro p hp
  rcases List.mem_cons.mp hp with rfl | hp
  · exact high_k (iblk1 V c 1 t) (iblk1 V c 5 t)
  · obtain rfl := List.mem_singleton.mp hp
    exact low_k (iblk1 V c 1 t) (iblk1 V c 5 t)

/-- What is stored of the values' buffer is the old one moved on by the new values. -/
theorem moved_v : (outsAt1 V c t).2.2 = moved (iblk1 V c 2 t) (iblk1 V c 6 t) := by
  unfold outsAt1
  dsimp only
  unfold out1_A_11
  funext y
  rw [View.read_writes_apply_eq_canon _ _ _ _ (cover1_A_11 c _ _ _ _ _ _ _ _ _ _ _ _ _ _ _ _ _ _ _ _ _ _ _ _ _ _ _ _ _ _ _ _ _ _ y)]
  refine View.canon_apply_of_pieces _ _ ?_ y (cover1_A_11 c _ _ _ _ _ _ _ _ _ _ _ _ _ _ _ _ _ _ _ _ _ _ _ _ _ _ _ _ _ _ _ _ _ _ y)
  unfold kernelRun1_A
  dsimp only
  sl_unfold_words
  simp only [View.readAt_eq_ld, (hs1_2 t).read_unread, (hs1_6 t).read_unread]
  intro p hp
  rcases List.mem_cons.mp hp with rfl | hp
  · exact high_v (iblk1 V c 2 t) (iblk1 V c 6 t)
  · obtain rfl := List.mem_singleton.mp hp
    exact low_v (iblk1 V c 2 t) (iblk1 V c 6 t)

end

/-- Where the blocks of a sampled row's buffers lie: the row's buffer in each stack, the row's frames in each sequence. -/
theorem at_bufs : ∀ t : Fin cfg1.N, win1_1.index t = ![t.val, 0, 0] ∧ win1_2.index t = ![t.val, 0, 0] ∧ win1_5.index t = ![1024 + t.val, 0]
    ∧ win1_6.index t = ![1024 + t.val, 0] ∧ win1_10.index t = ![t.val, 0, 0] ∧ win1_11.index t = ![t.val, 0, 0] :=
  (by decide +kernel : ∀ t : Fin grid1.N, win1_1.index t = ![t.val, 0, 0] ∧ win1_2.index t = ![t.val, 0, 0] ∧ win1_5.index t = ![1024 + t.val, 0]
    ∧ win1_6.index t = ![1024 + t.val, 0] ∧ win1_10.index t = ![t.val, 0, 0] ∧ win1_11.index t = ![t.val, 0, 0])

/-- The stack of the rows' buffers, each moved on by its row's 32 frames of the sequence `U`. -/
def stack (C : S32x512x512.Idx → EReal) (U : ℕ → ℕ → EReal) : S32x512x512.Idx → EReal := fun y =>
  if h : (y 1).val < 480 then C (ix3 (y 0) ⟨(y 1).val + 32, by omega⟩ (y 2)) else U (32768 + 32 * (y 0).val + ((y 1).val - 480)) (y 2).val

/-- A row's moved buffer is the stack's, where the row is. -/
theorem moved_eq {t : ℕ} {C : S32x512x512.Idx → EReal} {U : ℕ → ℕ → EReal} {B : S1x512x512.Idx → EReal} {X : S32x512.Idx → EReal}
    (eB : S1x512x512.Idx → S32x512x512.Idx) (hB : ∀ y, B y = C (eB y)) (hX : ∀ q l, X (ix2 q l) = U (32 * (1024 + t) + q.val) l.val)
    (b0 : ∀ y, (eB y 0).val = t + (y 0).val) (b1 : ∀ y, (eB y 1).val = (y 1).val) (b2 : ∀ y, (eB y 2).val = (y 2).val)
    (e : S1x512x512.Idx → S32x512x512.Idx)
    (h0 : ∀ y, (e y 0).val = t + (y 0).val) (h1 : ∀ y, (e y 1).val = (y 1).val) (h2 : ∀ y, (e y 2).val = (y 2).val) (y) :
    moved B X y = stack C U (e y) := by
  have hy : (y 0).val < 1 := (y 0).isLt
  by_cases h : (y 1).val < 480
  · refine (dif_pos h).trans ((hB _).trans (Eq.trans ?_ (dif_pos (by rw [h1]; exact h)).symm))
    refine congrArg C ?_
    funext a
    match a with
    | ⟨0, _⟩ => exact Fin.ext ((b0 _).trans (by show t + 0 = (e y 0).val; rw [h0]; omega))
    | ⟨1, _⟩ => exact Fin.ext ((b1 _).trans (by show (y 1).val + 32 = (e y 1).val + 32; rw [h1]))
    | ⟨2, _⟩ => exact Fin.ext ((b2 _).trans (by show (y 2).val = (e y 2).val; rw [h2]))
  · refine (dif_neg h).trans ((hX _ _).trans (Eq.trans ?_ (dif_neg (by rw [h1]; exact h)).symm))
    show U (32 * (1024 + t) + ((y 1).val - 480)) (y 2).val = U (32768 + 32 * (e y 0).val + ((e y 1).val - 480)) (e y 2).val
    rw [h0, h1, h2]
    congr 1
    omega

section
variable (m : (ℓ : Loc nD τ sig) → Buf (Elt Ideal) ℓ) (ρ : Dev nD → PrngReg) (c : Dev nD)

/-- The sampled row that an index of the stack is of. -/
def rowOf (i : ℕ) (h : i < 32) : Fin cfg1.N := ⟨i, lt_of_lt_of_eq h N_1.symm⟩

/-- An index of the stack lies in the block of its own row. -/
theorem in_row {f : Fin 3 → ℕ} (i : S32x512x512.Idx) (hf : f = ![(i 0).val, 0, 0]) :
    ∀ a : Fin 3, f a * ![1, 512, 512] a ≤ (i a).val ∧ (i a).val < f a * ![1, 512, 512] a + ![1, 512, 512] a := by
  subst hf
  intro a
  match a with
  | ⟨0, _⟩ => show (i 0).val * 1 ≤ (i 0).val ∧ (i 0).val < (i 0).val * 1 + 1; omega
  | ⟨1, _⟩ => show 0 * 512 ≤ (i 1).val ∧ (i 1).val < 0 * 512 + 512; have : (i 1).val < 512 := (i 1).isLt; omega
  | ⟨2, _⟩ => show 0 * 512 ≤ (i 2).val ∧ (i 2).val < 0 * 512 + 512; have : (i 2).val < 512 := (i 2).isLt; omega

/-- A block of one row's buffer in its stack, coordinate by coordinate. -/
theorem buf_coord {t : ℕ} {f : Fin 3 → ℕ} (hf : f = ![t, 0, 0]) {e : S1x512x512.Idx → S32x512x512.Idx}
    (h : ∀ y, (e y 0).val = f 0 * 1 + 1 * (y 0).val ∧ (e y 1).val = f 1 * 512 + 1 * (y 1).val ∧ (e y 2).val = f 2 * 512 + 1 * (y 2).val) :
    (∀ y, (e y 0).val = t + (y 0).val) ∧ (∀ y, (e y 1).val = (y 1).val) ∧ ∀ y, (e y 2).val = (y 2).val := by
  subst hf
  refine ⟨fun y => (h y).1.trans ?_, fun y => (h y).2.1.trans ?_, fun y => (h y).2.2.trans ?_⟩
  · show t * 1 + 1 * (y 0).val = _
    omega
  · show 0 * 512 + 1 * (y 1).val = _
    omega
  · show 0 * 512 + 1 * (y 2).val = _
    omega

/-- The new keys, when the second call begins, are the band's keys. -/
theorem new_keys : V3 m ρ c main_v58_8 = arr 512 (fun t l => (hargs (W0 m ρ c)).proj t (1184 + l)) := by
  show W3 m ρ c (Proc.devRef .tc main_v58_8) = _
  rw [W3_of m ρ c _ (by decide +kernel)]
  exact (W2_arr m ρ c 22).trans (kb_arr m ρ c)

/-- The new values, when the second call begins, are the band's values. -/
theorem new_values : V3 m ρ c main_v58_9 = arr 512 (fun t l => (hargs (W0 m ρ c)).proj t (1696 + l)) := by
  show W3 m ρ c (Proc.devRef .tc main_v58_9) = _
  rw [W3_of m ρ c _ (by decide +kernel)]
  exact (W2_arr m ρ c 23).trans (vb_arr m ρ c)

/-- A sampled row's block of the keys is what its 32 frames give. -/
theorem bk_rows (t : Fin cfg1.N) (q : Fin 32) (l : Fin 512) :
    (iblk1 (V3 m ρ) c 5 t : S32x512.Idx → EReal) (ix2 q l) = (hargs (W0 m ρ c)).proj (32 * (1024 + t.val) + q.val) (1184 + l.val) := by
  have ht : t.val < 32 := lt_of_lt_of_eq t.isLt N_1
  refine (congrArg (V3 m ρ c main_v58_8) (blk_of (a := 32) (((cfg1.win 5).blk t).view.emb (ix2 q l)) (at_bufs t).2.2.1 q l
    ⟨32 * (1024 + t.val) + q.val, by omega⟩ rfl rfl (by show (1024 + t.val) * 32 + q.val = 32 * (1024 + t.val) + q.val; omega))).trans ?_
  rw [new_keys]
  rfl

/-- What is stored of a row's buffer of keys is the stack's. -/
theorem bk_point (t : Fin cfg1.N) (y : S1x512x512.Idx) :
    moved (iblk1 (V3 m ρ) c 1 t) (iblk1 (V3 m ρ) c 5 t) y
      = stack (V3 m ρ c main_v133) (fun t l => (hargs (W0 m ρ c)).proj t (1184 + l)) (((cfg1.win 10).blk t).view.emb y) := by
  have hB := buf_coord (at_bufs t).1 (e := ((cfg1.win 1).blk t).view.emb) fun y => ⟨rfl, rfl, rfl⟩
  have hE := buf_coord (at_bufs t).2.2.2.2.1 (e := ((cfg1.win 10).blk t).view.emb) fun y => ⟨rfl, rfl, rfl⟩
  exact moved_eq (t := t.val) (C := V3 m ρ c main_v133) (U := fun t l => (hargs (W0 m ρ c)).proj t (1184 + l)) (B := iblk1 (V3 m ρ) c 1 t)
    (X := iblk1 (V3 m ρ) c 5 t) ((cfg1.win 1).blk t).view.emb (fun _ => rfl) (bk_rows m ρ c t)
    hB.1 hB.2.1 hB.2.2 ((cfg1.win 10).blk t).view.emb hE.1 hE.2.1 hE.2.2 y

/-- The buffers of the keys are the old ones, each moved on by its row's new keys. -/
theorem bk_arr : (dat1 (V3 m ρ) c).arrAt 10 cfg1.N = stack (V3 m ρ c main_v133) (fun t l => (hargs (W0 m ρ c)).proj t (1184 + l)) := by
  refine (dat1 (V3 m ρ) c).arrAt_eq_of_cover 10 (stack (V3 m ρ c main_v133) (fun t l => (hargs (W0 m ρ c)).proj t (1184 + l))) (fun t _ => ?_) (fun i => ?_)
  · show (cfg1.win 10).cut (grid1.coords t) ((dat1 (V3 m ρ) c).after 10 t) = _
    rw [after1_10, moved_k]
    exact funext (bk_point m ρ c t)
  · let t := rowOf (i 0).val (i 0).isLt
    refine ⟨t, flush1_10 t, ?_⟩
    show i ∈ ((View.whole main_v138_1).slice (win1_10.rect t)).set
    rw [View.set_slice_whole, Rect.mem_set_unit]
    exact in_row i (at_bufs t).2.2.2.2.1

/-- A sampled row's block of the values is what its 32 frames give. -/
theorem bv_rows (t : Fin cfg1.N) (q : Fin 32) (l : Fin 512) :
    (iblk1 (V3 m ρ) c 6 t : S32x512.Idx → EReal) (ix2 q l) = (hargs (W0 m ρ c)).proj (32 * (1024 + t.val) + q.val) (1696 + l.val) := by
  have ht : t.val < 32 := lt_of_lt_of_eq t.isLt N_1
  refine (congrArg (V3 m ρ c main_v58_9) (blk_of (a := 32) (((cfg1.win 6).blk t).view.emb (ix2 q l)) (at_bufs t).2.2.2.1 q l
    ⟨32 * (1024 + t.val) + q.val, by omega⟩ rfl rfl (by show (1024 + t.val) * 32 + q.val = 32 * (1024 + t.val) + q.val; omega))).trans ?_
  rw [new_values]
  rfl

/-- What is stored of a row's buffer of values is the stack's. -/
theorem bv_point (t : Fin cfg1.N) (y : S1x512x512.Idx) :
    moved (iblk1 (V3 m ρ) c 2 t) (iblk1 (V3 m ρ) c 6 t) y
      = stack (V3 m ρ c main_v135) (fun t l => (hargs (W0 m ρ c)).proj t (1696 + l)) (((cfg1.win 11).blk t).view.emb y) := by
  have hB := buf_coord (at_bufs t).2.1 (e := ((cfg1.win 2).blk t).view.emb) fun y => ⟨rfl, rfl, rfl⟩
  have hE := buf_coord (at_bufs t).2.2.2.2.2 (e := ((cfg1.win 11).blk t).view.emb) fun y => ⟨rfl, rfl, rfl⟩
  exact moved_eq (t := t.val) (C := V3 m ρ c main_v135) (U := fun t l => (hargs (W0 m ρ c)).proj t (1696 + l)) (B := iblk1 (V3 m ρ) c 2 t)
    (X := iblk1 (V3 m ρ) c 6 t) ((cfg1.win 2).blk t).view.emb (fun _ => rfl) (bv_rows m ρ c t)
    hB.1 hB.2.1 hB.2.2 ((cfg1.win 11).blk t).view.emb hE.1 hE.2.1 hE.2.2 y

/-- The buffers of the values are the old ones, each moved on by its row's new values. -/
theorem bv_arr : (dat1 (V3 m ρ) c).arrAt 11 cfg1.N = stack (V3 m ρ c main_v135) (fun t l => (hargs (W0 m ρ c)).proj t (1696 + l)) := by
  refine (dat1 (V3 m ρ) c).arrAt_eq_of_cover 11 (stack (V3 m ρ c main_v135) (fun t l => (hargs (W0 m ρ c)).proj t (1696 + l))) (fun t _ => ?_) (fun i => ?_)
  · show (cfg1.win 11).cut (grid1.coords t) ((dat1 (V3 m ρ) c).after 11 t) = _
    rw [after1_11, moved_v]
    exact funext (bv_point m ρ c t)
  · let t := rowOf (i 0).val (i 0).isLt
    refine ⟨t, flush1_11 t, ?_⟩
    show i ∈ ((View.whole main_v138_2).slice (win1_11.rect t)).set
    rw [View.set_slice_whole, Rect.mem_set_unit]
    exact in_row i (at_bufs t).2.2.2.2.2

end

end Mixer
-- ==== Proof.LayerFinal.lean ====
/- What the program returns: each result read back through the host's slices and reshapes. -/
module

public import proofs.«01_k».proof.Proof.LayerBuf

@[expose] public section

set_option maxRecDepth 16384

noncomputable section

namespace Mixer

open Idealize.ShloMosaic Idealize.ShloMosaic.TcCoe Cert.LayerIdeal Cert.LayerIdeal.Gen Cert.LayerIdeal.Run

attribute [local instance] Cert.LayerIdeal.Gen.facts

section
variable {V : Valuation τ sig (Elt Ideal)} {U : ℕ → ℕ → EReal}

/-- A stack's row of 512 lanes, cut into 8 heads of 64. -/
theorem stack_split {B : S32x512x512.Idx → EReal} {C : S1x32x512x8x64.Idx → EReal}
    (hB : ∀ b s l, B (ix3 b s l) = C (ix5 0 b s ⟨l.val / 64, by omega⟩ ⟨l.val % 64, by omega⟩))
    (z : Fin 1) (b : Fin 32) (s : Fin 512) (h : Fin 8) (d : Fin 64) (l : Fin 512) (hl : l.val = h.val * 64 + d.val) :
    stack B U (ix3 b s l) = rolled C U (ix5 z b s h d) := by
  by_cases hs : s.val < 480
  · refine (dif_pos hs).trans ((hB _ _ _).trans (Eq.trans ?_ (dif_pos hs).symm))
    refine congrArg₂ (fun p q => C (ix5 0 b ⟨s.val + 32, by omega⟩ p q)) (Fin.ext ?_) (Fin.ext ?_)
    · show l.val / 64 = h.val
      omega
    · show l.val % 64 = d.val
      omega
  · refine (dif_neg hs).trans (Eq.trans ?_ (dif_neg hs).symm)
    show U (32768 + 32 * b.val + (s.val - 480)) l.val = U (32768 + 32 * b.val + (s.val - 480)) (h.val * 64 + d.val)
    rw [hl]

/-- The new streams' latents. -/
theorem streams_lat (hV : V (Proc.devRef .tc main_v58_0) = arr 256 U) : StableHlo.after hostOps2 V (Proc.devRef .tc main_v140) = streams 256 U := by
  funext i
  rw [eq_ix4 i]
  generalize i 0 = z, i 1 = b, i 2 = s, i 3 = l
  after_reads_at
  exact congrFun hV _

/-- The new streams' rotated keys. -/
theorem streams_kr (hV : V (Proc.devRef .tc main_v58_1) = arr 32 U) : StableHlo.after hostOps2 V (Proc.devRef .tc main_v142) = streams 32 U := by
  funext i
  rw [eq_ix4 i]
  generalize i 0 = z, i 1 = b, i 2 = s, i 3 = l
  after_reads_at
  exact congrFun hV _

/-- The new streams' last band keys. -/
theorem tails_k (hV : V (Proc.devRef .tc main_v58_8) = arr 512 U) : StableHlo.after hostOps2 V (Proc.devRef .tc main_v146) = tails U := by
  funext i
  rw [eq_ix5 i]
  generalize i 0 = z, i 1 = b, i 2 = s, i 3 = h, i 4 = d
  after_reads_at
  exact congrFun hV _

/-- The new streams' last band values. -/
theorem tails_v (hV : V (Proc.devRef .tc main_v58_9) = arr 512 U) : StableHlo.after hostOps2 V (Proc.devRef .tc main_v150) = tails U := by
  funext i
  rw [eq_ix5 i]
  generalize i 0 = z, i 1 = b, i 2 = s, i 3 = h, i 4 = d
  after_reads_at
  exact congrFun hV _

/-- The sampled streams' latents. -/
theorem samples_lat (hV : V (Proc.devRef .tc main_v58_0) = arr 256 U) : StableHlo.after hostOps2 V (Proc.devRef .tc main_v152) = samples 256 U := by
  funext i
  rw [eq_ix4 i]
  generalize i 0 = z, i 1 = b, i 2 = s, i 3 = l
  after_reads_at
  exact congrFun hV _

/-- The sampled streams' rotated keys. -/
theorem samples_kr (hV : V (Proc.devRef .tc main_v58_1) = arr 32 U) : StableHlo.after hostOps2 V (Proc.devRef .tc main_v154) = samples 32 U := by
  funext i
  rw [eq_ix4 i]
  generalize i 0 = z, i 1 = b, i 2 = s, i 3 = l
  after_reads_at
  exact congrFun hV _

/-- The sampled streams' buffers of keys. -/
theorem rolled_k {B : S32x512x512.Idx → EReal} {C : S1x32x512x8x64.Idx → EReal}
    (hB : ∀ b s l, B (ix3 b s l) = C (ix5 0 b s ⟨l.val / 64, by omega⟩ ⟨l.val % 64, by omega⟩))
    (hV : V (Proc.devRef .tc main_v138_1) = stack B U) : StableHlo.after hostOps2 V (Proc.devRef .tc main_v155) = rolled C U := by
  funext i
  rw [eq_ix5 i]
  generalize i 0 = z, i 1 = b, i 2 = s, i 3 = h, i 4 = d
  after_reads_at
  exact (congrFun hV _).trans (stack_split hB z b s h d _ rfl)

/-- The sampled streams' buffers of values. -/
theorem rolled_v {B : S32x512x512.Idx → EReal} {C : S1x32x512x8x64.Idx → EReal}
    (hB : ∀ b s l, B (ix3 b s l) = C (ix5 0 b s ⟨l.val / 64, by omega⟩ ⟨l.val % 64, by omega⟩))
    (hV : V (Proc.devRef .tc main_v138_2) = stack B U) : StableHlo.after hostOps2 V (Proc.devRef .tc main_v156) = rolled C U := by
  funext i
  rw [eq_ix5 i]
  generalize i 0 = z, i 1 = b, i 2 = s, i 3 = h, i 4 = d
  after_reads_at
  exact (congrFun hV _).trans (stack_split hB z b s h d _ rfl)

/-- The keys' buffers as the second call finds them. -/
theorem old_keys (b : Fin 32) (s l : Fin 512) : (StableHlo.after hostOps1 V (Proc.devRef .tc main_v133) : S32x512x512.Idx → EReal) (ix3 b s l)
    = (V (Proc.devRef .tc main_arg2) : S1x32x512x8x64.Idx → EReal) (ix5 0 b s ⟨l.val / 64, by omega⟩ ⟨l.val % 64, by omega⟩) := by
  after_reads_at

/-- The values' buffers as the second call finds them. -/
theorem old_values (b : Fin 32) (s l : Fin 512) : (StableHlo.after hostOps1 V (Proc.devRef .tc main_v135) : S32x512x512.Idx → EReal) (ix3 b s l)
    = (V (Proc.devRef .tc main_arg3) : S1x32x512x8x64.Idx → EReal) (ix5 0 b s ⟨l.val / 64, by omega⟩ ⟨l.val % 64, by omega⟩) := by
  after_reads_at

end

section
variable (m : (ℓ : Loc nD τ sig) → Buf (Elt Ideal) ℓ) (ρ : Dev nD → PrngReg) (c : Dev nD)

/-- The first call's arrays as they stand before the last host operations. -/
theorem kept_arr (w : Fin cfg0.W) (h1 : Pipeline.arrRef spec0 w ∉ hostOps1_W)
    (h2 : ∀ v : Fin cfg1.W, Pipeline.arrRef spec1 v = Pipeline.arrRef spec0 w → (cfg1.win v).isOut = false) :
    W4 m ρ c (Proc.devRef .tc (Pipeline.arrRef spec0 w)) = (dat0 (V1 m ρ) c).arrAt w cfg0.N :=
  (W4_of m ρ c _ h2).trans ((W3_of m ρ c _ h1).trans (W2_arr m ρ c w))

/-- The first call's arrays as they stand at the end. -/
theorem last_arr (w : Fin cfg0.W) (h1 : Pipeline.arrRef spec0 w ∉ hostOps1_W)
    (h2 : ∀ v : Fin cfg1.W, Pipeline.arrRef spec1 v = Pipeline.arrRef spec0 w → (cfg1.win v).isOut = false)
    (h3 : Pipeline.arrRef spec0 w ∉ hostOps2_W) :
    W5 m ρ c (Proc.devRef .tc (Pipeline.arrRef spec0 w)) = (dat0 (V1 m ρ) c).arrAt w cfg0.N :=
  (W5_of m ρ c _ h3).trans (kept_arr m ρ c w h1 h2)

/-- The new streams' four results. -/
theorem results_new (hA : (hargs (W0 m ρ c)).Finite) :
    W5 m ρ c (Proc.devRef .tc main_v140) = streams 256 (hargs (W0 m ρ c)).lat
    ∧ W5 m ρ c (Proc.devRef .tc main_v142) = streams 32 (hargs (W0 m ρ c)).krope
    ∧ W5 m ρ c (Proc.devRef .tc main_v146) = tails ((hargs (W0 m ρ c)).cols 1184)
    ∧ W5 m ρ c (Proc.devRef .tc main_v150) = tails ((hargs (W0 m ρ c)).cols 1696) :=
  ⟨streams_lat ((kept_arr m ρ c 14 (by decide +kernel) (by decide +kernel)).trans (lat_arr m ρ c)),
    streams_kr ((kept_arr m ρ c 15 (by decide +kernel) (by decide +kernel)).trans (kr_arr m ρ c hA)),
    tails_k ((kept_arr m ρ c 22 (by decide +kernel) (by decide +kernel)).trans (kb_arr m ρ c)),
    tails_v ((kept_arr m ρ c 23 (by decide +kernel) (by decide +kernel)).trans (vb_arr m ρ c))⟩

/-- The sampled streams' four results. -/
theorem results_sampled (hA : (hargs (W0 m ρ c)).Finite) :
    W5 m ρ c (Proc.devRef .tc main_v152) = samples 256 (hargs (W0 m ρ c)).lat
    ∧ W5 m ρ c (Proc.devRef .tc main_v154) = samples 32 (hargs (W0 m ρ c)).krope
    ∧ W5 m ρ c (Proc.devRef .tc main_v155) = rolled (W0 m ρ c (Proc.devRef .tc main_arg2)) ((hargs (W0 m ρ c)).cols 1184)
    ∧ W5 m ρ c (Proc.devRef .tc main_v156) = rolled (W0 m ρ c (Proc.devRef .tc main_arg3)) ((hargs (W0 m ρ c)).cols 1696) :=
  ⟨samples_lat ((kept_arr m ρ c 14 (by decide +kernel) (by decide +kernel)).trans (lat_arr m ρ c)),
    samples_kr ((kept_arr m ρ c 15 (by decide +kernel) (by decide +kernel)).trans (kr_arr m ρ c hA)),
    rolled_k (fun b s l => (old_keys b s l).trans (congrFun (W2_args m ρ c main_arg2 (by decide)) _)) ((W4_arr m ρ c 10).trans (bk_arr m ρ c)),
    rolled_v (fun b s l => (old_values b s l).trans (congrFun (W2_args m ρ c main_arg3 (by decide)) _)) ((W4_arr m ρ c 11).trans (bv_arr m ρ c))⟩

/-- The rows for the latent attention. -/
theorem results_heads (hA : (hargs (W0 m ρ c)).Finite) :
    W5 m ρ c (Proc.devRef .tc main_v58_2) = arr 1024 (hargs (W0 m ρ c)).query
    ∧ W5 m ρ c (Proc.devRef .tc main_v58_3) = arr 1024 (hargs (W0 m ρ c)).key
    ∧ W5 m ρ c (Proc.devRef .tc main_v58_4) = arr 512 (hargs (W0 m ρ c)).value :=
  ⟨(last_arr m ρ c 16 (by decide +kernel) (by decide +kernel) (by decide +kernel)).trans (query_arr m ρ c hA),
    (last_arr m ρ c 17 (by decide +kernel) (by decide +kernel) (by decide +kernel)).trans (key_arr m ρ c hA),
    (last_arr m ρ c 18 (by decide +kernel) (by decide +kernel) (by decide +kernel)).trans (value_arr m ρ c)⟩

/-- The rows for the band attention. -/
theorem results_band :
    W5 m ρ c (Proc.devRef .tc main_v58_5) = arr 512 ((hargs (W0 m ρ c)).cols 672)
    ∧ W5 m ρ c (Proc.devRef .tc main_v58_6) = arr 512 ((hargs (W0 m ρ c)).cols 1184)
    ∧ W5 m ρ c (Proc.devRef .tc main_v58_7) = arr 512 ((hargs (W0 m ρ c)).cols 1696) :=
  ⟨(last_arr m ρ c 19 (by decide +kernel) (by decide +kernel) (by decide +kernel)).trans (qb_arr m ρ c),
    (last_arr m ρ c 20 (by decide +kernel) (by decide +kernel) (by decide +kernel)).trans (kb16_arr m ρ c),
    (last_arr m ρ c 21 (by decide +kernel) (by decide +kernel) (by decide +kernel)).trans (vb16_arr m ρ c)⟩

/-- The gates. -/
theorem results_gates :
    W5 m ρ c (Proc.devRef .tc main_v58_10) = arr 1024 ((hargs (W0 m ρ c)).gate 2208)
    ∧ W5 m ρ c (Proc.devRef .tc main_v58_11) = arr 1024 ((hargs (W0 m ρ c)).gate 3232) :=
  ⟨(last_arr m ρ c 24 (by decide +kernel) (by decide +kernel) (by decide +kernel)).trans (ga_arr m ρ c),
    (last_arr m ρ c 25 (by decide +kernel) (by decide +kernel) (by decide +kernel)).trans (gb_arr m ρ c)⟩

end

end Mixer
-- ==== Proof.LayerFinite.lean ====
/- The precondition of the layer's program says that its rows and the weights that the rotation's columns are cut from are real numbers. -/
module

public import proofs.«01_k».proof.Defs
public import proofs.«01_k».proof.Proof.LayerTile
public import proofs.«01_k».proof.Proof.LayerIdealRun
public import proofs.«01_k».proof.Proof.Finite
public import Idealize.ShloMosaic.Lib.ReduceAll

@[expose] public section

set_option maxRecDepth 16384

noncomputable section

namespace Mixer

open Idealize.ShloMosaic Idealize.ShloMosaic.TcCoe

/-- The precondition's shapes fit together. -/
theorem pre_facts : Cert.Pre_finite_rows.Facts :=
  ⟨by decide, by decide, by decide, by decide, by decide, by decide, by decide, by decide, by decide, by decide, by decide, by decide, by decide⟩

/-- Every entry of the array is a real number. -/
def Entries {S : Shape} (x : S.Idx → EReal) : Prop := ∀ i, ∃ r : ℝ, x i = (r : EReal)

/-- An array all of whose entries pass the precondition's test is real. -/
theorem entries_of_all {S : Shape} (x : S.Idx → EReal) {d : List (Fin S.rank)} {hb : Cert.Pre_finite_rows.S_.BroadcastsInDim S (![] : Fin 0 → Fin S.rank)}
    {hr : S.ReducesTo d Cert.Pre_finite_rows.S_} {hz : 0 < Cert.Pre_finite_rows.S_.numel} (j : Cert.Pre_finite_rows.S_.Idx)
    (h : Host.reduce IntOp.andi (cmpf (F := Ideal) .olt (Host.absf (x : FVec Ideal S .f32)) (broadcastInDim S ![] hb (constant (F := Ideal) Cert.Pre_finite_rows.S_ .f32 0x7F800000#32)))
      (constantI Cert.Pre_finite_rows.S_ 1 1#1) hr hz j = 1#1) : Entries x := fun i =>
  haveI : Subsingleton Cert.Pre_finite_rows.S_.Idx := ⟨fun a b => funext fun k => k.elim0⟩
  have hi := Mla.real_of_abs (x i) (Host.reduce_andi_all _ _ _ _ j h i)
  ⟨(x i).toReal, (EReal.coe_toReal hi.1 hi.2).symm⟩

/-- The precondition, read at the arguments it tests. -/
theorem entries_of_pre [Cert.Pre_finite_rows.Facts] {x0 : Cert.Pre_finite_rows.S16x2048x1024.Idx → EReal} {x1 : Cert.Pre_finite_rows.S32x32x1024.Idx → EReal}
    {x2 x3 : Cert.Pre_finite_rows.S1x32x512x8x64.Idx → EReal} {x4 : Cert.Pre_finite_rows.S1x1024.Idx → EReal} {x5 : Cert.Pre_finite_rows.S1x1024x4256.Idx → EReal}
    {x6 : Cert.Pre_finite_rows.S1x384.Idx → EReal} {x7 : Cert.Pre_finite_rows.S1x256.Idx → EReal} {x8 : Cert.Pre_finite_rows.S1x384x768.Idx → EReal}
    {x9 x10 : Cert.Pre_finite_rows.S1x256x8x64.Idx → EReal} {x11 : Cert.Pre_finite_rows.S1x8x513.Idx → EReal}
    (h : Cert.Pre_finite_rows.fn (F := Ideal) x0 x1 x2 x3 x4 x5 x6 x7 x8 x9 x10 x11 = fun _ => 1#1) :
    Entries x0 ∧ Entries x1 ∧ Entries x4 ∧ Entries x5 ∧ Entries x6 ∧ Entries x8 := by
  have hj := congrFun h (fun k => k.elim0)
  obtain ⟨hj, h8⟩ := Mla.bits_of_and _ _ hj
  obtain ⟨hj, h6⟩ := Mla.bits_of_and _ _ hj
  obtain ⟨hj, h5⟩ := Mla.bits_of_and _ _ hj
  obtain ⟨hj, h4⟩ := Mla.bits_of_and _ _ hj
  obtain ⟨h0, h1⟩ := Mla.bits_of_and _ _ hj
  exact ⟨entries_of_all _ _ h0, entries_of_all _ _ h1, entries_of_all _ _ h4, entries_of_all _ _ h5, entries_of_all _ _ h6, entries_of_all _ _ h8⟩

/-- An entry of a real matrix, or zero outside of it, is a real number. -/
theorem get2_real {a b : ℕ} {f : (⟨2, ![a, b]⟩ : Shape).Idx → EReal} (hf : Entries f) (i j : ℕ) : ∃ r : ℝ, get2 f i j = (r : EReal) := by
  unfold get2
  split
  · exact hf _
  · exact ⟨0, rfl⟩

/-- An entry of a real array of three axes, or zero outside of it, is a real number. -/
theorem get3_real {a b c : ℕ} {f : (⟨3, ![a, b, c]⟩ : Shape).Idx → EReal} (hf : Entries f) (i j k : ℕ) : ∃ r : ℝ, get3 f i j k = (r : EReal) := by
  unfold get3
  split
  · exact hf _
  · exact ⟨0, rfl⟩

/-- The formulas' arguments are finite where the precondition holds. -/
theorem args_finite {x0 : (⟨3, ![16, 2048, 1024]⟩ : Shape).Idx → EReal} {x1 : (⟨3, ![32, 32, 1024]⟩ : Shape).Idx → EReal}
    {x4 : (⟨2, ![1, 1024]⟩ : Shape).Idx → EReal} {x5 : (⟨3, ![1, 1024, 4256]⟩ : Shape).Idx → EReal}
    {x6 : (⟨2, ![1, 384]⟩ : Shape).Idx → EReal} {x7 : (⟨2, ![1, 256]⟩ : Shape).Idx → EReal} {x8 : (⟨3, ![1, 384, 768]⟩ : Shape).Idx → EReal}
    {x9 x10 : (⟨4, ![1, 256, 8, 64]⟩ : Shape).Idx → EReal}
    (h : Entries x0 ∧ Entries x1 ∧ Entries x4 ∧ Entries x5 ∧ Entries x6 ∧ Entries x8) : (args x0 x1 x4 x5 x6 x7 x8 x9 x10).Finite where
  x t _ j _ := by
    show ∃ r : ℝ, (if t < 32768 then get3 x0 (t / 2048) (t % 2048) j else get3 x1 ((t - 32768) / 32) ((t - 32768) % 32) j) = (r : EReal)
    split
    · exact get3_real h.1 _ _ _
    · exact get3_real h.2.1 _ _ _
  gm j _ := get2_real h.2.2.1 _ j
  w c _ j _ := get3_real h.2.2.2.1 _ j c
  gq j _ := get2_real h.2.2.2.2.1 _ j
  wuq c _ j _ := get3_real h.2.2.2.2.2 _ j c

/-- The arguments of the layer's program are finite where the precondition holds. -/
theorem finite_args [Cert.Pre_finite_rows.Facts] (m : (ℓ : Loc Cert.LayerIdeal.nD Cert.LayerIdeal.τ Cert.LayerIdeal.sig) → Buf (Elt Ideal) ℓ)
    (ρ : Dev Cert.LayerIdeal.nD → PrngReg) (h : Cert.Pre_LayerIdeal_finite_rows m) (c : Dev Cert.LayerIdeal.nD) : (hargs (Cert.LayerIdeal.Run.W0 m ρ c)).Finite :=
  args_finite (entries_of_pre (h c))

end Mixer

end
-- ==== Proof.LayerRef.lean ====
/- The layer's reference, read at an index: its stages are the rows' sequences. -/
module

public import proofs.«01_k».proof.Proof.Results
public import proofs.«01_k».proof.Proof.Gen.LayerReferenceIdeal.Read
public import Idealize.ShloMosaic.Lib.Pointwise

@[expose] public section

set_option maxRecDepth 16384

noncomputable section

namespace Mixer

open Idealize.ShloMosaic Cert.LayerReferenceIdeal Cert.LayerReferenceIdeal.Gen Cert.LayerReferenceIdeal.Read

attribute [local instance] Cert.LayerReferenceIdeal.Gen.facts

variable (x0 : S16x2048x1024.Idx → EReal) (x1 : S32x32x1024.Idx → EReal) (x2 x3 : S1x32x512x8x64.Idx → EReal) (x4 : S1x1024.Idx → EReal)
  (x5 : S1x1024x4256.Idx → EReal) (x6 : S1x384.Idx → EReal) (x7 : S1x256.Idx → EReal) (x8 : S1x384x768.Idx → EReal)
  (x9 x10 : S1x256x8x64.Idx → EReal)

/-- The frames, one after the other. -/
theorem ref_x (t : Fin 33792) (j : Fin 1024) : val_main_v2 (F := Ideal) x0 x1 (ix2 t j) = (args x0 x1 x4 x5 x6 x7 x8 x9 x10).x t j := by
  pointwise [val_main_v2, val_main_v0, val_main_v1]
  by_cases h : t.val < 32768
  · exact (dif_pos h).trans ((elem3 _ _ _ _ rfl rfl rfl).trans (if_pos h).symm)
  · exact (dif_neg h).trans ((elem3 _ _ _ _ rfl rfl rfl).trans (if_neg h).symm)

/-- The new streams' positions. -/
theorem ref_pos_new (k : Fin 32768) : val_main_v6 (F := Ideal) (ix1 k) = BitVec.ofNat 32 (k.val % 2048) := by
  pointwise [val_main_v3, val_main_v4, val_main_v5, val_main_v6]

/-- The sampled streams' positions. -/
theorem ref_pos_sampled (k : Fin 1024) : val_main_v12 (F := Ideal) (ix1 k) = BitVec.ofNat 32 (4096 + k.val % 32) := by
  pointwise [val_main_c, val_main_v7, val_main_v8, val_main_v9, val_main_v10, val_main_v11, val_main_v12]
  exact (BitVec.ofNat_add 4096 (k.val % 32)).symm

/-- The frames' positions. -/
theorem ref_pos (t : Fin 33792) : val_main_v13 (F := Ideal) (ix1 t) = BitVec.ofNat 32 (pos t) := by
  have h6 := ref_pos_new
  have h12 := ref_pos_sampled
  unfold val_main_v13
  generalize val_main_v6 (F := Ideal) = a at h6 ⊢
  generalize val_main_v12 (F := Ideal) = b at h12 ⊢
  pointwise
  unfold pos
  by_cases h : t.val < 32768
  · exact (dif_pos h).trans ((h6 _).trans (congrArg (BitVec.ofNat 32) (if_pos h).symm))
  · exact (dif_neg h).trans ((h12 _).trans (congrArg (BitVec.ofNat 32) (if_neg h).symm))

/-- The frequencies. -/
theorem ref_freq (i : Fin 16) : val_main_v30 (F := Ideal) (ix1 i) = freq i := by
  fin_cases i <;> rfl

/-- A frame's number in its stream, as a number. -/
theorem word_pos (t : ℕ) : (FloatOps.sitofp (F := Ideal) .f32 (BitVec.ofNat 32 (pos t)) : EReal) = ((pos t : ℝ) : EReal) := by
  have hp : pos t < 8192 := by unfold pos; split <;> omega
  show (((BitVec.ofNat 32 (pos t)).toInt : ℝ) : EReal) = _
  have e : (BitVec.ofNat 32 (pos t)).toInt = (pos t : ℤ) := by
    rw [BitVec.toInt_eq_toNat_of_lt (by rw [BitVec.toNat_ofNat]; omega), BitVec.toNat_ofNat, Nat.mod_eq_of_lt (by omega)]
  rw [e, Int.cast_natCast]

/-- The cosines. -/
theorem ref_cos (t : Fin 33792) (i : Fin 16) : val_main_v37 (F := Ideal) (ix2 t i) = cosAt (pos t) i := by
  pointwise [val_main_v31, val_main_v32, val_main_v33, val_main_v34, val_main_v35, val_main_v36, val_main_v37]
  rw [ref_pos, ref_freq, word_pos]
  rfl

/-- The sines. -/
theorem ref_sin (t : Fin 33792) (i : Fin 16) : val_main_v38 (F := Ideal) (ix2 t i) = sinAt (pos t) i := by
  pointwise [val_main_v31, val_main_v32, val_main_v33, val_main_v34, val_main_v35, val_main_v36, val_main_v38]
  rw [ref_pos, ref_freq, word_pos]
  rfl

/-- A row over the root of its mean square, times a gain, lane by lane. -/
theorem norm_row {n : ℕ} {N : EReal} {u g : ℕ → EReal} {f : Fin n → EReal} {c : EReal} (hf : ∀ x, f x = u x) (j : Fin n) (hc : c = g j) :
    f j * Ideal.rsqrt (Ideal.div (∑ x, f x * f x) N + Ideal.ofBits .f32 897988541#32) * c = norm n N u g j := by
  unfold norm
  rw [hf, hc, Finset.sum_range]
  simp only [hf]
  rfl

/-- The normalized frames. -/
theorem ref_hid (t : Fin 33792) (j : Fin 1024) : val_main_v52 (F := Ideal) x0 x1 x4 (ix2 t j) = (args x0 x1 x4 x5 x6 x7 x8 x9 x10).hid t j := by
  have h := ref_x x0 x1 x4 x5 x6 x7 x8 x9 x10 t
  unfold val_main_v52 val_main_v49 val_main_v48 val_main_v47 val_main_v46 val_main_v44 val_main_v42 val_main_v41 val_main_v40
  generalize val_main_v2 (F := Ideal) x0 x1 = y at h ⊢
  pointwise [val_main_v39, val_main_cst_15, val_main_cst_16, val_main_v43, val_main_cst_17, val_main_v45, val_main_v50, val_main_v51]
  exact norm_row h j (elem2 _ _ _ rfl rfl)

/-- The product of a row with a column, as a sum over the lanes. -/
theorem dot_row {n : ℕ} {f : Fin n → EReal} {g : Fin n → EReal} {u : ℕ → EReal} {w : ℕ → ℕ → EReal} {c : ℕ} (hf : ∀ x, f x = u x) (hg : ∀ x, g x = w x c) :
    ∑ k, f k * g k = dot n u w c := by
  unfold dot
  rw [Finset.sum_range]
  exact Finset.sum_congr rfl fun k _ => by rw [hf, hg]

/-- The input projection. -/
theorem ref_proj (t : Fin 33792) (c : Fin 4256) : val_main_v54 (F := Ideal) x0 x1 x4 x5 (ix2 t c) = (args x0 x1 x4 x5 x6 x7 x8 x9 x10).proj t c := by
  have h := ref_hid x0 x1 x4 x5 x6 x7 x8 x9 x10 t
  unfold val_main_v54
  generalize val_main_v52 (F := Ideal) x0 x1 x4 = y at h ⊢
  pointwise [val_main_v53]
  exact dot_row h fun k => elem3 _ _ _ _ rfl rfl rfl

/-- The latent of the keys and values. -/
theorem ref_lat (t : Fin 33792) (j : Fin 256) : val_main_v109 (F := Ideal) x0 x1 x4 x5 x7 (ix2 t j) = (args x0 x1 x4 x5 x6 x7 x8 x9 x10).lat t j := by
  have h := ref_proj x0 x1 x4 x5 x6 x7 x8 x9 x10 t
  unfold val_main_v109 val_main_v106 val_main_v105 val_main_v104 val_main_v103 val_main_v101 val_main_v99 val_main_v98 val_main_v97 val_main_v56
  generalize val_main_v54 (F := Ideal) x0 x1 x4 x5 = y at h ⊢
  pointwise [val_main_v96, val_main_cst_21, val_main_cst_22, val_main_v100, val_main_cst_23, val_main_v102, val_main_v107, val_main_v108]
  exact norm_row (f := fun x => y (ix2 t ⟨384 + x.val, by omega⟩)) (fun x => h _) j (elem2 _ _ _ rfl rfl)

/-- The latent of the queries. -/
theorem ref_qlat (t : Fin 33792) (j : Fin 384) : val_main_v76 (F := Ideal) x0 x1 x4 x5 x6 (ix2 t j) = (args x0 x1 x4 x5 x6 x7 x8 x9 x10).qlat t j := by
  have h := ref_proj x0 x1 x4 x5 x6 x7 x8 x9 x10 t
  unfold val_main_v76 val_main_v73 val_main_v72 val_main_v71 val_main_v70 val_main_v68 val_main_v66 val_main_v65 val_main_v64 val_main_v55
  generalize val_main_v54 (F := Ideal) x0 x1 x4 x5 = y at h ⊢
  pointwise [val_main_v63, val_main_cst_18, val_main_cst_19, val_main_v67, val_main_cst_20, val_main_v69, val_main_v74, val_main_v75]
  exact norm_row (f := fun x : Fin 384 => y (ix2 t ⟨x.val, by omega⟩)) (fun x => h ⟨x.val, by omega⟩) j (elem2 _ _ _ rfl rfl)

/-- The queries before the rotation. -/
theorem ref_qraw (t : Fin 33792) (c : Fin 768) : val_main_v78 (F := Ideal) x0 x1 x4 x5 x6 x8 (ix2 t c) = (args x0 x1 x4 x5 x6 x7 x8 x9 x10).qraw t c := by
  have h := ref_qlat x0 x1 x4 x5 x6 x7 x8 x9 x10 t
  unfold val_main_v78
  generalize val_main_v76 (F := Ideal) x0 x1 x4 x5 x6 = y at h ⊢
  pointwise [val_main_v77]
  exact dot_row h fun k => elem3 _ _ _ _ rfl rfl rfl

/-- The rotation of 32 lanes, its two halves written apart. -/
theorem rope_row {u c s : ℕ → EReal} (d : Fin 32) {g : d.val < 16 → EReal} {g' : ¬ d.val < 16 → EReal}
    (h1 : ∀ h, g h = u d * c d - u (d.val + 16) * s d) (h2 : ∀ h, g' h = u (d.val - 16) * s (d.val - 16) + u d * c (d.val - 16)) :
    (if h : d.val < 16 then g h else g' h) = rope u c s d := by
  unfold rope
  split
  · exact h1 _
  · exact h2 _

/-- The rotated key that the heads share. -/
theorem ref_kr (t : Fin 33792) (d : Fin 32) : val_main_v118 (F := Ideal) x0 x1 x4 x5 (ix2 t d) = (args x0 x1 x4 x5 x6 x7 x8 x9 x10).krope t d := by
  have h := ref_proj x0 x1 x4 x5 x6 x7 x8 x9 x10 t
  have hc := ref_cos t
  have hs := ref_sin t
  unfold val_main_v118 val_main_v117 val_main_v116 val_main_v115 val_main_v114 val_main_v113 val_main_v112 val_main_v111 val_main_v110 val_main_v57
  generalize val_main_v54 (F := Ideal) x0 x1 x4 x5 = y at h ⊢
  generalize val_main_v37 (F := Ideal) = c at hc ⊢
  generalize val_main_v38 (F := Ideal) = s at hs ⊢
  pointwise
  refine rope_row (u := fun d => (args x0 x1 x4 x5 x6 x7 x8 x9 x10).proj t (640 + d)) d (fun hd => ?_) (fun hd => ?_)
  · rw [h, h, hc, hs]
    exact congrArg (fun k => _ - (args x0 x1 x4 x5 x6 x7 x8 x9 x10).proj t k * _) (show 640 + (16 + d.val) = 640 + (d.val + 16) by omega)
  · rw [h, h, hc, hs]
    exact congrArg (fun k => _ + (args x0 x1 x4 x5 x6 x7 x8 x9 x10).proj t k * _) (show 640 + (16 + (d.val - 16)) = 640 + d.val by omega)

/-- The rotated part of the queries. -/
theorem ref_qr (t : Fin 33792) (n : Fin 8) (d : Fin 32) : val_main_v95 (F := Ideal) x0 x1 x4 x5 x6 x8 (ix3 t n d)
    = rope (fun d => (args x0 x1 x4 x5 x6 x7 x8 x9 x10).qraw t (96 * n.val + 64 + d)) (cosAt (pos t)) (sinAt (pos t)) d := by
  have h := ref_qraw x0 x1 x4 x5 x6 x7 x8 x9 x10 t
  have hc := ref_cos t
  have hs := ref_sin t
  unfold val_main_v95 val_main_v94 val_main_v93 val_main_v92 val_main_v91 val_main_v90 val_main_v89 val_main_v88 val_main_v87 val_main_v86 val_main_v85 val_main_v84
    val_main_v83 val_main_v82 val_main_v81 val_main_v80 val_main_v79
  generalize val_main_v78 (F := Ideal) x0 x1 x4 x5 x6 x8 = y at h ⊢
  generalize val_main_v37 (F := Ideal) = c at hc ⊢
  generalize val_main_v38 (F := Ideal) = s at hs ⊢
  pointwise
  refine rope_row (u := fun d => (args x0 x1 x4 x5 x6 x7 x8 x9 x10).qraw t (96 * n.val + 64 + d)) d (fun hd => ?_) (fun hd => ?_)
  · rw [h, h, hc, hs]
    exact congrArg₂ (fun k k' => (args x0 x1 x4 x5 x6 x7 x8 x9 x10).qraw t k * _ - (args x0 x1 x4 x5 x6 x7 x8 x9 x10).qraw t k' * _)
      (show n.val * 96 + (64 + d.val) = 96 * n.val + 64 + d.val by omega) (show n.val * 96 + (64 + (16 + d.val)) = 96 * n.val + 64 + (d.val + 16) by omega)
  · rw [h, h, hc, hs]
    exact congrArg₂ (fun k k' => (args x0 x1 x4 x5 x6 x7 x8 x9 x10).qraw t k * _ + (args x0 x1 x4 x5 x6 x7 x8 x9 x10).qraw t k' * _)
      (show n.val * 96 + (64 + (d.val - 16)) = 96 * n.val + 64 + (d.val - 16) by omega) (show n.val * 96 + (64 + (16 + (d.val - 16))) = 96 * n.val + 64 + d.val by omega)

/-- The queries. -/
theorem ref_query (t : Fin 33792) (l : Fin 1024) : val_main_v154 (F := Ideal) x0 x1 x4 x5 x6 x8 (ix2 t l) = (args x0 x1 x4 x5 x6 x7 x8 x9 x10).query t l := by
  have h := ref_qraw x0 x1 x4 x5 x6 x7 x8 x9 x10 t
  have hr := ref_qr x0 x1 x4 x5 x6 x7 x8 x9 x10 t
  unfold val_main_v154 val_main_v122 val_main_v121 val_main_v120 val_main_v79
  generalize val_main_v78 (F := Ideal) x0 x1 x4 x5 x6 x8 = y at h ⊢
  generalize val_main_v95 (F := Ideal) x0 x1 x4 x5 x6 x8 = z at hr ⊢
  pointwise [val_main_cst_24, val_main_v119]
  unfold Args.query
  by_cases h0 : l.val % 128 < 64
  · refine (dif_pos h0).trans ((h _).trans (Eq.trans (congrArg _ ?_) (if_pos h0).symm))
    show l.val / 128 * 96 + l.val % 128 = 96 * (l.val / 128) + l.val % 128
    omega
  · refine (dif_neg h0).trans (Eq.trans ?_ (if_neg h0).symm)
    by_cases h1 : l.val % 128 < 96
    · exact (dif_pos (show l.val % 128 - 64 < 32 by omega)).trans ((hr _ _).trans (if_pos h1).symm)
    · exact (dif_neg (show ¬ l.val % 128 - 64 < 32 by omega)).trans (if_neg h1).symm

/-- The keys. -/
theorem ref_key (t : Fin 33792) (l : Fin 1024) : val_main_v155 (F := Ideal) x0 x1 x4 x5 x7 x9 (ix2 t l) = (args x0 x1 x4 x5 x6 x7 x8 x9 x10).key t l := by
  have h := ref_lat x0 x1 x4 x5 x6 x7 x8 x9 x10 t
  have hr := ref_kr x0 x1 x4 x5 x6 x7 x8 x9 x10 t
  unfold val_main_v155 val_main_v128 val_main_v127 val_main_v126 val_main_v125 val_main_v124
  generalize val_main_v109 (F := Ideal) x0 x1 x4 x5 x7 = y at h ⊢
  generalize val_main_v118 (F := Ideal) x0 x1 x4 x5 = z at hr ⊢
  pointwise [val_main_cst_24, val_main_v119, val_main_v123]
  unfold Args.key
  by_cases h0 : l.val % 128 < 64
  · exact (dif_pos h0).trans ((dot_row (w := fun c n => (args x0 x1 x4 x5 x6 x7 x8 x9 x10).wuk c (l.val / 128) n) h fun k => elem4 _ _ _ _ _ rfl rfl rfl rfl).trans (if_pos h0).symm)
  · refine (dif_neg h0).trans (Eq.trans ?_ (if_neg h0).symm)
    by_cases h1 : l.val % 128 < 96
    · exact (dif_pos (show l.val % 128 - 64 < 32 by omega)).trans ((hr _).trans (if_pos h1).symm)
    · exact (dif_neg (show ¬ l.val % 128 - 64 < 32 by omega)).trans (if_neg h1).symm

/-- The values. -/
theorem ref_value (t : Fin 33792) (l : Fin 512) : val_main_v156 (F := Ideal) x0 x1 x4 x5 x7 x10 (ix2 t l) = (args x0 x1 x4 x5 x6 x7 x8 x9 x10).value t l := by
  have h := ref_lat x0 x1 x4 x5 x6 x7 x8 x9 x10 t
  unfold val_main_v156 val_main_v131 val_main_v130
  generalize val_main_v109 (F := Ideal) x0 x1 x4 x5 x7 = y at h ⊢
  pointwise [val_main_v129]
  exact dot_row (w := fun c v => (args x0 x1 x4 x5 x6 x7 x8 x9 x10).wuv c (l.val / 64) v) h fun k => elem4 _ _ _ _ _ rfl rfl rfl rfl

/-- The first gate. -/
theorem ref_ga (t : Fin 33792) (l : Fin 1024) : val_main_v165 (F := Ideal) x0 x1 x4 x5 (ix2 t l) = (args x0 x1 x4 x5 x6 x7 x8 x9 x10).gate 2208 t l := by
  have h := ref_proj x0 x1 x4 x5 x6 x7 x8 x9 x10 t
  unfold val_main_v165 val_main_v163 val_main_v161 val_main_v160 val_main_v61
  generalize val_main_v54 (F := Ideal) x0 x1 x4 x5 = y at h ⊢
  pointwise [val_main_v164, val_main_v162, val_main_cst_25, val_main_cst_26]
  rw [h]
  rfl

/-- The second gate. -/
theorem ref_gb (t : Fin 33792) (l : Fin 1024) : val_main_v171 (F := Ideal) x0 x1 x4 x5 (ix2 t l) = (args x0 x1 x4 x5 x6 x7 x8 x9 x10).gate 3232 t l := by
  have h := ref_proj x0 x1 x4 x5 x6 x7 x8 x9 x10 t
  unfold val_main_v171 val_main_v169 val_main_v167 val_main_v166 val_main_v62
  generalize val_main_v54 (F := Ideal) x0 x1 x4 x5 = y at h ⊢
  pointwise [val_main_v170, val_main_v168, val_main_cst_27, val_main_cst_28]
  rw [h]
  rfl

/-- The band's queries. -/
theorem ref_qb (t : Fin 33792) (l : Fin 512) : val_main_v157 (F := Ideal) x0 x1 x4 x5 (ix2 t l) = (args x0 x1 x4 x5 x6 x7 x8 x9 x10).cols 672 t l := by
  have h := ref_proj x0 x1 x4 x5 x6 x7 x8 x9 x10 t
  unfold val_main_v157 val_main_v58
  generalize val_main_v54 (F := Ideal) x0 x1 x4 x5 = y at h ⊢
  pointwise
  exact h _

/-- The band's keys. -/
theorem ref_kb (t : Fin 33792) (l : Fin 512) : val_main_v59 (F := Ideal) x0 x1 x4 x5 (ix2 t l) = (args x0 x1 x4 x5 x6 x7 x8 x9 x10).cols 1184 t l := by
  have h := ref_proj x0 x1 x4 x5 x6 x7 x8 x9 x10 t
  unfold val_main_v59
  generalize val_main_v54 (F := Ideal) x0 x1 x4 x5 = y at h ⊢
  pointwise
  exact h _

/-- The band's values. -/
theorem ref_vb (t : Fin 33792) (l : Fin 512) : val_main_v60 (F := Ideal) x0 x1 x4 x5 (ix2 t l) = (args x0 x1 x4 x5 x6 x7 x8 x9 x10).cols 1696 t l := by
  have h := ref_proj x0 x1 x4 x5 x6 x7 x8 x9 x10 t
  unfold val_main_v60
  generalize val_main_v54 (F := Ideal) x0 x1 x4 x5 = y at h ⊢
  pointwise
  exact h _

/-- An array of rows that are a sequence's, row by row. -/
theorem arr_eq {n : ℕ} {U : ℕ → ℕ → EReal} {X : (⟨2, ![33792, n]⟩ : Shape).Idx → EReal} (h : ∀ (t : Fin 33792) (l : Fin n), X (ix2 t l) = U t l) : X = arr n U :=
  funext fun i => (congrArg X (eq_ix2 i)).trans (h (i 0) (i 1))

section
variable {U : ℕ → ℕ → EReal}

/-- The new streams' latents. -/
theorem ref_streams_lat (h : val_main_v109 (F := Ideal) x0 x1 x4 x5 x7 = arr 256 U) : val_main_v133 (F := Ideal) x0 x1 x4 x5 x7 = streams 256 U := by
  funext i
  rw [eq_ix4 i]
  generalize i 0 = z, i 1 = b, i 2 = s, i 3 = l
  unfold val_main_v133 val_main_v132
  rw [h]
  pointwise
  rfl

/-- The new streams' rotated keys. -/
theorem ref_streams_kr (h : val_main_v118 (F := Ideal) x0 x1 x4 x5 = arr 32 U) : val_main_v135 (F := Ideal) x0 x1 x4 x5 = streams 32 U := by
  funext i
  rw [eq_ix4 i]
  generalize i 0 = z, i 1 = b, i 2 = s, i 3 = l
  unfold val_main_v135 val_main_v134
  rw [h]
  pointwise
  rfl

/-- The sampled streams' latents. -/
theorem ref_samples_lat (h : val_main_v109 (F := Ideal) x0 x1 x4 x5 x7 = arr 256 U) : val_main_v143 (F := Ideal) x0 x1 x4 x5 x7 = samples 256 U := by
  funext i
  rw [eq_ix4 i]
  generalize i 0 = z, i 1 = b, i 2 = s, i 3 = l
  unfold val_main_v143 val_main_v142
  rw [h]
  pointwise
  rfl

/-- The sampled streams' rotated keys. -/
theorem ref_samples_kr (h : val_main_v118 (F := Ideal) x0 x1 x4 x5 = arr 32 U) : val_main_v145 (F := Ideal) x0 x1 x4 x5 = samples 32 U := by
  funext i
  rw [eq_ix4 i]
  generalize i 0 = z, i 1 = b, i 2 = s, i 3 = l
  unfold val_main_v145 val_main_v144
  rw [h]
  pointwise
  rfl

/-- The new streams' last band keys. -/
theorem ref_tails_k (h : val_main_v59 (F := Ideal) x0 x1 x4 x5 = arr 512 U) : val_main_v138 (F := Ideal) x0 x1 x4 x5 = tails U := by
  funext i
  rw [eq_ix5 i]
  generalize i 0 = z, i 1 = b, i 2 = s, i 3 = n, i 4 = d
  unfold val_main_v138 val_main_v137 val_main_v136
  rw [h]
  pointwise
  rfl

/-- The new streams' last band values. -/
theorem ref_tails_v (h : val_main_v60 (F := Ideal) x0 x1 x4 x5 = arr 512 U) : val_main_v141 (F := Ideal) x0 x1 x4 x5 = tails U := by
  funext i
  rw [eq_ix5 i]
  generalize i 0 = z, i 1 = b, i 2 = s, i 3 = n, i 4 = d
  unfold val_main_v141 val_main_v140 val_main_v139
  rw [h]
  pointwise
  rfl

/-- The sampled streams' keys' buffers. -/
theorem ref_rolled_k (h : val_main_v59 (F := Ideal) x0 x1 x4 x5 = arr 512 U) : val_main_v149 (F := Ideal) x0 x1 x2 x4 x5 = rolled x2 U := by
  funext i
  rw [eq_ix5 i]
  generalize i 0 = z, i 1 = b, i 2 = s, i 3 = n, i 4 = d
  unfold val_main_v149 val_main_v148 val_main_v147 val_main_v146
  rw [h]
  pointwise
  unfold rolled
  by_cases hs : s.val < 480
  · refine (dif_pos (show 32 + s.val < 512 by omega)).trans (Eq.trans ?_ (dif_pos hs).symm)
    exact congrArg (fun p => x2 (ix5 0 b p n d)) (Fin.ext (Nat.add_comm 32 s.val))
  · refine (dif_neg (show ¬ 32 + s.val < 512 by omega)).trans (Eq.trans ?_ (dif_neg hs).symm)
    exact congrArg (fun k => U k (n.val * 64 + d.val)) (show 32768 + (b.val * 32 + (32 + s.val - 512)) = 32768 + 32 * b.val + (s.val - 480) by omega)

/-- The sampled streams' values' buffers. -/
theorem ref_rolled_v (h : val_main_v60 (F := Ideal) x0 x1 x4 x5 = arr 512 U) : val_main_v153 (F := Ideal) x0 x1 x3 x4 x5 = rolled x3 U := by
  funext i
  rw [eq_ix5 i]
  generalize i 0 = z, i 1 = b, i 2 = s, i 3 = n, i 4 = d
  unfold val_main_v153 val_main_v152 val_main_v151 val_main_v150
  rw [h]
  pointwise
  unfold rolled
  by_cases hs : s.val < 480
  · refine (dif_pos (show 32 + s.val < 512 by omega)).trans (Eq.trans ?_ (dif_pos hs).symm)
    exact congrArg (fun p => x3 (ix5 0 b p n d)) (Fin.ext (Nat.add_comm 32 s.val))
  · refine (dif_neg (show ¬ 32 + s.val < 512 by omega)).trans (Eq.trans ?_ (dif_neg hs).symm)
    exact congrArg (fun k => U k (n.val * 64 + d.val)) (show 32768 + (b.val * 32 + (32 + s.val - 512)) = 32768 + 32 * b.val + (s.val - 480) by omega)
end

/-- The reference's eight results that are frames' rows, cut stream by stream. -/
theorem ref_results :
    val_main_v133 (F := Ideal) x0 x1 x4 x5 x7 = streams 256 (args x0 x1 x4 x5 x6 x7 x8 x9 x10).lat
    ∧ val_main_v135 (F := Ideal) x0 x1 x4 x5 = streams 32 (args x0 x1 x4 x5 x6 x7 x8 x9 x10).krope
    ∧ val_main_v138 (F := Ideal) x0 x1 x4 x5 = tails ((args x0 x1 x4 x5 x6 x7 x8 x9 x10).cols 1184)
    ∧ val_main_v141 (F := Ideal) x0 x1 x4 x5 = tails ((args x0 x1 x4 x5 x6 x7 x8 x9 x10).cols 1696)
    ∧ val_main_v143 (F := Ideal) x0 x1 x4 x5 x7 = samples 256 (args x0 x1 x4 x5 x6 x7 x8 x9 x10).lat
    ∧ val_main_v145 (F := Ideal) x0 x1 x4 x5 = samples 32 (args x0 x1 x4 x5 x6 x7 x8 x9 x10).krope
    ∧ val_main_v149 (F := Ideal) x0 x1 x2 x4 x5 = rolled x2 ((args x0 x1 x4 x5 x6 x7 x8 x9 x10).cols 1184)
    ∧ val_main_v153 (F := Ideal) x0 x1 x3 x4 x5 = rolled x3 ((args x0 x1 x4 x5 x6 x7 x8 x9 x10).cols 1696) :=
  ⟨ref_streams_lat _ _ _ _ _ (arr_eq (ref_lat x0 x1 x4 x5 x6 x7 x8 x9 x10)),
    ref_streams_kr _ _ _ _ (arr_eq (ref_kr x0 x1 x4 x5 x6 x7 x8 x9 x10)),
    ref_tails_k _ _ _ _ (arr_eq (ref_kb x0 x1 x4 x5 x6 x7 x8 x9 x10)),
    ref_tails_v _ _ _ _ (arr_eq (ref_vb x0 x1 x4 x5 x6 x7 x8 x9 x10)),
    ref_samples_lat _ _ _ _ _ (arr_eq (ref_lat x0 x1 x4 x5 x6 x7 x8 x9 x10)),
    ref_samples_kr _ _ _ _ (arr_eq (ref_kr x0 x1 x4 x5 x6 x7 x8 x9 x10)),
    ref_rolled_k _ _ _ _ _ (arr_eq (ref_kb x0 x1 x4 x5 x6 x7 x8 x9 x10)),
    ref_rolled_v _ _ _ _ _ (arr_eq (ref_vb x0 x1 x4 x5 x6 x7 x8 x9 x10))⟩

/-- The reference's eight results that hold every frame's rows. -/
theorem ref_arrays :
    val_main_v154 (F := Ideal) x0 x1 x4 x5 x6 x8 = arr 1024 (args x0 x1 x4 x5 x6 x7 x8 x9 x10).query
    ∧ val_main_v155 (F := Ideal) x0 x1 x4 x5 x7 x9 = arr 1024 (args x0 x1 x4 x5 x6 x7 x8 x9 x10).key
    ∧ val_main_v156 (F := Ideal) x0 x1 x4 x5 x7 x10 = arr 512 (args x0 x1 x4 x5 x6 x7 x8 x9 x10).value
    ∧ val_main_v157 (F := Ideal) x0 x1 x4 x5 = arr 512 ((args x0 x1 x4 x5 x6 x7 x8 x9 x10).cols 672)
    ∧ val_main_v158 (F := Ideal) x0 x1 x4 x5 = arr 512 ((args x0 x1 x4 x5 x6 x7 x8 x9 x10).cols 1184)
    ∧ val_main_v159 (F := Ideal) x0 x1 x4 x5 = arr 512 ((args x0 x1 x4 x5 x6 x7 x8 x9 x10).cols 1696)
    ∧ val_main_v165 (F := Ideal) x0 x1 x4 x5 = arr 1024 ((args x0 x1 x4 x5 x6 x7 x8 x9 x10).gate 2208)
    ∧ val_main_v171 (F := Ideal) x0 x1 x4 x5 = arr 1024 ((args x0 x1 x4 x5 x6 x7 x8 x9 x10).gate 3232) :=
  ⟨arr_eq (ref_query x0 x1 x4 x5 x6 x7 x8 x9 x10),
    arr_eq (ref_key x0 x1 x4 x5 x6 x7 x8 x9 x10),
    arr_eq (ref_value x0 x1 x4 x5 x6 x7 x8 x9 x10),
    arr_eq (ref_qb x0 x1 x4 x5 x6 x7 x8 x9 x10),
    arr_eq (ref_kb x0 x1 x4 x5 x6 x7 x8 x9 x10),
    arr_eq (ref_vb x0 x1 x4 x5 x6 x7 x8 x9 x10),
    arr_eq (ref_ga x0 x1 x4 x5 x6 x7 x8 x9 x10),
    arr_eq (ref_gb x0 x1 x4 x5 x6 x7 x8 x9 x10)⟩

end Mixer
-- ==== Proof.LayerAlgebraic.lean ====
/- The layer's program and its reference end with the same sixteen arrays. -/
module

public import proofs.«01_k».proof.Proof.LayerFinal
public import proofs.«01_k».proof.Proof.LayerFinite
public import proofs.«01_k».proof.Proof.LayerRef
public import proofs.«01_k».proof.Proof.Gen.LayerReferenceIdeal.Run

@[expose] public section

set_option maxRecDepth 16384

noncomputable section

namespace Mixer

open Idealize.ShloMosaic Idealize.ShloMosaic.TcCoe Idealize.SL.Sem Cert.LayerIdeal Cert.LayerIdeal.Run Cert.LayerReferenceIdeal.Read

attribute [local instance] Cert.LayerIdeal.Gen.facts Cert.LayerReferenceIdeal.Gen.facts pre_facts

section
variable {V : Valuation Cert.LayerReferenceIdeal.τ Cert.LayerReferenceIdeal.sig (Elt Ideal)} {W : Valuation τ sig (Elt Ideal)}

/-- The reference's results that are cut stream by stream, at the program's arguments. -/
theorem ref_results_at (e0 : V (Proc.devRef .tc Cert.LayerReferenceIdeal.main_arg0) = W (Proc.devRef .tc main_arg0))
    (e1 : V (Proc.devRef .tc Cert.LayerReferenceIdeal.main_arg1) = W (Proc.devRef .tc main_arg1))
    (e2 : V (Proc.devRef .tc Cert.LayerReferenceIdeal.main_arg2) = W (Proc.devRef .tc main_arg2))
    (e3 : V (Proc.devRef .tc Cert.LayerReferenceIdeal.main_arg3) = W (Proc.devRef .tc main_arg3))
    (e4 : V (Proc.devRef .tc Cert.LayerReferenceIdeal.main_arg4) = W (Proc.devRef .tc main_arg4))
    (e5 : V (Proc.devRef .tc Cert.LayerReferenceIdeal.main_arg5) = W (Proc.devRef .tc main_arg5))
    (e6 : V (Proc.devRef .tc Cert.LayerReferenceIdeal.main_arg6) = W (Proc.devRef .tc main_arg6))
    (e7 : V (Proc.devRef .tc Cert.LayerReferenceIdeal.main_arg7) = W (Proc.devRef .tc main_arg7))
    (e8 : V (Proc.devRef .tc Cert.LayerReferenceIdeal.main_arg8) = W (Proc.devRef .tc main_arg8))
    (e9 : V (Proc.devRef .tc Cert.LayerReferenceIdeal.main_arg9) = W (Proc.devRef .tc main_arg9))
    (e10 : V (Proc.devRef .tc Cert.LayerReferenceIdeal.main_arg10) = W (Proc.devRef .tc main_arg10)) :
    val_main_v133 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) (V (Proc.devRef .tc Cert.LayerReferenceIdeal.main_arg7)) = streams 256 (hargs W).lat
    ∧ val_main_v135 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = streams 32 (hargs W).krope
    ∧ val_main_v138 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = tails ((hargs W).cols 1184)
    ∧ val_main_v141 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = tails ((hargs W).cols 1696)
    ∧ val_main_v143 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) (V (Proc.devRef .tc Cert.LayerReferenceIdeal.main_arg7)) = samples 256 (hargs W).lat
    ∧ val_main_v145 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = samples 32 (hargs W).krope
    ∧ val_main_v149 (F := Ideal) (V (Proc.devRef .tc Cert.LayerReferenceIdeal.main_arg0)) (V (Proc.devRef .tc Cert.LayerReferenceIdeal.main_arg1)) (V (Proc.devRef .tc Cert.LayerReferenceIdeal.main_arg2)) (V (Proc.devRef .tc Cert.LayerReferenceIdeal.main_arg4)) (V (Proc.devRef .tc Cert.LayerReferenceIdeal.main_arg5)) = rolled (W (Proc.devRef .tc main_arg2)) ((hargs W).cols 1184)
    ∧ val_main_v153 (F := Ideal) (V (Proc.devRef .tc Cert.LayerReferenceIdeal.main_arg0)) (V (Proc.devRef .tc Cert.LayerReferenceIdeal.main_arg1)) (V (Proc.devRef .tc Cert.LayerReferenceIdeal.main_arg3)) (V (Proc.devRef .tc Cert.LayerReferenceIdeal.main_arg4)) (V (Proc.devRef .tc Cert.LayerReferenceIdeal.main_arg5)) = rolled (W (Proc.devRef .tc main_arg3)) ((hargs W).cols 1696) := by
  unfold hargs
  rw [← e0, ← e1, ← e2, ← e3, ← e4, ← e5, ← e6, ← e7, ← e8, ← e9, ← e10]
  exact ref_results _ _ _ _ _ _ _ _ _ _ _

/-- The reference's results that hold every frame's rows, at the program's arguments. -/
theorem ref_arrays_at (e0 : V (Proc.devRef .tc Cert.LayerReferenceIdeal.main_arg0) = W (Proc.devRef .tc main_arg0))
    (e1 : V (Proc.devRef .tc Cert.LayerReferenceIdeal.main_arg1) = W (Proc.devRef .tc main_arg1))
    (e4 : V (Proc.devRef .tc Cert.LayerReferenceIdeal.main_arg4) = W (Proc.devRef .tc main_arg4))
    (e5 : V (Proc.devRef .tc Cert.LayerReferenceIdeal.main_arg5) = W (Proc.devRef .tc main_arg5))
    (e6 : V (Proc.devRef .tc Cert.LayerReferenceIdeal.main_arg6) = W (Proc.devRef .tc main_arg6))
    (e7 : V (Proc.devRef .tc Cert.LayerReferenceIdeal.main_arg7) = W (Proc.devRef .tc main_arg7))
    (e8 : V (Proc.devRef .tc Cert.LayerReferenceIdeal.main_arg8) = W (Proc.devRef .tc main_arg8))
    (e9 : V (Proc.devRef .tc Cert.LayerReferenceIdeal.main_arg9) = W (Proc.devRef .tc main_arg9))
    (e10 : V (Proc.devRef .tc Cert.LayerReferenceIdeal.main_arg10) = W (Proc.devRef .tc main_arg10)) :
    val_main_v154 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) (V (Proc.devRef .tc Cert.LayerReferenceIdeal.main_arg6)) (V (Proc.devRef .tc Cert.LayerReferenceIdeal.main_arg8)) = arr 1024 (hargs W).query
    ∧ val_main_v155 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) (V (Proc.devRef .tc Cert.LayerReferenceIdeal.main_arg7)) (V (Proc.devRef .tc Cert.LayerReferenceIdeal.main_arg9)) = arr 1024 (hargs W).key
    ∧ val_main_v156 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) (V (Proc.devRef .tc Cert.LayerReferenceIdeal.main_arg7)) (V (Proc.devRef .tc Cert.LayerReferenceIdeal.main_arg10)) = arr 512 (hargs W).value
    ∧ val_main_v157 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = arr 512 ((hargs W).cols 672)
    ∧ val_main_v158 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = arr 512 ((hargs W).cols 1184)
    ∧ val_main_v159 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = arr 512 ((hargs W).cols 1696)
    ∧ val_main_v165 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = arr 1024 ((hargs W).gate 2208)
    ∧ val_main_v171 (F := Ideal) (V (Proc.devRef .tc Cert.LayerReferenceIdeal.main_arg0)) (V (Proc.devRef .tc Cert.LayerReferenceIdeal.main_arg1)) (V (Proc.devRef .tc Cert.LayerReferenceIdeal.main_arg4)) (V (Proc.devRef .tc Cert.LayerReferenceIdeal.main_arg5)) = arr 1024 ((hargs W).gate 3232) := by
  unfold hargs
  rw [← e0, ← e1, ← e4, ← e5, ← e6, ← e7, ← e8, ← e9, ← e10]
  exact ref_arrays _ _ _ _ _ _ _ _ _

end

/-- Over the extended reals, from arguments whose rows and rotated columns are real, program and reference end with the same arrays: the
    latents, rotated keys, band rows and moved buffers of both groups of streams, the attentions' queries, keys and values, and the gates. -/
theorem algebraic : Cert.algebraic_LayerIdeal_LayerReferenceIdeal_pre_finite_rows := by
  intro m g m' g' hpre hag
  have hA := finite_args m g hpre
  refine ⟨fun c => streams 256 (hargs (W0 m g c)).lat,
    fun c => streams 32 (hargs (W0 m g c)).krope,
    fun c => tails ((hargs (W0 m g c)).cols 1184),
    fun c => tails ((hargs (W0 m g c)).cols 1696),
    fun c => samples 256 (hargs (W0 m g c)).lat,
    fun c => samples 32 (hargs (W0 m g c)).krope,
    fun c => rolled (W0 m g c (Proc.devRef .tc main_arg2)) ((hargs (W0 m g c)).cols 1184),
    fun c => rolled (W0 m g c (Proc.devRef .tc main_arg3)) ((hargs (W0 m g c)).cols 1696),
    fun c => arr 1024 (hargs (W0 m g c)).query,
    fun c => arr 1024 (hargs (W0 m g c)).key,
    fun c => arr 512 (hargs (W0 m g c)).value,
    fun c => arr 512 ((hargs (W0 m g c)).cols 672),
    fun c => arr 512 ((hargs (W0 m g c)).cols 1184),
    fun c => arr 512 ((hargs (W0 m g c)).cols 1696),
    fun c => arr 1024 ((hargs (W0 m g c)).gate 2208),
    fun c => arr 1024 ((hargs (W0 m g c)).gate 3232), ?_, ?_⟩
  · refine (θ_run _ _ _).mono (fun r h c => ⟨(h.1 c _ (mem_uc main_v140 (by decide))).trans (results_new m g c (hA c)).1,
      (h.1 c _ (mem_uc main_v142 (by decide))).trans (results_new m g c (hA c)).2.1,
      (h.1 c _ (mem_uc main_v146 (by decide))).trans (results_new m g c (hA c)).2.2.1,
      (h.1 c _ (mem_uc main_v150 (by decide))).trans (results_new m g c (hA c)).2.2.2,
      (h.1 c _ (mem_uc main_v152 (by decide))).trans (results_sampled m g c (hA c)).1,
      (h.1 c _ (mem_uc main_v154 (by decide))).trans (results_sampled m g c (hA c)).2.1,
      (h.1 c _ (mem_uc main_v155 (by decide))).trans (results_sampled m g c (hA c)).2.2.1,
      (h.1 c _ (mem_uc main_v156 (by decide))).trans (results_sampled m g c (hA c)).2.2.2,
      (h.1 c _ (mem_uc main_v58_2 (by decide))).trans (results_heads m g c (hA c)).1,
      (h.1 c _ (mem_uc main_v58_3 (by decide))).trans (results_heads m g c (hA c)).2.1,
      (h.1 c _ (mem_uc main_v58_4 (by decide))).trans (results_heads m g c (hA c)).2.2,
      (h.1 c _ (mem_uc main_v58_5 (by decide))).trans (results_band m g c).1,
      (h.1 c _ (mem_uc main_v58_6 (by decide))).trans (results_band m g c).2.1,
      (h.1 c _ (mem_uc main_v58_7 (by decide))).trans (results_band m g c).2.2,
      (h.1 c _ (mem_uc main_v58_10 (by decide))).trans (results_gates m g c).1,
      (h.1 c _ (mem_uc main_v58_11 (by decide))).trans (results_gates m g c).2,
      (h.1 c _ (mem_uc main_arg0 (by decide))).trans (W5_main_arg0 m g c),
      (h.1 c _ (mem_uc main_arg1 (by decide))).trans (W5_main_arg1 m g c),
      (h.1 c _ (mem_uc main_arg2 (by decide))).trans (W5_main_arg2 m g c),
      (h.1 c _ (mem_uc main_arg3 (by decide))).trans (W5_main_arg3 m g c),
      (h.1 c _ (mem_uc main_arg4 (by decide))).trans (W5_main_arg4 m g c),
      (h.1 c _ (mem_uc main_arg5 (by decide))).trans (W5_main_arg5 m g c),
      (h.1 c _ (mem_uc main_arg6 (by decide))).trans (W5_main_arg6 m g c),
      (h.1 c _ (mem_uc main_arg7 (by decide))).trans (W5_main_arg7 m g c),
      (h.1 c _ (mem_uc main_arg8 (by decide))).trans (W5_main_arg8 m g c),
      (h.1 c _ (mem_uc main_arg9 (by decide))).trans (W5_main_arg9 m g c),
      (h.1 c _ (mem_uc main_arg10 (by decide))).trans (W5_main_arg10 m g c),
      (h.1 c _ (mem_uc main_arg11 (by decide))).trans (W5_main_arg11 m g c)⟩) (run (F := Ideal) m g)
  · refine (θ_run _ _ _).mono (fun r h c => ?_) (Cert.LayerReferenceIdeal.Value.run (F := Ideal) m' g')
    have o := ref_results_at (V := StableHlo.launchContents m' c) (W := W0 m g c) (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1
    have q := ref_arrays_at (V := StableHlo.launchContents m' c) (W := W0 m g c) (hag c).1 (hag c).2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1
    obtain ⟨h0, h1, h2, h3, h4, h5, h6, h7, h8, h9, h10, h11, h12, h13, h14, h15, hargs'⟩ := h c
    exact ⟨h0.trans ((val_main_v133_eq (StableHlo.launchContents m' c)).trans o.1),
      h1.trans ((val_main_v135_eq (StableHlo.launchContents m' c)).trans o.2.1),
      h2.trans ((val_main_v138_eq (StableHlo.launchContents m' c)).trans o.2.2.1),
      h3.trans ((val_main_v141_eq (StableHlo.launchContents m' c)).trans o.2.2.2.1),
      h4.trans ((val_main_v143_eq (StableHlo.launchContents m' c)).trans o.2.2.2.2.1),
      h5.trans ((val_main_v145_eq (StableHlo.launchContents m' c)).trans o.2.2.2.2.2.1),
      h6.trans ((val_main_v149_eq (StableHlo.launchContents m' c)).trans o.2.2.2.2.2.2.1),
      h7.trans ((val_main_v153_eq (StableHlo.launchContents m' c)).trans o.2.2.2.2.2.2.2),
      h8.trans ((val_main_v154_eq (StableHlo.launchContents m' c)).trans q.1),
      h9.trans ((val_main_v155_eq (StableHlo.launchContents m' c)).trans q.2.1),
      h10.trans ((val_main_v156_eq (StableHlo.launchContents m' c)).trans q.2.2.1),
      h11.trans ((val_main_v157_eq (StableHlo.launchContents m' c)).trans q.2.2.2.1),
      h12.trans ((val_main_v158_eq (StableHlo.launchContents m' c)).trans q.2.2.2.2.1),
      h13.trans ((val_main_v159_eq (StableHlo.launchContents m' c)).trans q.2.2.2.2.2.1),
      h14.trans ((val_main_v165_eq (StableHlo.launchContents m' c)).trans q.2.2.2.2.2.2.1),
      h15.trans ((val_main_v171_eq (StableHlo.launchContents m' c)).trans q.2.2.2.2.2.2.2), hargs'⟩

end Mixer

end
-- ==== Proof.MixRows.lean ====
/- The mixture's output, row by row, as sequences over the lanes: the two attentions merged through their projections and their gates, the
   projection of what is merged added to the frame, and the frame normalized. -/
module

public import proofs.«01_k».proof.Proof.Results

@[expose] public section

set_option maxRecDepth 16384

noncomputable section

namespace Mixer

open Idealize.ShloMosaic

/-- The arguments that the mixture's rows are made from, as functions of the numbers of their axes: `x` is the frames of both groups one after
    the other. -/
structure MixArgs where
  oa : ℕ → ℕ → EReal
  ob : ℕ → ℕ → EReal
  ga : ℕ → ℕ → EReal
  gb : ℕ → ℕ → EReal
  x : ℕ → ℕ → EReal
  wa : ℕ → ℕ → EReal
  wb : ℕ → ℕ → EReal
  wo : ℕ → ℕ → EReal
  gain : ℕ → EReal

/-- The arguments read from their arrays. -/
def mixArgs (x0 x1 : (⟨2, ![33792, 512]⟩ : Shape).Idx → EReal) (x2 x3 : (⟨2, ![33792, 1024]⟩ : Shape).Idx → EReal)
    (x4 : (⟨3, ![16, 2048, 1024]⟩ : Shape).Idx → EReal) (x5 : (⟨3, ![32, 32, 1024]⟩ : Shape).Idx → EReal)
    (x6 x7 : (⟨3, ![1, 512, 1024]⟩ : Shape).Idx → EReal) (x8 : (⟨3, ![1, 1024, 1024]⟩ : Shape).Idx → EReal)
    (x9 : (⟨2, ![1, 1024]⟩ : Shape).Idx → EReal) : MixArgs where
  oa := get2 x0
  ob := get2 x1
  ga := get2 x2
  gb := get2 x3
  x t j := if t < 32768 then get3 x4 (t / 2048) (t % 2048) j else get3 x5 ((t - 32768) / 32) ((t - 32768) % 32) j
  wa k l := get3 x6 0 k l
  wb k l := get3 x7 0 k l
  wo k l := get3 x8 0 k l
  gain j := get2 x9 0 j

namespace MixArgs
variable (A : MixArgs)

/-- The two attentions, each through its projection and times its gate. -/
def merged (t k : ℕ) : EReal := A.ga t k * dot 512 (A.oa t) A.wa k + A.gb t k * dot 512 (A.ob t) A.wb k

/-- The frame with the mixture's output added. -/
def out (t l : ℕ) : EReal := A.x t l + dot 1024 (A.merged t) A.wo l

/-- The frame normalized. -/
def hid (t j : ℕ) : EReal := norm 1024 (Ideal.ofBits .f32 0x44800000#32) (A.out t) A.gain j

end MixArgs

end Mixer

end
-- ==== Proof.MixOut.lean ====
/- What the mixture's output leaves in each of its three arrays: row `t` is what the frame `t` gives. -/
module

public import proofs.«01_k».proof.Proof.Gen.MixIdeal.Value
public import proofs.«01_k».proof.Proof.MixRows
public import proofs.«01_k».proof.Proof.LayerOut

@[expose] public section

set_option maxRecDepth 16384

noncomputable section

namespace Mixer

open Idealize.ShloMosaic Idealize.ShloMosaic.TcCoe Cert.MixIdeal Cert.MixIdeal.Gen

attribute [local instance] Cert.MixIdeal.Gen.facts

/-- A tile's inputs at one row: the row is of frame `t`. -/
structure MixTile (A : MixArgs) (i : grid0.Coords) (r : Fin 256) (t : ℕ) (x0 x1 : Vec Ideal S256x512 .bf16)
    (x2 x3 x4 x5 : Vec Ideal S256x1024 .f32) (x6 x7 : Vec Ideal S512x1024 .bf16) (x8 : Vec Ideal S1024x1024 .bf16)
    (x9 : Vec Ideal S1x1024 .f32) : Prop where
  oa : IsRow x0 r (A.oa t)
  ob : IsRow x1 r (A.ob t)
  ga : IsRow x2 r (A.ga t)
  gb : IsRow x3 r (A.gb t)
  x : ∀ j : Fin 1024, (Scalar.select (Scalar.cmpi .slt (BitVec.ofNat 32 (i 0).val) 128#32) (x4 (ix2 r j)) (x5 (ix2 r j)) : EReal) = A.x t j
  wa : IsMat x6 A.wa
  wb : IsMat x7 A.wb
  wo : IsMat x8 A.wo
  gain : IsRow x9 0 A.gain

namespace MixTile
variable {A : MixArgs} {i : grid0.Coords} {r : Fin 256} {t : ℕ} {x0 x1 : Vec Ideal S256x512 .bf16}
    {x2 x3 x4 x5 : Vec Ideal S256x1024 .f32} {x6 x7 : Vec Ideal S512x1024 .bf16} {x8 : Vec Ideal S1024x1024 .bf16}
    {x9 : Vec Ideal S1x1024 .f32} (T : MixTile A i r t x0 x1 x2 x3 x4 x5 x6 x7 x8 x9)
include T

/-- The frame with the mixture's output added. -/
theorem sum : IsRow (k0_pay3 i x2 x0 x6 x3 x1 x7 x4 x5 x8) r (A.out t) := by
  intro j
  pointwise [k0_pay3]
  unfold MixArgs.out
  refine congrArg₂ (· + ·) (T.x j) (sum_dot _ _ _ _ fun k => ?_)
  refine congrArg₂ (· * ·) ?_ (T.wo k j)
  unfold MixArgs.merged
  exact congrArg₂ (· + ·) (congrArg₂ (· * ·) (T.ga k) (sum_dot _ _ _ _ fun l => congrArg₂ (· * ·) (T.oa l) (T.wa l k)))
    (congrArg₂ (· * ·) (T.gb k) (sum_dot _ _ _ _ fun l => congrArg₂ (· * ·) (T.ob l) (T.wb l k)))

/-- The frame normalized. -/
theorem norm : IsRow (k0_pay1 (k0_pay3 i x2 x0 x6 x3 x1 x7 x4 x5 x8) (k0_pay4 x9) (k0_pay5 i x2 x0 x6 x3 x1 x7 x4 x5 x8)
    (Scalar.ofBits (F := Ideal) .f32 0x44800000#32)) r (A.hid t) := by
  intro j
  have h := T.sum
  unfold k0_pay5
  generalize k0_pay3 i x2 x0 x6 x3 x1 x7 x4 x5 x8 = y at h ⊢
  pointwise [k0_pay1, k0_pay4]
  unfold MixArgs.hid Mixer.norm
  rw [Finset.sum_range]
  simp only [h _, T.gain j]
  rfl

/-- The blocks as the body loads them: whole. -/
theorem loaded : MixTile A i r t (View.ld (Val := Elt Ideal) x0 r0_1) (View.ld (Val := Elt Ideal) x1 r0_1) (View.ld (Val := Elt Ideal) x2 r0_0)
    (View.ld (Val := Elt Ideal) x3 r0_0) (View.ld (Val := Elt Ideal) x4 r0_0) (View.ld (Val := Elt Ideal) x5 r0_0)
    (View.ld (Val := Elt Ideal) x6 r0_2) (View.ld (Val := Elt Ideal) x7 r0_2) (View.ld (Val := Elt Ideal) x8 r0_3)
    (View.ld (Val := Elt Ideal) x9 r0_4) :=
  ⟨fun j => (ld_all x0 _ r j).trans (T.oa j), fun j => (ld_all x1 _ r j).trans (T.ob j), fun j => (ld_all x2 _ r j).trans (T.ga j),
    fun j => (ld_all x3 _ r j).trans (T.gb j), fun j => by rw [ld_all, ld_all]; exact T.x j, fun k l => (ld_all x6 _ k l).trans (T.wa k l),
    fun k l => (ld_all x7 _ k l).trans (T.wb k l), fun k l => (ld_all x8 _ k l).trans (T.wo k l), fun j => (ld_all x9 _ 0 j).trans (T.gain j)⟩

/-- What is stored of the frame with the mixture's output added, -/
theorem out : IsRow (out0_10 i x0 x1 x2 x3 x4 x5 x6 x7 x8 x9) r (A.out t) := by
  unfold out0_10
  rw [View.canon_unit_zero (by decide)]
  exact T.loaded.sum

/-- of the frame normalized, -/
theorem hid : IsRow (out0_11 i x0 x1 x2 x3 x4 x5 x6 x7 x8 x9) r (A.hid t) := by
  unfold out0_11
  rw [View.canon_unit_zero (by decide)]
  exact T.loaded.norm

/-- and of the same once more, in 16 bits. -/
theorem hid16 : IsRow (out0_12 i x0 x1 x2 x3 x4 x5 x6 x7 x8 x9) r (A.hid t) := by
  unfold out0_12
  rw [View.canon_unit_zero (by decide)]
  exact T.loaded.norm

end MixTile

/-- The arguments that a launch's arrays hold. -/
def margs (V : Valuation τ sig (Elt Ideal)) : MixArgs :=
  mixArgs (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9))

section
variable (V : Valuation τ sig (Elt Ideal))

/-- The new streams' frames. -/
theorem mix_xp_at (t : Fin 32768) (j : Fin 1024) : StableHlo.after hostOps0 V (Proc.devRef .tc main_v0) (ix2 t j) = (margs V).x t j := by
  after_reads_at
  show _ = ite _ _ _
  rw [if_pos t.isLt]
  exact elem3 _ _ _ _ (by simp) (by simp) (by simp)

/-- The sampled streams' frames. -/
theorem mix_xs_at (t : Fin 1024) (j : Fin 1024) : StableHlo.after hostOps0 V (Proc.devRef .tc main_v1) (ix2 t j) = (margs V).x (32768 + t) j := by
  after_reads_at
  show _ = ite _ _ _
  rw [if_neg (by omega)]
  exact elem3 _ _ _ _ (by simp) (by simp) (by simp)

/-- The latent attention's projection. -/
theorem mix_wa_at (k : Fin 512) (l : Fin 1024) : StableHlo.after hostOps0 V (Proc.devRef .tc main_v3) (ix2 k l) = (margs V).wa k l := by
  after_reads_at
  exact elem3 _ _ _ _ (by simp) (by simp) (by simp)

/-- The banded attention's projection. -/
theorem mix_wb_at (k : Fin 512) (l : Fin 1024) : StableHlo.after hostOps0 V (Proc.devRef .tc main_v5) (ix2 k l) = (margs V).wb k l := by
  after_reads_at
  exact elem3 _ _ _ _ (by simp) (by simp) (by simp)

/-- The output's projection. -/
theorem mix_wo_at (k : Fin 1024) (l : Fin 1024) : StableHlo.after hostOps0 V (Proc.devRef .tc main_v7) (ix2 k l) = (margs V).wo k l := by
  after_reads_at
  exact elem3 _ _ _ _ (by simp) (by simp) (by simp)

/-- The norm's gain. -/
theorem mix_gain_at (z : Fin 1) (j : Fin 1024) : StableHlo.after hostOps0 V (Proc.devRef .tc main_v9) (ix2 z j) = (margs V).gain j := by
  after_reads_at
  exact elem2 _ _ _ (by simp) (by simp)

end

/-! The blocks' numbers at each tile: the rows' inputs and the results go with the tile, -/

theorem mix_rows : ∀ t : Fin cfg0.N, win0_0.index t = ![t.val, 0] ∧ win0_1.index t = ![t.val, 0] ∧ win0_2.index t = ![t.val, 0]
    ∧ win0_3.index t = ![t.val, 0] ∧ win0_10.index t = ![t.val, 0] ∧ win0_11.index t = ![t.val, 0] ∧ win0_12.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_10.index t = ![t.val, 0] ∧ win0_11.index t = ![t.val, 0] ∧ win0_12.index t = ![t.val, 0])

/-- the frames go with the tile within their group, -/
theorem mix_frames : ∀ t : Fin cfg0.N, win0_4.index t = ![min t.val 127, 0] ∧ win0_5.index t = ![t.val - 128, 0] :=
  (by decide +kernel : ∀ t : Fin grid0.N, win0_4.index t = ![min t.val 127, 0] ∧ win0_5.index t = ![t.val - 128, 0])

/-- and the weights are whole. -/
theorem mix_weights : ∀ t : Fin cfg0.N, win0_6.index t = ![0, 0] ∧ win0_7.index t = ![0, 0] ∧ win0_8.index t = ![0, 0] ∧ win0_9.index t = ![0, 0] :=
  (by decide +kernel : ∀ t : Fin grid0.N, win0_6.index t = ![0, 0] ∧ win0_7.index t = ![0, 0] ∧ win0_8.index t = ![0, 0] ∧ win0_9.index t = ![0, 0])

/-- The grid's only coordinate is the tile's number. -/
theorem mix_coord : ∀ t : Fin cfg0.N, (grid0.coords t 0).val = t.val :=
  (by decide +kernel : ∀ t : Fin grid0.N, (grid0.coords t 0).val = t.val)

variable (m : (ℓ : Loc nD τ sig) → Buf (Elt Ideal) ℓ) (c : Dev nD)

/-- The contents at the launch. -/
abbrev mixStart : Valuation τ sig (Elt Ideal) := fun b => m (c, b)

/-- A row of a tile is a frame's. -/
theorem mix_row_lt (t : Fin cfg0.N) (r : Fin 256) : t.val * 256 + r.val < 33792 := by
  have ht : t.val < 132 := lt_of_lt_of_eq t.isLt N_0
  omega

/-- The latent attention's rows. -/
theorem mix_oa_blk (t : Fin cfg0.N) (r : Fin 256) : IsRow (iblk m c 0 t : S256x512.Idx → EReal) r ((margs (mixStart m c)).oa (256 * t.val + r.val)) := fun j =>
  ((congrArg (V m c main_arg0) (blk_of (a := 256) (((cfg0.win 0).blk t).view.emb (ix2 r j)) (mix_rows t).1 r j ⟨_, mix_row_lt t r⟩ rfl rfl rfl)).trans
    (congrFun (V_main_arg0 m c) _)).trans (elem2 _ _ _ (by show t.val * 256 + r.val = _; omega) rfl)

/-- The banded attention's rows. -/
theorem mix_ob_blk (t : Fin cfg0.N) (r : Fin 256) : IsRow (iblk m c 1 t : S256x512.Idx → EReal) r ((margs (mixStart m c)).ob (256 * t.val + r.val)) := fun j =>
  ((congrArg (V m c main_arg1) (blk_of (a := 256) (((cfg0.win 1).blk t).view.emb (ix2 r j)) (mix_rows t).2.1 r j ⟨_, mix_row_lt t r⟩ rfl rfl rfl)).trans
    (congrFun (V_main_arg1 m c) _)).trans (elem2 _ _ _ (by show t.val * 256 + r.val = _; omega) rfl)

/-- The latent attention's gates. -/
theorem mix_ga_blk (t : Fin cfg0.N) (r : Fin 256) : IsRow (iblk m c 2 t : S256x1024.Idx → EReal) r ((margs (mixStart m c)).ga (256 * t.val + r.val)) := fun j =>
  ((congrArg (V m c main_arg2) (blk_of (a := 256) (((cfg0.win 2).blk t).view.emb (ix2 r j)) (mix_rows t).2.2.1 r j ⟨_, mix_row_lt t r⟩ rfl rfl rfl)).trans
    (congrFun (V_main_arg2 m c) _)).trans (elem2 _ _ _ (by show t.val * 256 + r.val = _; omega) rfl)

/-- The banded attention's gates. -/
theorem mix_gb_blk (t : Fin cfg0.N) (r : Fin 256) : IsRow (iblk m c 3 t : S256x1024.Idx → EReal) r ((margs (mixStart m c)).gb (256 * t.val + r.val)) := fun j =>
  ((congrArg (V m c main_arg3) (blk_of (a := 256) (((cfg0.win 3).blk t).view.emb (ix2 r j)) (mix_rows t).2.2.2.1 r j ⟨_, mix_row_lt t r⟩ rfl rfl rfl)).trans
    (congrFun (V_main_arg3 m c) _)).trans (elem2 _ _ _ (by show t.val * 256 + r.val = _; omega) rfl)

/-- The latent attention's projection. -/
theorem mix_wa_blk (t : Fin cfg0.N) : IsMat (iblk m c 6 t : S512x1024.Idx → EReal) (margs (mixStart m c)).wa := fun k l =>
  (congrArg (V m c main_v3) (blk_of (a := 512) (((cfg0.win 6).blk t).view.emb (ix2 k l)) (mix_weights t).1 k l k rfl rfl (by omega))).trans
    (mix_wa_at (mixStart m c) k l)

/-- The banded attention's projection. -/
theorem mix_wb_blk (t : Fin cfg0.N) : IsMat (iblk m c 7 t : S512x1024.Idx → EReal) (margs (mixStart m c)).wb := fun k l =>
  (congrArg (V m c main_v5) (blk_of (a := 512) (((cfg0.win 7).blk t).view.emb (ix2 k l)) (mix_weights t).2.1 k l k rfl rfl (by omega))).trans
    (mix_wb_at (mixStart m c) k l)

/-- The output's projection. -/
theorem mix_wo_blk (t : Fin cfg0.N) : IsMat (iblk m c 8 t : S1024x1024.Idx → EReal) (margs (mixStart m c)).wo := fun k l =>
  (congrArg (V m c main_v7) (blk_of (a := 1024) (((cfg0.win 8).blk t).view.emb (ix2 k l)) (mix_weights t).2.2.1 k l k rfl rfl (by omega))).trans
    (mix_wo_at (mixStart m c) k l)

/-- The norm's gain. -/
theorem mix_gain_blk (t : Fin cfg0.N) : IsRow (iblk m c 9 t : S1x1024.Idx → EReal) 0 (margs (mixStart m c)).gain := fun j =>
  (congrArg (V m c main_v9) (blk_of (a := 1) (((cfg0.win 9).blk t).view.emb (ix2 0 j)) (mix_weights t).2.2.2 0 j 0 rfl rfl rfl)).trans
    (mix_gain_at (mixStart m c) 0 j)

/-- The frames' rows: of the first group on the first 128 tiles. -/
theorem mix_x_blk (t : Fin cfg0.N) (r : Fin 256) (j : Fin 1024) :
    (Scalar.select (Scalar.cmpi .slt (BitVec.ofNat 32 (grid0.coords t 0).val) 128#32) ((iblk m c 4 t : S256x1024.Idx → EReal) (ix2 r j))
      ((iblk m c 5 t : S256x1024.Idx → EReal) (ix2 r j)) : EReal) = (margs (mixStart m c)).x (256 * t.val + r.val) j := by
  have ht : t.val < 132 := lt_of_lt_of_eq t.isLt N_0
  rw [mix_coord, first_group ⟨t.val, ht⟩]
  by_cases h : t.val < 128
  · rw [if_pos h]
    exact (congrArg (V m c main_v0) (blk_of (a := 256) (((cfg0.win 4).blk t).view.emb (ix2 r j)) (mix_frames t).1 r j
      ⟨256 * t.val + r.val, by omega⟩ rfl rfl (by show min t.val 127 * 256 + r.val = 256 * t.val + r.val; omega))).trans (mix_xp_at (mixStart m c) _ j)
  · rw [if_neg h]
    refine ((congrArg (V m c main_v1) (blk_of (a := 256) (((cfg0.win 5).blk t).view.emb (ix2 r j)) (mix_frames t).2 r j
      ⟨256 * t.val + r.val - 32768, by omega⟩ rfl rfl (by show (t.val - 128) * 256 + r.val = 256 * t.val + r.val - 32768; omega))).trans
      (mix_xs_at (mixStart m c) _ j)).trans ?_
    exact congrArg (fun n => (margs (mixStart m c)).x n j) (by simp only; omega)

/-- Tile `t` at its row `r` is of frame 256·t + r. -/
theorem mix_tile (t : Fin cfg0.N) (r : Fin 256) : MixTile (margs (mixStart m c)) (grid0.coords t) r (256 * t.val + r.val)
    (iblk m c 0 t) (iblk m c 1 t) (iblk m c 2 t) (iblk m c 3 t) (iblk m c 4 t) (iblk m c 5 t)
    (iblk m c 6 t) (iblk m c 7 t) (iblk m c 8 t) (iblk m c 9 t) :=
  ⟨mix_oa_blk m c t r, mix_ob_blk m c t r, mix_ga_blk m c t r, mix_gb_blk m c t r, mix_x_blk m c t r, mix_wa_blk m c t, mix_wb_blk m c t,
    mix_wo_blk m c t, mix_gain_blk m c t⟩

/-- The tile that row `i` is of. -/
def mixTileOf (i : ℕ) (h : i < 33792) : Fin cfg0.N := ⟨i / 256, by have : cfg0.N = 132 := N_0; omega⟩

/-- The frames with the mixture's output added. -/
theorem mix_out_arr : (dats m 0 c).arrAt 10 cfg0.N = arr 1024 (margs (mixStart m c)).out := by
  refine (dats m 0 c).arrAt_eq_of_cover 10 (arr 1024 (margs (mixStart m c)).out) (fun t _ => ?_) (fun i => ?_)
  · show (cfg0.win 10).cut (grid0.coords t) ((dats m 0 c).after 10 t) = _
    rw [after0_10]
    exact funext (rows_eq (n := 1024) (t := t.val) (U := (margs (mixStart m c)).out) (e := ((cfg0.win 10).blk t).view.emb) (mix_rows t).2.2.2.2.1
      (fun _ => rfl) (fun _ => rfl) fun r => (mix_tile m c t r).out)
  · let t := mixTileOf (i 0).val (i 0).isLt
    refine ⟨t, flush0_10 t, ?_⟩
    show i ∈ ((View.whole main_v10_0).slice (win0_10.rect t)).set
    rw [View.set_slice_whole, Rect.mem_set_unit]
    exact in_tile i (mix_rows t).2.2.2.2.1

/-- The frames normalized. -/
theorem mix_hid_arr : (dats m 0 c).arrAt 11 cfg0.N = arr 1024 (margs (mixStart m c)).hid := by
  refine (dats m 0 c).arrAt_eq_of_cover 11 (arr 1024 (margs (mixStart m c)).hid) (fun t _ => ?_) (fun i => ?_)
  · show (cfg0.win 11).cut (grid0.coords t) ((dats m 0 c).after 11 t) = _
    rw [after0_11]
    exact funext (rows_eq (n := 1024) (t := t.val) (U := (margs (mixStart m c)).hid) (e := ((cfg0.win 11).blk t).view.emb) (mix_rows t).2.2.2.2.2.1
      (fun _ => rfl) (fun _ => rfl) fun r => (mix_tile m c t r).hid)
  · let t := mixTileOf (i 0).val (i 0).isLt
    refine ⟨t, flush0_11 t, ?_⟩
    show i ∈ ((View.whole main_v10_1).slice (win0_11.rect t)).set
    rw [View.set_slice_whole, Rect.mem_set_unit]
    exact in_tile i (mix_rows t).2.2.2.2.2.1

/-- The same in 16 bits. -/
theorem mix_hid16_arr : (dats m 0 c).arrAt 12 cfg0.N = arr 1024 (margs (mixStart m c)).hid := by
  refine (dats m 0 c).arrAt_eq_of_cover 12 (arr 1024 (margs (mixStart m c)).hid) (fun t _ => ?_) (fun i => ?_)
  · show (cfg0.win 12).cut (grid0.coords t) ((dats m 0 c).after 12 t) = _
    rw [after0_12]
    exact funext (rows_eq (n := 1024) (t := t.val) (U := (margs (mixStart m c)).hid) (e := ((cfg0.win 12).blk t).view.emb) (mix_rows t).2.2.2.2.2.2
      (fun _ => rfl) (fun _ => rfl) fun r => (mix_tile m c t r).hid16)
  · let t := mixTileOf (i 0).val (i 0).isLt
    refine ⟨t, flush0_12 t, ?_⟩
    show i ∈ ((View.whole main_v10_2).slice (win0_12.rect t)).set
    rw [View.set_slice_whole, Rect.mem_set_unit]
    exact in_tile i (mix_rows t).2.2.2.2.2.2

end Mixer

end
-- ==== Proof.MixAlgebraic.lean ====
/- The mixture's program and its reference end with the same three arrays. -/
module

public import proofs.«01_k».proof.Proof.MixOut
public import proofs.«01_k».proof.Proof.LayerRef
public import proofs.«01_k».proof.Proof.Gen.MixReferenceIdeal.Read
public import proofs.«01_k».proof.Proof.Gen.MixReferenceIdeal.Run
public import proofs.«01_k».proof.Defs
public import Idealize.ShloMosaic.Lib.Pointwise

@[expose] public section

set_option maxRecDepth 16384

noncomputable section

namespace Mixer

open Idealize.ShloMosaic Idealize.ShloMosaic.TcCoe Idealize.SL.Sem Cert.MixReferenceIdeal Cert.MixReferenceIdeal.Gen Cert.MixReferenceIdeal.Read

attribute [local instance] Cert.MixReferenceIdeal.Gen.facts Cert.MixIdeal.Gen.facts

section
variable (x0 x1 : S33792x512.Idx → EReal) (x2 x3 : S33792x1024.Idx → EReal) (x4 : S16x2048x1024.Idx → EReal) (x5 : S32x32x1024.Idx → EReal)
  (x6 x7 : S1x512x1024.Idx → EReal) (x8 : S1x1024x1024.Idx → EReal) (x9 : S1x1024.Idx → EReal)

/-- The frames, one after the other. -/
theorem mix_ref_x (t : Fin 33792) (j : Fin 1024) :
    val_main_v2 (F := Ideal) x4 x5 (ix2 t j) = (mixArgs x0 x1 x2 x3 x4 x5 x6 x7 x8 x9).x t j := by
  pointwise [val_main_v2, val_main_v0, val_main_v1]
  by_cases h : t.val < 32768
  · exact (dif_pos h).trans ((elem3 _ _ _ _ rfl rfl rfl).trans (if_pos h).symm)
  · exact (dif_neg h).trans ((elem3 _ _ _ _ rfl rfl rfl).trans (if_neg h).symm)

/-- The two attentions merged. -/
theorem mix_ref_merged (t : Fin 33792) (k : Fin 1024) :
    val_main_v11 (F := Ideal) x0 x1 x2 x3 x6 x7 (ix2 t k) = (mixArgs x0 x1 x2 x3 x4 x5 x6 x7 x8 x9).merged t k := by
  pointwise [val_main_v11, val_main_v10, val_main_v9, val_main_v8, val_main_v7, val_main_v6, val_main_v5, val_main_v4, val_main_v3]
  exact congrArg₂ (· + ·)
    (congrArg₂ (· * ·) (elem2 x2 _ _ rfl rfl) (dot_row (fun l => elem2 x0 _ _ rfl rfl) fun l => elem3 x6 _ _ _ rfl rfl rfl))
    (congrArg₂ (· * ·) (elem2 x3 _ _ rfl rfl) (dot_row (fun l => elem2 x1 _ _ rfl rfl) fun l => elem3 x7 _ _ _ rfl rfl rfl))

/-- The frames with the mixture's output added. -/
theorem mix_ref_out (t : Fin 33792) (l : Fin 1024) :
    val_main_v14 (F := Ideal) x0 x1 x2 x3 x4 x5 x6 x7 x8 (ix2 t l) = (mixArgs x0 x1 x2 x3 x4 x5 x6 x7 x8 x9).out t l := by
  have hm := mix_ref_merged x0 x1 x2 x3 x4 x5 x6 x7 x8 x9 t
  have hx := mix_ref_x x0 x1 x2 x3 x4 x5 x6 x7 x8 x9 t
  unfold val_main_v14 val_main_v13
  generalize val_main_v11 (F := Ideal) x0 x1 x2 x3 x6 x7 = y at hm ⊢
  generalize val_main_v2 (F := Ideal) x4 x5 = z at hx ⊢
  pointwise [val_main_v12]
  exact congrArg₂ (· + ·) (hx l) (dot_row hm fun k => elem3 x8 _ _ _ rfl rfl rfl)

/-- The frames normalized. -/
theorem mix_ref_hid (t : Fin 33792) (j : Fin 1024) :
    val_main_v28 (F := Ideal) x0 x1 x2 x3 x4 x5 x6 x7 x8 x9 (ix2 t j) = (mixArgs x0 x1 x2 x3 x4 x5 x6 x7 x8 x9).hid t j := by
  have h := mix_ref_out x0 x1 x2 x3 x4 x5 x6 x7 x8 x9 t
  unfold val_main_v28 val_main_v25 val_main_v24 val_main_v23 val_main_v22 val_main_v20 val_main_v18 val_main_v17 val_main_v16
  generalize val_main_v14 (F := Ideal) x0 x1 x2 x3 x4 x5 x6 x7 x8 = y at h ⊢
  pointwise [val_main_v15, val_main_cst, val_main_cst_0, val_main_v19, val_main_cst_1, val_main_v21, val_main_v26, val_main_v27]
  exact norm_row h j (elem2 _ _ _ rfl rfl)

/-- The reference's three arrays. -/
theorem mix_ref_arrays : val_main_v14 (F := Ideal) x0 x1 x2 x3 x4 x5 x6 x7 x8 = arr 1024 (mixArgs x0 x1 x2 x3 x4 x5 x6 x7 x8 x9).out
    ∧ val_main_v28 (F := Ideal) x0 x1 x2 x3 x4 x5 x6 x7 x8 x9 = arr 1024 (mixArgs x0 x1 x2 x3 x4 x5 x6 x7 x8 x9).hid
    ∧ val_main_v29 (F := Ideal) x0 x1 x2 x3 x4 x5 x6 x7 x8 x9 = arr 1024 (mixArgs x0 x1 x2 x3 x4 x5 x6 x7 x8 x9).hid := by
  refine ⟨funext fun i => ?_, funext fun i => ?_, funext fun i => ?_⟩
  · rw [ix2_of i (i 0) (i 1) rfl rfl]
    exact mix_ref_out x0 x1 x2 x3 x4 x5 x6 x7 x8 x9 _ _
  · rw [ix2_of i (i 0) (i 1) rfl rfl]
    exact mix_ref_hid x0 x1 x2 x3 x4 x5 x6 x7 x8 x9 _ _
  · rw [ix2_of i (i 0) (i 1) rfl rfl]
    exact mix_ref_hid x0 x1 x2 x3 x4 x5 x6 x7 x8 x9 _ _

end

section
variable {V : Valuation τ sig (Elt Ideal)} {W : Valuation Cert.MixIdeal.τ Cert.MixIdeal.sig (Elt Ideal)}

/-- The reference's three arrays, at the program's arguments. -/
theorem mix_ref_at (e0 : V (Proc.devRef .tc main_arg0) = W (Proc.devRef .tc Cert.MixIdeal.main_arg0))
    (e1 : V (Proc.devRef .tc main_arg1) = W (Proc.devRef .tc Cert.MixIdeal.main_arg1))
    (e2 : V (Proc.devRef .tc main_arg2) = W (Proc.devRef .tc Cert.MixIdeal.main_arg2))
    (e3 : V (Proc.devRef .tc main_arg3) = W (Proc.devRef .tc Cert.MixIdeal.main_arg3))
    (e4 : V (Proc.devRef .tc main_arg4) = W (Proc.devRef .tc Cert.MixIdeal.main_arg4))
    (e5 : V (Proc.devRef .tc main_arg5) = W (Proc.devRef .tc Cert.MixIdeal.main_arg5))
    (e6 : V (Proc.devRef .tc main_arg6) = W (Proc.devRef .tc Cert.MixIdeal.main_arg6))
    (e7 : V (Proc.devRef .tc main_arg7) = W (Proc.devRef .tc Cert.MixIdeal.main_arg7))
    (e8 : V (Proc.devRef .tc main_arg8) = W (Proc.devRef .tc Cert.MixIdeal.main_arg8))
    (e9 : V (Proc.devRef .tc main_arg9) = W (Proc.devRef .tc Cert.MixIdeal.main_arg9)) :
    val_main_v14 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) = arr 1024 (margs W).out
    ∧ val_main_v28 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) = arr 1024 (margs W).hid
    ∧ val_main_v29 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) = arr 1024 (margs W).hid := by
  unfold margs
  rw [← e0, ← e1, ← e2, ← e3, ← e4, ← e5, ← e6, ← e7, ← e8, ← e9]
  exact mix_ref_arrays _ _ _ _ _ _ _ _ _ _

end

/-- Over the extended reals, the mixture's program and its reference end with the same arrays: the frames with the mixture's output added,
    and the frames normalized, once in 32 and once in 16 bits. -/
theorem mix_algebraic : Cert.algebraic_MixIdeal_MixReferenceIdeal := by
  intro m g m' g' hpre hag
  refine ⟨fun c => arr 1024 (margs (mixStart m c)).out, fun c => arr 1024 (margs (mixStart m c)).hid,
    fun c => arr 1024 (margs (mixStart m c)).hid, ?_, ?_⟩
  · exact (θ_run _ _ _).mono (fun r h c => ⟨(h c).1.trans (mix_out_arr m c), (h c).2.1.trans (mix_hid_arr m c),
      (h c).2.2.1.trans (mix_hid16_arr m c), (h c).2.2.2⟩) (Cert.MixIdeal.Value.run_blocks (F := Ideal) m g)
  · refine (θ_run _ _ _).mono (fun r h c => ?_) (Cert.MixReferenceIdeal.Value.run (F := Ideal) m' g')
    obtain ⟨a0, a1, a2, a3, a4, a5, a6, a7, a8, a9⟩ := hag c
    have o := mix_ref_at (V := StableHlo.launchContents m' c) (W := mixStart m c) a0 a1 a2 a3 a4 a5 a6 a7 a8 a9
    obtain ⟨h0, h1, h2, hargs'⟩ := h c
    exact ⟨h0.trans ((val_main_v14_eq _ _ _ _ _ _ _ _ _).trans o.1), h1.trans ((val_main_v28_eq _ _ _ _ _ _ _ _ _ _).trans o.2.1),
      h2.trans ((val_main_v29_eq _ _ _ _ _ _ _ _ _ _).trans o.2.2), hargs'⟩

end Mixer

end
-- ==== Proof.LastIdealRun.lean ====
/- The last call, idealized: its launch.

   The body computes one tile of 256 rows at each of the 132 points and stores it either into the prompt's window, at the first
   128 points, or into the sampled rows' window, at the last 4. The window that is not stored keeps what it held; the prompt's last
   tile, stored at point 127, is written back only after the last point. -/
module

public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import Idealize.ShloMosaic.Lib.Pipeline.TableIdle
public import Idealize.ShloMosaic.Lib.Claim

@[expose] public section

set_option maxRecDepth 16384

noncomputable section

namespace Cert.LastIdeal.Run

open Cert.LastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points: which window is stored, and which is written back -/

/-- The prompt's window is stored at the first 128 points. -/
theorem prompt_stored : ∀ t : Fin cfg0.N, k0_cond1 (grid0.coords t) = 1#1 ↔ t.val < 128 :=
  (by decide +kernel : ∀ t : Fin grid0.N, k0_cond1 (grid0.coords t) = 1#1 ↔ t.val < 128)

/-- The sampled rows' window is stored at the others. -/
theorem sample_stored : ∀ t : Fin cfg0.N, k0_cond2 (grid0.coords t) = 1#1 ↔ ¬ t.val < 128 :=
  (by decide +kernel : ∀ t : Fin grid0.N, k0_cond2 (grid0.coords t) = 1#1 ↔ ¬ t.val < 128)

/-- The prompt's window is written back after each of the first 127 points and after the last. -/
theorem prompt_flush (t : Fin cfg0.N) : (cfg0.win 9).flush t = true ↔ t.val < 127 ∨ t.val = 131 := by
  show win0_9.flush t = true ↔ _
  rw [Window.flush_eq_flushF]
  exact (by decide +kernel : ∀ t : Fin grid0.N, win0_9.flushF t = true ↔ t.val < 127 ∨ t.val = 131) t

/-- The sampled rows' window is written back after each of the last 4 points. -/
theorem sample_flush (t : Fin cfg0.N) : (cfg0.win 10).flush t = true ↔ 128 ≤ t.val := by
  show win0_10.flush t = true ↔ _
  rw [Window.flush_eq_flushF]
  exact (by decide +kernel : ∀ t : Fin grid0.N, win0_10.flushF t = true ↔ 128 ≤ t.val) t

/-- The prompt's window is idle exactly where it is not stored. -/
theorem prompt_idle (t : Fin cfg0.N) : cfg0.idle 9 (cfg0.grid.coords t) = decide (¬ t.val < 128) := by
  show (!(k0_cond1 (grid0.coords t) == 1#1)) = _
  by_cases h : t.val < 128
  · rw [(prompt_stored t).mpr h]; simp [h]
  · have := mt (prompt_stored t).mp h
    simp [h, this]

/-- The sampled rows' window is idle exactly where it is not stored. -/
theorem sample_idle (t : Fin cfg0.N) : cfg0.idle 10 (cfg0.grid.coords t) = decide (t.val < 128) := by
  show (!(k0_cond2 (grid0.coords t) == 1#1)) = _
  by_cases h : t.val < 128
  · have := mt (sample_stored t).mp (not_not.mpr h)
    simp [h, this]
  · rw [(sample_stored t).mpr h]; simp [h]

/-- After point 127 the prompt's window holds a stored tile that is not yet written back. -/
theorem prompt_fresh (n : ℕ) (h : 128 ≤ n) (hn : n < 132) : cfg0.fresh 9 n = false := by
  induction n with
  | zero => omega
  | succ k ih =>
    have hk : k < cfg0.N := lt_of_lt_of_eq (by omega) (show 132 = cfg0.N from N_0.symm)
    rw [Cfg.fresh_succ cfg0 9 k hk, prompt_idle]
    have hf : (cfg0.win 9).flush ⟨k, hk⟩ = false := by
      rw [← Bool.not_eq_true, prompt_flush]; dsimp only; omega
    rw [hf]
    by_cases hk' : k < 128
    · simp [hk']
    · rw [ih (by omega) (by omega)]; simp

/-! ## The body -/

/-- The tile of 256 rows that the body stores, from the input windows' blocks. -/
def tile (i : grid0.Coords) (x0 : Vec F S256x1024 .f32) (x1 : Vec F S256x1024 .f32) (x2 : Vec F S256x1024 .f32) (x3 : Vec F S256x256 .f32) (x4 : Vec F S256x256 .f32) (x5 : Vec F S1x1024 .f32) (x6 : Vec F S1024x1024 .bf16) (x7 : Vec F S256x1024 .bf16) (x8 : Vec F S1x1024 .f32) : Vec F S256x1024 .f32 :=
  View.canon [⟨Rect.unit (s := S256x1024) ![0, 0] S256x1024.size inb_S256x1024_S256x1024_0_0,
    k0_pay1 (k0_pay2 i (View.ld x0 (Rect.unit (s := S256x1024) ![0, 0] S256x1024.size inb_S256x1024_S256x1024_0_0)) (View.ld x1 (Rect.unit (s := S256x1024) ![0, 0] S256x1024.size inb_S256x1024_S256x1024_0_0)) (View.ld x2 (Rect.unit (s := S256x1024) ![0, 0] S256x1024.size inb_S256x1024_S256x1024_0_0)))
      (k0_pay3 i (View.ld x0 (Rect.unit (s := S256x1024) ![0, 0] S256x1024.size inb_S256x1024_S256x1024_0_0)) (View.ld x1 (Rect.unit (s := S256x1024) ![0, 0] S256x1024.size inb_S256x1024_S256x1024_0_0)) (View.ld x2 (Rect.unit (s := S256x1024) ![0, 0] S256x1024.size inb_S256x1024_S256x1024_0_0))
        (View.ld x5 (Rect.unit (s := S1x1024) ![0, 0] S1x1024.size inb_S1x1024_S1x1024_0_0)) (View.ld x6 (Rect.unit (s := S1024x1024) ![0, 0] S1024x1024.size inb_S1024x1024_S1024x1024_0_0))
        (View.ld x3 (Rect.unit (s := S256x256) ![0, 0] S256x256.size inb_S256x256_S256x256_0_0)) (View.ld x4 (Rect.unit (s := S256x256) ![0, 0] S256x256.size inb_S256x256_S256x256_0_0))
        (View.ld x7 (Rect.unit (s := S256x1024) ![0, 0] S256x1024.size inb_S256x1024_S256x1024_0_0)))
      (View.ld x8 (Rect.unit (s := S1x1024) ![0, 0] S1x1024.size inb_S1x1024_S1x1024_0_0))⟩]

/-- The one store covers the window. -/
theorem tile_cover (p : Vec F S256x1024 .f32) (y : S256x1024.Idx) :
    ∃ pc ∈ ([⟨Rect.unit (s := S256x1024) ![0, 0] S256x1024.size inb_S256x1024_S256x1024_0_0, p⟩] : List (View.Piece (Elt F) S256x1024 .f32)), y ∈ pc.1.set :=
  View.cover_of_tiled [⟨Rect.unit (s := S256x1024) ![0, 0] S256x1024.size inb_S256x1024_S256x1024_0_0, p⟩] S256x1024.size (by rfl) y

set_option maxHeartbeats 2000000 in
/-- The body run once: it leaves its inputs as they were and stores the tile into one of the two output windows, the one that the
    point's two conditions name; the other keeps what it held. -/
theorem body_run (c : Dev nD) (E : Set ℕ) (i : grid0.Coords) (hc : k0_cond1 i = 1#1 ∧ ¬ k0_cond2 i = 1#1 ∨ ¬ k0_cond1 i = 1#1 ∧ k0_cond2 i = 1#1)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S256x256 .f32) (harg4 : arg4.IsWhole)
    (arg5 : Memref sig .tc .vmem S256x256 .f32) (harg5 : arg5.IsWhole)
    (arg6 : Memref sig .tc .vmem S1x1024 .f32) (harg6 : arg6.IsWhole)
    (arg7 : Memref sig .tc .vmem S1024x1024 .bf16) (harg7 : arg7.IsWhole)
    (arg8 : Memref sig .tc .vmem S256x1024 .bf16) (harg8 : arg8.IsWhole)
    (arg9 : Memref sig .tc .vmem S1x1024 .f32) (harg9 : arg9.IsWhole)
    (arg10 : Memref sig .tc .vmem S256x1024 .f32) (harg10 : arg10.IsWhole)
    (arg11 : Memref sig .tc .vmem S256x1024 .f32) (harg11 : arg11.IsWhole)
    (x0 : Vec F S256x1024 .f32) (x1 : Vec F S256x1024 .f32) (x2 : Vec F S256x1024 .f32) (x3 : Vec F S256x256 .f32) (x4 : Vec F S256x256 .f32) (x5 : Vec F S1x1024 .f32) (x6 : Vec F S1024x1024 .bf16) (x7 : Vec F S256x1024 .bf16) (x8 : Vec F S1x1024 .f32) (y9 y10 : Vec F S256x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
          ∗ owns (c : Thread nD τ) arg10 fullShare (if k0_cond1 i = 1#1 then tile i x0 x1 x2 x3 x4 x5 x6 x7 x8 else y9)
          ∗ owns (c : Thread nD τ) arg11 fullShare (if k0_cond2 i = 1#1 then tile i x0 x1 x2 x3 x4 x5 x6 x7 x8 else y10)) -∗ K ⟨⟩))
      ⊢ wp frame (wpE (defs₀ (F := F)) Variants.none c none) E (cc0_ple_final i arg1 harg1 arg2 harg2 arg3 harg3 arg4 harg4 arg5 harg5 arg6 harg6 arg7 harg7 arg8 harg8 arg9 harg9 arg10 harg10 arg11 harg11) K := by
  simp only [cc0_ple_final_eq_skeleton]; unfold cc0_ple_final_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  subst hf0 hf1 hf2 hf3 hf4 hf5 hf6 hf7 hf8 hf9 hf10
  rcases hc with ⟨hc1, hc2⟩ | ⟨hc1, hc2⟩
  all_goals
    simp only [hc1, hc2, if_true, if_false]
    sl_exec (disch := first | sl_exact hc1 | sl_exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
  · isplitl [H9]
    · iexists _; isplitr
      swap; · iexact H9
      ipureintro
      exact (View.read_writes_eq_canon _ _ _ (tile_cover _)).trans rfl
    iexists f10; isplitr; · ipureintro; rfl
    iexact H10
  · isplitl [H9]
    · iexists f9; isplitr; · ipureintro; rfl
      iexact H9
    iexists _; isplitr
    swap; · iexact H10
    ipureintro
    exact (View.read_writes_eq_canon _ _ _ (tile_cover _)).trans rfl

/-! ## The launch -/

/-- The tile stored at point `t`. -/
def tileAt (c : Dev nD) (t : Fin cfg0.N) : Vec F S256x1024 .f32 :=
  tile (grid0.coords t) (iblk m c 0 t) (iblk m c 1 t) (iblk m c 2 t) (iblk m c 3 t) (iblk m c 4 t) (iblk m c 5 t) (iblk m c 6 t) (iblk m c 7 t) (iblk m c 8 t)

/-- The point whose tile the prompt's window holds after point `t`. -/
def held (t : Fin cfg0.N) : Fin cfg0.N := ⟨min t.val 127, lt_of_le_of_lt (Nat.min_le_left _ _) t.isLt⟩

/-- What the launch says of each window: the arrays as the launch finds them, each input's block left as it was, the prompt's
    window at the last tile stored into it, and the sampled rows' window at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tileAt m c (held t)
    | ⟨10, _⟩ => tileAt m c t
  Φ _ := Pipeline.ΦA spec0 c
  q _ := fullShare
  owed _ := 0

/-- The arrays are as the launch finds them. -/
theorem A_eq (c : Dev nD) (w : Fin cfg0.W) : (dats m 0 c).A w = V m c (Pipeline.arrRef spec0 w) := by
  dsimp only [dats]

/-! What each window holds after a point, and what each input holds before it. -/

/-- Input 0 after a point. -/
theorem after_0 (c : Dev nD) (t : Fin cfg0.N) : (dats m 0 c).after 0 t = iblk m c 0 t := by dsimp only [dats]
/-- Input 1 after a point. -/
theorem after_1 (c : Dev nD) (t : Fin cfg0.N) : (dats m 0 c).after 1 t = iblk m c 1 t := by dsimp only [dats]
/-- Input 2 after a point. -/
theorem after_2 (c : Dev nD) (t : Fin cfg0.N) : (dats m 0 c).after 2 t = iblk m c 2 t := by dsimp only [dats]
/-- Input 3 after a point. -/
theorem after_3 (c : Dev nD) (t : Fin cfg0.N) : (dats m 0 c).after 3 t = iblk m c 3 t := by dsimp only [dats]
/-- Input 4 after a point. -/
theorem after_4 (c : Dev nD) (t : Fin cfg0.N) : (dats m 0 c).after 4 t = iblk m c 4 t := by dsimp only [dats]
/-- Input 5 after a point. -/
theorem after_5 (c : Dev nD) (t : Fin cfg0.N) : (dats m 0 c).after 5 t = iblk m c 5 t := by dsimp only [dats]
/-- Input 6 after a point. -/
theorem after_6 (c : Dev nD) (t : Fin cfg0.N) : (dats m 0 c).after 6 t = iblk m c 6 t := by dsimp only [dats]
/-- Input 7 after a point. -/
theorem after_7 (c : Dev nD) (t : Fin cfg0.N) : (dats m 0 c).after 7 t = iblk m c 7 t := by dsimp only [dats]
/-- Input 8 after a point. -/
theorem after_8 (c : Dev nD) (t : Fin cfg0.N) : (dats m 0 c).after 8 t = iblk m c 8 t := by dsimp only [dats]
/-- The prompt's window after a point. -/
theorem after_9 (c : Dev nD) (t : Fin cfg0.N) : (dats m 0 c).after 9 t = tileAt m c (held t) := by dsimp only [dats]
/-- The sampled rows' window after a point. -/
theorem after_10 (c : Dev nD) (t : Fin cfg0.N) : (dats m 0 c).after 10 t = tileAt m c t := by dsimp only [dats]

/-- Input 0 before a point. -/
theorem before_0 (c : Dev nD) (t : Fin cfg0.N) (d) : (dats m 0 c).before 0 t d = iblk m c 0 t :=
  before0_0_of m (dats m 0 c) (A_eq m c 0) (after_0 m c) t d
/-- Input 1 before a point. -/
theorem before_1 (c : Dev nD) (t : Fin cfg0.N) (d) : (dats m 0 c).before 1 t d = iblk m c 1 t :=
  before0_1_of m (dats m 0 c) (A_eq m c 1) (after_1 m c) t d
/-- Input 2 before a point. -/
theorem before_2 (c : Dev nD) (t : Fin cfg0.N) (d) : (dats m 0 c).before 2 t d = iblk m c 2 t :=
  before0_2_of m (dats m 0 c) (A_eq m c 2) (after_2 m c) t d
/-- Input 3 before a point. -/
theorem before_3 (c : Dev nD) (t : Fin cfg0.N) (d) : (dats m 0 c).before 3 t d = iblk m c 3 t :=
  before0_3_of m (dats m 0 c) (A_eq m c 3) (after_3 m c) t d
/-- Input 4 before a point. -/
theorem before_4 (c : Dev nD) (t : Fin cfg0.N) (d) : (dats m 0 c).before 4 t d = iblk m c 4 t :=
  before0_4_of m (dats m 0 c) (A_eq m c 4) (after_4 m c) t d
/-- Input 5 before a point. -/
theorem before_5 (c : Dev nD) (t : Fin cfg0.N) (d) : (dats m 0 c).before 5 t d = iblk m c 5 t :=
  before0_5_of m (dats m 0 c) (A_eq m c 5) (after_5 m c) t d
/-- Input 6 before a point. -/
theorem before_6 (c : Dev nD) (t : Fin cfg0.N) (d) : (dats m 0 c).before 6 t d = iblk m c 6 t :=
  before0_6_of m (dats m 0 c) (A_eq m c 6) (after_6 m c) t d
/-- Input 7 before a point. -/
theorem before_7 (c : Dev nD) (t : Fin cfg0.N) (d) : (dats m 0 c).before 7 t d = iblk m c 7 t :=
  before0_7_of m (dats m 0 c) (A_eq m c 7) (after_7 m c) t d
/-- Input 8 before a point. -/
theorem before_8 (c : Dev nD) (t : Fin cfg0.N) (d) : (dats m 0 c).before 8 t d = iblk m c 8 t :=
  before0_8_of m (dats m 0 c) (A_eq m c 8) (after_8 m c) t d

/-- At the last points the prompt's window holds its last tile before the body runs. -/
theorem before_9 (c : Dev nD) (t : Fin cfg0.N) (h : 128 ≤ t.val) (d) : (dats m 0 c).before 9 t d = tileAt m c (held t) := by
  have hN : t.val < 132 := lt_of_lt_of_eq t.isLt (show cfg0.N = 132 from N_0)
  rw [Dat.before_out_traj (dats m 0 c) 9 rfl (fun _ _ => rfl) (fun s _ hi _ => by
    rw [prompt_idle, decide_eq_true_iff] at hi
    rw [after_9, after_9]
    congr 1
    apply Fin.ext
    show min s.val 127 = min (s.val - 1) 127
    omega) t.val t rfl d, prompt_fresh t.val h hN, if_neg Bool.false_ne_true, after_9]
  congr 1
  apply Fin.ext
  show min (t.val - 1) 127 = min t.val 127
  omega

/-- The body's call at a point, from the invariant and the windows' contents before it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t
    ∗ (dats m 0 c).leavesExact 10 t)

/-- A stored prompt window is left at the point's tile. -/
theorem leaves_9_stored (c : Dev nD) (t : Fin cfg0.N) (h : t.val < 128) :
    (dats m 0 c).leavesExact 9 t = owns (c : Thread nD τ) (st0_9 t) fullShare (tileAt m c t) := by
  unfold Dat.leavesExact
  rw [prompt_idle, decide_eq_false (not_not.mpr h), after_9]
  have : held t = t := Fin.ext (show min t.val 127 = t.val by omega)
  rw [this]

/-- A prompt window that is not stored is left as the body found it. -/
theorem leaves_9_kept (c : Dev nD) (t : Fin cfg0.N) (h : ¬ t.val < 128) :
    iprop(owns (c : Thread nD τ) (st0_9 t) fullShare (tileAt m c (held t))) ⊢ (dats m 0 c).leavesExact 9 t := by
  unfold Dat.leavesExact
  rw [prompt_idle, decide_eq_true h]
  cases hf : (cfg0.win 9).flush t
  · simp only [before_9 m c t (by omega)]
    iintro H
    iexists (tileAt m c (held t))
    iexact H
  · simp only [after_9]
    exact .rfl

/-- A stored window of sampled rows is left at the point's tile. -/
theorem leaves_10_stored (c : Dev nD) (t : Fin cfg0.N) (h : ¬ t.val < 128) :
    (dats m 0 c).leavesExact 10 t = owns (c : Thread nD τ) (st0_10 t) fullShare (tileAt m c t) := by
  unfold Dat.leavesExact
  rw [sample_idle, decide_eq_false h, after_10]

/-- A window of sampled rows that is not stored is left as the body found it. -/
theorem leaves_10_kept (c : Dev nD) (t : Fin cfg0.N) (h : t.val < 128) :
    (dats m 0 c).leavesExact 10 t = iprop(∃ d, owns (c : Thread nD τ) (st0_10 t) fullShare ((dats m 0 c).before 10 t d)) := by
  unfold Dat.leavesExact
  have hf : (cfg0.win 10).flush t = false := by rw [← Bool.not_eq_true, sample_flush]; omega
  rw [sample_idle, decide_eq_true h, hf]

set_option maxHeartbeats 2000000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  have hc : k0_cond1 (grid0.coords t) = 1#1 ∧ ¬ k0_cond2 (grid0.coords t) = 1#1 ∨ ¬ k0_cond1 (grid0.coords t) = 1#1 ∧ k0_cond2 (grid0.coords t) = 1#1 := by
    rw [prompt_stored, sample_stored]; omega
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_run c Set.univ (grid0.coords t) hc _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  by_cases h : t.val < 128
  · rw [if_pos ((prompt_stored t).mpr h), if_neg (mt (sample_stored t).mp (not_not.mpr h)), leaves_9_stored m c t h, leaves_10_kept m c t h]
    isplitl [H9]; · iexact H9
    iexists _; iexact H10
  · rw [if_neg (mt (prompt_stored t).mp h), if_pos ((sample_stored t).mpr h), before_9 m c t (by omega), leaves_10_stored m c t h]
    isplitl [H9]
    · iapply (leaves_9_kept m c t h); iexact H9
    iexact H10

/-- The body's row of the table at a point is the body on the point's buffers. -/
theorem row_eq (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
set_option maxHeartbeats 800000 in
/-- The launch ends with every array at what the windows' write-backs leave, every other buffer as the launch found it, and no
    semaphore raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run : θ_run defs (onTc (τ := τ) (main (F := F))) (s₀ m ρ) (Pipeline.FramePost cfgs (dats m) 0 (V m)) :=
  (θ_run defs _ _).mono (fun _ h => h.1) (run_quiescent m ρ)

/-- The program runs, leaves its arguments as they were, and leaves no semaphore raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run m ρ)) ((θ_run defs _ _).mono (fun _ h => h.2) (run_quiescent m ρ))

end Cert.LastIdeal.Run

end
-- ==== Proof.LastRows.lean ====
/- The layer's last step, row by row, as sequences over the lanes: the experts' output added to the frame, the gated projection of the
   frame's own features added to that, and the sum normalized. -/
module

public import proofs.«01_k».proof.Proof.Results

@[expose] public section

set_option maxRecDepth 16384

noncomputable section

namespace Mixer

open Idealize.ShloMosaic

/-- The arguments that the last step's rows are made from, as functions of the numbers of their axes: `y` is the experts' output of all the
    frames, `p` the frames' own features of both groups one after the other. -/
structure LastArgs where
  x : ℕ → ℕ → EReal
  y : ℕ → ℕ → EReal
  p : ℕ → ℕ → EReal
  gp : ℕ → EReal
  wg : ℕ → ℕ → EReal
  wp : ℕ → ℕ → EReal
  gf : ℕ → EReal

/-- A vector at a number, 0 outside it. -/
def get1 {a : ℕ} (f : (⟨1, ![a]⟩ : Shape).Idx → EReal) (i : ℕ) : EReal := if h : i < a then f (ix1 ⟨i, h⟩) else 0

/-- A vector's element is what stands at its number. -/
theorem elem1 {a : ℕ} (f : (⟨1, ![a]⟩ : Shape).Idx → EReal) (p : Fin a) {i : ℕ} (hi : p.val = i) : f (ix1 p) = get1 f i := by
  subst hi; unfold get1; rw [dif_pos p.isLt]

/-- The arguments read from their arrays. -/
def lastArgs (x0 : (⟨2, ![33792, 1024]⟩ : Shape).Idx → EReal) (x1 : (⟨2, ![18432, 1024]⟩ : Shape).Idx → EReal)
    (x2 : (⟨2, ![15360, 1024]⟩ : Shape).Idx → EReal) (x3 : (⟨4, ![1, 16, 2048, 256]⟩ : Shape).Idx → EReal)
    (x4 : (⟨4, ![1, 32, 32, 256]⟩ : Shape).Idx → EReal) (x5 : (⟨2, ![1, 1024]⟩ : Shape).Idx → EReal)
    (x6 : (⟨3, ![1, 1024, 1024]⟩ : Shape).Idx → EReal) (x7 : (⟨3, ![1, 256, 1024]⟩ : Shape).Idx → EReal)
    (x8 : (⟨1, ![1024]⟩ : Shape).Idx → EReal) : LastArgs where
  x := get2 x0
  y t j := if t < 18432 then get2 x1 t j else get2 x2 (t - 18432) j
  p t j := if t < 32768 then get4 x3 0 (t / 2048) (t % 2048) j else get4 x4 0 ((t - 32768) / 32) ((t - 32768) % 32) j
  gp j := get2 x5 0 j
  wg k l := get3 x6 0 k l
  wp k l := get3 x7 0 k l
  gf j := get1 x8 j

namespace LastArgs
variable (A : LastArgs)

/-- The frame with the experts' output added. -/
def mid (t j : ℕ) : EReal := A.x t j + A.y t j

/-- The gate on the frame's own features. -/
def gate (t j : ℕ) : EReal := Ideal.logistic (dot 1024 (norm 1024 (Ideal.ofBits .f32 0x44800000#32) (A.mid t) A.gp) A.wg j)

/-- The frame with its gated features added. -/
def full (t j : ℕ) : EReal := A.mid t j + A.gate t j * dot 256 (A.p t) A.wp j

/-- The layer's output. -/
def fin (t j : ℕ) : EReal := norm 1024 (Ideal.ofBits .f32 0x44800000#32) (A.full t) A.gf j

end LastArgs

/-- The new streams' rows: the first 32768. -/
def outNew (U : ℕ → ℕ → EReal) : (⟨2, ![32768, 1024]⟩ : Shape).Idx → EReal := fun i => U (i 0).val (i 1).val

/-- The sampled streams' rows: the 1024 that follow. -/
def outSampled (U : ℕ → ℕ → EReal) : (⟨2, ![1024, 1024]⟩ : Shape).Idx → EReal := fun i => U (32768 + (i 0).val) (i 1).val

end Mixer

end
-- ==== Proof.LastOut.lean ====
/- What the layer's last step leaves in each of its two arrays: the row of a frame is what the frame gives. -/
module

public import proofs.«01_k».proof.Proof.LastIdealRun
public import proofs.«01_k».proof.Proof.LastRows
public import proofs.«01_k».proof.Proof.LayerOut

@[expose] public section

set_option maxRecDepth 16384

noncomputable section

namespace Mixer

open Idealize.ShloMosaic Idealize.ShloMosaic.TcCoe Cert.LastIdeal Cert.LastIdeal.Gen

attribute [local instance] Cert.LastIdeal.Gen.facts

/-- A tile's inputs at one row: the row is of frame `t`. -/
structure LastTile (A : LastArgs) (i : grid0.Coords) (r : Fin 256) (t : ℕ) (x0 x1 x2 : Vec Ideal S256x1024 .f32)
    (x3 x4 : Vec Ideal S256x256 .f32) (x5 : Vec Ideal S1x1024 .f32) (x6 : Vec Ideal S1024x1024 .bf16) (x7 : Vec Ideal S256x1024 .bf16)
    (x8 : Vec Ideal S1x1024 .f32) : Prop where
  x : IsRow x0 r (A.x t)
  y : ∀ j : Fin 1024, (Scalar.select (Scalar.cmpi .slt (BitVec.ofNat 32 (i 0).val) 72#32) (x1 (ix2 r j)) (x2 (ix2 r j)) : EReal) = A.y t j
  p : ∀ j : Fin 256, (Scalar.select (Scalar.cmpi .slt (BitVec.ofNat 32 (i 0).val) 128#32) (x3 (ix2 r j)) (x4 (ix2 r j)) : EReal) = A.p t j
  gp : IsRow x5 0 A.gp
  wg : IsMat x6 A.wg
  wp : IsMat x7 A.wp
  gf : IsRow x8 0 A.gf

namespace LastTile
variable {A : LastArgs} {i : grid0.Coords} {r : Fin 256} {t : ℕ} {x0 x1 x2 : Vec Ideal S256x1024 .f32}
    {x3 x4 : Vec Ideal S256x256 .f32} {x5 : Vec Ideal S1x1024 .f32} {x6 : Vec Ideal S1024x1024 .bf16} {x7 : Vec Ideal S256x1024 .bf16}
    {x8 : Vec Ideal S1x1024 .f32} (T : LastTile A i r t x0 x1 x2 x3 x4 x5 x6 x7 x8)
include T

/-- The frame with the experts' output added. -/
theorem mid : IsRow (k0_pay2 i x0 x1 x2) r (A.mid t) := by
  intro j
  pointwise [k0_pay2]
  exact congrArg₂ (· + ·) (T.x j) (T.y j)

/-- The frame's gated features. -/
theorem gated : IsRow (k0_pay3 i x0 x1 x2 x5 x6 x3 x4 x7) r (fun j => A.gate t j * dot 256 (A.p t) A.wp j) := by
  intro j
  have h := T.mid
  unfold k0_pay3
  generalize k0_pay2 i x0 x1 x2 = y at h ⊢
  pointwise []
  refine congrArg₂ (· * ·) (congrArg Ideal.logistic (sum_dot _ _ _ _ fun k => ?_)) (sum_dot _ _ _ _ fun k => ?_)
  · refine congrArg₂ (· * ·) ?_ (T.wg k j)
    unfold Mixer.norm
    rw [Finset.sum_range]
    simp only [h _, T.gp k]
    rfl
  · exact congrArg₂ (· * ·) (T.p k) (T.wp k j)

/-- The layer's output. -/
theorem fin : IsRow (k0_pay1 (k0_pay2 i x0 x1 x2) (k0_pay3 i x0 x1 x2 x5 x6 x3 x4 x7) x8) r (A.fin t) := by
  intro j
  have h := T.mid
  have g := T.gated
  generalize k0_pay2 i x0 x1 x2 = y at h ⊢
  generalize k0_pay3 i x0 x1 x2 x5 x6 x3 x4 x7 = z at g ⊢
  pointwise [k0_pay1]
  unfold LastArgs.fin Mixer.norm LastArgs.full
  rw [Finset.sum_range]
  simp only [h _, g _, T.gf j]
  rfl

/-- What the body stores, from the blocks loaded whole. -/
theorem stored : IsRow (Run.tile i x0 x1 x2 x3 x4 x5 x6 x7 x8) r (A.fin t) := by
  have L : LastTile A i r t (View.ld (Val := Elt Ideal) x0 (Rect.unit (s := S256x1024) ![0, 0] S256x1024.size inb_S256x1024_S256x1024_0_0))
      (View.ld (Val := Elt Ideal) x1 (Rect.unit (s := S256x1024) ![0, 0] S256x1024.size inb_S256x1024_S256x1024_0_0))
      (View.ld (Val := Elt Ideal) x2 (Rect.unit (s := S256x1024) ![0, 0] S256x1024.size inb_S256x1024_S256x1024_0_0))
      (View.ld (Val := Elt Ideal) x3 (Rect.unit (s := S256x256) ![0, 0] S256x256.size inb_S256x256_S256x256_0_0))
      (View.ld (Val := Elt Ideal) x4 (Rect.unit (s := S256x256) ![0, 0] S256x256.size inb_S256x256_S256x256_0_0))
      (View.ld (Val := Elt Ideal) x5 (Rect.unit (s := S1x1024) ![0, 0] S1x1024.size inb_S1x1024_S1x1024_0_0))
      (View.ld (Val := Elt Ideal) x6 (Rect.unit (s := S1024x1024) ![0, 0] S1024x1024.size inb_S1024x1024_S1024x1024_0_0))
      (View.ld (Val := Elt Ideal) x7 (Rect.unit (s := S256x1024) ![0, 0] S256x1024.size inb_S256x1024_S256x1024_0_0))
      (View.ld (Val := Elt Ideal) x8 (Rect.unit (s := S1x1024) ![0, 0] S1x1024.size inb_S1x1024_S1x1024_0_0)) :=
    ⟨fun j => (ld_all x0 _ r j).trans (T.x j), fun j => by rw [ld_all, ld_all]; exact T.y j, fun j => by rw [ld_all, ld_all]; exact T.p j,
      fun j => (ld_all x5 _ 0 j).trans (T.gp j), fun k l => (ld_all x6 _ k l).trans (T.wg k l), fun k l => (ld_all x7 _ k l).trans (T.wp k l),
      fun j => (ld_all x8 _ 0 j).trans (T.gf j)⟩
  unfold Run.tile
  rw [View.canon_unit_zero (by decide)]
  exact L.fin

end LastTile

/-- The arguments that a launch's arrays hold. -/
def largs (V : Valuation τ sig (Elt Ideal)) : LastArgs :=
  lastArgs (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8))

section
variable (V : Valuation τ sig (Elt Ideal))

/-- The new streams' own features. -/
theorem last_pp_at (t : Fin 32768) (j : Fin 256) : StableHlo.after hostOps0 V (Proc.devRef .tc main_v0) (ix2 t j) = (largs V).p t j := by
  after_reads_at
  show _ = ite _ _ _
  rw [if_pos t.isLt]
  exact elem4 _ _ _ _ _ (by simp) (by simp) (by simp) (by simp)

/-- The sampled streams' own features. -/
theorem last_ps_at (t : Fin 1024) (j : Fin 256) : StableHlo.after hostOps0 V (Proc.devRef .tc main_v1) (ix2 t j) = (largs V).p (32768 + t) j := by
  after_reads_at
  show _ = ite _ _ _
  rw [if_neg (by omega)]
  exact elem4 _ _ _ _ _ (by simp) (by simp) (by simp) (by simp)

/-- The first norm's gain. -/
theorem last_gp_at (z : Fin 1) (j : Fin 1024) : StableHlo.after hostOps0 V (Proc.devRef .tc main_v3) (ix2 z j) = (largs V).gp j := by
  after_reads_at
  exact elem2 _ _ _ (by simp) (by simp)

/-- The gate's weight. -/
theorem last_wg_at (k : Fin 1024) (l : Fin 1024) : StableHlo.after hostOps0 V (Proc.devRef .tc main_v5) (ix2 k l) = (largs V).wg k l := by
  after_reads_at
  exact elem3 _ _ _ _ (by simp) (by simp) (by simp)

/-- The features' projection. -/
theorem last_wp_at (k : Fin 256) (l : Fin 1024) : StableHlo.after hostOps0 V (Proc.devRef .tc main_v7) (ix2 k l) = (largs V).wp k l := by
  after_reads_at
  exact elem3 _ _ _ _ (by simp) (by simp) (by simp)

/-- The last norm's gain. -/
theorem last_gf_at (z : Fin 1) (j : Fin 1024) : StableHlo.after hostOps0 V (Proc.devRef .tc main_v8) (ix2 z j) = (largs V).gf j := by
  after_reads_at
  exact elem1 _ _ (by simp)

end

/-! The blocks' numbers at each tile: the frames go with the tile, -/

theorem last_frames : ∀ t : Fin cfg0.N, win0_0.index t = ![t.val, 0] :=
  (by decide +kernel : ∀ t : Fin grid0.N, win0_0.index t = ![t.val, 0])

/-- the experts' output with the tile within its two pieces, -/
theorem last_pieces : ∀ t : Fin cfg0.N, win0_1.index t = ![min t.val 71, 0] ∧ win0_2.index t = ![t.val - 72, 0] :=
  (by decide +kernel : ∀ t : Fin grid0.N, win0_1.index t = ![min t.val 71, 0] ∧ win0_2.index t = ![t.val - 72, 0])

/-- the features and the results with the tile within its group, -/
theorem last_groups : ∀ t : Fin cfg0.N, win0_3.index t = ![min t.val 127, 0] ∧ win0_4.index t = ![t.val - 128, 0]
    ∧ win0_9.index t = ![min t.val 127, 0] ∧ win0_10.index t = ![t.val - 128, 0] :=
  (by decide +kernel : ∀ t : Fin grid0.N, win0_3.index t = ![min t.val 127, 0] ∧ win0_4.index t = ![t.val - 128, 0]
    ∧ win0_9.index t = ![min t.val 127, 0] ∧ win0_10.index t = ![t.val - 128, 0])

/-- and the weights are whole. -/
theorem last_weights : ∀ t : Fin cfg0.N, win0_5.index t = ![0, 0] ∧ win0_6.index t = ![0, 0] ∧ win0_7.index t = ![0, 0] ∧ win0_8.index t = ![0, 0] :=
  (by decide +kernel : ∀ t : Fin grid0.N, win0_5.index t = ![0, 0] ∧ win0_6.index t = ![0, 0] ∧ win0_7.index t = ![0, 0] ∧ win0_8.index t = ![0, 0])

/-- The grid's only coordinate is the tile's number. -/
theorem last_coord : ∀ t : Fin cfg0.N, (grid0.coords t 0).val = t.val :=
  (by decide +kernel : ∀ t : Fin grid0.N, (grid0.coords t 0).val = t.val)

/-- The first coordinate's comparison with 72. -/
theorem first_piece : ∀ t : Fin 132, Scalar.cmpi .slt (BitVec.ofNat 32 t.val) 72#32 = if t.val < 72 then 1#1 else 0#1 := by decide +kernel

variable (m : (ℓ : Loc nD τ sig) → Buf (Elt Ideal) ℓ) (c : Dev nD)

/-- The contents at the launch. -/
abbrev lastStart : Valuation τ sig (Elt Ideal) := fun b => m (c, b)

/-- The frames' rows. -/
theorem last_x_blk (t : Fin cfg0.N) (r : Fin 256) : IsRow (iblk m c 0 t : S256x1024.Idx → EReal) r ((largs (lastStart m c)).x (256 * t.val + r.val)) := fun j =>
  ((congrArg (V m c main_arg0) (blk_of (a := 256) (((cfg0.win 0).blk t).view.emb (ix2 r j)) (last_frames t) r j
    ⟨t.val * 256 + r.val, by have ht : t.val < 132 := lt_of_lt_of_eq t.isLt N_0; omega⟩ rfl rfl rfl)).trans
    (congrFun (V_main_arg0 m c) _)).trans (elem2 _ _ _ (by show t.val * 256 + r.val = _; omega) rfl)

/-- The experts' output: of the first piece on the first 72 tiles. -/
theorem last_y_blk (t : Fin cfg0.N) (r : Fin 256) (j : Fin 1024) :
    (Scalar.select (Scalar.cmpi .slt (BitVec.ofNat 32 (grid0.coords t 0).val) 72#32) ((iblk m c 1 t : S256x1024.Idx → EReal) (ix2 r j))
      ((iblk m c 2 t : S256x1024.Idx → EReal) (ix2 r j)) : EReal) = (largs (lastStart m c)).y (256 * t.val + r.val) j := by
  have ht : t.val < 132 := lt_of_lt_of_eq t.isLt N_0
  rw [last_coord, first_piece ⟨t.val, ht⟩]
  show _ = ite _ _ _
  by_cases h : t.val < 72
  · rw [if_pos h, if_pos (by omega)]
    exact ((congrArg (V m c main_arg1) (blk_of (a := 256) (((cfg0.win 1).blk t).view.emb (ix2 r j)) (last_pieces t).1 r j
      ⟨256 * t.val + r.val, by omega⟩ rfl rfl (by show min t.val 71 * 256 + r.val = 256 * t.val + r.val; omega))).trans
      (congrFun (V_main_arg1 m c) _)).trans (elem2 _ _ _ rfl rfl)
  · rw [if_neg h, if_neg (by omega)]
    exact ((congrArg (V m c main_arg2) (blk_of (a := 256) (((cfg0.win 2).blk t).view.emb (ix2 r j)) (last_pieces t).2 r j
      ⟨256 * t.val + r.val - 18432, by omega⟩ rfl rfl (by show (t.val - 72) * 256 + r.val = 256 * t.val + r.val - 18432; omega))).trans
      (congrFun (V_main_arg2 m c) _)).trans (elem2 _ _ _ rfl rfl)

/-- The frames' own features: of the first group on the first 128 tiles. -/
theorem last_p_blk (t : Fin cfg0.N) (r : Fin 256) (j : Fin 256) :
    (Scalar.select (Scalar.cmpi .slt (BitVec.ofNat 32 (grid0.coords t 0).val) 128#32) ((iblk m c 3 t : S256x256.Idx → EReal) (ix2 r j))
      ((iblk m c 4 t : S256x256.Idx → EReal) (ix2 r j)) : EReal) = (largs (lastStart m c)).p (256 * t.val + r.val) j := by
  have ht : t.val < 132 := lt_of_lt_of_eq t.isLt N_0
  rw [last_coord, first_group ⟨t.val, ht⟩]
  by_cases h : t.val < 128
  · rw [if_pos h]
    exact (congrArg (V m c main_v0) (blk_of (a := 256) (((cfg0.win 3).blk t).view.emb (ix2 r j)) (last_groups t).1 r j
      ⟨256 * t.val + r.val, by omega⟩ rfl rfl (by show min t.val 127 * 256 + r.val = 256 * t.val + r.val; omega))).trans (last_pp_at (lastStart m c) _ j)
  · rw [if_neg h]
    refine ((congrArg (V m c main_v1) (blk_of (a := 256) (((cfg0.win 4).blk t).view.emb (ix2 r j)) (last_groups t).2.1 r j
      ⟨256 * t.val + r.val - 32768, by omega⟩ rfl rfl (by show (t.val - 128) * 256 + r.val = 256 * t.val + r.val - 32768; omega))).trans
      (last_ps_at (lastStart m c) _ j)).trans ?_
    exact congrArg (fun n => (largs (lastStart m c)).p n j) (by simp only; omega)

/-- The first norm's gain. -/
theorem last_gp_blk (t : Fin cfg0.N) : IsRow (iblk m c 5 t : S1x1024.Idx → EReal) 0 (largs (lastStart m c)).gp := fun j =>
  (congrArg (V m c main_v3) (blk_of (a := 1) (((cfg0.win 5).blk t).view.emb (ix2 0 j)) (last_weights t).1 0 j 0 rfl rfl rfl)).trans
    (last_gp_at (lastStart m c) 0 j)

/-- The gate's weight. -/
theorem last_wg_blk (t : Fin cfg0.N) : IsMat (iblk m c 6 t : S1024x1024.Idx → EReal) (largs (lastStart m c)).wg := fun k l =>
  (congrArg (V m c main_v5) (blk_of (a := 1024) (((cfg0.win 6).blk t).view.emb (ix2 k l)) (last_weights t).2.1 k l k rfl rfl (by omega))).trans
    (last_wg_at (lastStart m c) k l)

/-- The features' projection. -/
theorem last_wp_blk (t : Fin cfg0.N) : IsMat (iblk m c 7 t : S256x1024.Idx → EReal) (largs (lastStart m c)).wp := fun k l =>
  (congrArg (V m c main_v7) (blk_of (a := 256) (((cfg0.win 7).blk t).view.emb (ix2 k l)) (last_weights t).2.2.1 k l k rfl rfl (by omega))).trans
    (last_wp_at (lastStart m c) k l)

/-- The last norm's gain. -/
theorem last_gf_blk (t : Fin cfg0.N) : IsRow (iblk m c 8 t : S1x1024.Idx → EReal) 0 (largs (lastStart m c)).gf := fun j =>
  (congrArg (V m c main_v8) (blk_of (a := 1) (((cfg0.win 8).blk t).view.emb (ix2 0 j)) (last_weights t).2.2.2 0 j 0 rfl rfl rfl)).trans
    (last_gf_at (lastStart m c) 0 j)

/-- What the body stores at tile `t` is, at its row `r`, frame 256·t + r's. -/
theorem last_tile (t : Fin cfg0.N) (r : Fin 256) : IsRow (Run.tileAt m c t) r ((largs (lastStart m c)).fin (256 * t.val + r.val)) :=
  LastTile.stored ⟨last_x_blk m c t r, last_y_blk m c t r, last_p_blk m c t r, last_gp_blk m c t, last_wg_blk m c t, last_wp_blk m c t,
    last_gf_blk m c t⟩

/-- A block of 256 rows is the array's, where each row is: for an array of any height. -/
theorem rows_at {n N t : ℕ} {U : ℕ → ℕ → EReal} {X : (⟨2, ![256, n]⟩ : Shape).Idx → EReal} {f : Fin 2 → ℕ} (hf : f = ![t, 0])
    {e : (⟨2, ![256, n]⟩ : Shape).Idx → (⟨2, ![N, n]⟩ : Shape).Idx} (h0 : ∀ j, (e j 0).val = f 0 * 256 + 1 * (j 0).val)
    (h1 : ∀ j, (e j 1).val = f 1 * n + 1 * (j 1).val) (hX : ∀ r : Fin 256, IsRow X r (U (256 * t + r.val))) (j) :
    X j = U (e j 0).val (e j 1).val := by
  subst hf
  rw [h0, h1]
  conv_lhs => rw [ix2_of j (j 0) (j 1) rfl rfl]
  refine (hX (j 0) (j 1)).trans ?_
  show U _ _ = U (t * 256 + 1 * (j 0).val) (0 * n + 1 * (j 1).val)
  congr 1
  · omega
  · omega

/-- A row is of the block of 256 rows that its number is of. -/
theorem in_block {n N k : ℕ} {f : Fin 2 → ℕ} (i : (⟨2, ![N, n]⟩ : Shape).Idx) (hf : f = ![k, 0]) (hk : k = (i 0).val / 256) :
    ∀ a : Fin 2, f a * ![256, n] a ≤ (i a).val ∧ (i a).val < f a * ![256, n] a + ![256, n] a := by
  subst hf hk
  intro a
  match a with
  | ⟨0, _⟩ => show (i 0).val / 256 * 256 ≤ (i 0).val ∧ (i 0).val < (i 0).val / 256 * 256 + 256; omega
  | ⟨1, _⟩ => show 0 * n ≤ (i 1).val ∧ (i 1).val < 0 * n + n; have : (i 1).val < n := (i 1).isLt; omega

/-- The tile that stores the new streams' row `i` for good: the tiles after the group's last keep its block. -/
def newTile (i : ℕ) (h : i < 32768) : Fin cfg0.N := ⟨if i / 256 < 127 then i / 256 else 131, by have : cfg0.N = 132 := N_0; split <;> omega⟩

/-- The tile of the sampled streams' row `i`. -/
def sampledTile (i : ℕ) (h : i < 1024) : Fin cfg0.N := ⟨128 + i / 256, by have : cfg0.N = 132 := N_0; omega⟩

/-- The new streams' output. -/
theorem last_new_arr : (Run.dats m 0 c).arrAt 9 cfg0.N = outNew (largs (lastStart m c)).fin := by
  refine (Run.dats m 0 c).arrAt_eq_of_cover 9 (outNew (largs (lastStart m c)).fin) (fun t _ => ?_) (fun i => ?_)
  · show (cfg0.win 9).cut (grid0.coords t) ((Run.dats m 0 c).after 9 t) = _
    rw [Run.after_9]
    exact funext (rows_at (n := 1024) (N := 32768) (t := min t.val 127) (U := (largs (lastStart m c)).fin) (e := ((cfg0.win 9).blk t).view.emb)
      (last_groups t).2.2.1 (fun _ => rfl) (fun _ => rfl) fun r => last_tile m c (Run.held t) r)
  · have hi : (i 0).val < 32768 := (i 0).isLt
    let t := newTile (i 0).val hi
    have ht : t.val = if (i 0).val / 256 < 127 then (i 0).val / 256 else 131 := rfl
    refine ⟨t, (Run.prompt_flush t).2 (by rw [ht]; split <;> omega), ?_⟩
    show i ∈ ((View.whole main_v9_0).slice (win0_9.rect t)).set
    rw [View.set_slice_whole, Rect.mem_set_unit]
    exact in_block i (last_groups t).2.2.1 (by rw [ht]; split <;> omega)

/-- The sampled streams' output. -/
theorem last_sampled_arr : (Run.dats m 0 c).arrAt 10 cfg0.N = outSampled (largs (lastStart m c)).fin := by
  refine (Run.dats m 0 c).arrAt_eq_of_cover 10 (outSampled (largs (lastStart m c)).fin) (fun t ht => ?_) (fun i => ?_)
  · show (cfg0.win 10).cut (grid0.coords t) ((Run.dats m 0 c).after 10 t) = _
    rw [Run.after_10]
    have h128 : 128 ≤ t.val := (Run.sample_flush t).1 ht
    exact funext (rows_at (n := 1024) (N := 1024) (t := t.val - 128) (U := fun k => (largs (lastStart m c)).fin (32768 + k))
      (e := ((cfg0.win 10).blk t).view.emb) (last_groups t).2.2.2 (fun _ => rfl) (fun _ => rfl) fun r j =>
      (last_tile m c t r j).trans (congrArg (fun k => (largs (lastStart m c)).fin k j) (by omega)))
  · have hi : (i 0).val < 1024 := (i 0).isLt
    let t := sampledTile (i 0).val hi
    have ht : t.val = 128 + (i 0).val / 256 := rfl
    refine ⟨t, (Run.sample_flush t).2 (by omega), ?_⟩
    show i ∈ ((View.whole main_v9_1).slice (win0_10.rect t)).set
    rw [View.set_slice_whole, Rect.mem_set_unit]
    exact in_block i (last_groups t).2.2.2 (by omega)

end Mixer

end
-- ==== Proof.LastAlgebraic.lean ====
/- The last step's program and its reference end with the same two arrays. -/
module

public import proofs.«01_k».proof.Proof.LastOut
public import proofs.«01_k».proof.Proof.LayerRef
public import proofs.«01_k».proof.Proof.Gen.LastReferenceIdeal.Read
public import proofs.«01_k».proof.Proof.Gen.LastReferenceIdeal.Run
public import proofs.«01_k».proof.Defs
public import Idealize.ShloMosaic.Lib.Pointwise

@[expose] public section

set_option maxRecDepth 16384

noncomputable section

namespace Mixer

open Idealize.ShloMosaic Idealize.ShloMosaic.TcCoe Idealize.SL.Sem Cert.LastReferenceIdeal Cert.LastReferenceIdeal.Gen Cert.LastReferenceIdeal.Read

attribute [local instance] Cert.LastReferenceIdeal.Gen.facts Cert.LastIdeal.Gen.facts

section
variable (x0 : S33792x1024.Idx → EReal) (x1 : S18432x1024.Idx → EReal) (x2 : S15360x1024.Idx → EReal) (x3 : S1x16x2048x256.Idx → EReal)
  (x4 : S1x32x32x256.Idx → EReal) (x5 : S1x1024.Idx → EReal) (x6 : S1x1024x1024.Idx → EReal) (x7 : S1x256x1024.Idx → EReal)
  (x8 : S1024.Idx → EReal)

/-- The frames with the experts' output added. -/
theorem last_ref_mid (t : Fin 33792) (j : Fin 1024) :
    val_main_v1 (F := Ideal) x0 x1 x2 (ix2 t j) = (lastArgs x0 x1 x2 x3 x4 x5 x6 x7 x8).mid t j := by
  pointwise [val_main_v1, val_main_v0]
  refine congrArg₂ (· + ·) (elem2 x0 _ _ rfl rfl) ?_
  by_cases h : t.val < 18432
  · exact (dif_pos h).trans ((elem2 _ _ _ rfl rfl).trans (if_pos h).symm)
  · exact (dif_neg h).trans ((elem2 _ _ _ rfl rfl).trans (if_neg h).symm)

/-- The frames' own features, of the two groups one after the other. -/
theorem last_ref_p (t : Fin 33792) (j : Fin 256) :
    val_main_v4 (F := Ideal) x3 x4 (ix2 t j) = (lastArgs x0 x1 x2 x3 x4 x5 x6 x7 x8).p t j := by
  pointwise [val_main_v4, val_main_v2, val_main_v3]
  by_cases h : t.val < 32768
  · exact (dif_pos h).trans ((elem4 _ _ _ _ _ rfl rfl rfl rfl).trans (if_pos h).symm)
  · exact (dif_neg h).trans ((elem4 _ _ _ _ _ rfl rfl rfl rfl).trans (if_neg h).symm)

/-- The frames normalized for the gate. -/
theorem last_ref_hid (t : Fin 33792) (j : Fin 1024) : val_main_v18 (F := Ideal) x0 x1 x2 x5 (ix2 t j)
    = norm 1024 (Ideal.ofBits .f32 0x44800000#32) ((lastArgs x0 x1 x2 x3 x4 x5 x6 x7 x8).mid t) (lastArgs x0 x1 x2 x3 x4 x5 x6 x7 x8).gp j := by
  have h := last_ref_mid x0 x1 x2 x3 x4 x5 x6 x7 x8 t
  unfold val_main_v18 val_main_v15 val_main_v14 val_main_v13 val_main_v12 val_main_v10 val_main_v8 val_main_v7 val_main_v6
  generalize val_main_v1 (F := Ideal) x0 x1 x2 = y at h ⊢
  pointwise [val_main_v5, val_main_cst, val_main_cst_0, val_main_v9, val_main_cst_1, val_main_v11, val_main_v16, val_main_v17]
  exact norm_row h j (elem2 _ _ _ rfl rfl)

/-- The gate. -/
theorem last_ref_gate (t : Fin 33792) (l : Fin 1024) :
    val_main_v26 (F := Ideal) x0 x1 x2 x5 x6 (ix2 t l) = (lastArgs x0 x1 x2 x3 x4 x5 x6 x7 x8).gate t l := by
  have h := last_ref_hid x0 x1 x2 x3 x4 x5 x6 x7 x8 t
  unfold val_main_v26 val_main_v24 val_main_v22 val_main_v21 val_main_v20
  generalize val_main_v18 (F := Ideal) x0 x1 x2 x5 = y at h ⊢
  pointwise [val_main_v19, val_main_v23, val_main_v25, val_main_cst_2, val_main_cst_3]
  rw [dot_row (w := (lastArgs x0 x1 x2 x3 x4 x5 x6 x7 x8).wg) (c := l.val) h fun k => elem3 x6 _ _ _ rfl rfl rfl]
  rfl

/-- The frames with their gated features added. -/
theorem last_ref_full (t : Fin 33792) (l : Fin 1024) :
    val_main_v30 (F := Ideal) x0 x1 x2 x3 x4 x5 x6 x7 (ix2 t l) = (lastArgs x0 x1 x2 x3 x4 x5 x6 x7 x8).full t l := by
  have hm := last_ref_mid x0 x1 x2 x3 x4 x5 x6 x7 x8 t
  have hp := last_ref_p x0 x1 x2 x3 x4 x5 x6 x7 x8 t
  have hg := last_ref_gate x0 x1 x2 x3 x4 x5 x6 x7 x8 t
  unfold val_main_v30 val_main_v29 val_main_v28
  generalize val_main_v26 (F := Ideal) x0 x1 x2 x5 x6 = y at hg ⊢
  generalize val_main_v4 (F := Ideal) x3 x4 = z at hp ⊢
  generalize val_main_v1 (F := Ideal) x0 x1 x2 = u at hm ⊢
  pointwise [val_main_v27]
  exact congrArg₂ (· + ·) (hm l) (congrArg₂ (· * ·) (hg l) (dot_row hp fun k => elem3 x7 _ _ _ rfl rfl rfl))

/-- The layer's output. -/
theorem last_ref_fin (t : Fin 33792) (j : Fin 1024) :
    val_main_v43 (F := Ideal) x0 x1 x2 x3 x4 x5 x6 x7 x8 (ix2 t j) = (lastArgs x0 x1 x2 x3 x4 x5 x6 x7 x8).fin t j := by
  have h := last_ref_full x0 x1 x2 x3 x4 x5 x6 x7 x8 t
  unfold val_main_v43 val_main_v40 val_main_v39 val_main_v38 val_main_v37 val_main_v35 val_main_v33 val_main_v32 val_main_v31
  generalize val_main_v30 (F := Ideal) x0 x1 x2 x3 x4 x5 x6 x7 = y at h ⊢
  pointwise [val_main_cst_4, val_main_cst_5, val_main_v34, val_main_cst_6, val_main_v36, val_main_v41, val_main_v42]
  exact norm_row h j (elem1 _ _ rfl)

/-- The reference's two arrays: the new streams' rows and the sampled streams'. -/
theorem last_ref_arrays : val_main_v44 (F := Ideal) x0 x1 x2 x3 x4 x5 x6 x7 x8 = outNew (lastArgs x0 x1 x2 x3 x4 x5 x6 x7 x8).fin
    ∧ val_main_v45 (F := Ideal) x0 x1 x2 x3 x4 x5 x6 x7 x8 = outSampled (lastArgs x0 x1 x2 x3 x4 x5 x6 x7 x8).fin := by
  have h := last_ref_fin x0 x1 x2 x3 x4 x5 x6 x7 x8
  unfold val_main_v44 val_main_v45
  generalize val_main_v43 (F := Ideal) x0 x1 x2 x3 x4 x5 x6 x7 x8 = y at h ⊢
  refine ⟨funext fun i => ?_, funext fun i => ?_⟩
  · rw [ix2_of i (i 0) (i 1) rfl rfl]
    pointwise []
    exact h _ _
  · rw [ix2_of i (i 0) (i 1) rfl rfl]
    pointwise []
    exact h _ _

end

section
variable {V : Valuation τ sig (Elt Ideal)} {W : Valuation Cert.LastIdeal.τ Cert.LastIdeal.sig (Elt Ideal)}

/-- The reference's two arrays, at the program's arguments. -/
theorem last_ref_at (e0 : V (Proc.devRef .tc main_arg0) = W (Proc.devRef .tc Cert.LastIdeal.main_arg0))
     (e1 : V (Proc.devRef .tc main_arg1) = W (Proc.devRef .tc Cert.LastIdeal.main_arg1))
     (e2 : V (Proc.devRef .tc main_arg2) = W (Proc.devRef .tc Cert.LastIdeal.main_arg2))
     (e3 : V (Proc.devRef .tc main_arg3) = W (Proc.devRef .tc Cert.LastIdeal.main_arg3))
     (e4 : V (Proc.devRef .tc main_arg4) = W (Proc.devRef .tc Cert.LastIdeal.main_arg4))
     (e5 : V (Proc.devRef .tc main_arg5) = W (Proc.devRef .tc Cert.LastIdeal.main_arg5))
     (e6 : V (Proc.devRef .tc main_arg6) = W (Proc.devRef .tc Cert.LastIdeal.main_arg6))
     (e7 : V (Proc.devRef .tc main_arg7) = W (Proc.devRef .tc Cert.LastIdeal.main_arg7))
     (e8 : V (Proc.devRef .tc main_arg8) = W (Proc.devRef .tc Cert.LastIdeal.main_arg8)) :
    val_main_v44 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) = outNew (largs W).fin
    ∧ val_main_v45 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) = outSampled (largs W).fin := by
  unfold largs
  rw [← e0, ← e1, ← e2, ← e3, ← e4, ← e5, ← e6, ← e7, ← e8]
  exact last_ref_arrays _ _ _ _ _ _ _ _ _

end

/-- Over the extended reals, the last step's program and its reference end with the same arrays: the layer's output for the new streams and for
    the sampled ones. -/
theorem last_algebraic : Cert.algebraic_LastIdeal_LastReferenceIdeal := by
  intro m g m' g' hpre hag
  refine ⟨fun c => outNew (largs (lastStart m c)).fin, fun c => outSampled (largs (lastStart m c)).fin, ?_, ?_⟩
  · exact (θ_run _ _ _).mono (fun r h c => ⟨((h.1 c).1 9).trans (last_new_arr m c), ((h.1 c).1 10).trans (last_sampled_arr m c), h.2.1 c⟩)
      (θ_run_and (Cert.LastIdeal.Run.run (F := Ideal) m g) (Cert.LastIdeal.Run.frame (F := Ideal) m g))
  · refine (θ_run _ _ _).mono (fun r h c => ?_) (Cert.LastReferenceIdeal.Value.run (F := Ideal) m' g')
    obtain ⟨a0, a1, a2, a3, a4, a5, a6, a7, a8⟩ := hag c
    have o := last_ref_at (V := StableHlo.launchContents m' c) (W := lastStart m c) a0 a1 a2 a3 a4 a5 a6 a7 a8
    obtain ⟨h0, h1, hargs'⟩ := h c
    exact ⟨h0.trans ((val_main_v44_eq _ _).trans o.1), h1.trans ((val_main_v45_eq _ _).trans o.2), hargs'⟩

end Mixer

end
-- ==== Proof.PastRows.lean ====
/- The sampled streams' attention over their past, step by step, as sequences over the lanes: a query taken into the latent space, its scores
   against the cached keys and the new ones, the softmax, and the mixed latents taken to the values. -/
module

public import proofs.«01_k».proof.Proof.Rows
public import proofs.«01_k».proof.Proof.Soft

@[expose] public section

set_option maxRecDepth 16384

noncomputable section

namespace Mixer

open Idealize.ShloMosaic

/-- The arguments that the sampled streams' attention is made from, as functions of the numbers of their axes: the queries `q`, the cached
    latents `cl` and rotated keys `cr` by stream and position, the new ones `nl` and `nr` by frame, the latents' projections to the keys
    `wk` and to the values `wv` by lane, head and the head's lane. -/
structure PastArgs where
  q : ℕ → ℕ → EReal
  cl : ℕ → ℕ → ℕ → EReal
  cr : ℕ → ℕ → ℕ → EReal
  nl : ℕ → ℕ → EReal
  nr : ℕ → ℕ → EReal
  wk : ℕ → ℕ → ℕ → EReal
  wv : ℕ → ℕ → ℕ → EReal

/-- The arguments read from their arrays. -/
def pastArgs (x0 : (⟨2, ![33792, 1024]⟩ : Shape).Idx → EReal) (x1 : (⟨4, ![1, 32, 4096, 256]⟩ : Shape).Idx → EReal)
    (x2 : (⟨4, ![1, 32, 4096, 32]⟩ : Shape).Idx → EReal) (x3 : (⟨2, ![33792, 256]⟩ : Shape).Idx → EReal)
    (x4 : (⟨2, ![33792, 32]⟩ : Shape).Idx → EReal) (x5 x6 : (⟨4, ![1, 256, 8, 64]⟩ : Shape).Idx → EReal) : PastArgs where
  q := get2 x0
  cl := get4 x1 0
  cr := get4 x2 0
  nl := get2 x3
  nr := get2 x4
  wk := get4 x5 0
  wv := get4 x6 0

namespace PastArgs
variable (A : PastArgs)

/-- A stream's latents: the 4096 cached ones, then the 32 new ones. -/
def key (b k c : ℕ) : EReal := if k < 4096 then A.cl b k c else A.nl (32768 + (32 * b + (k - 4096))) c

/-- A stream's rotated keys: the 4096 cached ones, then the 32 new ones. -/
def rot (b k r : ℕ) : EReal := if k < 4096 then A.cr b k r else A.nr (32768 + (32 * b + (k - 4096))) r

/-- A new frame's latent. -/
theorem key_new (b k c : ℕ) : A.key b (4096 + k) c = A.nl (32768 + (32 * b + k)) c := by
  unfold key
  rw [if_neg (by omega), Nat.add_sub_cancel_left]

/-- A new frame's rotated key. -/
theorem rot_new (b k r : ℕ) : A.rot b (4096 + k) r = A.nr (32768 + (32 * b + k)) r := by
  unfold rot
  rw [if_neg (by omega), Nat.add_sub_cancel_left]

/-- A head's query in the latent space, at the sampled streams' row `i`. -/
def lat (i h c : ℕ) : EReal := dot 64 (fun n => A.q (32768 + i) (128 * h + n)) (fun n c => A.wk c h n) c

/-- Its rotated lanes. -/
def rotq (i h r : ℕ) : EReal := A.q (32768 + i) (128 * h + 64 + r)

/-- A head's scaled score at a key of the row's stream. -/
def score (i h k : ℕ) : EReal :=
  (dot 256 (A.lat i h) (fun c k => A.key (i / 32) k c) k + dot 32 (A.rotq i h) (fun r k => A.rot (i / 32) k r) k) * Ideal.ofBits .f32 0x3DD105EC#32

/-- The latents mixed by the softmax of the head's scores. -/
def mixed (i h c : ℕ) : EReal := Mla.att 4128 (A.score i h) fun k => A.key (i / 32) k c

/-- The attention's output: the heads' values side by side. -/
def out (i l : ℕ) : EReal := dot 256 (A.mixed i (l / 64)) (fun c l => A.wv c (l / 64) (l % 64)) l

/-- Every argument that a score is made from is a real number. -/
structure Finite : Prop where
  q : ∀ t j, ∃ r : ℝ, A.q t j = r
  cl : ∀ b k c, ∃ r : ℝ, A.cl b k c = r
  cr : ∀ b k c, ∃ r : ℝ, A.cr b k c = r
  nl : ∀ t c, ∃ r : ℝ, A.nl t c = r
  nr : ∀ t c, ∃ r : ℝ, A.nr t c = r
  wk : ∀ c h n, ∃ r : ℝ, A.wk c h n = r

end PastArgs

/-- A product of a real row with a real column is a real number. -/
theorem past_dot_real {n : ℕ} {u : ℕ → EReal} {w : ℕ → ℕ → EReal} {c : ℕ} (hu : ∀ k, ∃ r : ℝ, u k = r) (hw : ∀ k, ∃ r : ℝ, w k c = r) :
    ∃ r : ℝ, dot n u w c = r := by
  induction n with
  | zero => exact ⟨0, by simp [dot]⟩
  | succ n ih =>
    obtain ⟨x, hx⟩ := ih
    obtain ⟨a, ha⟩ := hu n
    obtain ⟨b, hb⟩ := hw n
    refine ⟨x + a * b, ?_⟩
    unfold dot at hx ⊢
    rw [Finset.sum_range_succ, hx, ha, hb, EReal.coe_add, EReal.coe_mul]

namespace PastArgs
variable {A : PastArgs} (H : A.Finite)
include H

/-- Latents are real. -/
theorem Finite.key (b k c : ℕ) : ∃ r : ℝ, A.key b k c = r := by
  unfold PastArgs.key
  split
  · exact H.cl _ _ _
  · exact H.nl _ _

/-- Rotated keys are real. -/
theorem Finite.rot (b k c : ℕ) : ∃ r : ℝ, A.rot b k c = r := by
  unfold PastArgs.rot
  split
  · exact H.cr _ _ _
  · exact H.nr _ _

/-- Then the scores are real numbers, -/
theorem Finite.score (i h k : ℕ) : ∃ r : ℝ, A.score i h k = r := by
  obtain ⟨x, hx⟩ := past_dot_real (n := 256) (u := A.lat i h) (w := fun c k => A.key (i / 32) k c) (c := k)
    (fun c => past_dot_real (fun _ => H.q _ _) fun _ => H.wk _ _ _) fun c => H.key _ _ _
  obtain ⟨y, hy⟩ := past_dot_real (n := 32) (u := A.rotq i h) (w := fun r k => A.rot (i / 32) k r) (c := k)
    (fun _ => H.q _ _) fun c => H.rot _ _ _
  obtain ⟨z, hz⟩ : ∃ r : ℝ, Ideal.ofBits .f32 0x3DD105EC#32 = r := ⟨_, by simp [Ideal.ofBits, Ideal.ieee]; rfl⟩
  exact ⟨(x + y) * z, by unfold PastArgs.score; rw [hx, hy, hz, EReal.coe_mul, EReal.coe_add]⟩

/-- and their exponentials' sum is not 0. -/
theorem Finite.mass (i h : ℕ) : Mla.mass 4128 (A.score i h) ≠ 0 := by
  refine (Mla.mass_pos (A.score i h) (fun k _ => ?_) (j₀ := 0) (by omega) ?_).ne'
  · obtain ⟨r, hr⟩ := H.score i h k
    rw [hr]; exact EReal.coe_lt_top r
  · obtain ⟨r, hr⟩ := H.score i h 0
    rw [hr]; exact EReal.coe_ne_bot r

end PastArgs

/-- The greatest of the first `a + b` scores is the greater of the greatest of the first `a` and of the `b` after them. -/
theorem top_split (a b : ℕ) (s : ℕ → EReal) : max ((Finset.univ : Finset (Fin a)).fold max ⊥ fun k => s k.val)
    ((Finset.univ : Finset (Fin b)).fold max ⊥ fun k => s (a + k.val)) = Mla.top (a + b) s := by
  rw [Mla.top_eq_sup]
  refine le_antisymm (max_le ?_ ?_) (Finset.sup_le fun j hj => ?_)
  · exact Finset.sup_le fun k _ => Finset.le_sup (f := s) (Finset.mem_range.mpr (by omega))
  · exact Finset.sup_le fun k _ => Finset.le_sup (f := s) (b := a + k.val) (Finset.mem_range.mpr (by omega))
  · have hj := Finset.mem_range.mp hj
    by_cases h : j < a
    · exact le_max_of_le_left (Finset.le_sup (f := fun k : Fin a => s k.val) (Finset.mem_univ ⟨j, h⟩))
    · refine le_max_of_le_right (le_trans (le_of_eq ?_) (Finset.le_sup (f := fun k : Fin b => s (a + k.val)) (Finset.mem_univ ⟨j - a, by omega⟩)))
      exact congrArg s (by simp only; omega)

/-- The greatest of the first `n` scores, taken over the numbers below `n`. -/
theorem top_fin (n : ℕ) (s : ℕ → EReal) : ((Finset.univ : Finset (Fin n)).fold max ⊥ fun k => s k.val) = Mla.top n s := by
  have h := top_split n 0 s
  rw [Nat.add_zero] at h
  exact (max_eq_left bot_le).symm.trans h

/-- A sum over `a + b` numbers, by its first `a` and the `b` after them. -/
theorem sum_split (a b : ℕ) (f : ℕ → EReal) : (∑ k : Fin a, f k.val) + ∑ k : Fin b, f (a + k.val) = ∑ k ∈ Finset.range (a + b), f k := by
  rw [Finset.sum_range_add, Finset.sum_range, Finset.sum_range fun k => f (a + k)]

end Mixer

end
-- ==== Proof.PastTile.lean ====
/- What the sampled attention's body makes of one stream's blocks: the latent queries, the softmax of the two groups of scores, and the
   heads' values. -/
module

public import proofs.«01_k».proof.Proof.Gen.PastIdeal.Frame
public import proofs.«01_k».proof.Proof.PastRows
public import proofs.«01_k».proof.Proof.LayerOut
public import proofs.«01_k».proof.Proof.Tile

@[expose] public section

set_option maxRecDepth 16384

noncomputable section

namespace Mixer

open Idealize.ShloMosaic Idealize.ShloMosaic.TcCoe Cert.PastIdeal Cert.PastIdeal.Gen

attribute [local instance] Cert.PastIdeal.Gen.facts

/-- A page of an array of three axes loaded is that page. -/
theorem ld_page {a b c : ℕ} {e : EltTy} (x : Vec Ideal ⟨3, ![a, b, c]⟩ e) (h : Fin a) (hin) (p : Fin b) (q : Fin c) :
    View.ld (Val := Elt Ideal) x (Rect.unit (s := ⟨3, ![a, b, c]⟩) ![h.val, 0, 0] ![1, b, c] hin) (ix3 0 p q) = x (ix3 h p q) := by
  refine congrArg x ?_
  funext a
  match a with
  | ⟨0, _⟩ => exact Fin.ext (by show h.val + 1 * 0 = h.val; omega)
  | ⟨1, _⟩ => exact Fin.ext (by show 0 + 1 * p.val = p.val; omega)
  | ⟨2, _⟩ => exact Fin.ext (by show 0 + 1 * q.val = q.val; omega)

section Vectors
variable (v66 : FVec Ideal S256x256 .bf16) (v67 : FVec Ideal S256x32 .bf16) (v70 : FVec Ideal S4096x256 .bf16) (v73 : FVec Ideal S4096x32 .bf16)
  (v75 : FVec Ideal S32x256 .bf16) (v76 : Vec Ideal S32x32 .f32)

/-- The scaled scores against the cached keys. -/
def pastOld : FVec Ideal S256x4096 .f32 :=
  mulf (addf (matmul dot_S256x256_S4096x256_S256x4096_1_1_0_0_n_n none v66 v70 (constant S256x4096 .f32 0x00000000#32))
    (matmul dot_S256x32_S4096x32_S256x4096_1_1_0_0_n_n none v67 v73 (constant S256x4096 .f32 0x00000000#32)))
    (broadcast S256x4096 (Scalar.ofBits .f32 0x3DD105EC#32 : Ideal .f32))

/-- The scaled scores against the new keys. -/
def pastNew : FVec Ideal S256x32 .f32 :=
  mulf (addf (matmul dot_S256x256_S32x256_S256x32_1_1_0_0_n_n none v66 v75 (constant S256x32 .f32 0x00000000#32))
    (matmul dot_S256x32_S32x32_S256x32_1_1_0_0_n_n none v67 (truncf .bf16 v76 bitsLt_bf16_f32) (constant S256x32 .f32 0x00000000#32)))
    (broadcast S256x32 (Scalar.ofBits .f32 0x3DD105EC#32 : Ideal .f32))

variable (s : FVec Ideal S256x4096 .f32) (n : FVec Ideal S256x32 .f32) (t : FVec Ideal S256x1 .f32)

/-- The rows' greatest scores. -/
def pastTop : FVec Ideal S256x1 .f32 :=
  maximumf (shapeCast S256x1 (multiReduction .maximumf [1] S256 s 0xFF800000#32 reduces_S256x4096_S256 (.inl rfl) rfl) shapeCasts_S256_S256x1)
    (shapeCast S256x1 (multiReduction .maximumf [1] S256 n 0xFF800000#32 reduces_S256x32_S256 (.inl rfl) rfl) shapeCasts_S256_S256x1)

/-- The exponentials of the scores against the cached keys, from their row's greatest. -/
def pastExpOld : FVec Ideal S256x4096 .f32 := exp (subf s (broadcastTo S256x4096 t broadcasts_S256x1_S256x4096))

/-- The same against the new keys. -/
def pastExpNew : FVec Ideal S256x32 .f32 := exp (subf n (broadcastTo S256x32 t broadcasts_S256x1_S256x32))

/-- The reciprocals of the rows' sums of exponentials. -/
def pastRecip : FVec Ideal S256x1 .f32 :=
  divf (broadcast S256x1 (Scalar.ofBits .f32 0x3F800000#32 : Ideal .f32))
    (addf (shapeCast S256x1 (multiReduction .add [1] S256 s 0x00000000#32 reduces_S256x4096_S256 (.inl rfl) rfl) shapeCasts_S256_S256x1)
      (shapeCast S256x1 (multiReduction .add [1] S256 n 0x00000000#32 reduces_S256x32_S256 (.inl rfl) rfl) shapeCasts_S256_S256x1))

/-- The latents mixed by the exponentials times the rows' reciprocals. -/
def pastMix : FVec Ideal S256x256 .bf16 :=
  truncf .bf16 (addf
    (matmul dot_S256x4096_S4096x256_S256x256_1_0_0_1_n_n none
      (truncf .bf16 (mulf s (broadcastTo S256x4096 t broadcasts_S256x1_S256x4096)) bitsLt_bf16_f32) v70 (constant S256x256 .f32 0x00000000#32))
    (matmul dot_S256x32_S32x256_S256x256_1_0_0_1_n_n none
      (truncf .bf16 (mulf n (broadcastTo S256x32 t broadcasts_S256x1_S256x32)) bitsLt_bf16_f32) v75 (constant S256x256 .f32 0x00000000#32))) bitsLt_bf16_f32

/-- The body's softmax is of these steps. -/
theorem past_steps (e : FVec Ideal S256x4096 .f32) (f : FVec Ideal S256x32 .f32)
    (ht : t = pastTop (pastOld v66 v67 v70 v73) (pastNew v66 v67 v75 v76)) (he : e = pastExpOld (pastOld v66 v67 v70 v73) t)
    (hf : f = pastExpNew (pastNew v66 v67 v75 v76) t) :
    k0_pay17 v66 v67 v70 v73 v75 v76 = pastMix v70 v75 e f (pastRecip e f) := by
  subst he hf ht; rfl

/-- The scores of the cached frames. -/
theorem pastOld_apply (r : Fin 256) (k : Fin 4096) : pastOld v66 v67 v70 v73 (ix2 r k)
    = ((∑ c : Fin 256, v66 (ix2 r c) * v70 (ix2 k c)) + ∑ c : Fin 32, v67 (ix2 r c) * v73 (ix2 k c)) * Ideal.ofBits .f32 0x3DD105EC#32 := by
  pointwise [pastOld]

/-- The scores of the new frames. -/
theorem pastNew_apply (r : Fin 256) (k : Fin 32) : pastNew v66 v67 v75 v76 (ix2 r k)
    = ((∑ c : Fin 256, v66 (ix2 r c) * v75 (ix2 k c)) + ∑ c : Fin 32, v67 (ix2 r c) * v76 (ix2 k c)) * Ideal.ofBits .f32 0x3DD105EC#32 := by
  pointwise [pastNew]

/-- A row's greatest score. -/
theorem pastTop_apply (r : Fin 256) : pastTop s n (ix2 r 0) = max ((Finset.univ : Finset (Fin 4096)).fold max ⊥ fun k => s (ix2 r k))
    ((Finset.univ : Finset (Fin 32)).fold max ⊥ fun k => n (ix2 r k)) := by
  pointwise [pastTop]
  rw [Mla.ofBits_neg_inf]

/-- The exponentials of the cached frames. -/
theorem pastExpOld_apply (r : Fin 256) (k : Fin 4096) : pastExpOld s t (ix2 r k) = Ideal.exp (s (ix2 r k) - t (ix2 r 0)) := by
  pointwise [pastExpOld]

/-- The exponentials of the new frames. -/
theorem pastExpNew_apply (r : Fin 256) (k : Fin 32) : pastExpNew n t (ix2 r k) = Ideal.exp (n (ix2 r k) - t (ix2 r 0)) := by
  pointwise [pastExpNew]

/-- The reciprocal of a row's sum. -/
theorem pastRecip_apply (r : Fin 256) : pastRecip s n (ix2 r 0) = Ideal.div 1 ((∑ k : Fin 4096, s (ix2 r k)) + ∑ k : Fin 32, n (ix2 r k)) := by
  pointwise [pastRecip]

/-- The latents mixed by the weights. -/
theorem pastMix_apply (r : Fin 256) (c : Fin 256) : pastMix v70 v75 s n t (ix2 r c)
    = (∑ k : Fin 4096, s (ix2 r k) * t (ix2 r 0) * v70 (ix2 k c)) + ∑ k : Fin 32, n (ix2 r k) * t (ix2 r 0) * v75 (ix2 k c) := by
  pointwise [pastMix]

/-- A row of the body's softmax is attention over the cached keys and the new ones, if the exponentials' sum is not 0. -/
theorem past_soft {r c : Fin 256} {S V : ℕ → EReal} (ho : ∀ k : Fin 4096, pastOld v66 v67 v70 v73 (ix2 r k) = S k.val)
    (hn : ∀ k : Fin 32, pastNew v66 v67 v75 v76 (ix2 r k) = S (4096 + k.val)) (vo : ∀ k : Fin 4096, v70 (ix2 k c) = V k.val)
    (vn : ∀ k : Fin 32, v75 (ix2 k c) = V (4096 + k.val)) (hm : Mla.mass 4128 S ≠ 0) :
    k0_pay17 v66 v67 v70 v73 v75 v76 (ix2 r c) = Mla.att 4128 S V := by
  rw [past_steps v66 v67 v70 v73 v75 v76 _ _ _ rfl rfl rfl, pastMix_apply, pastRecip_apply]
  simp only [pastExpOld_apply, pastExpNew_apply, pastTop_apply, ho, hn, vo, vn]
  rw [top_split 4096 32 S, sum_split 4096 32 fun k => Ideal.exp (S k - Mla.top (4096 + 32) S)]
  have hd (x : EReal) : x * Ideal.div 1 (∑ k ∈ Finset.range (4096 + 32), Ideal.exp (S k - Mla.top (4096 + 32) S)) = Ideal.div x (Mla.mass 4128 S) :=
    Mla.div_eq_mul_recip x _ hm
  simp only [hd]
  exact sum_split 4096 32 fun k => Ideal.div (Ideal.exp (S k - Mla.top (4096 + 32) S)) (Mla.mass 4128 S) * V k

end Vectors

end Mixer

end
-- ==== Proof.PastHeads.lean ====
/- What the sampled attention's body stores from one stream's blocks: the heads' latent queries one under another, their softmax, and the heads'
   values side by side. -/
module

public import proofs.«01_k».proof.Proof.PastTile

@[expose] public section

set_option maxRecDepth 16384

noncomputable section

namespace Mixer

open Idealize.ShloMosaic Idealize.ShloMosaic.TcCoe Cert.PastIdeal Cert.PastIdeal.Gen

attribute [local instance] Cert.PastIdeal.Gen.facts

/-- The columns from `o` of the queries, taken into the latent space by one head's projection. -/
def pastLat (o : ℕ) (hs : S32x1024.Slices ![0, o] S32x64) (x : Vec Ideal S32x1024 .bf16) (w : Vec Ideal S1x64x256 .bf16) : FVec Ideal S32x256 .bf16 :=
  truncf .bf16 (matmul (φ₁ := .bf16) (φ₂ := .bf16) dot_S32x64_S64x256_S32x256_1_0_0_1_n_n none (truncf .bf16 (extractStridedSlice S32x64 ![0, o] (k0_pay1 x) hs) bitsLt_bf16_f32)
    (shapeCast S64x256 w shapeCasts_S1x64x256_S64x256) (constant S32x256 .f32 0x00000000#32)) bitsLt_bf16_f32

/-- The 32 columns from `o` of the queries. -/
def pastRot (o : ℕ) (hs : S32x1024.Slices ![0, o] S32x32) (x : Vec Ideal S32x1024 .bf16) : FVec Ideal S32x32 .bf16 :=
  truncf .bf16 (extractStridedSlice S32x32 ![0, o] (k0_pay1 x) hs) bitsLt_bf16_f32

/-- The 32 rows from `o` of the mixed latents, taken to one head's values. -/
def pastVal (o : ℕ) (hs : S256x256.Slices ![o, 0] S32x256) (y : FVec Ideal S256x256 .bf16) (w : Vec Ideal S1x256x64 .bf16) : FVec Ideal S32x64 .f32 :=
  matmul (φ₁ := .bf16) (φ₂ := .bf16) dot_S32x256_S256x64_S32x64_1_0_0_1_n_n none (extractStridedSlice S32x256 ![o, 0] y hs) (shapeCast S256x64 w shapeCasts_S1x256x64_S256x64)
    (constant S32x64 .f32 0x00000000#32)

/-- A head's latent query, entry by entry. -/
theorem pastLat_apply {o : ℕ} (hs : S32x1024.Slices ![0, o] S32x64) (ho : o + 64 ≤ 1024) (x : Vec Ideal S32x1024 .bf16)
    (w : Vec Ideal S1x64x256 .bf16) (t : Fin 32) (c : Fin 256) :
    pastLat o hs x w (ix2 t c) = ∑ n : Fin 64, x (ix2 t ⟨o + n.val, by omega⟩) * w (ix3 0 n c) := by
  pointwise [pastLat, k0_pay1]

/-- A head's rotated query, entry by entry. -/
theorem pastRot_apply {o : ℕ} (hs : S32x1024.Slices ![0, o] S32x32) (ho : o + 32 ≤ 1024) (x : Vec Ideal S32x1024 .bf16) (t : Fin 32) (c : Fin 32) :
    pastRot o hs x (ix2 t c) = x (ix2 t ⟨o + c.val, by omega⟩) := by
  pointwise [pastRot, k0_pay1]

/-- A head's output, entry by entry. -/
theorem pastVal_apply {o : ℕ} (hs : S256x256.Slices ![o, 0] S32x256) (ho : o + 32 ≤ 256) (y : FVec Ideal S256x256 .bf16)
    (w : Vec Ideal S1x256x64 .bf16) (t : Fin 32) (v : Fin 64) :
    pastVal o hs y w (ix2 t v) = ∑ c : Fin 256, y (ix2 ⟨o + t.val, by omega⟩ c) * w (ix3 0 c v) := by
  pointwise [pastVal]

/-- What stands at the number `r` of eight groups of `n`. -/
theorem pick {β : Type} {n N : ℕ} (y : Fin 8 → Fin n → β) {k : Fin 8} {p : Fin n} {r : Fin N} (hN : N = 8 * n) (hn : 0 < n) (h : n * k.val + p.val = r.val) :
    y k p = y ⟨r.val / n, by rw [Nat.div_lt_iff_lt_mul hn]; omega⟩ ⟨r.val % n, Nat.mod_lt _ hn⟩ := by
  have h1 : r.val / n = k.val := by rw [← h, Nat.mul_add_div hn, Nat.div_eq_of_lt p.isLt, Nat.add_zero]
  have h2 : r.val % n = p.val := by rw [← h, Nat.mul_add_mod, Nat.mod_eq_of_lt p.isLt]
  congr 1
  · exact Fin.ext h1.symm
  · exact Fin.ext h2.symm

/-- Eight latent queries stacked: the row picks its head's. -/
theorem stack_lat (y : Fin 8 → FVec Ideal S32x256 .bf16) (r c : Fin 256) :
    concatenate S256x256 0 [⟨S32x256, y 0⟩, ⟨S32x256, y 1⟩, ⟨S32x256, y 2⟩, ⟨S32x256, y 3⟩, ⟨S32x256, y 4⟩, ⟨S32x256, y 5⟩, ⟨S32x256, y 6⟩, ⟨S32x256, y 7⟩]
      concatenates_S32x256_S32x256_S32x256_S32x256_S32x256_S32x256_S32x256_S32x256_S256x256_d0 (ix2 r c)
    = y ⟨r.val / 32, by omega⟩ (ix2 ⟨r.val % 32, by omega⟩ c) := by
  pointwise []
  split_ifs
  all_goals exact pick (fun a b => y a (ix2 b c)) rfl (by decide) (by simp <;> omega)

/-- Eight rotated queries stacked: the row picks its head's. -/
theorem stack_rot (y : Fin 8 → FVec Ideal S32x32 .bf16) (r : Fin 256) (c : Fin 32) :
    concatenate S256x32 0 [⟨S32x32, y 0⟩, ⟨S32x32, y 1⟩, ⟨S32x32, y 2⟩, ⟨S32x32, y 3⟩, ⟨S32x32, y 4⟩, ⟨S32x32, y 5⟩, ⟨S32x32, y 6⟩, ⟨S32x32, y 7⟩]
      concatenates_S32x32_S32x32_S32x32_S32x32_S32x32_S32x32_S32x32_S32x32_S256x32_d0 (ix2 r c)
    = y ⟨r.val / 32, by omega⟩ (ix2 ⟨r.val % 32, by omega⟩ c) := by
  pointwise []
  split_ifs
  all_goals exact pick (fun a b => y a (ix2 b c)) rfl (by decide) (by simp <;> omega)

/-- Eight outputs side by side: the column picks its head's. -/
theorem stack_val (y : Fin 8 → FVec Ideal S32x64 .f32) (r : Fin 32) (c : Fin 512) :
    concatenate S32x512 1 [⟨S32x64, y 0⟩, ⟨S32x64, y 1⟩, ⟨S32x64, y 2⟩, ⟨S32x64, y 3⟩, ⟨S32x64, y 4⟩, ⟨S32x64, y 5⟩, ⟨S32x64, y 6⟩, ⟨S32x64, y 7⟩]
      concatenates_S32x64_S32x64_S32x64_S32x64_S32x64_S32x64_S32x64_S32x64_S32x512_d1 (ix2 r c)
    = y ⟨c.val / 64, by omega⟩ (ix2 r ⟨c.val % 64, by omega⟩) := by
  pointwise []
  split_ifs
  all_goals exact pick (fun a b => y a (ix2 r b)) rfl (by decide) (by simp <;> omega)

/-- The heads' latent queries, their rotated lanes and their values start at these places. -/
theorem lat_slices : ∀ h : Fin 8, S32x1024.Slices ![0, 128 * h.val] S32x64 := by decide

/-- The rotated columns of every head lie in the row. -/
theorem rot_slices : ∀ h : Fin 8, S32x1024.Slices ![0, 128 * h.val + 64] S32x32 := by decide

/-- The rows of every head lie in the stack. -/
theorem val_slices : ∀ h : Fin 8, S256x256.Slices ![32 * h.val, 0] S32x256 := by decide

/-- The heads' pages are within their arrays. -/
theorem page_lat : ∀ h : Fin 8, ∀ a, (![h.val, 0, 0] : Fin 3 → ℕ) a + S1x64x256.size a ≤ S8x64x256.size a := by decide

/-- The page of every head lies in the weight. -/
theorem page_val : ∀ h : Fin 8, ∀ a, (![h.val, 0, 0] : Fin 3 → ℕ) a + S1x256x64.size a ≤ S8x256x64.size a := by decide

/-- The body's latent queries, a head's 32 rows after another's. -/
theorem past_lats (x : Vec Ideal S32x1024 .bf16) (w : Fin 8 → Vec Ideal S1x64x256 .bf16) (r c : Fin 256) :
    k0_pay12 (k0_pay1 x) (k0_pay2 x (w 0)) (k0_pay4 x (w 1)) (k0_pay6 x (w 2)) (k0_pay8 x (w 3)) (k0_pay10 x) (k0_pay11 (w 4)) (w 5) (w 6) (w 7) (ix2 r c)
    = pastLat (128 * (r.val / 32)) (lat_slices ⟨r.val / 32, by omega⟩) x (w ⟨r.val / 32, by omega⟩) (ix2 ⟨r.val % 32, by omega⟩ c) :=
  stack_lat (fun h => pastLat (128 * h.val) (lat_slices h) x (w h)) r c

/-- The body's rotated queries in the same order. -/
theorem past_rots (x : Vec Ideal S32x1024 .bf16) (r : Fin 256) (c : Fin 32) :
    k0_pay13 (k0_pay1 x) (k0_pay3 x) (k0_pay5 x) (k0_pay7 x) (k0_pay9 x) (ix2 r c)
    = pastRot (128 * (r.val / 32) + 64) (rot_slices ⟨r.val / 32, by omega⟩) x (ix2 ⟨r.val % 32, by omega⟩ c) :=
  stack_rot (fun h => pastRot (128 * h.val + 64) (rot_slices h) x) r c

/-- What the body stores, a head's 64 lanes after another's. -/
theorem past_vals (v66 : FVec Ideal S256x256 .bf16) (v67 : FVec Ideal S256x32 .bf16) (v70 : FVec Ideal S4096x256 .bf16) (v73 : FVec Ideal S4096x32 .bf16)
    (v75 : FVec Ideal S32x256 .bf16) (v76 : Vec Ideal S32x32 .f32) (w : Fin 8 → Vec Ideal S1x256x64 .bf16) (r : Fin 32) (c : Fin 512) :
    k0_pay20 (k0_pay17 v66 v67 v70 v73 v75 v76) (k0_pay18 v66 v67 v70 v73 v75 v76) (k0_pay19 (w 0)) (w 1) (w 2) (w 3) (w 4) (w 5) (w 6) (w 7) (ix2 r c)
    = pastVal (32 * (c.val / 64)) (val_slices ⟨c.val / 64, by omega⟩) (k0_pay17 v66 v67 v70 v73 v75 v76) (w ⟨c.val / 64, by omega⟩)
      (ix2 r ⟨c.val % 64, by omega⟩) :=
  stack_val (fun h => pastVal (32 * h.val) (val_slices h) (k0_pay17 v66 v67 v70 v73 v75 v76) (w h)) r c

/-- One stream's blocks, at the formulas' arguments. -/
structure PastBlocks (A : PastArgs) (b : ℕ) (x0 : Vec Ideal S32x1024 .bf16) (x1 : Vec Ideal S1x4096x256 .f32) (x2 : Vec Ideal S1x4096x32 .f32)
    (x3 : Vec Ideal S32x256 .f32) (x4 : Vec Ideal S32x32 .f32) (x5 : Vec Ideal S8x64x256 .bf16) (x6 : Vec Ideal S8x256x64 .bf16) : Prop where
  q : ∀ (t : Fin 32) (j : Fin 1024), x0 (ix2 t j) = A.q (32768 + (32 * b + t.val)) j
  cl : ∀ (k : Fin 4096) (c : Fin 256), x1 (ix3 0 k c) = A.cl b k c
  cr : ∀ (k : Fin 4096) (c : Fin 32), x2 (ix3 0 k c) = A.cr b k c
  nl : ∀ (k : Fin 32) (c : Fin 256), x3 (ix2 k c) = A.nl (32768 + (32 * b + k.val)) c
  nr : ∀ (k : Fin 32) (c : Fin 32), x4 (ix2 k c) = A.nr (32768 + (32 * b + k.val)) c
  wk : ∀ (h : Fin 8) (n : Fin 64) (c : Fin 256), x5 (ix3 h n c) = A.wk c h n
  wv : ∀ (h : Fin 8) (c : Fin 256) (v : Fin 64), x6 (ix3 h c v) = A.wv c h v

namespace PastBlocks
variable {A : PastArgs} {b : ℕ} {x0 : Vec Ideal S32x1024 .bf16} {x1 : Vec Ideal S1x4096x256 .f32} {x2 : Vec Ideal S1x4096x32 .f32}
    {x3 : Vec Ideal S32x256 .f32} {x4 : Vec Ideal S32x32 .f32} {x5 : Vec Ideal S8x64x256 .bf16} {x6 : Vec Ideal S8x256x64 .bf16}
    (B : PastBlocks A b x0 x1 x2 x3 x4 x5 x6)
include B

/-- The stream's latent queries, a head's 32 rows after another's. -/
theorem lats (r c : Fin 256) : k0_pay22 x0 x1 x2 x3 x4 x5 x6 (ix2 r c) = A.lat (32 * b + r.val % 32) (r.val / 32) c := by
  refine (past_lats (View.ld (Val := Elt Ideal) x0 r0_0) (fun h => View.ld (Val := Elt Ideal) x5 (Rect.unit (s := S8x64x256) ![h.val, 0, 0] S1x64x256.size
    (page_lat h))) r c).trans ?_
  rw [pastLat_apply _ (by omega)]
  refine sum_dot _ _ _ _ fun n => congrArg₂ (· * ·) ?_ ?_
  · exact (ld_all x0 _ _ _).trans (B.q _ _)
  · exact (ld_page x5 _ _ _ _).trans (B.wk _ _ _)

/-- Their rotated lanes. -/
theorem rots (r : Fin 256) (c : Fin 32) : k0_pay23 x0 x1 x2 x3 x4 x5 x6 (ix2 r c) = A.rotq (32 * b + r.val % 32) (r.val / 32) c := by
  refine (past_rots (View.ld (Val := Elt Ideal) x0 r0_0) r c).trans ?_
  rw [pastRot_apply _ (by omega)]
  exact (ld_all x0 _ _ _).trans (B.q _ _)

/-- The cached latents. -/
theorem olds (k : Fin 4096) (c : Fin 256) : k0_pay24 x0 x1 x2 x3 x4 x5 x6 (ix2 k c) = A.key b k c := by
  unfold k0_pay24
  pointwise [k0_pay14]
  exact (B.cl _ _).trans (if_pos k.isLt).symm

/-- The cached rotated keys. -/
theorem oldrots (k : Fin 4096) (c : Fin 32) : k0_pay25 x0 x1 x2 x3 x4 x5 x6 (ix2 k c) = A.rot b k c := by
  unfold k0_pay25
  pointwise [k0_pay15]
  exact (B.cr _ _).trans (if_pos k.isLt).symm

/-- The new latents. -/
theorem news (k : Fin 32) (c : Fin 256) : k0_pay26 x0 x1 x2 x3 x4 x5 x6 (ix2 k c) = A.key b (4096 + k.val) c := by
  unfold k0_pay26
  pointwise [k0_pay16]
  rw [A.key_new]
  exact B.nl _ _

/-- The new rotated keys. -/
theorem newrots (k : Fin 32) (c : Fin 32) : View.ld (Val := Elt Ideal) x4 r0_12 (ix2 k c) = A.rot b (4096 + k.val) c := by
  rw [A.rot_new]
  exact (ld_all x4 _ _ _).trans (B.nr _ _)

/-- The stream's latents mixed by the softmax of the scores, a head's 32 rows after another's. -/
theorem soft (H : A.Finite) (r c : Fin 256) :
    k0_pay17 (k0_pay22 x0 x1 x2 x3 x4 x5 x6) (k0_pay23 x0 x1 x2 x3 x4 x5 x6) (k0_pay24 x0 x1 x2 x3 x4 x5 x6) (k0_pay25 x0 x1 x2 x3 x4 x5 x6)
      (k0_pay26 x0 x1 x2 x3 x4 x5 x6) (View.ld (Val := Elt Ideal) x4 r0_12) (ix2 r c) = A.mixed (32 * b + r.val % 32) (r.val / 32) c := by
  have hb : (32 * b + r.val % 32) / 32 = b := by omega
  refine past_soft _ _ _ _ _ _ (fun k => ?_) (fun k => ?_) (fun k => ?_) (fun k => ?_) (H.mass _ _)
  · rw [pastOld_apply]
    unfold PastArgs.score
    rw [hb]
    exact congrArg (· * _) (congrArg₂ (· + ·) (sum_dot _ _ _ _ fun c => congrArg₂ (· * ·) (B.lats r c) (B.olds k c))
      (sum_dot _ _ _ _ fun c => congrArg₂ (· * ·) (B.rots r c) (B.oldrots k c)))
  · rw [pastNew_apply]
    unfold PastArgs.score
    rw [hb]
    exact congrArg (· * _) (congrArg₂ (· + ·) (sum_dot _ _ _ _ fun c => congrArg₂ (· * ·) (B.lats r c) (B.news k c))
      (sum_dot _ _ _ _ fun c => congrArg₂ (· * ·) (B.rots r c) (B.newrots k c)))
  · rw [hb]; exact B.olds k c
  · rw [hb]; exact B.news k c

/-- What the body stores is, at row `t`, the attention's output of the stream's step `t`. -/
theorem stored (H : A.Finite) (t : Fin 32) : IsRow (out0_7 x0 x1 x2 x3 x4 x5 x6) t (A.out (32 * b + t.val)) := by
  intro l
  unfold out0_7
  rw [View.canon_unit_zero (by decide)]
  refine (past_vals _ _ _ _ _ _ (fun h => View.ld (Val := Elt Ideal) x6 (Rect.unit (s := S8x256x64) ![h.val, 0, 0] S1x256x64.size (page_val h))) t l).trans ?_
  rw [pastVal_apply _ (by omega)]
  refine sum_dot _ _ _ _ fun c => congrArg₂ (· * ·) ?_ ?_
  · refine (B.soft H _ c).trans ?_
    congr 1
    · simp only; omega
    · simp only; omega
  · exact (ld_page x6 _ _ _ _).trans (B.wv _ _ _)

end PastBlocks

end Mixer

end
-- ==== Proof.PastOut.lean ====
/- What the sampled attention's program leaves in its array: at each stream and step, the attention's output. -/
module

public import proofs.«01_k».proof.Proof.PastHeads
public import proofs.«01_k».proof.Proof.Gen.PastIdeal.Value
public import proofs.«01_k».proof.Proof.LayerOut

@[expose] public section

set_option maxRecDepth 16384

noncomputable section

namespace Mixer

open Idealize.ShloMosaic Idealize.ShloMosaic.TcCoe Cert.PastIdeal Cert.PastIdeal.Gen

attribute [local instance] Cert.PastIdeal.Gen.facts

/-- The arguments that a launch's arrays hold. -/
def pargs (V : Valuation τ sig (Elt Ideal)) : PastArgs :=
  pastArgs (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6))

/-- The attention's output as the array of all the sampled streams' rows. -/
def pastArr (f : ℕ → ℕ → EReal) : (⟨2, ![1024, 512]⟩ : Shape).Idx → EReal := fun i => f (i 0).val (i 1).val

section
variable (V : Valuation τ sig (Elt Ideal))

/-- The keys' projection, a head's page after another's. -/
theorem past_wk_at (h : Fin 8) (n : Fin 64) (c : Fin 256) :
    StableHlo.after hostOps0 V (Proc.devRef .tc main_v2) (ix3 h n c) = (pargs V).wk c h n := by
  after_reads_at
  exact elem4 _ _ _ _ _ (by simp) (by simp) (by simp) (by simp)

/-- The values' projection, a head's page after another's. -/
theorem past_wv_at (h : Fin 8) (c : Fin 256) (v : Fin 64) :
    StableHlo.after hostOps0 V (Proc.devRef .tc main_v5) (ix3 h c v) = (pargs V).wv c h v := by
  after_reads_at
  exact elem4 _ _ _ _ _ (by simp) (by simp) (by simp) (by simp)

/-- The cached latents. -/
theorem past_cl_at (b : Fin 32) (k : Fin 4096) (c : Fin 256) :
    StableHlo.after hostOps0 V (Proc.devRef .tc main_v6) (ix3 b k c) = (pargs V).cl b k c := by
  after_reads_at
  exact elem4 _ _ _ _ _ (by simp) (by simp) (by simp) (by simp)

/-- The cached rotated keys. -/
theorem past_cr_at (b : Fin 32) (k : Fin 4096) (c : Fin 32) :
    StableHlo.after hostOps0 V (Proc.devRef .tc main_v7) (ix3 b k c) = (pargs V).cr b k c := by
  after_reads_at
  exact elem4 _ _ _ _ _ (by simp) (by simp) (by simp) (by simp)

end

/-- A place of the block of `a` pages numbered `n`, in the array. -/
theorem blk3_of {a b c a' n : ℕ} {f : Fin 3 → ℕ} (e : (⟨3, ![a', b, c]⟩ : Shape).Idx) (hf : f = ![n, 0, 0]) (p : Fin a) (q : Fin b) (r : Fin c)
    (x : Fin a') (h0 : (e 0).val = f 0 * a + 1 * p.val) (h1 : (e 1).val = f 1 * b + 1 * q.val) (h2 : (e 2).val = f 2 * c + 1 * r.val)
    (hx : n * a + p.val = x.val) : e = ix3 x q r := by
  subst hf
  funext i
  match i with
  | ⟨0, _⟩ => exact Fin.ext (h0.trans (by show n * a + 1 * p.val = x.val; omega))
  | ⟨1, _⟩ => exact Fin.ext (h1.trans (by show 0 * b + 1 * q.val = q.val; omega))
  | ⟨2, _⟩ => exact Fin.ext (h2.trans (by show 0 * c + 1 * r.val = r.val; omega))

/-! The blocks' numbers at each stream: the sampled frames come after 1024 blocks of 32, -/

/-- Where the windows of the frames' arrays stand at a step. -/
theorem past_frames : ∀ t : Fin cfg0.N, win0_0.index t = ![1024 + t.val, 0] ∧ win0_3.index t = ![1024 + t.val, 0] ∧ win0_4.index t = ![1024 + t.val, 0]
    ∧ win0_7.index t = ![t.val, 0] :=
  (by decide +kernel : ∀ t : Fin grid0.N, win0_0.index t = ![1024 + t.val, 0] ∧ win0_3.index t = ![1024 + t.val, 0]
    ∧ win0_4.index t = ![1024 + t.val, 0] ∧ win0_7.index t = ![t.val, 0])

/-- the caches go with the stream, and the weights are whole. -/
theorem past_pages : ∀ t : Fin cfg0.N, win0_1.index t = ![t.val, 0, 0] ∧ win0_2.index t = ![t.val, 0, 0] ∧ win0_5.index t = ![0, 0, 0]
    ∧ win0_6.index t = ![0, 0, 0] :=
  (by decide +kernel : ∀ t : Fin grid0.N, win0_1.index t = ![t.val, 0, 0] ∧ win0_2.index t = ![t.val, 0, 0] ∧ win0_5.index t = ![0, 0, 0]
    ∧ win0_6.index t = ![0, 0, 0])

variable (m : (ℓ : Loc nD τ sig) → Buf (Elt Ideal) ℓ) (c : Dev nD)

/-- The contents at the launch. -/
abbrev pastStart : Valuation τ sig (Elt Ideal) := fun b => m (c, b)

/-- The blocks that stream `t`'s body reads. -/
theorem past_blocks (t : Fin cfg0.N) : PastBlocks (pargs (pastStart m c)) t.val (iblk m c 0 t) (iblk m c 1 t) (iblk m c 2 t) (iblk m c 3 t)
    (iblk m c 4 t) (iblk m c 5 t) (iblk m c 6 t) := by
  have ht : t.val < 32 := lt_of_lt_of_eq t.isLt N_0
  constructor
  · exact fun r j => ((congrArg (V m c main_arg0) (blk_of (a := 32) (((cfg0.win 0).blk t).view.emb (ix2 r j)) (past_frames t).1 r j
      ⟨(1024 + t.val) * 32 + r.val, by omega⟩ rfl rfl rfl)).trans (congrFun (V_main_arg0 m c) _)).trans
      (elem2 _ _ _ (by show (1024 + t.val) * 32 + r.val = _; omega) rfl)
  · exact fun k l => (congrArg (V m c main_v6) (blk3_of (a := 1) (((cfg0.win 1).blk t).view.emb (ix3 0 k l)) (past_pages t).1 0 k l
      ⟨t.val, ht⟩ rfl rfl rfl (by show t.val * 1 + 0 = t.val; omega))).trans (past_cl_at (pastStart m c) _ k l)
  · exact fun k l => (congrArg (V m c main_v7) (blk3_of (a := 1) (((cfg0.win 2).blk t).view.emb (ix3 0 k l)) (past_pages t).2.1 0 k l
      ⟨t.val, ht⟩ rfl rfl rfl (by show t.val * 1 + 0 = t.val; omega))).trans (past_cr_at (pastStart m c) _ k l)
  · exact fun r j => ((congrArg (V m c main_arg3) (blk_of (a := 32) (((cfg0.win 3).blk t).view.emb (ix2 r j)) (past_frames t).2.1 r j
      ⟨(1024 + t.val) * 32 + r.val, by omega⟩ rfl rfl rfl)).trans (congrFun (V_main_arg3 m c) _)).trans
      (elem2 _ _ _ (by show (1024 + t.val) * 32 + r.val = _; omega) rfl)
  · exact fun r j => ((congrArg (V m c main_arg4) (blk_of (a := 32) (((cfg0.win 4).blk t).view.emb (ix2 r j)) (past_frames t).2.2.1 r j
      ⟨(1024 + t.val) * 32 + r.val, by omega⟩ rfl rfl rfl)).trans (congrFun (V_main_arg4 m c) _)).trans
      (elem2 _ _ _ (by show (1024 + t.val) * 32 + r.val = _; omega) rfl)
  · exact fun h n l => (congrArg (V m c main_v2) (blk3_of (a := 8) (((cfg0.win 5).blk t).view.emb (ix3 h n l)) (past_pages t).2.2.1 h n l
      h rfl rfl rfl (by omega))).trans (past_wk_at (pastStart m c) h n l)
  · exact fun h l v => (congrArg (V m c main_v5) (blk3_of (a := 8) (((cfg0.win 6).blk t).view.emb (ix3 h l v)) (past_pages t).2.2.2 h l v
      h rfl rfl rfl (by omega))).trans (past_wv_at (pastStart m c) h l v)

/-- The array that the program leaves, where the arguments are finite. -/
theorem past_out_arr (H : (pargs (pastStart m c)).Finite) : (dats m 0 c).arrAt 7 cfg0.N = pastArr (pargs (pastStart m c)).out := by
  refine (dats m 0 c).arrAt_eq_of_cover 7 (pastArr (pargs (pastStart m c)).out) (fun t _ => ?_) (fun i => ?_)
  · show (cfg0.win 7).cut (grid0.coords t) ((dats m 0 c).after 7 t) = _
    rw [after0_7]
    refine funext fun (j : S32x512.Idx) => ?_
    have e : ((cfg0.win 7).blk t).view.emb j = ix2 (⟨t.val * 32 + (j 0).val, by
        have ht : t.val < 32 := lt_of_lt_of_eq t.isLt N_0
        have hj : (j 0).val < 32 := (j 0).isLt
        omega⟩ : Fin 1024) (j 1) :=
      blk_of (a := 32) (((cfg0.win 7).blk t).view.emb j) (past_frames t).2.2.2 (j 0) (j 1) _ rfl rfl rfl
    have k := (past_blocks m c t).stored H (j 0) (j 1)
    rw [← ix2_of j (j 0) (j 1) rfl rfl] at k
    refine k.trans (Eq.trans ?_ (congrArg (pastArr (pargs (pastStart m c)).out) e).symm)
    show _ = (pargs (pastStart m c)).out (t.val * 32 + (j 0).val) (j 1).val
    rw [Nat.mul_comm]
  · have hi : (i 0).val < 1024 := (i 0).isLt
    let t : Fin cfg0.N := ⟨(i 0).val / 32, by have : cfg0.N = 32 := N_0; omega⟩
    have ht : t.val = (i 0).val / 32 := rfl
    refine ⟨t, flush0_7 t, ?_⟩
    show i ∈ ((View.whole main_v8).slice (win0_7.rect t)).set
    rw [View.set_slice_whole, Rect.mem_set_unit]
    show ∀ a : Fin 2, win0_7.index t a * (![32, 512] : Fin 2 → ℕ) a ≤ (i a).val ∧ (i a).val < win0_7.index t a * (![32, 512] : Fin 2 → ℕ) a + (![32, 512] : Fin 2 → ℕ) a
    rw [(past_frames t).2.2.2, ht]
    intro a
    match a with
    | ⟨0, _⟩ => show (i 0).val / 32 * 32 ≤ (i 0).val ∧ (i 0).val < (i 0).val / 32 * 32 + 32; omega
    | ⟨1, _⟩ => show 0 * 512 ≤ (i 1).val ∧ (i 1).val < 0 * 512 + 512; have : (i 1).val < 512 := (i 1).isLt; omega

end Mixer

end
-- ==== Proof.PastRef.lean ====
/- The sampled attention's reference, step by step: the same sequences over the lanes. -/
module

public import proofs.«01_k».proof.Proof.PastRows
public import proofs.«01_k».proof.Proof.LayerRef
public import proofs.«01_k».proof.Proof.LayerOut
public import proofs.«01_k».proof.Proof.Tile
public import proofs.«01_k».proof.Proof.Gen.PastReferenceIdeal.Read
public import Idealize.ShloMosaic.Lib.Pointwise

@[expose] public section

set_option maxRecDepth 16384

noncomputable section

namespace Mixer

open Idealize.ShloMosaic Idealize.ShloMosaic.TcCoe Idealize.SL.Sem Cert.PastReferenceIdeal Cert.PastReferenceIdeal.Gen Cert.PastReferenceIdeal.Read

attribute [local instance] Cert.PastReferenceIdeal.Gen.facts

variable (x0 : S33792x1024.Idx → EReal) (x1 : S1x32x4096x256.Idx → EReal) (x2 : S1x32x4096x32.Idx → EReal) (x3 : S33792x256.Idx → EReal)
  (x4 : S33792x32.Idx → EReal) (x5 x6 : S1x256x8x64.Idx → EReal)

/-- The queries by stream, step, head and lane. -/
theorem past_ref_q (b t : Fin 32) (h : Fin 8) (j : Fin 128) :
    val_main_v2 (F := Ideal) x0 (ix4 b t h j) = (pastArgs x0 x1 x2 x3 x4 x5 x6).q (32768 + (32 * b.val + t.val)) (128 * h.val + j.val) := by
  pointwise [val_main_v2, val_main_v1, val_main_v0]
  exact elem2 _ _ _ (by simp only; omega) (by simp only; omega)

/-- A stream's latents, the new ones after the cached. -/
theorem past_ref_key (b : Fin 32) (k : Fin 4128) (c : Fin 256) :
    val_main_v6 (F := Ideal) x1 x3 (ix3 b k c) = (pastArgs x0 x1 x2 x3 x4 x5 x6).key b k c := by
  pointwise [val_main_v6, val_main_v5, val_main_v4, val_main_v3]
  by_cases h : k.val < 4096
  · exact (dif_pos h).trans ((elem4 _ _ _ _ _ (by simp) (by simp) (by simp) (by simp)).trans (if_pos h).symm)
  · refine (dif_neg h).trans ?_
    rw [elem2 x3 _ _ rfl rfl]
    unfold PastArgs.key
    rw [if_neg h]
    simp only [pastArgs, Nat.mul_comm]

/-- A stream's rotated keys, the new ones after the cached. -/
theorem past_ref_rot (b : Fin 32) (k : Fin 4128) (c : Fin 32) :
    val_main_v10 (F := Ideal) x2 x4 (ix3 b k c) = (pastArgs x0 x1 x2 x3 x4 x5 x6).rot b k c := by
  pointwise [val_main_v10, val_main_v9, val_main_v8, val_main_v7]
  by_cases h : k.val < 4096
  · exact (dif_pos h).trans ((elem4 _ _ _ _ _ (by simp) (by simp) (by simp) (by simp)).trans (if_pos h).symm)
  · refine (dif_neg h).trans ?_
    rw [elem2 x4 _ _ rfl rfl]
    unfold PastArgs.rot
    rw [if_neg h]
    simp only [pastArgs, Nat.mul_comm]

/-- The latent queries. -/
theorem past_ref_lat (b t : Fin 32) (h : Fin 8) (c : Fin 256) :
    val_main_v14 (F := Ideal) x0 x5 (ix4 b t h c) = (pastArgs x0 x1 x2 x3 x4 x5 x6).lat (32 * b.val + t.val) h c := by
  have hq := past_ref_q x0 x1 x2 x3 x4 x5 x6
  unfold val_main_v14 val_main_v13 val_main_v11
  generalize val_main_v2 (F := Ideal) x0 = y at hq ⊢
  pointwise [val_main_v12]
  refine sum_dot _ _ _ _ fun n => (mul_comm _ _).trans (congrArg₂ (· * ·) ((hq _ _ _ _).trans ?_) (elem4 x5 _ _ _ _ (by simp) (by simp) (by simp) (by simp)))
  simp

/-- The products of the latent queries with the latents. -/
theorem past_ref_near (b : Fin 32) (h : Fin 8) (t : Fin 32) (k : Fin 4128) : val_main_v16 (F := Ideal) x0 x1 x3 x5 (ix4 b h t k)
    = dot 256 ((pastArgs x0 x1 x2 x3 x4 x5 x6).lat (32 * b.val + t.val) h) (fun c k => (pastArgs x0 x1 x2 x3 x4 x5 x6).key b k c) k := by
  have hl := past_ref_lat x0 x1 x2 x3 x4 x5 x6 b t h
  have hk := past_ref_key x0 x1 x2 x3 x4 x5 x6 b k
  generalize pastArgs x0 x1 x2 x3 x4 x5 x6 = A at hl hk ⊢
  unfold val_main_v16 val_main_v15
  generalize val_main_v14 (F := Ideal) x0 x5 = l at hl ⊢
  generalize val_main_v6 (F := Ideal) x1 x3 = u at hk ⊢
  pointwise []
  exact sum_dot _ _ _ _ fun c => (mul_comm _ _).trans (congrArg₂ (· * ·) (hl c) (hk c))

/-- The products of the rotated lanes. -/
theorem past_ref_far (b : Fin 32) (h : Fin 8) (t : Fin 32) (k : Fin 4128) : val_main_v19 (F := Ideal) x0 x2 x4 (ix4 b h t k)
    = dot 32 ((pastArgs x0 x1 x2 x3 x4 x5 x6).rotq (32 * b.val + t.val) h) (fun r k => (pastArgs x0 x1 x2 x3 x4 x5 x6).rot b k r) k := by
  have hq := past_ref_q x0 x1 x2 x3 x4 x5 x6 b t h
  have hr := past_ref_rot x0 x1 x2 x3 x4 x5 x6 b k
  generalize pastArgs x0 x1 x2 x3 x4 x5 x6 = A at hq hr ⊢
  unfold val_main_v19 val_main_v18 val_main_v17
  generalize val_main_v2 (F := Ideal) x0 = q at hq ⊢
  generalize val_main_v10 (F := Ideal) x2 x4 = v at hr ⊢
  pointwise []
  refine sum_dot _ _ _ _ fun c => (mul_comm _ _).trans (congrArg₂ (· * ·) ((hq _).trans ?_) (hr c))
  exact congrArg (A.q _) (by simp only; omega)

/-- The scores. -/
theorem past_ref_score (b : Fin 32) (h : Fin 8) (t : Fin 32) (k : Fin 4128) :
    val_main_v22 (F := Ideal) x0 x1 x2 x3 x4 x5 (ix4 b h t k) = (pastArgs x0 x1 x2 x3 x4 x5 x6).score (32 * b.val + t.val) h k := by
  have hn := past_ref_near x0 x1 x2 x3 x4 x5 x6 b h t k
  have hf := past_ref_far x0 x1 x2 x3 x4 x5 x6 b h t k
  generalize pastArgs x0 x1 x2 x3 x4 x5 x6 = A at hn hf ⊢
  unfold val_main_v22 val_main_v20
  generalize val_main_v16 (F := Ideal) x0 x1 x3 x5 = y at hn ⊢
  generalize val_main_v19 (F := Ideal) x0 x2 x4 = z at hf ⊢
  pointwise [val_main_v21, val_main_cst]
  unfold PastArgs.score
  rw [show (32 * b.val + t.val) / 32 = b.val by omega, hn, hf]

/-- The greatest along the last of four axes, from the initial value. -/
theorem host_top {a b c n : ℕ} (v : FVec Ideal ⟨4, ![a, b, c, n]⟩ .f32) (z : FVec Ideal ⟨0, ![]⟩ .f32)
    (h : (⟨4, ![a, b, c, n]⟩ : Shape).ReducesTo [3] ⟨3, ![a, b, c]⟩) (hz : 0 < (⟨0, ![]⟩ : Shape).numel) (p : Fin a) (q : Fin b) (r : Fin c) :
    Host.reduce FloatOps.maximumf v z h hz (ix3 p q r)
      = (Finset.univ : Finset (Fin n)).fold max (z (Shape.Idx.first hz) : EReal) fun k => (v (ix4 p q r k) : EReal) := by
  pointwise []

/-- A row's greatest score. -/
theorem past_ref_top (b : Fin 32) (h : Fin 8) (t : Fin 32) :
    val_main_v25 (F := Ideal) x0 x1 x2 x3 x4 x5 (ix3 b h t) = Mla.top 4128 ((pastArgs x0 x1 x2 x3 x4 x5 x6).score (32 * b.val + t.val) h) := by
  have hs := past_ref_score x0 x1 x2 x3 x4 x5 x6 b h t
  generalize pastArgs x0 x1 x2 x3 x4 x5 x6 = A at hs ⊢
  have e : val_main_v23 (F := Ideal) x0 x1 x2 x3 x4 x5 (ix3 b h t) = Mla.top 4128 (A.score (32 * b.val + t.val) h) := by
    unfold val_main_v23
    generalize val_main_v22 (F := Ideal) x0 x1 x2 x3 x4 x5 = y at hs ⊢
    rw [host_top, ← top_fin 4128 (A.score (32 * b.val + t.val) h)]
    simp only [hs]
    exact congrArg (fun z => Finset.fold max z _ _) Mla.ofBits_neg_inf
  rw [val_main_v25_apply, val_main_v24_apply, val_main_cst_1_apply, e]
  show max (Ideal.ofBits .f32 0xFF800000#32) _ = _
  rw [show Ideal.ofBits .f32 0xFF800000#32 = ⊥ from Mla.ofBits_neg_inf]
  exact max_bot_left _

/-- The softmax's weights. -/
theorem past_ref_weight (b : Fin 32) (h : Fin 8) (t : Fin 32) (k : Fin 4128) : val_main_v33 (F := Ideal) x0 x1 x2 x3 x4 x5 (ix4 b h t k)
    = Ideal.div (Ideal.exp ((pastArgs x0 x1 x2 x3 x4 x5 x6).score (32 * b.val + t.val) h k
        - Mla.top 4128 ((pastArgs x0 x1 x2 x3 x4 x5 x6).score (32 * b.val + t.val) h)))
      (Mla.mass 4128 ((pastArgs x0 x1 x2 x3 x4 x5 x6).score (32 * b.val + t.val) h)) := by
  have hs := past_ref_score x0 x1 x2 x3 x4 x5 x6 b h t
  have ht := past_ref_top x0 x1 x2 x3 x4 x5 x6 b h t
  generalize pastArgs x0 x1 x2 x3 x4 x5 x6 = A at hs ht ⊢
  unfold val_main_v33 val_main_v32 val_main_v31 val_main_v30 val_main_v29 val_main_v28 val_main_v27 val_main_v26
  generalize val_main_v25 (F := Ideal) x0 x1 x2 x3 x4 x5 = z at ht ⊢
  generalize val_main_v22 (F := Ideal) x0 x1 x2 x3 x4 x5 = y at hs ⊢
  pointwise [val_main_cst_2]
  simp only [hs, ht]
  unfold Mla.mass
  rw [Finset.sum_range]

/-- The mixed latents. -/
theorem past_ref_mixed (b t : Fin 32) (h : Fin 8) (c : Fin 256) :
    val_main_v35 (F := Ideal) x0 x1 x2 x3 x4 x5 (ix4 b t h c) = (pastArgs x0 x1 x2 x3 x4 x5 x6).mixed (32 * b.val + t.val) h c := by
  have hw := past_ref_weight x0 x1 x2 x3 x4 x5 x6 b h t
  have hk := past_ref_key x0 x1 x2 x3 x4 x5 x6
  generalize pastArgs x0 x1 x2 x3 x4 x5 x6 = A at hw hk ⊢
  unfold val_main_v35 val_main_v34
  generalize val_main_v33 (F := Ideal) x0 x1 x2 x3 x4 x5 = y at hw ⊢
  generalize val_main_v6 (F := Ideal) x1 x3 = u at hk ⊢
  pointwise []
  unfold PastArgs.mixed Mla.att
  rw [Finset.sum_range]
  have hb : (32 * b.val + t.val) / 32 = b.val := by omega
  rw [hb]
  exact Finset.sum_congr rfl fun k _ => (mul_comm _ _).trans (congrArg₂ (· * ·) (hw k) (hk _ _ _))

/-- The reference's result. -/
theorem past_ref_out (i : Fin 1024) (l : Fin 512) :
    val_main_v40 (F := Ideal) x0 x1 x2 x3 x4 x5 x6 (ix2 i l) = (pastArgs x0 x1 x2 x3 x4 x5 x6).out i l := by
  have hm := past_ref_mixed x0 x1 x2 x3 x4 x5 x6
  unfold val_main_v40 val_main_v39 val_main_v38 val_main_v37
  generalize val_main_v35 (F := Ideal) x0 x1 x2 x3 x4 x5 = y at hm ⊢
  pointwise [val_main_v36]
  refine sum_dot _ _ _ _ fun c => (mul_comm _ _).trans (congrArg₂ (· * ·) ((hm _ _ _ _).trans ?_) (elem4 x6 _ _ _ _ (by simp) (by simp) rfl rfl))
  · congr 1
    simp only; omega

end Mixer

end
-- ==== Proof.PastFinite.lean ====
/- What the precondition of the sampled attention says of its arrays: their entries are real numbers. -/
module

public import proofs.«01_k».proof.Defs
public import proofs.«01_k».proof.Proof.PastOut
public import proofs.«01_k».proof.Proof.LayerFinite
public import Idealize.ShloMosaic.Lib.ReduceAll

@[expose] public section

set_option maxRecDepth 16384

noncomputable section

namespace Mixer

open Idealize.ShloMosaic Idealize.ShloMosaic.TcCoe

/-- The precondition's shapes fit together. -/
theorem past_pre_facts : Cert.Pre_finite_past.Facts :=
  ⟨by decide, by decide, by decide, by decide, by decide, by decide, by decide, by decide, by decide, by decide, by decide, by decide, by decide, by decide⟩

/-- The precondition, read at the arguments it tests. -/
theorem past_entries_of_pre [Cert.Pre_finite_past.Facts] {x0 : Cert.Pre_finite_past.S33792x1024.Idx → EReal} {x1 : Cert.Pre_finite_past.S1x32x4096x256.Idx → EReal}
    {x2 : Cert.Pre_finite_past.S1x32x4096x32.Idx → EReal} {x3 : Cert.Pre_finite_past.S33792x256.Idx → EReal} {x4 : Cert.Pre_finite_past.S33792x32.Idx → EReal}
    {x5 x6 : Cert.Pre_finite_past.S1x256x8x64.Idx → EReal}
    (h : Cert.Pre_finite_past.fn (F := Ideal) x0 x1 x2 x3 x4 x5 x6 = fun _ => 1#1) :
    Entries x0 ∧ Entries x1 ∧ Entries x2 ∧ Entries x3 ∧ Entries x4 ∧ Entries x5 := by
  have hj := congrFun h (fun k => k.elim0)
  obtain ⟨hj, h5⟩ := Mla.bits_of_and _ _ hj
  obtain ⟨hj, h4⟩ := Mla.bits_of_and _ _ hj
  obtain ⟨hj, h3⟩ := Mla.bits_of_and _ _ hj
  obtain ⟨hj, h2⟩ := Mla.bits_of_and _ _ hj
  obtain ⟨h0, h1⟩ := Mla.bits_of_and _ _ hj
  exact ⟨entries_of_all _ _ h0, entries_of_all _ _ h1, entries_of_all _ _ h2, entries_of_all _ _ h3, entries_of_all _ _ h4, entries_of_all _ _ h5⟩

/-- An entry of a real array of four axes, or zero outside of it, is a real number. -/
theorem get4_real {a b c d : ℕ} {f : (⟨4, ![a, b, c, d]⟩ : Shape).Idx → EReal} (hf : Entries f) (i j k l : ℕ) : ∃ r : ℝ, get4 f i j k l = (r : EReal) := by
  unfold get4
  split
  · exact hf _
  · exact ⟨0, rfl⟩

/-- The formulas' arguments are finite where the arrays' entries are. -/
theorem past_args_finite {x0 : (⟨2, ![33792, 1024]⟩ : Shape).Idx → EReal} {x1 : (⟨4, ![1, 32, 4096, 256]⟩ : Shape).Idx → EReal}
    {x2 : (⟨4, ![1, 32, 4096, 32]⟩ : Shape).Idx → EReal} {x3 : (⟨2, ![33792, 256]⟩ : Shape).Idx → EReal}
    {x4 : (⟨2, ![33792, 32]⟩ : Shape).Idx → EReal} {x5 x6 : (⟨4, ![1, 256, 8, 64]⟩ : Shape).Idx → EReal}
    (h : Entries x0 ∧ Entries x1 ∧ Entries x2 ∧ Entries x3 ∧ Entries x4 ∧ Entries x5) : (pastArgs x0 x1 x2 x3 x4 x5 x6).Finite where
  q := get2_real h.1
  cl := get4_real h.2.1 0
  cr := get4_real h.2.2.1 0
  nl := get2_real h.2.2.2.1
  nr := get2_real h.2.2.2.2.1
  wk := get4_real h.2.2.2.2.2 0

/-- The arguments of the sampled attention's program are finite where the precondition holds. -/
theorem past_finite [Cert.Pre_finite_past.Facts] (m : (ℓ : Loc Cert.PastIdeal.nD Cert.PastIdeal.τ Cert.PastIdeal.sig) → Buf (Elt Ideal) ℓ)
    (h : Cert.Pre_PastIdeal_finite_past m) (c : Dev Cert.PastIdeal.nD) : (pargs (pastStart m c)).Finite :=
  past_args_finite (past_entries_of_pre (h c))

end Mixer

end
-- ==== Proof.PastAlgebraic.lean ====
/- The sampled attention's program and its reference end with the same array. -/
module

public import proofs.«01_k».proof.Proof.PastOut
public import proofs.«01_k».proof.Proof.PastRef
public import proofs.«01_k».proof.Proof.PastFinite
public import proofs.«01_k».proof.Proof.Gen.PastReferenceIdeal.Run
public import proofs.«01_k».proof.Defs

@[expose] public section

set_option maxRecDepth 16384

noncomputable section

namespace Mixer

open Idealize.ShloMosaic Idealize.ShloMosaic.TcCoe Idealize.SL.Sem Cert.PastReferenceIdeal Cert.PastReferenceIdeal.Gen Cert.PastReferenceIdeal.Read

attribute [local instance] Cert.PastReferenceIdeal.Gen.facts Cert.PastIdeal.Gen.facts past_pre_facts

/-- The reference's array: the attention's output at every row. -/
theorem past_ref_arr (x0 : S33792x1024.Idx → EReal) (x1 : S1x32x4096x256.Idx → EReal) (x2 : S1x32x4096x32.Idx → EReal) (x3 : S33792x256.Idx → EReal)
    (x4 : S33792x32.Idx → EReal) (x5 x6 : S1x256x8x64.Idx → EReal) :
    val_main_v40 (F := Ideal) x0 x1 x2 x3 x4 x5 x6 = pastArr (pastArgs x0 x1 x2 x3 x4 x5 x6).out := by
  funext i
  rw [ix2_of i (i 0) (i 1) rfl rfl]
  exact past_ref_out x0 x1 x2 x3 x4 x5 x6 _ _

section
variable {V : Valuation τ sig (Elt Ideal)} {W : Valuation Cert.PastIdeal.τ Cert.PastIdeal.sig (Elt Ideal)}

/-- The reference's array, at the program's arguments. -/
theorem past_ref_at (e0 : V (Proc.devRef .tc main_arg0) = W (Proc.devRef .tc Cert.PastIdeal.main_arg0))
     (e1 : V (Proc.devRef .tc main_arg1) = W (Proc.devRef .tc Cert.PastIdeal.main_arg1))
     (e2 : V (Proc.devRef .tc main_arg2) = W (Proc.devRef .tc Cert.PastIdeal.main_arg2))
     (e3 : V (Proc.devRef .tc main_arg3) = W (Proc.devRef .tc Cert.PastIdeal.main_arg3))
     (e4 : V (Proc.devRef .tc main_arg4) = W (Proc.devRef .tc Cert.PastIdeal.main_arg4))
     (e5 : V (Proc.devRef .tc main_arg5) = W (Proc.devRef .tc Cert.PastIdeal.main_arg5))
     (e6 : V (Proc.devRef .tc main_arg6) = W (Proc.devRef .tc Cert.PastIdeal.main_arg6)) :
    val_main_v40 (F := Ideal) (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) = pastArr (pargs W).out := by
  unfold pargs
  rw [← e0, ← e1, ← e2, ← e3, ← e4, ← e5, ← e6]
  exact past_ref_arr _ _ _ _ _ _ _

end

/-- Over the extended reals, from finite arguments, the sampled attention's program and its reference end with the same array. -/
theorem past_algebraic : Cert.algebraic_PastIdeal_PastReferenceIdeal_pre_finite_past := by
  intro m g m' g' hpre hag
  refine ⟨fun c => pastArr (pargs (pastStart m c)).out, ?_, ?_⟩
  · exact (θ_run _ _ _).mono (fun r h c => ⟨(h c).1.trans (past_out_arr m c (past_finite m hpre c)), (h c).2⟩)
      (Cert.PastIdeal.Value.run_blocks (F := Ideal) m g)
  · refine (θ_run _ _ _).mono (fun r h c => ?_) (Cert.PastReferenceIdeal.Value.run (F := Ideal) m' g')
    obtain ⟨a0, a1, a2, a3, a4, a5, a6⟩ := hag c
    have o := past_ref_at (V := StableHlo.launchContents m' c) (W := pastStart m c) a0 a1 a2 a3 a4 a5 a6
    obtain ⟨h0, hargs'⟩ := h c
    exact ⟨h0.trans ((val_main_v40_eq _ _).trans o), hargs'⟩

end Mixer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Layer
public import proofs.«01_k».proof.Proof.Gen.Layer.Skeleton
public import proofs.«01_k».proof.Proof.Gen.Layer.Launch
public import proofs.«01_k».proof.Proof.Gen.Layer.Points
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerReferenceIdeal
public import proofs.«01_k».proof.Proof.Gen.LayerReferenceIdeal.Run
public import proofs.«01_k».proof.Proof.Gen.LayerReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastReferenceIdeal
public import proofs.«01_k».proof.Proof.Gen.LastReferenceIdeal.Run
public import proofs.«01_k».proof.Proof.Gen.LastReferenceIdeal.Read
public import proofs.«01_k».proof.Proof.Finite
public import proofs.«01_k».proof.Proof.LayerRun
public import proofs.«01_k».proof.Proof.LayerAlgebraic
public import proofs.«01_k».proof.Proof.Gen.Past
public import proofs.«01_k».proof.Proof.Gen.Past.Skeleton
public import proofs.«01_k».proof.Proof.Gen.Past.Launch
public import proofs.«01_k».proof.Proof.Gen.Past.Points
public import proofs.«01_k».proof.Proof.Gen.Past.Frame
public import proofs.«01_k».proof.Proof.Gen.PastIdeal
public import proofs.«01_k».proof.Proof.Gen.PastIdeal.Skeleton
public import proofs.«01_k».proof.Proof.Gen.PastIdeal.Launch
public import proofs.«01_k».proof.Proof.Gen.PastIdeal.Points
public import proofs.«01_k».proof.Proof.Gen.PastIdeal.Frame
public import proofs.«01_k».proof.Proof.Gen.PastIdeal.Value
public import proofs.«01_k».proof.Proof.Gen.PastReferenceIdeal
public import proofs.«01_k».proof.Proof.Gen.PastReferenceIdeal.Run
public import proofs.«01_k».proof.Proof.Gen.PastReferenceIdeal.Read
public import proofs.«01_k».proof.Proof.MixAlgebraic
public import proofs.«01_k».proof.Proof.LastRun
public import proofs.«01_k».proof.Proof.LastAlgebraic
public import proofs.«01_k».proof.Proof.PastAlgebraic
public import Idealize.ShloMosaic.Adequacy
public import Idealize.ShloMosaic.Init

@[expose] public section

noncomputable section

namespace Cert.Proof

open Idealize.ShloMosaic Idealize.SL.Sem

attribute [local instance] Cert.KernelIdeal.Gen.facts Cert.ReferenceIdeal.Gen.facts Cert.LayerReferenceIdeal.Gen.facts Cert.MixReferenceIdeal.Gen.facts
  Cert.LastReferenceIdeal.Gen.facts Cert.PastReferenceIdeal.Gen.facts

/-- The reference runs, leaves its arguments as they were, and has no semaphore to leave raised. -/
theorem reference_frame : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The layer's reference runs, leaves its arguments as they were, and has no semaphore to leave raised. -/
theorem layer_reference_frame : Cert.quiescent_LayerReferenceIdeal := fun m g _ =>
  (θ_run _ _ _).mono (fun r h => ⟨fun c => (h c).2.2.2.2.2.2.2.2.2.2.2.2.2.2.2.2, sem_eq_zero_of_no_sems (by decide) r.2⟩) (Cert.LayerReferenceIdeal.Value.run (F := Ideal) m g)

/-- The mixture's reference runs, leaves its arguments as they were, and has no semaphore to leave raised. -/
theorem mix_reference_frame : Cert.quiescent_MixReferenceIdeal := fun m g _ =>
  (θ_run _ _ _).mono (fun r h => ⟨fun c => (h c).2.2.2, sem_eq_zero_of_no_sems (by decide) r.2⟩) (Cert.MixReferenceIdeal.Value.run (F := Ideal) m g)

/-- The last step's reference runs, leaves its arguments as they were, and has no semaphore to leave raised. -/
theorem last_reference_frame : Cert.quiescent_LastReferenceIdeal := fun m g _ =>
  (θ_run _ _ _).mono (fun r h => ⟨fun c => (h c).2.2, sem_eq_zero_of_no_sems (by decide) r.2⟩) (Cert.LastReferenceIdeal.Value.run (F := Ideal) m g)

/-- The sampled attention's reference runs, leaves its arguments as they were, and has no semaphore to leave raised. -/
theorem past_reference_frame : Cert.quiescent_PastReferenceIdeal := fun m g _ =>
  (θ_run _ _ _).mono (fun r h => ⟨fun c => (h c).2, sem_eq_zero_of_no_sems (by decide) r.2⟩) (Cert.PastReferenceIdeal.Value.run (F := Ideal) m g)

/-- Every claim. -/
theorem claim : Cert.Claim :=
  ⟨Cert.Kernel.Gen.facts, Cert.KernelIdeal.Gen.facts, Cert.ReferenceIdeal.Gen.facts, Cert.Layer.Gen.facts, Cert.LayerIdeal.Gen.facts,
    Cert.LayerReferenceIdeal.Gen.facts, Cert.Mix.Gen.facts, Cert.MixIdeal.Gen.facts, Cert.MixReferenceIdeal.Gen.facts,
    Cert.Last.Gen.facts, Cert.LastIdeal.Gen.facts, Cert.LastReferenceIdeal.Gen.facts,
    Cert.Past.Gen.facts, Cert.PastIdeal.Gen.facts, Cert.PastReferenceIdeal.Gen.facts, Mla.pre_facts, Mixer.pre_facts, Mixer.past_pre_facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Layer.Run.frame m g,
    fun m g _ => Cert.LayerIdeal.Run.frame m g,
    fun m g _ => Cert.LayerIdeal.Run.frame m g,
    layer_reference_frame,
    fun m g _ => layer_reference_frame m g trivial,
    fun m g _ => Cert.Mix.Gen.frame m g,
    fun m g _ => Cert.MixIdeal.Gen.frame m g,
    mix_reference_frame,
    fun m g _ => Cert.Last.Run.frame m g,
    fun m g _ => Cert.LastIdeal.Run.frame m g,
    last_reference_frame,
    fun m g _ => Cert.Past.Gen.frame m g,
    fun m g _ => Cert.PastIdeal.Gen.frame m g,
    fun m g _ => Cert.PastIdeal.Gen.frame m g,
    past_reference_frame,
    fun m g _ => past_reference_frame m g trivial,
    Idealize.ShloMosaic.IdealRules.named_const.statement Cert.KernelIdeal.κ "mask" .f32 0xF149F2CA#32 ⊥ rfl,
    Mla.algebraic,
    trivial,
    Mixer.algebraic,
    trivial,
    Mixer.mix_algebraic,
    trivial,
    Mixer.last_algebraic,
    trivial,
    Mixer.past_algebraic⟩

end Cert.Proof

end
